-- ==== Defs.lean ====
def Pre_Kernel [hPre_perm_in_range : Cert.Pre_perm_in_range.Facts] (m : (ℓ : Loc Cert.Kernel.nD Cert.Kernel.τ Cert.Kernel.sig) → Buf (Elt Bits) ℓ) : Prop :=
  ∀ c : Dev Cert.Kernel.nD,
    (Cert.Pre_perm_in_range.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_perm_in_range : Cert.Pre_perm_in_range.Facts] (m : (ℓ : Loc Cert.KernelIdeal.nD Cert.KernelIdeal.τ Cert.KernelIdeal.sig) → Buf (Elt Ideal) ℓ) : Prop :=
  ∀ c : Dev Cert.KernelIdeal.nD,
    (Cert.Pre_perm_in_range.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_KernelIdeal_perm_is_permutation [hPre_perm_is_permutation : Cert.Pre_perm_is_permutation.Facts] (m : (ℓ : Loc Cert.KernelIdeal.nD Cert.KernelIdeal.τ Cert.KernelIdeal.sig) → Buf (Elt Ideal) ℓ) : Prop :=
  ∀ c : Dev Cert.KernelIdeal.nD,
    (Cert.Pre_perm_is_permutation.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_perm_is_permutation [hPre_perm_is_permutation : Cert.Pre_perm_is_permutation.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_perm_is_permutation.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def quiescent_Kernel [hKernel : Cert.Kernel.Facts] [hPre_perm_in_range : Cert.Pre_perm_in_range.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))
      ∧ r.2.sem = fun _ => 0)

def quiescent_KernelIdeal [hKernelIdeal : Cert.KernelIdeal.Facts] [hPre_perm_in_range : Cert.Pre_perm_in_range.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_KernelIdeal_pre_perm_is_permutation [hKernelIdeal : Cert.KernelIdeal.Facts] [hPre_perm_is_permutation : Cert.Pre_perm_is_permutation.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_perm_is_permutation m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def quiescent_ReferenceIdeal_pre_perm_is_permutation [hReferenceIdeal : Cert.ReferenceIdeal.Facts] [hPre_perm_is_permutation : Cert.Pre_perm_is_permutation.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_perm_is_permutation m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def preserves_Kernel_KernelIdeal : Prop :=
  IdealRules.bf16_pair.BufferStatement Cert.KernelIdeal.S512x2x128 Cert.KernelIdeal.S512x1x128
  ∧ IdealRules.bf16_pair.BufferStatement Cert.KernelIdeal.S9728x2x128 Cert.KernelIdeal.S9728x1x128
  ∧ IdealRules.bf16_pair.Statement Cert.KernelIdeal.S256x2560 Cert.KernelIdeal.S128x2560
  ∧ IdealRules.bf16_pair.PackStatement Cert.KernelIdeal.S512x128
  ∧ IdealRules.bf16_pair.Statement Cert.KernelIdeal.S512x2x128 Cert.KernelIdeal.S512x1x128
  ∧ IdealRules.bf16_pair.Statement Cert.KernelIdeal.S1x2x128 Cert.KernelIdeal.S1x1x128
  ∧ IdealRules.bf16_pair.Statement Cert.KernelIdeal.S128x2x128 Cert.KernelIdeal.S128x1x128
  ∧ IdealRules.bf16_pair.Statement Cert.KernelIdeal.S256x128 Cert.KernelIdeal.S128x128
  ∧ IdealRules.bf16_pair.PackStatement Cert.KernelIdeal.S128x128

def algebraic_KernelIdeal_ReferenceIdeal_pre_perm_is_permutation [hKernelIdeal : Cert.KernelIdeal.Facts] [hReferenceIdeal : Cert.ReferenceIdeal.Facts] [hPre_perm_is_permutation : Cert.Pre_perm_is_permutation.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_perm_is_permutation m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v3)) (v1 : (c : Dev Cert.KernelIdeal.nD) → Buf (Elt Ideal) ((c.tc : Thread Cert.KernelIdeal.nD Cert.KernelIdeal.τ).loc Cert.KernelIdeal.main_v4)) (v2 : (c : Dev Cert.KernelIdeal.nD) → Buf (Elt Ideal) ((c.tc : Thread Cert.KernelIdeal.nD Cert.KernelIdeal.τ).loc Cert.KernelIdeal.main_v2_2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3) = v0 c
          ∧ r.2.mem ((c.tc : Thread Cert.KernelIdeal.nD Cert.KernelIdeal.τ).loc Cert.KernelIdeal.main_v4) = v1 c
          ∧ r.2.mem ((c.tc : Thread Cert.KernelIdeal.nD Cert.KernelIdeal.τ).loc Cert.KernelIdeal.main_v2_2) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v74) = v0 c
          ∧ r.2.mem ((c.tc : Thread Cert.ReferenceIdeal.nD Cert.ReferenceIdeal.τ).loc Cert.ReferenceIdeal.main_v14) = v1 c
          ∧ r.2.mem ((c.tc : Thread Cert.ReferenceIdeal.nD Cert.ReferenceIdeal.τ).loc Cert.ReferenceIdeal.main_v7) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_perm_in_range : Cert.Pre_perm_in_range.Facts) (hPre_perm_is_permutation : Cert.Pre_perm_is_permutation.Facts),
    quiescent_Kernel (hKernel := hKernel) (hPre_perm_in_range := hPre_perm_in_range)
    ∧ quiescent_KernelIdeal (hKernelIdeal := hKernelIdeal) (hPre_perm_in_range := hPre_perm_in_range)
    ∧ quiescent_KernelIdeal_pre_perm_is_permutation (hKernelIdeal := hKernelIdeal) (hPre_perm_is_permutation := hPre_perm_is_permutation)
    ∧ quiescent_ReferenceIdeal (hReferenceIdeal := hReferenceIdeal)
    ∧ quiescent_ReferenceIdeal_pre_perm_is_permutation (hReferenceIdeal := hReferenceIdeal) (hPre_perm_is_permutation := hPre_perm_is_permutation)
    ∧ preserves_Kernel_KernelIdeal
    ∧ algebraic_KernelIdeal_ReferenceIdeal_pre_perm_is_permutation (hKernelIdeal := hKernelIdeal) (hReferenceIdeal := hReferenceIdeal) (hPre_perm_is_permutation := hPre_perm_is_permutation)
-- ==== Pre_perm_in_range.lean ====
abbrev S2x128x2560 : Shape := ⟨3, ![2, 128, 2560]⟩
abbrev S9728 : Shape := ⟨1, ![9728]⟩
abbrev S1536x2560 : Shape := ⟨2, ![1536, 2560]⟩
abbrev S1536 : Shape := ⟨1, ![1536]⟩
abbrev S4096x2560 : Shape := ⟨2, ![4096, 2560]⟩
abbrev S8192x20 : Shape := ⟨2, ![8192, 20]⟩
abbrev S_ : Shape := ⟨0, ![]⟩

class Facts : Prop where
  bcast_S_S9728 : S_.BroadcastsInDim S9728 (![] : Fin 0 → Fin S9728.rank)

variable [Facts]

def fn {F : FTy → Type} [FloatOps F] (main_arg0 : FVec F S2x128x2560 .bf16) (main_arg1 : IVec S9728 32) (main_arg2 : IVec S1536x2560 8) (main_arg3 : FVec F S1536 .f32) (main_arg4 : IVec S4096x2560 8) (main_arg5 : FVec F S8192x20 .bf16) : IVec S9728 1 :=
  let main_c : IVec S_ 32 := constantI S_ 32 0#32
  let main_v0 : IVec S9728 32 := broadcastInDim S9728 ![] bcast_S_S9728 main_c
  let main_v1 : IVec S9728 1 := cmpi .sge main_arg1 main_v0
  let main_c_0 : IVec S_ 32 := constantI S_ 32 9728#32
  let main_v2 : IVec S9728 32 := broadcastInDim S9728 ![] bcast_S_S9728 main_c_0
  let main_v3 : IVec S9728 1 := cmpi .slt main_arg1 main_v2
  let main_v4 : IVec S9728 1 := andi main_v1 main_v3
  main_v4
-- ==== Pre_perm_is_permutation.lean ====
abbrev S2x128x2560 : Shape := ⟨3, ![2, 128, 2560]⟩
abbrev S9728 : Shape := ⟨1, ![9728]⟩
abbrev S1536x2560 : Shape := ⟨2, ![1536, 2560]⟩
abbrev S1536 : Shape := ⟨1, ![1536]⟩
abbrev S4096x2560 : Shape := ⟨2, ![4096, 2560]⟩
abbrev S8192x20 : Shape := ⟨2, ![8192, 20]⟩
abbrev S9728x9728 : Shape := ⟨2, ![9728, 9728]⟩
abbrev S_ : Shape := ⟨0, ![]⟩
abbrev S9728x1 : Shape := ⟨2, ![9728, 1]⟩
abbrev S1x9728 : Shape := ⟨2, ![1, 9728]⟩

class Facts : Prop where
  bcast_S_S9728 : S_.BroadcastsInDim S9728 (![] : Fin 0 → Fin S9728.rank)
  bcast_S9728_S9728x1_0 : S9728.BroadcastsInDim S9728x1 (![0] : Fin 1 → Fin S9728x1.rank)
  bcast_S9728_S1x9728_1 : S9728.BroadcastsInDim S1x9728 (![1] : Fin 1 → Fin S1x9728.rank)
  bcast_S9728x1_S9728x9728_0_1 : S9728x1.BroadcastsInDim S9728x9728 (![0, 1] : Fin 2 → Fin S9728x9728.rank)
  bcast_S1x9728_S9728x9728_0_1 : S1x9728.BroadcastsInDim S9728x9728 (![0, 1] : Fin 2 → Fin S9728x9728.rank)

variable [Facts]

def fn {F : FTy → Type} [FloatOps F] (main_arg0 : FVec F S2x128x2560 .bf16) (main_arg1 : IVec S9728 32) (main_arg2 : IVec S1536x2560 8) (main_arg3 : FVec F S1536 .f32) (main_arg4 : IVec S4096x2560 8) (main_arg5 : FVec F S8192x20 .bf16) : IVec S9728x9728 1 :=
  let main_v0 : IVec S9728x9728 32 := iotaInDim S9728x9728 32 0
  let main_v1 : IVec S9728x9728 32 := iotaInDim S9728x9728 32 1
  let main_c : IVec S_ 32 := constantI S_ 32 0#32
  let main_v2 : IVec S9728 32 := broadcastInDim S9728 ![] bcast_S_S9728 main_c
  let main_v3 : IVec S9728 1 := cmpi .sge main_arg1 main_v2
  let main_c_0 : IVec S_ 32 := constantI S_ 32 9728#32
  let main_v4 : IVec S9728 32 := broadcastInDim S9728 ![] bcast_S_S9728 main_c_0
  let main_v5 : IVec S9728 1 := cmpi .slt main_arg1 main_v4
  let main_v6 : IVec S9728 1 := andi main_v3 main_v5
  let main_v7 : IVec S9728x1 1 := broadcastInDim S9728x1 ![0] bcast_S9728_S9728x1_0 main_v6
  let main_v8 : IVec S9728x1 32 := broadcastInDim S9728x1 ![0] bcast_S9728_S9728x1_0 main_arg1
  let main_v9 : IVec S1x9728 32 := broadcastInDim S1x9728 ![1] bcast_S9728_S1x9728_1 main_arg1
  let main_v10 : IVec S9728x9728 32 := broadcastInDim S9728x9728 ![0, 1] bcast_S9728x1_S9728x9728_0_1 main_v8
  let main_v11 : IVec S9728x9728 32 := broadcastInDim S9728x9728 ![0, 1] bcast_S1x9728_S9728x9728_0_1 main_v9
  let main_v12 : IVec S9728x9728 1 := cmpi .ne main_v10 main_v11
  let main_v13 : IVec S9728x9728 1 := cmpi .eq main_v0 main_v1
  let main_v14 : IVec S9728x9728 1 := ori main_v12 main_v13
  let main_v15 : IVec S9728x9728 1 := broadcastInDim S9728x9728 ![0, 1] bcast_S9728x1_S9728x9728_0_1 main_v7
  let main_v16 : IVec S9728x9728 1 := andi main_v15 main_v14
  main_v16
-- ==== Kernel.lean ====
abbrev S2x128x2560 : Shape := ⟨3, ![2, 128, 2560]⟩
abbrev S9728 : Shape := ⟨1, ![9728]⟩
abbrev S1536x2560 : Shape := ⟨2, ![1536, 2560]⟩
abbrev S1536 : Shape := ⟨1, ![1536]⟩
abbrev S4096x2560 : Shape := ⟨2, ![4096, 2560]⟩
abbrev S8192x20 : Shape := ⟨2, ![8192, 20]⟩
abbrev S256x2560 : Shape := ⟨2, ![256, 2560]⟩
abbrev S1536x1 : Shape := ⟨2, ![1536, 1]⟩
abbrev S256x9728 : Shape := ⟨2, ![256, 9728]⟩
abbrev S2x128 : Shape := ⟨2, ![2, 128]⟩
abbrev S512x20 : Shape := ⟨2, ![512, 20]⟩
abbrev S512x2560 : Shape := ⟨2, ![512, 2560]⟩
abbrev S512x1 : Shape := ⟨2, ![512, 1]⟩
abbrev S256x128 : Shape := ⟨2, ![256, 128]⟩
abbrev S8x256 : Shape := ⟨2, ![8, 256]⟩
abbrev S512x128 : Shape := ⟨2, ![512, 128]⟩
abbrev S9728x128 : Shape := ⟨2, ![9728, 128]⟩
abbrev S256 : Shape := ⟨1, ![256]⟩
abbrev S256x1 : Shape := ⟨2, ![256, 1]⟩
abbrev S128x2560 : Shape := ⟨2, ![128, 2560]⟩
abbrev S128x128 : Shape := ⟨2, ![128, 128]⟩
abbrev S1x128 : Shape := ⟨2, ![1, 128]⟩
abbrev S256x1x2560 : Shape := ⟨3, ![256, 1, 2560]⟩
abbrev S256x2x2560 : Shape := ⟨3, ![256, 2, 2560]⟩
abbrev S512x256 : Shape := ⟨2, ![512, 256]⟩
abbrev S1 : Shape := ⟨1, ![1]⟩
abbrev S1x256 : Shape := ⟨2, ![1, 256]⟩
abbrev S2x128x9728 : Shape := ⟨3, ![2, 128, 9728]⟩

abbrev nBuf : Space → Nat
  | .hbm => 13
  | .vmem => 19
  | .smem => 1
  | _ => 0

abbrev bufTy : (tb : Table) → Fin (tcTables nBuf tb) → BufTy
  | .hbm, ⟨0, _⟩ => ⟨S2x128x2560, .bf16⟩
  | .hbm, ⟨1, _⟩ => ⟨S9728, .i32⟩
  | .hbm, ⟨2, _⟩ => ⟨S1536x2560, .i8⟩
  | .hbm, ⟨3, _⟩ => ⟨S1536, .f32⟩
  | .hbm, ⟨4, _⟩ => ⟨S4096x2560, .i8⟩
  | .hbm, ⟨5, _⟩ => ⟨S8192x20, .bf16⟩
  | .hbm, ⟨6, _⟩ => ⟨S256x2560, .bf16⟩
  | .hbm, ⟨7, _⟩ => ⟨S1536x1, .f32⟩
  | .hbm, ⟨8, _⟩ => ⟨S256x9728, .bf16⟩
  | .hbm, ⟨9, _⟩ => ⟨S256x2560, .i8⟩
  | .hbm, ⟨10, _⟩ => ⟨S2x128, .f32⟩
  | .hbm, ⟨11, _⟩ => ⟨S2x128x9728, .bf16⟩
  | .hbm, ⟨12, _⟩ => ⟨S2x128x2560, .i8⟩
  | .local _ .vmem, ⟨0, _⟩ => ⟨S256x2560, .bf16⟩
  | .local _ .vmem, ⟨1, _⟩ => ⟨S256x2560, .i8⟩
  | .local _ .vmem, ⟨2, _⟩ => ⟨S256x2560, .i8⟩
  | .local _ .vmem, ⟨3, _⟩ => ⟨S512x20, .bf16⟩
  | .local _ .vmem, ⟨4, _⟩ => ⟨S512x20, .bf16⟩
  | .local _ .vmem, ⟨5, _⟩ => ⟨S512x2560, .i8⟩
  | .local _ .vmem, ⟨6, _⟩ => ⟨S512x2560, .i8⟩
  | .local _ .vmem, ⟨7, _⟩ => ⟨S512x1, .f32⟩
  | .local _ .vmem, ⟨8, _⟩ => ⟨S512x1, .f32⟩
  | .local _ .vmem, ⟨9, _⟩ => ⟨S256x9728, .bf16⟩
  | .local _ .vmem, ⟨10, _⟩ => ⟨S256x2560, .i8⟩
  | .local _ .vmem, ⟨11, _⟩ => ⟨S2x128, .f32⟩
  | .local _ .vmem, ⟨12, _⟩ => ⟨S256x2560, .bf16⟩
  | .local _ .vmem, ⟨13, _⟩ => ⟨S256x2560, .bf16⟩
  | .local _ .vmem, ⟨14, _⟩ => ⟨S256x128, .f32⟩
  | .local _ .vmem, ⟨15, _⟩ => ⟨S8x256, .f32⟩
  | .local _ .vmem, ⟨16, _⟩ => ⟨S512x2560, .bf16⟩
  | .local _ .vmem, ⟨17, _⟩ => ⟨S512x128, .i32⟩
  | .local _ .vmem, ⟨18, _⟩ => ⟨S9728x128, .i32⟩
  | .local _ .smem, ⟨0, _⟩ => ⟨S9728, .i32⟩
  | _, _ => ⟨S2x128x2560, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .smem, ⟨0, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2_0 : Ref sig .tc := ⟨.hbm, 8, rfl⟩
abbrev main_v2_1 : Ref sig .tc := ⟨.hbm, 9, rfl⟩
abbrev main_v2_2 : Ref sig .tc := ⟨.hbm, 10, rfl⟩
abbrev main_v3 : Ref sig .tc := ⟨.hbm, 11, rfl⟩
abbrev main_v4 : Ref sig .tc := ⟨.hbm, 12, rfl⟩
abbrev cc0_stg1_0 : Ref sig .tc := ⟨.vmem, 0, rfl⟩
abbrev cc0_stg2_0 : Ref sig .tc := ⟨.vmem, 1, rfl⟩
abbrev cc0_stg2_1 : Ref sig .tc := ⟨.vmem, 2, rfl⟩
abbrev cc0_stg3_0 : Ref sig .tc := ⟨.vmem, 3, rfl⟩
abbrev cc0_stg3_1 : Ref sig .tc := ⟨.vmem, 4, rfl⟩
abbrev cc0_stg4_0 : Ref sig .tc := ⟨.vmem, 5, rfl⟩
abbrev cc0_stg4_1 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_scratch0 : Ref sig .tc := ⟨.vmem, 12, rfl⟩
abbrev cc0_scratch1 : Ref sig .tc := ⟨.vmem, 13, rfl⟩
abbrev cc0_scratch2 : Ref sig .tc := ⟨.vmem, 14, rfl⟩
abbrev cc0_scratch3 : Ref sig .tc := ⟨.vmem, 15, rfl⟩
abbrev cc0_scratch4 : Ref sig .tc := ⟨.vmem, 16, rfl⟩
abbrev cc0_scratch5 : Ref sig .tc := ⟨.vmem, 17, rfl⟩
abbrev cc0_scratch6 : Ref sig .tc := ⟨.vmem, 18, rfl⟩
abbrev cc0_stg0_0 : Ref sig .tc := ⟨.smem, 0, rfl⟩
abbrev cc0_sem0_0 : DmaSem sig := 0
abbrev cc0_sem1_0 : DmaSem sig := 1
abbrev cc0_sem2_0 : DmaSem sig := 2
abbrev cc0_sem2_1 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem7_0 : DmaSem sig := 11
abbrev cc0_sem8_0 : DmaSem sig := 12

abbrev nD : Nat := 1
abbrev τ : Topo := Topo.v7x

variable {F : FTy → Type} [BitOps F]

abbrev grid0 : Pipeline.Grid := ⟨1, ![19], ![false]⟩

def k0_cond2 (i : grid0.Coords) : BitVec 1 :=
  let arg0 : BitVec 32 := BitVec.ofNat 32 (i 0).val
  let c16_i32 : BitVec 32 := 16#32
  let v3 : BitVec 1 := Scalar.cmpi .slt arg0 c16_i32
  let v4 : BitVec 32 := Scalar.extui v3
  let c0_i32_1 : BitVec 32 := 0#32
  let v5 : BitVec 1 := Scalar.cmpi .ne v4 c0_i32_1
  v5

@[reducible] def k0_t1_loop : Scf.Loop 32 :=
  let c0_i32_37 : BitVec 32 := 0#32
  let c32_i32 : BitVec 32 := 32#32
  let v185 : BitVec 32 := Scalar.addi c0_i32_37 c32_i32
  let c1_i32_38 : BitVec 32 := 1#32
  ⟨c0_i32_37, v185, c1_i32_38⟩
def k0_off1 (k0_t1 : Fin k0_t1_loop.trips) : Fin 2 → Nat :=
  let c0_i32_37 : BitVec 32 := 0#32
  let c1_i32_38 : BitVec 32 := 1#32
  let arg17 : BitVec 32 := Scf.iv c0_i32_37 c1_i32_38 k0_t1
  let c16_i32_40 : BitVec 32 := 16#32
  let v186 : BitVec 32 := Scalar.muli arg17 c16_i32_40
  let c0_i32_41 : BitVec 32 := 0#32
  let v187 : BitVec 32 := Scalar.addi v186 c0_i32_41
  let v188 : Index := Scalar.indexCast v187
  let c0_42 : Index := 0#32
  ![v188.toNat, 0]
def k0_off2 (i : grid0.Coords) (k0_t1 : Fin k0_t1_loop.trips) : Fin 1 → Nat :=
  let c1536_i32 : BitVec 32 := 1536#32
  let arg0 : BitVec 32 := BitVec.ofNat 32 (i 0).val
  let c512_i32 : BitVec 32 := 512#32
  let v177 : BitVec 32 := Scalar.muli arg0 c512_i32
  let v178 : BitVec 32 := Scalar.addi c1536_i32 v177
  let c0_i32_37 : BitVec 32 := 0#32
  let c1_i32_38 : BitVec 32 := 1#32
  let arg17 : BitVec 32 := Scf.iv c0_i32_37 c1_i32_38 k0_t1
  let c16_i32_40 : BitVec 32 := 16#32
  let v186 : BitVec 32 := Scalar.muli arg17 c16_i32_40
  let c0_i32_41 : BitVec 32 := 0#32
  let v187 : BitVec 32 := Scalar.addi v186 c0_i32_41
  let v190 : BitVec 32 := Scalar.addi v178 v187
  let v191 : Index := Scalar.indexCast v190
  ![v191.toNat]
def k0_off3 (v192 : BitVec 32) : Fin 2 → Nat :=
  let v193 : Index := Scalar.indexCast v192
  let c0_43 : Index := 0#32
  ![v193.toNat, 0]

def k0_chk1 (i : grid0.Coords) (v192 : BitVec 32) : Prop :=
  (∀ (k0_h2 : k0_cond2 i = 1#1), ∀ a, (k0_off3 v192) a + S1x128.size a ≤ S9728x128.size a)
theorem k0_off3_inb : ∀ (i : grid0.Coords) (v192 : BitVec 32) (k0_hw1 : k0_chk1 i v192), ∀ (k0_h2 : k0_cond2 i = 1#1), ∀ a, (k0_off3 v192) a + S1x128.size a ≤ S9728x128.size a := fun i v192 k0_hw1 k0_h2 => k0_hw1 k0_h2

def k0_off4 (k0_t1 : Fin k0_t1_loop.trips) : Fin 2 → Nat :=
  let c0_i32_37 : BitVec 32 := 0#32
  let c1_i32_38 : BitVec 32 := 1#32
  let arg17 : BitVec 32 := Scf.iv c0_i32_37 c1_i32_38 k0_t1
  let c16_i32_44 : BitVec 32 := 16#32
  let v197 : BitVec 32 := Scalar.muli arg17 c16_i32_44
  let c1_i32_45 : BitVec 32 := 1#32
  let v198 : BitVec 32 := Scalar.addi v197 c1_i32_45
  let v199 : Index := Scalar.indexCast v198
  let c0_46 : Index := 0#32
  ![v199.toNat, 0]
def k0_off5 (i : grid0.Coords) (k0_t1 : Fin k0_t1_loop.trips) : Fin 1 → Nat :=
  let c1536_i32 : BitVec 32 := 1536#32
  let arg0 : BitVec 32 := BitVec.ofNat 32 (i 0).val
  let c512_i32 : BitVec 32 := 512#32
  let v177 : BitVec 32 := Scalar.muli arg0 c512_i32
  let v178 : BitVec 32 := Scalar.addi c1536_i32 v177
  let c0_i32_37 : BitVec 32 := 0#32
  let c1_i32_38 : BitVec 32 := 1#32
  let arg17 : BitVec 32 := Scf.iv c0_i32_37 c1_i32_38 k0_t1
  let c16_i32_44 : BitVec 32 := 16#32
  let v197 : BitVec 32 := Scalar.muli arg17 c16_i32_44
  let c1_i32_45 : BitVec 32 := 1#32
  let v198 : BitVec 32 := Scalar.addi v197 c1_i32_45
  let v201 : BitVec 32 := Scalar.addi v178 v198
  let v202 : Index := Scalar.indexCast v201
  ![v202.toNat]
def k0_off6 (v203 : BitVec 32) : Fin 2 → Nat :=
  let v204 : Index := Scalar.indexCast v203
  let c0_47 : Index := 0#32
  ![v204.toNat, 0]

def k0_chk2 (i : grid0.Coords) (v203 : BitVec 32) : Prop :=
  (∀ (k0_h2 : k0_cond2 i = 1#1), ∀ a, (k0_off6 v203) a + S1x128.size a ≤ S9728x128.size a)
theorem k0_off6_inb : ∀ (i : grid0.Coords) (v203 : BitVec 32) (k0_hw2 : k0_chk2 i v203), ∀ (k0_h2 : k0_cond2 i = 1#1), ∀ a, (k0_off6 v203) a + S1x128.size a ≤ S9728x128.size a := fun i v203 k0_hw2 k0_h2 => k0_hw2 k0_h2

def k0_off7 (k0_t1 : Fin k0_t1_loop.trips) : Fin 2 → Nat :=
  let c0_i32_37 : BitVec 32 := 0#32
  let c1_i32_38 : BitVec 32 := 1#32
  let arg17 : BitVec 32 := Scf.iv c0_i32_37 c1_i32_38 k0_t1
  let c16_i32_48 : BitVec 32 := 16#32
  let v208 : BitVec 32 := Scalar.muli arg17 c16_i32_48
  let c2_i32 : BitVec 32 := 2#32
  let v209 : BitVec 32 := Scalar.addi v208 c2_i32
  let v210 : Index := Scalar.indexCast v209
  let c0_49 : Index := 0#32
  ![v210.toNat, 0]
def k0_off8 (i : grid0.Coords) (k0_t1 : Fin k0_t1_loop.trips) : Fin 1 → Nat :=
  let c1536_i32 : BitVec 32 := 1536#32
  let arg0 : BitVec 32 := BitVec.ofNat 32 (i 0).val
  let c512_i32 : BitVec 32 := 512#32
  let v177 : BitVec 32 := Scalar.muli arg0 c512_i32
  let v178 : BitVec 32 := Scalar.addi c1536_i32 v177
  let c0_i32_37 : BitVec 32 := 0#32
  let c1_i32_38 : BitVec 32 := 1#32
  let arg17 : BitVec 32 := Scf.iv c0_i32_37 c1_i32_38 k0_t1
  let c16_i32_48 : BitVec 32 := 16#32
  let v208 : BitVec 32 := Scalar.muli arg17 c16_i32_48
  let c2_i32 : BitVec 32 := 2#32
  let v209 : BitVec 32 := Scalar.addi v208 c2_i32
  let v212 : BitVec 32 := Scalar.addi v178 v209
  let v213 : Index := Scalar.indexCast v212
  ![v213.toNat]
def k0_off9 (v214 : BitVec 32) : Fin 2 → Nat :=
  let v215 : Index := Scalar.indexCast v214
  let c0_50 : Index := 0#32
  ![v215.toNat, 0]

def k0_chk3 (i : grid0.Coords) (v214 : BitVec 32) : Prop :=
  (∀ (k0_h2 : k0_cond2 i = 1#1), ∀ a, (k0_off9 v214) a + S1x128.size a ≤ S9728x128.size a)
theorem k0_off9_inb : ∀ (i : grid0.Coords) (v214 : BitVec 32) (k0_hw3 : k0_chk3 i v214), ∀ (k0_h2 : k0_cond2 i = 1#1), ∀ a, (k0_off9 v214) a + S1x128.size a ≤ S9728x128.size a := fun i v214 k0_hw3 k0_h2 => k0_hw3 k0_h2

def k0_off10 (k0_t1 : Fin k0_t1_loop.trips) : Fin 2 → Nat :=
  let c0_i32_37 : BitVec 32 := 0#32
  let c1_i32_38 : BitVec 32 := 1#32
  let arg17 : BitVec 32 := Scf.iv c0_i32_37 c1_i32_38 k0_t1
  let c16_i32_51 : BitVec 32 := 16#32
  let v219 : BitVec 32 := Scalar.muli arg17 c16_i32_51
  let c3_i32 : BitVec 32 := 3#32
  let v220 : BitVec 32 := Scalar.addi v219 c3_i32
  let v221 : Index := Scalar.indexCast v220
  let c0_52 : Index := 0#32
  ![v221.toNat, 0]
def k0_off11 (i : grid0.Coords) (k0_t1 : Fin k0_t1_loop.trips) : Fin 1 → Nat :=
  let c1536_i32 : BitVec 32 := 1536#32
  let arg0 : BitVec 32 := BitVec.ofNat 32 (i 0).val
  let c512_i32 : BitVec 32 := 512#32
  let v177 : BitVec 32 := Scalar.muli arg0 c512_i32
  let v178 : BitVec 32 := Scalar.addi c1536_i32 v177
  let c0_i32_37 : BitVec 32 := 0#32
  let c1_i32_38 : BitVec 32 := 1#32
  let arg17 : BitVec 32 := Scf.iv c0_i32_37 c1_i32_38 k0_t1
  let c16_i32_51 : BitVec 32 := 16#32
  let v219 : BitVec 32 := Scalar.muli arg17 c16_i32_51
  let c3_i32 : BitVec 32 := 3#32
  let v220 : BitVec 32 := Scalar.addi v219 c3_i32
  let v223 : BitVec 32 := Scalar.addi v178 v220
  let v224 : Index := Scalar.indexCast v223
  ![v224.toNat]
def k0_off12 (v225 : BitVec 32) : Fin 2 → Nat :=
  let v226 : Index := Scalar.indexCast v225
  let c0_53 : Index := 0#32
  ![v226.toNat, 0]

def k0_chk4 (i : grid0.Coords) (v225 : BitVec 32) : Prop :=
  (∀ (k0_h2 : k0_cond2 i = 1#1), ∀ a, (k0_off12 v225) a + S1x128.size a ≤ S9728x128.size a)
theorem k0_off12_inb : ∀ (i : grid0.Coords) (v225 : BitVec 32) (k0_hw4 : k0_chk4 i v225), ∀ (k0_h2 : k0_cond2 i = 1#1), ∀ a, (k0_off12 v225) a + S1x128.size a ≤ S9728x128.size a := fun i v225 k0_hw4 k0_h2 => k0_hw4 k0_h2

def k0_off13 (k0_t1 : Fin k0_t1_loop.trips) : Fin 2 → Nat :=
  let c0_i32_37 : BitVec 32 := 0#32
  let c1_i32_38 : BitVec 32 := 1#32
  let arg17 : BitVec 32 := Scf.iv c0_i32_37 c1_i32_38 k0_t1
  let c16_i32_54 : BitVec 32 := 16#32
  let v230 : BitVec 32 := Scalar.muli arg17 c16_i32_54
  let c4_i32_55 : BitVec 32 := 4#32
  let v231 : BitVec 32 := Scalar.addi v230 c4_i32_55
  let v232 : Index := Scalar.indexCast v231
  let c0_56 : Index := 0#32
  ![v232.toNat, 0]
def k0_off14 (i : grid0.Coords) (k0_t1 : Fin k0_t1_loop.trips) : Fin 1 → Nat :=
  let c1536_i32 : BitVec 32 := 1536#32
  let arg0 : BitVec 32 := BitVec.ofNat 32 (i 0).val
  let c512_i32 : BitVec 32 := 512#32
  let v177 : BitVec 32 := Scalar.muli arg0 c512_i32
  let v178 : BitVec 32 := Scalar.addi c1536_i32 v177
  let c0_i32_37 : BitVec 32 := 0#32
  let c1_i32_38 : BitVec 32 := 1#32
  let arg17 : BitVec 32 := Scf.iv c0_i32_37 c1_i32_38 k0_t1
  let c16_i32_54 : BitVec 32 := 16#32
  let v230 : BitVec 32 := Scalar.muli arg17 c16_i32_54
  let c4_i32_55 : BitVec 32 := 4#32
  let v231 : BitVec 32 := Scalar.addi v230 c4_i32_55
  let v234 : BitVec 32 := Scalar.addi v178 v231
  let v235 : Index := Scalar.indexCast v234
  ![v235.toNat]
def k0_off15 (v236 : BitVec 32) : Fin 2 → Nat :=
  let v237 : Index := Scalar.indexCast v236
  let c0_57 : Index := 0#32
  ![v237.toNat, 0]

def k0_chk5 (i : grid0.Coords) (v236 : BitVec 32) : Prop :=
  (∀ (k0_h2 : k0_cond2 i = 1#1), ∀ a, (k0_off15 v236) a + S1x128.size a ≤ S9728x128.size a)
theorem k0_off15_inb : ∀ (i : grid0.Coords) (v236 : BitVec 32) (k0_hw5 : k0_chk5 i v236), ∀ (k0_h2 : k0_cond2 i = 1#1), ∀ a, (k0_off15 v236) a + S1x128.size a ≤ S9728x128.size a := fun i v236 k0_hw5 k0_h2 => k0_hw5 k0_h2

def k0_off16 (k0_t1 : Fin k0_t1_loop.trips) : Fin 2 → Nat :=
  let c0_i32_37 : BitVec 32 := 0#32
  let c1_i32_38 : BitVec 32 := 1#32
  let arg17 : BitVec 32 := Scf.iv c0_i32_37 c1_i32_38 k0_t1
  let c16_i32_58 : BitVec 32 := 16#32
  let v241 : BitVec 32 := Scalar.muli arg17 c16_i32_58
  let c5_i32 : BitVec 32 := 5#32
  let v242 : BitVec 32 := Scalar.addi v241 c5_i32
  let v243 : Index := Scalar.indexCast v242
  let c0_59 : Index := 0#32
  ![v243.toNat, 0]
def k0_off17 (i : grid0.Coords) (k0_t1 : Fin k0_t1_loop.trips) : Fin 1 → Nat :=
  let c1536_i32 : BitVec 32 := 1536#32
  let arg0 : BitVec 32 := BitVec.ofNat 32 (i 0).val
  let c512_i32 : BitVec 32 := 512#32
  let v177 : BitVec 32 := Scalar.muli arg0 c512_i32
  let v178 : BitVec 32 := Scalar.addi c1536_i32 v177
  let c0_i32_37 : BitVec 32 := 0#32
  let c1_i32_38 : BitVec 32 := 1#32
  let arg17 : BitVec 32 := Scf.iv c0_i32_37 c1_i32_38 k0_t1
  let c16_i32_58 : BitVec 32 := 16#32
  let v241 : BitVec 32 := Scalar.muli arg17 c16_i32_58
  let c5_i32 : BitVec 32 := 5#32
  let v242 : BitVec 32 := Scalar.addi v241 c5_i32
  let v245 : BitVec 32 := Scalar.addi v178 v242
  let v246 : Index := Scalar.indexCast v245
  ![v246.toNat]
def k0_off18 (v247 : BitVec 32) : Fin 2 → Nat :=
  let v248 : Index := Scalar.indexCast v247
  let c0_60 : Index := 0#32
  ![v248.toNat, 0]

def k0_chk6 (i : grid0.Coords) (v247 : BitVec 32) : Prop :=
  (∀ (k0_h2 : k0_cond2 i = 1#1), ∀ a, (k0_off18 v247) a + S1x128.size a ≤ S9728x128.size a)
theorem k0_off18_inb : ∀ (i : grid0.Coords) (v247 : BitVec 32) (k0_hw6 : k0_chk6 i v247), ∀ (k0_h2 : k0_cond2 i = 1#1), ∀ a, (k0_off18 v247) a + S1x128.size a ≤ S9728x128.size a := fun i v247 k0_hw6 k0_h2 => k0_hw6 k0_h2

def k0_off19 (k0_t1 : Fin k0_t1_loop.trips) : Fin 2 → Nat :=
  let c0_i32_37 : BitVec 32 := 0#32
  let c1_i32_38 : BitVec 32 := 1#32
  let arg17 : BitVec 32 := Scf.iv c0_i32_37 c1_i32_38 k0_t1
  let c16_i32_61 : BitVec 32 := 16#32
  let v252 : BitVec 32 := Scalar.muli arg17 c16_i32_61
  let c6_i32 : BitVec 32 := 6#32
  let v253 : BitVec 32 := Scalar.addi v252 c6_i32
  let v254 : Index := Scalar.indexCast v253
  let c0_62 : Index := 0#32
  ![v254.toNat, 0]
def k0_off20 (i : grid0.Coords) (k0_t1 : Fin k0_t1_loop.trips) : Fin 1 → Nat :=
  let c1536_i32 : BitVec 32 := 1536#32
  let arg0 : BitVec 32 := BitVec.ofNat 32 (i 0).val
  let c512_i32 : BitVec 32 := 512#32
  let v177 : BitVec 32 := Scalar.muli arg0 c512_i32
  let v178 : BitVec 32 := Scalar.addi c1536_i32 v177
  let c0_i32_37 : BitVec 32 := 0#32
  let c1_i32_38 : BitVec 32 := 1#32
  let arg17 : BitVec 32 := Scf.iv c0_i32_37 c1_i32_38 k0_t1
  let c16_i32_61 : BitVec 32 := 16#32
  let v252 : BitVec 32 := Scalar.muli arg17 c16_i32_61
  let c6_i32 : BitVec 32 := 6#32
  let v253 : BitVec 32 := Scalar.addi v252 c6_i32
  let v256 : BitVec 32 := Scalar.addi v178 v253
  let v257 : Index := Scalar.indexCast v256
  ![v257.toNat]
def k0_off21 (v258 : BitVec 32) : Fin 2 → Nat :=
  let v259 : Index := Scalar.indexCast v258
  let c0_63 : Index := 0#32
  ![v259.toNat, 0]

def k0_chk7 (i : grid0.Coords) (v258 : BitVec 32) : Prop :=
  (∀ (k0_h2 : k0_cond2 i = 1#1), ∀ a, (k0_off21 v258) a + S1x128.size a ≤ S9728x128.size a)
theorem k0_off21_inb : ∀ (i : grid0.Coords) (v258 : BitVec 32) (k0_hw7 : k0_chk7 i v258), ∀ (k0_h2 : k0_cond2 i = 1#1), ∀ a, (k0_off21 v258) a + S1x128.size a ≤ S9728x128.size a := fun i v258 k0_hw7 k0_h2 => k0_hw7 k0_h2

def k0_off22 (k0_t1 : Fin k0_t1_loop.trips) : Fin 2 → Nat :=
  let c0_i32_37 : BitVec 32 := 0#32
  let c1_i32_38 : BitVec 32 := 1#32
  let arg17 : BitVec 32 := Scf.iv c0_i32_37 c1_i32_38 k0_t1
  let c16_i32_64 : BitVec 32 := 16#32
  let v263 : BitVec 32 := Scalar.muli arg17 c16_i32_64
  let c7_i32 : BitVec 32 := 7#32
  let v264 : BitVec 32 := Scalar.addi v263 c7_i32
  let v265 : Index := Scalar.indexCast v264
  let c0_65 : Index := 0#32
  ![v265.toNat, 0]
def k0_off23 (i : grid0.Coords) (k0_t1 : Fin k0_t1_loop.trips) : Fin 1 → Nat :=
  let c1536_i32 : BitVec 32 := 1536#32
  let arg0 : BitVec 32 := BitVec.ofNat 32 (i 0).val
  let c512_i32 : BitVec 32 := 512#32
  let v177 : BitVec 32 := Scalar.muli arg0 c512_i32
  let v178 : BitVec 32 := Scalar.addi c1536_i32 v177
  let c0_i32_37 : BitVec 32 := 0#32
  let c1_i32_38 : BitVec 32 := 1#32
  let arg17 : BitVec 32 := Scf.iv c0_i32_37 c1_i32_38 k0_t1
  let c16_i32_64 : BitVec 32 := 16#32
  let v263 : BitVec 32 := Scalar.muli arg17 c16_i32_64
  let c7_i32 : BitVec 32 := 7#32
  let v264 : BitVec 32 := Scalar.addi v263 c7_i32
  let v267 : BitVec 32 := Scalar.addi v178 v264
  let v268 : Index := Scalar.indexCast v267
  ![v268.toNat]
def k0_off24 (v269 : BitVec 32) : Fin 2 → Nat :=
  let v270 : Index := Scalar.indexCast v269
  let c0_66 : Index := 0#32
  ![v270.toNat, 0]

def k0_chk8 (i : grid0.Coords) (v269 : BitVec 32) : Prop :=
  (∀ (k0_h2 : k0_cond2 i = 1#1), ∀ a, (k0_off24 v269) a + S1x128.size a ≤ S9728x128.size a)
theorem k0_off24_inb : ∀ (i : grid0.Coords) (v269 : BitVec 32) (k0_hw8 : k0_chk8 i v269), ∀ (k0_h2 : k0_cond2 i = 1#1), ∀ a, (k0_off24 v269) a + S1x128.size a ≤ S9728x128.size a := fun i v269 k0_hw8 k0_h2 => k0_hw8 k0_h2

def k0_off25 (k0_t1 : Fin k0_t1_loop.trips) : Fin 2 → Nat :=
  let c0_i32_37 : BitVec 32 := 0#32
  let c1_i32_38 : BitVec 32 := 1#32
  let arg17 : BitVec 32 := Scf.iv c0_i32_37 c1_i32_38 k0_t1
  let c16_i32_67 : BitVec 32 := 16#32
  let v274 : BitVec 32 := Scalar.muli arg17 c16_i32_67
  let c8_i32_68 : BitVec 32 := 8#32
  let v275 : BitVec 32 := Scalar.addi v274 c8_i32_68
  let v276 : Index := Scalar.indexCast v275
  let c0_69 : Index := 0#32
  ![v276.toNat, 0]
def k0_off26 (i : grid0.Coords) (k0_t1 : Fin k0_t1_loop.trips) : Fin 1 → Nat :=
  let c1536_i32 : BitVec 32 := 1536#32
  let arg0 : BitVec 32 := BitVec.ofNat 32 (i 0).val
  let c512_i32 : BitVec 32 := 512#32
  let v177 : BitVec 32 := Scalar.muli arg0 c512_i32
  let v178 : BitVec 32 := Scalar.addi c1536_i32 v177
  let c0_i32_37 : BitVec 32 := 0#32
  let c1_i32_38 : BitVec 32 := 1#32
  let arg17 : BitVec 32 := Scf.iv c0_i32_37 c1_i32_38 k0_t1
  let c16_i32_67 : BitVec 32 := 16#32
  let v274 : BitVec 32 := Scalar.muli arg17 c16_i32_67
  let c8_i32_68 : BitVec 32 := 8#32
  let v275 : BitVec 32 := Scalar.addi v274 c8_i32_68
  let v278 : BitVec 32 := Scalar.addi v178 v275
  let v279 : Index := Scalar.indexCast v278
  ![v279.toNat]
def k0_off27 (v280 : BitVec 32) : Fin 2 → Nat :=
  let v281 : Index := Scalar.indexCast v280
  let c0_70 : Index := 0#32
  ![v281.toNat, 0]

def k0_chk9 (i : grid0.Coords) (v280 : BitVec 32) : Prop :=
  (∀ (k0_h2 : k0_cond2 i = 1#1), ∀ a, (k0_off27 v280) a + S1x128.size a ≤ S9728x128.size a)
theorem k0_off27_inb : ∀ (i : grid0.Coords) (v280 : BitVec 32) (k0_hw9 : k0_chk9 i v280), ∀ (k0_h2 : k0_cond2 i = 1#1), ∀ a, (k0_off27 v280) a + S1x128.size a ≤ S9728x128.size a := fun i v280 k0_hw9 k0_h2 => k0_hw9 k0_h2

def k0_off28 (k0_t1 : Fin k0_t1_loop.trips) : Fin 2 → Nat :=
  let c0_i32_37 : BitVec 32 := 0#32
  let c1_i32_38 : BitVec 32 := 1#32
  let arg17 : BitVec 32 := Scf.iv c0_i32_37 c1_i32_38 k0_t1
  let c16_i32_71 : BitVec 32 := 16#32
  let v285 : BitVec 32 := Scalar.muli arg17 c16_i32_71
  let c9_i32 : BitVec 32 := 9#32
  let v286 : BitVec 32 := Scalar.addi v285 c9_i32
  let v287 : Index := Scalar.indexCast v286
  let c0_72 : Index := 0#32
  ![v287.toNat, 0]
def k0_off29 (i : grid0.Coords) (k0_t1 : Fin k0_t1_loop.trips) : Fin 1 → Nat :=
  let c1536_i32 : BitVec 32 := 1536#32
  let arg0 : BitVec 32 := BitVec.ofNat 32 (i 0).val
  let c512_i32 : BitVec 32 := 512#32
  let v177 : BitVec 32 := Scalar.muli arg0 c512_i32
  let v178 : BitVec 32 := Scalar.addi c1536_i32 v177
  let c0_i32_37 : BitVec 32 := 0#32
  let c1_i32_38 : BitVec 32 := 1#32
  let arg17 : BitVec 32 := Scf.iv c0_i32_37 c1_i32_38 k0_t1
  let c16_i32_71 : BitVec 32 := 16#32
  let v285 : BitVec 32 := Scalar.muli arg17 c16_i32_71
  let c9_i32 : BitVec 32 := 9#32
  let v286 : BitVec 32 := Scalar.addi v285 c9_i32
  let v289 : BitVec 32 := Scalar.addi v178 v286
  let v290 : Index := Scalar.indexCast v289
  ![v290.toNat]
def k0_off30 (v291 : BitVec 32) : Fin 2 → Nat :=
  let v292 : Index := Scalar.indexCast v291
  let c0_73 : Index := 0#32
  ![v292.toNat, 0]

def k0_chk10 (i : grid0.Coords) (v291 : BitVec 32) : Prop :=
  (∀ (k0_h2 : k0_cond2 i = 1#1), ∀ a, (k0_off30 v291) a + S1x128.size a ≤ S9728x128.size a)
theorem k0_off30_inb : ∀ (i : grid0.Coords) (v291 : BitVec 32) (k0_hw10 : k0_chk10 i v291), ∀ (k0_h2 : k0_cond2 i = 1#1), ∀ a, (k0_off30 v291) a + S1x128.size a ≤ S9728x128.size a := fun i v291 k0_hw10 k0_h2 => k0_hw10 k0_h2

def k0_off31 (k0_t1 : Fin k0_t1_loop.trips) : Fin 2 → Nat :=
  let c0_i32_37 : BitVec 32 := 0#32
  let c1_i32_38 : BitVec 32 := 1#32
  let arg17 : BitVec 32 := Scf.iv c0_i32_37 c1_i32_38 k0_t1
  let c16_i32_74 : BitVec 32 := 16#32
  let v296 : BitVec 32 := Scalar.muli arg17 c16_i32_74
  let c10_i32 : BitVec 32 := 10#32
  let v297 : BitVec 32 := Scalar.addi v296 c10_i32
  let v298 : Index := Scalar.indexCast v297
  let c0_75 : Index := 0#32
  ![v298.toNat, 0]
def k0_off32 (i : grid0.Coords) (k0_t1 : Fin k0_t1_loop.trips) : Fin 1 → Nat :=
  let c1536_i32 : BitVec 32 := 1536#32
  let arg0 : BitVec 32 := BitVec.ofNat 32 (i 0).val
  let c512_i32 : BitVec 32 := 512#32
  let v177 : BitVec 32 := Scalar.muli arg0 c512_i32
  let v178 : BitVec 32 := Scalar.addi c1536_i32 v177
  let c0_i32_37 : BitVec 32 := 0#32
  let c1_i32_38 : BitVec 32 := 1#32
  let arg17 : BitVec 32 := Scf.iv c0_i32_37 c1_i32_38 k0_t1
  let c16_i32_74 : BitVec 32 := 16#32
  let v296 : BitVec 32 := Scalar.muli arg17 c16_i32_74
  let c10_i32 : BitVec 32 := 10#32
  let v297 : BitVec 32 := Scalar.addi v296 c10_i32
  let v300 : BitVec 32 := Scalar.addi v178 v297
  let v301 : Index := Scalar.indexCast v300
  ![v301.toNat]
def k0_off33 (v302 : BitVec 32) : Fin 2 → Nat :=
  let v303 : Index := Scalar.indexCast v302
  let c0_76 : Index := 0#32
  ![v303.toNat, 0]

def k0_chk11 (i : grid0.Coords) (v302 : BitVec 32) : Prop :=
  (∀ (k0_h2 : k0_cond2 i = 1#1), ∀ a, (k0_off33 v302) a + S1x128.size a ≤ S9728x128.size a)
theorem k0_off33_inb : ∀ (i : grid0.Coords) (v302 : BitVec 32) (k0_hw11 : k0_chk11 i v302), ∀ (k0_h2 : k0_cond2 i = 1#1), ∀ a, (k0_off33 v302) a + S1x128.size a ≤ S9728x128.size a := fun i v302 k0_hw11 k0_h2 => k0_hw11 k0_h2

def k0_off34 (k0_t1 : Fin k0_t1_loop.trips) : Fin 2 → Nat :=
  let c0_i32_37 : BitVec 32 := 0#32
  let c1_i32_38 : BitVec 32 := 1#32
  let arg17 : BitVec 32 := Scf.iv c0_i32_37 c1_i32_38 k0_t1
  let c16_i32_77 : BitVec 32 := 16#32
  let v307 : BitVec 32 := Scalar.muli arg17 c16_i32_77
  let c11_i32 : BitVec 32 := 11#32
  let v308 : BitVec 32 := Scalar.addi v307 c11_i32
  let v309 : Index := Scalar.indexCast v308
  let c0_78 : Index := 0#32
  ![v309.toNat, 0]
def k0_off35 (i : grid0.Coords) (k0_t1 : Fin k0_t1_loop.trips) : Fin 1 → Nat :=
  let c1536_i32 : BitVec 32 := 1536#32
  let arg0 : BitVec 32 := BitVec.ofNat 32 (i 0).val
  let c512_i32 : BitVec 32 := 512#32
  let v177 : BitVec 32 := Scalar.muli arg0 c512_i32
  let v178 : BitVec 32 := Scalar.addi c1536_i32 v177
  let c0_i32_37 : BitVec 32 := 0#32
  let c1_i32_38 : BitVec 32 := 1#32
  let arg17 : BitVec 32 := Scf.iv c0_i32_37 c1_i32_38 k0_t1
  let c16_i32_77 : BitVec 32 := 16#32
  let v307 : BitVec 32 := Scalar.muli arg17 c16_i32_77
  let c11_i32 : BitVec 32 := 11#32
  let v308 : BitVec 32 := Scalar.addi v307 c11_i32
  let v311 : BitVec 32 := Scalar.addi v178 v308
  let v312 : Index := Scalar.indexCast v311
  ![v312.toNat]
def k0_off36 (v313 : BitVec 32) : Fin 2 → Nat :=
  let v314 : Index := Scalar.indexCast v313
  let c0_79 : Index := 0#32
  ![v314.toNat, 0]

def k0_chk12 (i : grid0.Coords) (v313 : BitVec 32) : Prop :=
  (∀ (k0_h2 : k0_cond2 i = 1#1), ∀ a, (k0_off36 v313) a + S1x128.size a ≤ S9728x128.size a)
theorem k0_off36_inb : ∀ (i : grid0.Coords) (v313 : BitVec 32) (k0_hw12 : k0_chk12 i v313), ∀ (k0_h2 : k0_cond2 i = 1#1), ∀ a, (k0_off36 v313) a + S1x128.size a ≤ S9728x128.size a := fun i v313 k0_hw12 k0_h2 => k0_hw12 k0_h2

def k0_off37 (k0_t1 : Fin k0_t1_loop.trips) : Fin 2 → Nat :=
  let c0_i32_37 : BitVec 32 := 0#32
  let c1_i32_38 : BitVec 32 := 1#32
  let arg17 : BitVec 32 := Scf.iv c0_i32_37 c1_i32_38 k0_t1
  let c16_i32_80 : BitVec 32 := 16#32
  let v318 : BitVec 32 := Scalar.muli arg17 c16_i32_80
  let c12_i32 : BitVec 32 := 12#32
  let v319 : BitVec 32 := Scalar.addi v318 c12_i32
  let v320 : Index := Scalar.indexCast v319
  let c0_81 : Index := 0#32
  ![v320.toNat, 0]
def k0_off38 (i : grid0.Coords) (k0_t1 : Fin k0_t1_loop.trips) : Fin 1 → Nat :=
  let c1536_i32 : BitVec 32 := 1536#32
  let arg0 : BitVec 32 := BitVec.ofNat 32 (i 0).val
  let c512_i32 : BitVec 32 := 512#32
  let v177 : BitVec 32 := Scalar.muli arg0 c512_i32
  let v178 : BitVec 32 := Scalar.addi c1536_i32 v177
  let c0_i32_37 : BitVec 32 := 0#32
  let c1_i32_38 : BitVec 32 := 1#32
  let arg17 : BitVec 32 := Scf.iv c0_i32_37 c1_i32_38 k0_t1
  let c16_i32_80 : BitVec 32 := 16#32
  let v318 : BitVec 32 := Scalar.muli arg17 c16_i32_80
  let c12_i32 : BitVec 32 := 12#32
  let v319 : BitVec 32 := Scalar.addi v318 c12_i32
  let v322 : BitVec 32 := Scalar.addi v178 v319
  let v323 : Index := Scalar.indexCast v322
  ![v323.toNat]
def k0_off39 (v324 : BitVec 32) : Fin 2 → Nat :=
  let v325 : Index := Scalar.indexCast v324
  let c0_82 : Index := 0#32
  ![v325.toNat, 0]

def k0_chk13 (i : grid0.Coords) (v324 : BitVec 32) : Prop :=
  (∀ (k0_h2 : k0_cond2 i = 1#1), ∀ a, (k0_off39 v324) a + S1x128.size a ≤ S9728x128.size a)
theorem k0_off39_inb : ∀ (i : grid0.Coords) (v324 : BitVec 32) (k0_hw13 : k0_chk13 i v324), ∀ (k0_h2 : k0_cond2 i = 1#1), ∀ a, (k0_off39 v324) a + S1x128.size a ≤ S9728x128.size a := fun i v324 k0_hw13 k0_h2 => k0_hw13 k0_h2

def k0_off40 (k0_t1 : Fin k0_t1_loop.trips) : Fin 2 → Nat :=
  let c0_i32_37 : BitVec 32 := 0#32
  let c1_i32_38 : BitVec 32 := 1#32
  let arg17 : BitVec 32 := Scf.iv c0_i32_37 c1_i32_38 k0_t1
  let c16_i32_83 : BitVec 32 := 16#32
  let v329 : BitVec 32 := Scalar.muli arg17 c16_i32_83
  let c13_i32 : BitVec 32 := 13#32
  let v330 : BitVec 32 := Scalar.addi v329 c13_i32
  let v331 : Index := Scalar.indexCast v330
  let c0_84 : Index := 0#32
  ![v331.toNat, 0]
def k0_off41 (i : grid0.Coords) (k0_t1 : Fin k0_t1_loop.trips) : Fin 1 → Nat :=
  let c1536_i32 : BitVec 32 := 1536#32
  let arg0 : BitVec 32 := BitVec.ofNat 32 (i 0).val
  let c512_i32 : BitVec 32 := 512#32
  let v177 : BitVec 32 := Scalar.muli arg0 c512_i32
  let v178 : BitVec 32 := Scalar.addi c1536_i32 v177
  let c0_i32_37 : BitVec 32 := 0#32
  let c1_i32_38 : BitVec 32 := 1#32
  let arg17 : BitVec 32 := Scf.iv c0_i32_37 c1_i32_38 k0_t1
  let c16_i32_83 : BitVec 32 := 16#32
  let v329 : BitVec 32 := Scalar.muli arg17 c16_i32_83
  let c13_i32 : BitVec 32 := 13#32
  let v330 : BitVec 32 := Scalar.addi v329 c13_i32
  let v333 : BitVec 32 := Scalar.addi v178 v330
  let v334 : Index := Scalar.indexCast v333
  ![v334.toNat]
def k0_off42 (v335 : BitVec 32) : Fin 2 → Nat :=
  let v336 : Index := Scalar.indexCast v335
  let c0_85 : Index := 0#32
  ![v336.toNat, 0]

def k0_chk14 (i : grid0.Coords) (v335 : BitVec 32) : Prop :=
  (∀ (k0_h2 : k0_cond2 i = 1#1), ∀ a, (k0_off42 v335) a + S1x128.size a ≤ S9728x128.size a)
theorem k0_off42_inb : ∀ (i : grid0.Coords) (v335 : BitVec 32) (k0_hw14 : k0_chk14 i v335), ∀ (k0_h2 : k0_cond2 i = 1#1), ∀ a, (k0_off42 v335) a + S1x128.size a ≤ S9728x128.size a := fun i v335 k0_hw14 k0_h2 => k0_hw14 k0_h2

def k0_off43 (k0_t1 : Fin k0_t1_loop.trips) : Fin 2 → Nat :=
  let c0_i32_37 : BitVec 32 := 0#32
  let c1_i32_38 : BitVec 32 := 1#32
  let arg17 : BitVec 32 := Scf.iv c0_i32_37 c1_i32_38 k0_t1
  let c16_i32_86 : BitVec 32 := 16#32
  let v340 : BitVec 32 := Scalar.muli arg17 c16_i32_86
  let c14_i32 : BitVec 32 := 14#32
  let v341 : BitVec 32 := Scalar.addi v340 c14_i32
  let v342 : Index := Scalar.indexCast v341
  let c0_87 : Index := 0#32
  ![v342.toNat, 0]
def k0_off44 (i : grid0.Coords) (k0_t1 : Fin k0_t1_loop.trips) : Fin 1 → Nat :=
  let c1536_i32 : BitVec 32 := 1536#32
  let arg0 : BitVec 32 := BitVec.ofNat 32 (i 0).val
  let c512_i32 : BitVec 32 := 512#32
  let v177 : BitVec 32 := Scalar.muli arg0 c512_i32
  let v178 : BitVec 32 := Scalar.addi c1536_i32 v177
  let c0_i32_37 : BitVec 32 := 0#32
  let c1_i32_38 : BitVec 32 := 1#32
  let arg17 : BitVec 32 := Scf.iv c0_i32_37 c1_i32_38 k0_t1
  let c16_i32_86 : BitVec 32 := 16#32
  let v340 : BitVec 32 := Scalar.muli arg17 c16_i32_86
  let c14_i32 : BitVec 32 := 14#32
  let v341 : BitVec 32 := Scalar.addi v340 c14_i32
  let v344 : BitVec 32 := Scalar.addi v178 v341
  let v345 : Index := Scalar.indexCast v344
  ![v345.toNat]
def k0_off45 (v346 : BitVec 32) : Fin 2 → Nat :=
  let v347 : Index := Scalar.indexCast v346
  let c0_88 : Index := 0#32
  ![v347.toNat, 0]

def k0_chk15 (i : grid0.Coords) (v346 : BitVec 32) : Prop :=
  (∀ (k0_h2 : k0_cond2 i = 1#1), ∀ a, (k0_off45 v346) a + S1x128.size a ≤ S9728x128.size a)
theorem k0_off45_inb : ∀ (i : grid0.Coords) (v346 : BitVec 32) (k0_hw15 : k0_chk15 i v346), ∀ (k0_h2 : k0_cond2 i = 1#1), ∀ a, (k0_off45 v346) a + S1x128.size a ≤ S9728x128.size a := fun i v346 k0_hw15 k0_h2 => k0_hw15 k0_h2

def k0_off46 (k0_t1 : Fin k0_t1_loop.trips) : Fin 2 → Nat :=
  let c0_i32_37 : BitVec 32 := 0#32
  let c1_i32_38 : BitVec 32 := 1#32
  let arg17 : BitVec 32 := Scf.iv c0_i32_37 c1_i32_38 k0_t1
  let c16_i32_89 : BitVec 32 := 16#32
  let v351 : BitVec 32 := Scalar.muli arg17 c16_i32_89
  let c15_i32_90 : BitVec 32 := 15#32
  let v352 : BitVec 32 := Scalar.addi v351 c15_i32_90
  let v353 : Index := Scalar.indexCast v352
  let c0_91 : Index := 0#32
  ![v353.toNat, 0]
def k0_off47 (i : grid0.Coords) (k0_t1 : Fin k0_t1_loop.trips) : Fin 1 → Nat :=
  let c1536_i32 : BitVec 32 := 1536#32
  let arg0 : BitVec 32 := BitVec.ofNat 32 (i 0).val
  let c512_i32 : BitVec 32 := 512#32
  let v177 : BitVec 32 := Scalar.muli arg0 c512_i32
  let v178 : BitVec 32 := Scalar.addi c1536_i32 v177
  let c0_i32_37 : BitVec 32 := 0#32
  let c1_i32_38 : BitVec 32 := 1#32
  let arg17 : BitVec 32 := Scf.iv c0_i32_37 c1_i32_38 k0_t1
  let c16_i32_89 : BitVec 32 := 16#32
  let v351 : BitVec 32 := Scalar.muli arg17 c16_i32_89
  let c15_i32_90 : BitVec 32 := 15#32
  let v352 : BitVec 32 := Scalar.addi v351 c15_i32_90
  let v355 : BitVec 32 := Scalar.addi v178 v352
  let v356 : Index := Scalar.indexCast v355
  ![v356.toNat]
def k0_off48 (v357 : BitVec 32) : Fin 2 → Nat :=
  let v358 : Index := Scalar.indexCast v357
  let c0_92 : Index := 0#32
  ![v358.toNat, 0]

def k0_chk16 (i : grid0.Coords) (v357 : BitVec 32) : Prop :=
  (∀ (k0_h2 : k0_cond2 i = 1#1), ∀ a, (k0_off48 v357) a + S1x128.size a ≤ S9728x128.size a)
theorem k0_off48_inb : ∀ (i : grid0.Coords) (v357 : BitVec 32) (k0_hw16 : k0_chk16 i v357), ∀ (k0_h2 : k0_cond2 i = 1#1), ∀ a, (k0_off48 v357) a + S1x128.size a ≤ S9728x128.size a := fun i v357 k0_hw16 k0_h2 => k0_hw16 k0_h2

def k0_cond3 (i : grid0.Coords) : BitVec 1 :=
  let arg0 : BitVec 32 := BitVec.ofNat 32 (i 0).val
  let c16_i32_2 : BitVec 32 := 16#32
  let v6 : BitVec 1 := Scalar.cmpi .sge arg0 c16_i32_2
  let v7 : BitVec 32 := Scalar.extui v6
  let c0_i32_3 : BitVec 32 := 0#32
  let v8 : BitVec 1 := Scalar.cmpi .ne v7 c0_i32_3
  v8

@[reducible] def k0_t2_loop : Scf.Loop 32 :=
  let c0_i32_15 : BitVec 32 := 0#32
  let c32_i32 : BitVec 32 := 32#32
  let v31 : BitVec 32 := Scalar.addi c0_i32_15 c32_i32
  let c1_i32 : BitVec 32 := 1#32
  ⟨c0_i32_15, v31, c1_i32⟩
def k0_off49 (k0_t2 : Fin k0_t2_loop.trips) : Fin 2 → Nat :=
  let c0_i32_15 : BitVec 32 := 0#32
  let c1_i32 : BitVec 32 := 1#32
  let arg17 : BitVec 32 := Scf.iv c0_i32_15 c1_i32 k0_t2
  let c16_i32_17 : BitVec 32 := 16#32
  let v32 : BitVec 32 := Scalar.muli arg17 c16_i32_17
  let c0_i32_18 : BitVec 32 := 0#32
  let v33 : BitVec 32 := Scalar.addi v32 c0_i32_18
  let v34 : Index := Scalar.indexCast v33
  let c0_19 : Index := 0#32
  ![v34.toNat, 0]
def k0_off50 (i : grid0.Coords) (k0_t2 : Fin k0_t2_loop.trips) : Fin 1 → Nat :=
  let arg0 : BitVec 32 := BitVec.ofNat 32 (i 0).val
  let c16_i32_12 : BitVec 32 := 16#32
  let v23 : BitVec 32 := Scalar.subi arg0 c16_i32_12
  let c512_i32 : BitVec 32 := 512#32
  let v24 : BitVec 32 := Scalar.muli v23 c512_i32
  let c0_i32_15 : BitVec 32 := 0#32
  let c1_i32 : BitVec 32 := 1#32
  let arg17 : BitVec 32 := Scf.iv c0_i32_15 c1_i32 k0_t2
  let c16_i32_17 : BitVec 32 := 16#32
  let v32 : BitVec 32 := Scalar.muli arg17 c16_i32_17
  let c0_i32_18 : BitVec 32 := 0#32
  let v33 : BitVec 32 := Scalar.addi v32 c0_i32_18
  let v36 : BitVec 32 := Scalar.addi v24 v33
  let v37 : Index := Scalar.indexCast v36
  ![v37.toNat]
def k0_off51 (v38 : BitVec 32) : Fin 2 → Nat :=
  let v39 : Index := Scalar.indexCast v38
  let c0_20 : Index := 0#32
  ![v39.toNat, 0]

def k0_chk17 (i : grid0.Coords) (v38 : BitVec 32) : Prop :=
  (∀ (k0_h3 : k0_cond3 i = 1#1), ∀ a, (k0_off51 v38) a + S1x128.size a ≤ S9728x128.size a)
theorem k0_off51_inb : ∀ (i : grid0.Coords) (v38 : BitVec 32) (k0_hw17 : k0_chk17 i v38), ∀ (k0_h3 : k0_cond3 i = 1#1), ∀ a, (k0_off51 v38) a + S1x128.size a ≤ S9728x128.size a := fun i v38 k0_hw17 k0_h3 => k0_hw17 k0_h3

def k0_off52 (k0_t2 : Fin k0_t2_loop.trips) : Fin 2 → Nat :=
  let c0_i32_15 : BitVec 32 := 0#32
  let c1_i32 : BitVec 32 := 1#32
  let arg17 : BitVec 32 := Scf.iv c0_i32_15 c1_i32 k0_t2
  let c16_i32_21 : BitVec 32 := 16#32
  let v43 : BitVec 32 := Scalar.muli arg17 c16_i32_21
  let c1_i32_22 : BitVec 32 := 1#32
  let v44 : BitVec 32 := Scalar.addi v43 c1_i32_22
  let v45 : Index := Scalar.indexCast v44
  let c0_23 : Index := 0#32
  ![v45.toNat, 0]
def k0_off53 (i : grid0.Coords) (k0_t2 : Fin k0_t2_loop.trips) : Fin 1 → Nat :=
  let arg0 : BitVec 32 := BitVec.ofNat 32 (i 0).val
  let c16_i32_12 : BitVec 32 := 16#32
  let v23 : BitVec 32 := Scalar.subi arg0 c16_i32_12
  let c512_i32 : BitVec 32 := 512#32
  let v24 : BitVec 32 := Scalar.muli v23 c512_i32
  let c0_i32_15 : BitVec 32 := 0#32
  let c1_i32 : BitVec 32 := 1#32
  let arg17 : BitVec 32 := Scf.iv c0_i32_15 c1_i32 k0_t2
  let c16_i32_21 : BitVec 32 := 16#32
  let v43 : BitVec 32 := Scalar.muli arg17 c16_i32_21
  let c1_i32_22 : BitVec 32 := 1#32
  let v44 : BitVec 32 := Scalar.addi v43 c1_i32_22
  let v47 : BitVec 32 := Scalar.addi v24 v44
  let v48 : Index := Scalar.indexCast v47
  ![v48.toNat]
def k0_off54 (v49 : BitVec 32) : Fin 2 → Nat :=
  let v50 : Index := Scalar.indexCast v49
  let c0_24 : Index := 0#32
  ![v50.toNat, 0]

def k0_chk18 (i : grid0.Coords) (v49 : BitVec 32) : Prop :=
  (∀ (k0_h3 : k0_cond3 i = 1#1), ∀ a, (k0_off54 v49) a + S1x128.size a ≤ S9728x128.size a)
theorem k0_off54_inb : ∀ (i : grid0.Coords) (v49 : BitVec 32) (k0_hw18 : k0_chk18 i v49), ∀ (k0_h3 : k0_cond3 i = 1#1), ∀ a, (k0_off54 v49) a + S1x128.size a ≤ S9728x128.size a := fun i v49 k0_hw18 k0_h3 => k0_hw18 k0_h3

def k0_off55 (k0_t2 : Fin k0_t2_loop.trips) : Fin 2 → Nat :=
  let c0_i32_15 : BitVec 32 := 0#32
  let c1_i32 : BitVec 32 := 1#32
  let arg17 : BitVec 32 := Scf.iv c0_i32_15 c1_i32 k0_t2
  let c16_i32_25 : BitVec 32 := 16#32
  let v54 : BitVec 32 := Scalar.muli arg17 c16_i32_25
  let c2_i32 : BitVec 32 := 2#32
  let v55 : BitVec 32 := Scalar.addi v54 c2_i32
  let v56 : Index := Scalar.indexCast v55
  let c0_26 : Index := 0#32
  ![v56.toNat, 0]
def k0_off56 (i : grid0.Coords) (k0_t2 : Fin k0_t2_loop.trips) : Fin 1 → Nat :=
  let arg0 : BitVec 32 := BitVec.ofNat 32 (i 0).val
  let c16_i32_12 : BitVec 32 := 16#32
  let v23 : BitVec 32 := Scalar.subi arg0 c16_i32_12
  let c512_i32 : BitVec 32 := 512#32
  let v24 : BitVec 32 := Scalar.muli v23 c512_i32
  let c0_i32_15 : BitVec 32 := 0#32
  let c1_i32 : BitVec 32 := 1#32
  let arg17 : BitVec 32 := Scf.iv c0_i32_15 c1_i32 k0_t2
  let c16_i32_25 : BitVec 32 := 16#32
  let v54 : BitVec 32 := Scalar.muli arg17 c16_i32_25
  let c2_i32 : BitVec 32 := 2#32
  let v55 : BitVec 32 := Scalar.addi v54 c2_i32
  let v58 : BitVec 32 := Scalar.addi v24 v55
  let v59 : Index := Scalar.indexCast v58
  ![v59.toNat]
def k0_off57 (v60 : BitVec 32) : Fin 2 → Nat :=
  let v61 : Index := Scalar.indexCast v60
  let c0_27 : Index := 0#32
  ![v61.toNat, 0]

def k0_chk19 (i : grid0.Coords) (v60 : BitVec 32) : Prop :=
  (∀ (k0_h3 : k0_cond3 i = 1#1), ∀ a, (k0_off57 v60) a + S1x128.size a ≤ S9728x128.size a)
theorem k0_off57_inb : ∀ (i : grid0.Coords) (v60 : BitVec 32) (k0_hw19 : k0_chk19 i v60), ∀ (k0_h3 : k0_cond3 i = 1#1), ∀ a, (k0_off57 v60) a + S1x128.size a ≤ S9728x128.size a := fun i v60 k0_hw19 k0_h3 => k0_hw19 k0_h3

def k0_off58 (k0_t2 : Fin k0_t2_loop.trips) : Fin 2 → Nat :=
  let c0_i32_15 : BitVec 32 := 0#32
  let c1_i32 : BitVec 32 := 1#32
  let arg17 : BitVec 32 := Scf.iv c0_i32_15 c1_i32 k0_t2
  let c16_i32_28 : BitVec 32 := 16#32
  let v65 : BitVec 32 := Scalar.muli arg17 c16_i32_28
  let c3_i32 : BitVec 32 := 3#32
  let v66 : BitVec 32 := Scalar.addi v65 c3_i32
  let v67 : Index := Scalar.indexCast v66
  let c0_29 : Index := 0#32
  ![v67.toNat, 0]
def k0_off59 (i : grid0.Coords) (k0_t2 : Fin k0_t2_loop.trips) : Fin 1 → Nat :=
  let arg0 : BitVec 32 := BitVec.ofNat 32 (i 0).val
  let c16_i32_12 : BitVec 32 := 16#32
  let v23 : BitVec 32 := Scalar.subi arg0 c16_i32_12
  let c512_i32 : BitVec 32 := 512#32
  let v24 : BitVec 32 := Scalar.muli v23 c512_i32
  let c0_i32_15 : BitVec 32 := 0#32
  let c1_i32 : BitVec 32 := 1#32
  let arg17 : BitVec 32 := Scf.iv c0_i32_15 c1_i32 k0_t2
  let c16_i32_28 : BitVec 32 := 16#32
  let v65 : BitVec 32 := Scalar.muli arg17 c16_i32_28
  let c3_i32 : BitVec 32 := 3#32
  let v66 : BitVec 32 := Scalar.addi v65 c3_i32
  let v69 : BitVec 32 := Scalar.addi v24 v66
  let v70 : Index := Scalar.indexCast v69
  ![v70.toNat]
def k0_off60 (v71 : BitVec 32) : Fin 2 → Nat :=
  let v72 : Index := Scalar.indexCast v71
  let c0_30 : Index := 0#32
  ![v72.toNat, 0]

def k0_chk20 (i : grid0.Coords) (v71 : BitVec 32) : Prop :=
  (∀ (k0_h3 : k0_cond3 i = 1#1), ∀ a, (k0_off60 v71) a + S1x128.size a ≤ S9728x128.size a)
theorem k0_off60_inb : ∀ (i : grid0.Coords) (v71 : BitVec 32) (k0_hw20 : k0_chk20 i v71), ∀ (k0_h3 : k0_cond3 i = 1#1), ∀ a, (k0_off60 v71) a + S1x128.size a ≤ S9728x128.size a := fun i v71 k0_hw20 k0_h3 => k0_hw20 k0_h3

def k0_off61 (k0_t2 : Fin k0_t2_loop.trips) : Fin 2 → Nat :=
  let c0_i32_15 : BitVec 32 := 0#32
  let c1_i32 : BitVec 32 := 1#32
  let arg17 : BitVec 32 := Scf.iv c0_i32_15 c1_i32 k0_t2
  let c16_i32_31 : BitVec 32 := 16#32
  let v76 : BitVec 32 := Scalar.muli arg17 c16_i32_31
  let c4_i32 : BitVec 32 := 4#32
  let v77 : BitVec 32 := Scalar.addi v76 c4_i32
  let v78 : Index := Scalar.indexCast v77
  let c0_32 : Index := 0#32
  ![v78.toNat, 0]
def k0_off62 (i : grid0.Coords) (k0_t2 : Fin k0_t2_loop.trips) : Fin 1 → Nat :=
  let arg0 : BitVec 32 := BitVec.ofNat 32 (i 0).val
  let c16_i32_12 : BitVec 32 := 16#32
  let v23 : BitVec 32 := Scalar.subi arg0 c16_i32_12
  let c512_i32 : BitVec 32 := 512#32
  let v24 : BitVec 32 := Scalar.muli v23 c512_i32
  let c0_i32_15 : BitVec 32 := 0#32
  let c1_i32 : BitVec 32 := 1#32
  let arg17 : BitVec 32 := Scf.iv c0_i32_15 c1_i32 k0_t2
  let c16_i32_31 : BitVec 32 := 16#32
  let v76 : BitVec 32 := Scalar.muli arg17 c16_i32_31
  let c4_i32 : BitVec 32 := 4#32
  let v77 : BitVec 32 := Scalar.addi v76 c4_i32
  let v80 : BitVec 32 := Scalar.addi v24 v77
  let v81 : Index := Scalar.indexCast v80
  ![v81.toNat]
def k0_off63 (v82 : BitVec 32) : Fin 2 → Nat :=
  let v83 : Index := Scalar.indexCast v82
  let c0_33 : Index := 0#32
  ![v83.toNat, 0]

def k0_chk21 (i : grid0.Coords) (v82 : BitVec 32) : Prop :=
  (∀ (k0_h3 : k0_cond3 i = 1#1), ∀ a, (k0_off63 v82) a + S1x128.size a ≤ S9728x128.size a)
theorem k0_off63_inb : ∀ (i : grid0.Coords) (v82 : BitVec 32) (k0_hw21 : k0_chk21 i v82), ∀ (k0_h3 : k0_cond3 i = 1#1), ∀ a, (k0_off63 v82) a + S1x128.size a ≤ S9728x128.size a := fun i v82 k0_hw21 k0_h3 => k0_hw21 k0_h3

def k0_off64 (k0_t2 : Fin k0_t2_loop.trips) : Fin 2 → Nat :=
  let c0_i32_15 : BitVec 32 := 0#32
  let c1_i32 : BitVec 32 := 1#32
  let arg17 : BitVec 32 := Scf.iv c0_i32_15 c1_i32 k0_t2
  let c16_i32_34 : BitVec 32 := 16#32
  let v87 : BitVec 32 := Scalar.muli arg17 c16_i32_34
  let c5_i32 : BitVec 32 := 5#32
  let v88 : BitVec 32 := Scalar.addi v87 c5_i32
  let v89 : Index := Scalar.indexCast v88
  let c0_35 : Index := 0#32
  ![v89.toNat, 0]
def k0_off65 (i : grid0.Coords) (k0_t2 : Fin k0_t2_loop.trips) : Fin 1 → Nat :=
  let arg0 : BitVec 32 := BitVec.ofNat 32 (i 0).val
  let c16_i32_12 : BitVec 32 := 16#32
  let v23 : BitVec 32 := Scalar.subi arg0 c16_i32_12
  let c512_i32 : BitVec 32 := 512#32
  let v24 : BitVec 32 := Scalar.muli v23 c512_i32
  let c0_i32_15 : BitVec 32 := 0#32
  let c1_i32 : BitVec 32 := 1#32
  let arg17 : BitVec 32 := Scf.iv c0_i32_15 c1_i32 k0_t2
  let c16_i32_34 : BitVec 32 := 16#32
  let v87 : BitVec 32 := Scalar.muli arg17 c16_i32_34
  let c5_i32 : BitVec 32 := 5#32
  let v88 : BitVec 32 := Scalar.addi v87 c5_i32
  let v91 : BitVec 32 := Scalar.addi v24 v88
  let v92 : Index := Scalar.indexCast v91
  ![v92.toNat]
def k0_off66 (v93 : BitVec 32) : Fin 2 → Nat :=
  let v94 : Index := Scalar.indexCast v93
  let c0_36 : Index := 0#32
  ![v94.toNat, 0]

def k0_chk22 (i : grid0.Coords) (v93 : BitVec 32) : Prop :=
  (∀ (k0_h3 : k0_cond3 i = 1#1), ∀ a, (k0_off66 v93) a + S1x128.size a ≤ S9728x128.size a)
theorem k0_off66_inb : ∀ (i : grid0.Coords) (v93 : BitVec 32) (k0_hw22 : k0_chk22 i v93), ∀ (k0_h3 : k0_cond3 i = 1#1), ∀ a, (k0_off66 v93) a + S1x128.size a ≤ S9728x128.size a := fun i v93 k0_hw22 k0_h3 => k0_hw22 k0_h3

def k0_off67 (k0_t2 : Fin k0_t2_loop.trips) : Fin 2 → Nat :=
  let c0_i32_15 : BitVec 32 := 0#32
  let c1_i32 : BitVec 32 := 1#32
  let arg17 : BitVec 32 := Scf.iv c0_i32_15 c1_i32 k0_t2
  let c16_i32_37 : BitVec 32 := 16#32
  let v98 : BitVec 32 := Scalar.muli arg17 c16_i32_37
  let c6_i32 : BitVec 32 := 6#32
  let v99 : BitVec 32 := Scalar.addi v98 c6_i32
  let v100 : Index := Scalar.indexCast v99
  let c0_38 : Index := 0#32
  ![v100.toNat, 0]
def k0_off68 (i : grid0.Coords) (k0_t2 : Fin k0_t2_loop.trips) : Fin 1 → Nat :=
  let arg0 : BitVec 32 := BitVec.ofNat 32 (i 0).val
  let c16_i32_12 : BitVec 32 := 16#32
  let v23 : BitVec 32 := Scalar.subi arg0 c16_i32_12
  let c512_i32 : BitVec 32 := 512#32
  let v24 : BitVec 32 := Scalar.muli v23 c512_i32
  let c0_i32_15 : BitVec 32 := 0#32
  let c1_i32 : BitVec 32 := 1#32
  let arg17 : BitVec 32 := Scf.iv c0_i32_15 c1_i32 k0_t2
  let c16_i32_37 : BitVec 32 := 16#32
  let v98 : BitVec 32 := Scalar.muli arg17 c16_i32_37
  let c6_i32 : BitVec 32 := 6#32
  let v99 : BitVec 32 := Scalar.addi v98 c6_i32
  let v102 : BitVec 32 := Scalar.addi v24 v99
  let v103 : Index := Scalar.indexCast v102
  ![v103.toNat]
def k0_off69 (v104 : BitVec 32) : Fin 2 → Nat :=
  let v105 : Index := Scalar.indexCast v104
  let c0_39 : Index := 0#32
  ![v105.toNat, 0]

def k0_chk23 (i : grid0.Coords) (v104 : BitVec 32) : Prop :=
  (∀ (k0_h3 : k0_cond3 i = 1#1), ∀ a, (k0_off69 v104) a + S1x128.size a ≤ S9728x128.size a)
theorem k0_off69_inb : ∀ (i : grid0.Coords) (v104 : BitVec 32) (k0_hw23 : k0_chk23 i v104), ∀ (k0_h3 : k0_cond3 i = 1#1), ∀ a, (k0_off69 v104) a + S1x128.size a ≤ S9728x128.size a := fun i v104 k0_hw23 k0_h3 => k0_hw23 k0_h3

def k0_off70 (k0_t2 : Fin k0_t2_loop.trips) : Fin 2 → Nat :=
  let c0_i32_15 : BitVec 32 := 0#32
  let c1_i32 : BitVec 32 := 1#32
  let arg17 : BitVec 32 := Scf.iv c0_i32_15 c1_i32 k0_t2
  let c16_i32_40 : BitVec 32 := 16#32
  let v109 : BitVec 32 := Scalar.muli arg17 c16_i32_40
  let c7_i32 : BitVec 32 := 7#32
  let v110 : BitVec 32 := Scalar.addi v109 c7_i32
  let v111 : Index := Scalar.indexCast v110
  let c0_41 : Index := 0#32
  ![v111.toNat, 0]
def k0_off71 (i : grid0.Coords) (k0_t2 : Fin k0_t2_loop.trips) : Fin 1 → Nat :=
  let arg0 : BitVec 32 := BitVec.ofNat 32 (i 0).val
  let c16_i32_12 : BitVec 32 := 16#32
  let v23 : BitVec 32 := Scalar.subi arg0 c16_i32_12
  let c512_i32 : BitVec 32 := 512#32
  let v24 : BitVec 32 := Scalar.muli v23 c512_i32
  let c0_i32_15 : BitVec 32 := 0#32
  let c1_i32 : BitVec 32 := 1#32
  let arg17 : BitVec 32 := Scf.iv c0_i32_15 c1_i32 k0_t2
  let c16_i32_40 : BitVec 32 := 16#32
  let v109 : BitVec 32 := Scalar.muli arg17 c16_i32_40
  let c7_i32 : BitVec 32 := 7#32
  let v110 : BitVec 32 := Scalar.addi v109 c7_i32
  let v113 : BitVec 32 := Scalar.addi v24 v110
  let v114 : Index := Scalar.indexCast v113
  ![v114.toNat]
def k0_off72 (v115 : BitVec 32) : Fin 2 → Nat :=
  let v116 : Index := Scalar.indexCast v115
  let c0_42 : Index := 0#32
  ![v116.toNat, 0]

def k0_chk24 (i : grid0.Coords) (v115 : BitVec 32) : Prop :=
  (∀ (k0_h3 : k0_cond3 i = 1#1), ∀ a, (k0_off72 v115) a + S1x128.size a ≤ S9728x128.size a)
theorem k0_off72_inb : ∀ (i : grid0.Coords) (v115 : BitVec 32) (k0_hw24 : k0_chk24 i v115), ∀ (k0_h3 : k0_cond3 i = 1#1), ∀ a, (k0_off72 v115) a + S1x128.size a ≤ S9728x128.size a := fun i v115 k0_hw24 k0_h3 => k0_hw24 k0_h3

def k0_off73 (k0_t2 : Fin k0_t2_loop.trips) : Fin 2 → Nat :=
  let c0_i32_15 : BitVec 32 := 0#32
  let c1_i32 : BitVec 32 := 1#32
  let arg17 : BitVec 32 := Scf.iv c0_i32_15 c1_i32 k0_t2
  let c16_i32_43 : BitVec 32 := 16#32
  let v120 : BitVec 32 := Scalar.muli arg17 c16_i32_43
  let c8_i32 : BitVec 32 := 8#32
  let v121 : BitVec 32 := Scalar.addi v120 c8_i32
  let v122 : Index := Scalar.indexCast v121
  let c0_44 : Index := 0#32
  ![v122.toNat, 0]
def k0_off74 (i : grid0.Coords) (k0_t2 : Fin k0_t2_loop.trips) : Fin 1 → Nat :=
  let arg0 : BitVec 32 := BitVec.ofNat 32 (i 0).val
  let c16_i32_12 : BitVec 32 := 16#32
  let v23 : BitVec 32 := Scalar.subi arg0 c16_i32_12
  let c512_i32 : BitVec 32 := 512#32
  let v24 : BitVec 32 := Scalar.muli v23 c512_i32
  let c0_i32_15 : BitVec 32 := 0#32
  let c1_i32 : BitVec 32 := 1#32
  let arg17 : BitVec 32 := Scf.iv c0_i32_15 c1_i32 k0_t2
  let c16_i32_43 : BitVec 32 := 16#32
  let v120 : BitVec 32 := Scalar.muli arg17 c16_i32_43
  let c8_i32 : BitVec 32 := 8#32
  let v121 : BitVec 32 := Scalar.addi v120 c8_i32
  let v124 : BitVec 32 := Scalar.addi v24 v121
  let v125 : Index := Scalar.indexCast v124
  ![v125.toNat]
def k0_off75 (v126 : BitVec 32) : Fin 2 → Nat :=
  let v127 : Index := Scalar.indexCast v126
  let c0_45 : Index := 0#32
  ![v127.toNat, 0]

def k0_chk25 (i : grid0.Coords) (v126 : BitVec 32) : Prop :=
  (∀ (k0_h3 : k0_cond3 i = 1#1), ∀ a, (k0_off75 v126) a + S1x128.size a ≤ S9728x128.size a)
theorem k0_off75_inb : ∀ (i : grid0.Coords) (v126 : BitVec 32) (k0_hw25 : k0_chk25 i v126), ∀ (k0_h3 : k0_cond3 i = 1#1), ∀ a, (k0_off75 v126) a + S1x128.size a ≤ S9728x128.size a := fun i v126 k0_hw25 k0_h3 => k0_hw25 k0_h3

def k0_off76 (k0_t2 : Fin k0_t2_loop.trips) : Fin 2 → Nat :=
  let c0_i32_15 : BitVec 32 := 0#32
  let c1_i32 : BitVec 32 := 1#32
  let arg17 : BitVec 32 := Scf.iv c0_i32_15 c1_i32 k0_t2
  let c16_i32_46 : BitVec 32 := 16#32
  let v131 : BitVec 32 := Scalar.muli arg17 c16_i32_46
  let c9_i32 : BitVec 32 := 9#32
  let v132 : BitVec 32 := Scalar.addi v131 c9_i32
  let v133 : Index := Scalar.indexCast v132
  let c0_47 : Index := 0#32
  ![v133.toNat, 0]
def k0_off77 (i : grid0.Coords) (k0_t2 : Fin k0_t2_loop.trips) : Fin 1 → Nat :=
  let arg0 : BitVec 32 := BitVec.ofNat 32 (i 0).val
  let c16_i32_12 : BitVec 32 := 16#32
  let v23 : BitVec 32 := Scalar.subi arg0 c16_i32_12
  let c512_i32 : BitVec 32 := 512#32
  let v24 : BitVec 32 := Scalar.muli v23 c512_i32
  let c0_i32_15 : BitVec 32 := 0#32
  let c1_i32 : BitVec 32 := 1#32
  let arg17 : BitVec 32 := Scf.iv c0_i32_15 c1_i32 k0_t2
  let c16_i32_46 : BitVec 32 := 16#32
  let v131 : BitVec 32 := Scalar.muli arg17 c16_i32_46
  let c9_i32 : BitVec 32 := 9#32
  let v132 : BitVec 32 := Scalar.addi v131 c9_i32
  let v135 : BitVec 32 := Scalar.addi v24 v132
  let v136 : Index := Scalar.indexCast v135
  ![v136.toNat]
def k0_off78 (v137 : BitVec 32) : Fin 2 → Nat :=
  let v138 : Index := Scalar.indexCast v137
  let c0_48 : Index := 0#32
  ![v138.toNat, 0]

def k0_chk26 (i : grid0.Coords) (v137 : BitVec 32) : Prop :=
  (∀ (k0_h3 : k0_cond3 i = 1#1), ∀ a, (k0_off78 v137) a + S1x128.size a ≤ S9728x128.size a)
theorem k0_off78_inb : ∀ (i : grid0.Coords) (v137 : BitVec 32) (k0_hw26 : k0_chk26 i v137), ∀ (k0_h3 : k0_cond3 i = 1#1), ∀ a, (k0_off78 v137) a + S1x128.size a ≤ S9728x128.size a := fun i v137 k0_hw26 k0_h3 => k0_hw26 k0_h3

def k0_off79 (k0_t2 : Fin k0_t2_loop.trips) : Fin 2 → Nat :=
  let c0_i32_15 : BitVec 32 := 0#32
  let c1_i32 : BitVec 32 := 1#32
  let arg17 : BitVec 32 := Scf.iv c0_i32_15 c1_i32 k0_t2
  let c16_i32_49 : BitVec 32 := 16#32
  let v142 : BitVec 32 := Scalar.muli arg17 c16_i32_49
  let c10_i32 : BitVec 32 := 10#32
  let v143 : BitVec 32 := Scalar.addi v142 c10_i32
  let v144 : Index := Scalar.indexCast v143
  let c0_50 : Index := 0#32
  ![v144.toNat, 0]
def k0_off80 (i : grid0.Coords) (k0_t2 : Fin k0_t2_loop.trips) : Fin 1 → Nat :=
  let arg0 : BitVec 32 := BitVec.ofNat 32 (i 0).val
  let c16_i32_12 : BitVec 32 := 16#32
  let v23 : BitVec 32 := Scalar.subi arg0 c16_i32_12
  let c512_i32 : BitVec 32 := 512#32
  let v24 : BitVec 32 := Scalar.muli v23 c512_i32
  let c0_i32_15 : BitVec 32 := 0#32
  let c1_i32 : BitVec 32 := 1#32
  let arg17 : BitVec 32 := Scf.iv c0_i32_15 c1_i32 k0_t2
  let c16_i32_49 : BitVec 32 := 16#32
  let v142 : BitVec 32 := Scalar.muli arg17 c16_i32_49
  let c10_i32 : BitVec 32 := 10#32
  let v143 : BitVec 32 := Scalar.addi v142 c10_i32
  let v146 : BitVec 32 := Scalar.addi v24 v143
  let v147 : Index := Scalar.indexCast v146
  ![v147.toNat]
def k0_off81 (v148 : BitVec 32) : Fin 2 → Nat :=
  let v149 : Index := Scalar.indexCast v148
  let c0_51 : Index := 0#32
  ![v149.toNat, 0]

def k0_chk27 (i : grid0.Coords) (v148 : BitVec 32) : Prop :=
  (∀ (k0_h3 : k0_cond3 i = 1#1), ∀ a, (k0_off81 v148) a + S1x128.size a ≤ S9728x128.size a)
theorem k0_off81_inb : ∀ (i : grid0.Coords) (v148 : BitVec 32) (k0_hw27 : k0_chk27 i v148), ∀ (k0_h3 : k0_cond3 i = 1#1), ∀ a, (k0_off81 v148) a + S1x128.size a ≤ S9728x128.size a := fun i v148 k0_hw27 k0_h3 => k0_hw27 k0_h3

def k0_off82 (k0_t2 : Fin k0_t2_loop.trips) : Fin 2 → Nat :=
  let c0_i32_15 : BitVec 32 := 0#32
  let c1_i32 : BitVec 32 := 1#32
  let arg17 : BitVec 32 := Scf.iv c0_i32_15 c1_i32 k0_t2
  let c16_i32_52 : BitVec 32 := 16#32
  let v153 : BitVec 32 := Scalar.muli arg17 c16_i32_52
  let c11_i32 : BitVec 32 := 11#32
  let v154 : BitVec 32 := Scalar.addi v153 c11_i32
  let v155 : Index := Scalar.indexCast v154
  let c0_53 : Index := 0#32
  ![v155.toNat, 0]
def k0_off83 (i : grid0.Coords) (k0_t2 : Fin k0_t2_loop.trips) : Fin 1 → Nat :=
  let arg0 : BitVec 32 := BitVec.ofNat 32 (i 0).val
  let c16_i32_12 : BitVec 32 := 16#32
  let v23 : BitVec 32 := Scalar.subi arg0 c16_i32_12
  let c512_i32 : BitVec 32 := 512#32
  let v24 : BitVec 32 := Scalar.muli v23 c512_i32
  let c0_i32_15 : BitVec 32 := 0#32
  let c1_i32 : BitVec 32 := 1#32
  let arg17 : BitVec 32 := Scf.iv c0_i32_15 c1_i32 k0_t2
  let c16_i32_52 : BitVec 32 := 16#32
  let v153 : BitVec 32 := Scalar.muli arg17 c16_i32_52
  let c11_i32 : BitVec 32 := 11#32
  let v154 : BitVec 32 := Scalar.addi v153 c11_i32
  let v157 : BitVec 32 := Scalar.addi v24 v154
  let v158 : Index := Scalar.indexCast v157
  ![v158.toNat]
def k0_off84 (v159 : BitVec 32) : Fin 2 → Nat :=
  let v160 : Index := Scalar.indexCast v159
  let c0_54 : Index := 0#32
  ![v160.toNat, 0]

def k0_chk28 (i : grid0.Coords) (v159 : BitVec 32) : Prop :=
  (∀ (k0_h3 : k0_cond3 i = 1#1), ∀ a, (k0_off84 v159) a + S1x128.size a ≤ S9728x128.size a)
theorem k0_off84_inb : ∀ (i : grid0.Coords) (v159 : BitVec 32) (k0_hw28 : k0_chk28 i v159), ∀ (k0_h3 : k0_cond3 i = 1#1), ∀ a, (k0_off84 v159) a + S1x128.size a ≤ S9728x128.size a := fun i v159 k0_hw28 k0_h3 => k0_hw28 k0_h3

def k0_off85 (k0_t2 : Fin k0_t2_loop.trips) : Fin 2 → Nat :=
  let c0_i32_15 : BitVec 32 := 0#32
  let c1_i32 : BitVec 32 := 1#32
  let arg17 : BitVec 32 := Scf.iv c0_i32_15 c1_i32 k0_t2
  let c16_i32_55 : BitVec 32 := 16#32
  let v164 : BitVec 32 := Scalar.muli arg17 c16_i32_55
  let c12_i32 : BitVec 32 := 12#32
  let v165 : BitVec 32 := Scalar.addi v164 c12_i32
  let v166 : Index := Scalar.indexCast v165
  let c0_56 : Index := 0#32
  ![v166.toNat, 0]
def k0_off86 (i : grid0.Coords) (k0_t2 : Fin k0_t2_loop.trips) : Fin 1 → Nat :=
  let arg0 : BitVec 32 := BitVec.ofNat 32 (i 0).val
  let c16_i32_12 : BitVec 32 := 16#32
  let v23 : BitVec 32 := Scalar.subi arg0 c16_i32_12
  let c512_i32 : BitVec 32 := 512#32
  let v24 : BitVec 32 := Scalar.muli v23 c512_i32
  let c0_i32_15 : BitVec 32 := 0#32
  let c1_i32 : BitVec 32 := 1#32
  let arg17 : BitVec 32 := Scf.iv c0_i32_15 c1_i32 k0_t2
  let c16_i32_55 : BitVec 32 := 16#32
  let v164 : BitVec 32 := Scalar.muli arg17 c16_i32_55
  let c12_i32 : BitVec 32 := 12#32
  let v165 : BitVec 32 := Scalar.addi v164 c12_i32
  let v168 : BitVec 32 := Scalar.addi v24 v165
  let v169 : Index := Scalar.indexCast v168
  ![v169.toNat]
def k0_off87 (v170 : BitVec 32) : Fin 2 → Nat :=
  let v171 : Index := Scalar.indexCast v170
  let c0_57 : Index := 0#32
  ![v171.toNat, 0]

def k0_chk29 (i : grid0.Coords) (v170 : BitVec 32) : Prop :=
  (∀ (k0_h3 : k0_cond3 i = 1#1), ∀ a, (k0_off87 v170) a + S1x128.size a ≤ S9728x128.size a)
theorem k0_off87_inb : ∀ (i : grid0.Coords) (v170 : BitVec 32) (k0_hw29 : k0_chk29 i v170), ∀ (k0_h3 : k0_cond3 i = 1#1), ∀ a, (k0_off87 v170) a + S1x128.size a ≤ S9728x128.size a := fun i v170 k0_hw29 k0_h3 => k0_hw29 k0_h3

def k0_off88 (k0_t2 : Fin k0_t2_loop.trips) : Fin 2 → Nat :=
  let c0_i32_15 : BitVec 32 := 0#32
  let c1_i32 : BitVec 32 := 1#32
  let arg17 : BitVec 32 := Scf.iv c0_i32_15 c1_i32 k0_t2
  let c16_i32_58 : BitVec 32 := 16#32
  let v175 : BitVec 32 := Scalar.muli arg17 c16_i32_58
  let c13_i32 : BitVec 32 := 13#32
  let v176 : BitVec 32 := Scalar.addi v175 c13_i32
  let v177 : Index := Scalar.indexCast v176
  let c0_59 : Index := 0#32
  ![v177.toNat, 0]
def k0_off89 (i : grid0.Coords) (k0_t2 : Fin k0_t2_loop.trips) : Fin 1 → Nat :=
  let arg0 : BitVec 32 := BitVec.ofNat 32 (i 0).val
  let c16_i32_12 : BitVec 32 := 16#32
  let v23 : BitVec 32 := Scalar.subi arg0 c16_i32_12
  let c512_i32 : BitVec 32 := 512#32
  let v24 : BitVec 32 := Scalar.muli v23 c512_i32
  let c0_i32_15 : BitVec 32 := 0#32
  let c1_i32 : BitVec 32 := 1#32
  let arg17 : BitVec 32 := Scf.iv c0_i32_15 c1_i32 k0_t2
  let c16_i32_58 : BitVec 32 := 16#32
  let v175 : BitVec 32 := Scalar.muli arg17 c16_i32_58
  let c13_i32 : BitVec 32 := 13#32
  let v176 : BitVec 32 := Scalar.addi v175 c13_i32
  let v179 : BitVec 32 := Scalar.addi v24 v176
  let v180 : Index := Scalar.indexCast v179
  ![v180.toNat]
def k0_off90 (v181 : BitVec 32) : Fin 2 → Nat :=
  let v182 : Index := Scalar.indexCast v181
  let c0_60 : Index := 0#32
  ![v182.toNat, 0]

def k0_chk30 (i : grid0.Coords) (v181 : BitVec 32) : Prop :=
  (∀ (k0_h3 : k0_cond3 i = 1#1), ∀ a, (k0_off90 v181) a + S1x128.size a ≤ S9728x128.size a)
theorem k0_off90_inb : ∀ (i : grid0.Coords) (v181 : BitVec 32) (k0_hw30 : k0_chk30 i v181), ∀ (k0_h3 : k0_cond3 i = 1#1), ∀ a, (k0_off90 v181) a + S1x128.size a ≤ S9728x128.size a := fun i v181 k0_hw30 k0_h3 => k0_hw30 k0_h3

def k0_off91 (k0_t2 : Fin k0_t2_loop.trips) : Fin 2 → Nat :=
  let c0_i32_15 : BitVec 32 := 0#32
  let c1_i32 : BitVec 32 := 1#32
  let arg17 : BitVec 32 := Scf.iv c0_i32_15 c1_i32 k0_t2
  let c16_i32_61 : BitVec 32 := 16#32
  let v186 : BitVec 32 := Scalar.muli arg17 c16_i32_61
  let c14_i32 : BitVec 32 := 14#32
  let v187 : BitVec 32 := Scalar.addi v186 c14_i32
  let v188 : Index := Scalar.indexCast v187
  let c0_62 : Index := 0#32
  ![v188.toNat, 0]
def k0_off92 (i : grid0.Coords) (k0_t2 : Fin k0_t2_loop.trips) : Fin 1 → Nat :=
  let arg0 : BitVec 32 := BitVec.ofNat 32 (i 0).val
  let c16_i32_12 : BitVec 32 := 16#32
  let v23 : BitVec 32 := Scalar.subi arg0 c16_i32_12
  let c512_i32 : BitVec 32 := 512#32
  let v24 : BitVec 32 := Scalar.muli v23 c512_i32
  let c0_i32_15 : BitVec 32 := 0#32
  let c1_i32 : BitVec 32 := 1#32
  let arg17 : BitVec 32 := Scf.iv c0_i32_15 c1_i32 k0_t2
  let c16_i32_61 : BitVec 32 := 16#32
  let v186 : BitVec 32 := Scalar.muli arg17 c16_i32_61
  let c14_i32 : BitVec 32 := 14#32
  let v187 : BitVec 32 := Scalar.addi v186 c14_i32
  let v190 : BitVec 32 := Scalar.addi v24 v187
  let v191 : Index := Scalar.indexCast v190
  ![v191.toNat]
def k0_off93 (v192 : BitVec 32) : Fin 2 → Nat :=
  let v193 : Index := Scalar.indexCast v192
  let c0_63 : Index := 0#32
  ![v193.toNat, 0]

def k0_chk31 (i : grid0.Coords) (v192 : BitVec 32) : Prop :=
  (∀ (k0_h3 : k0_cond3 i = 1#1), ∀ a, (k0_off93 v192) a + S1x128.size a ≤ S9728x128.size a)
theorem k0_off93_inb : ∀ (i : grid0.Coords) (v192 : BitVec 32) (k0_hw31 : k0_chk31 i v192), ∀ (k0_h3 : k0_cond3 i = 1#1), ∀ a, (k0_off93 v192) a + S1x128.size a ≤ S9728x128.size a := fun i v192 k0_hw31 k0_h3 => k0_hw31 k0_h3

def k0_off94 (k0_t2 : Fin k0_t2_loop.trips) : Fin 2 → Nat :=
  let c0_i32_15 : BitVec 32 := 0#32
  let c1_i32 : BitVec 32 := 1#32
  let arg17 : BitVec 32 := Scf.iv c0_i32_15 c1_i32 k0_t2
  let c16_i32_64 : BitVec 32 := 16#32
  let v197 : BitVec 32 := Scalar.muli arg17 c16_i32_64
  let c15_i32 : BitVec 32 := 15#32
  let v198 : BitVec 32 := Scalar.addi v197 c15_i32
  let v199 : Index := Scalar.indexCast v198
  let c0_65 : Index := 0#32
  ![v199.toNat, 0]
def k0_off95 (i : grid0.Coords) (k0_t2 : Fin k0_t2_loop.trips) : Fin 1 → Nat :=
  let arg0 : BitVec 32 := BitVec.ofNat 32 (i 0).val
  let c16_i32_12 : BitVec 32 := 16#32
  let v23 : BitVec 32 := Scalar.subi arg0 c16_i32_12
  let c512_i32 : BitVec 32 := 512#32
  let v24 : BitVec 32 := Scalar.muli v23 c512_i32
  let c0_i32_15 : BitVec 32 := 0#32
  let c1_i32 : BitVec 32 := 1#32
  let arg17 : BitVec 32 := Scf.iv c0_i32_15 c1_i32 k0_t2
  let c16_i32_64 : BitVec 32 := 16#32
  let v197 : BitVec 32 := Scalar.muli arg17 c16_i32_64
  let c15_i32 : BitVec 32 := 15#32
  let v198 : BitVec 32 := Scalar.addi v197 c15_i32
  let v201 : BitVec 32 := Scalar.addi v24 v198
  let v202 : Index := Scalar.indexCast v201
  ![v202.toNat]
def k0_off96 (v203 : BitVec 32) : Fin 2 → Nat :=
  let v204 : Index := Scalar.indexCast v203
  let c0_66 : Index := 0#32
  ![v204.toNat, 0]

def k0_chk32 (i : grid0.Coords) (v203 : BitVec 32) : Prop :=
  (∀ (k0_h3 : k0_cond3 i = 1#1), ∀ a, (k0_off96 v203) a + S1x128.size a ≤ S9728x128.size a)
theorem k0_off96_inb : ∀ (i : grid0.Coords) (v203 : BitVec 32) (k0_hw32 : k0_chk32 i v203), ∀ (k0_h3 : k0_cond3 i = 1#1), ∀ a, (k0_off96 v203) a + S1x128.size a ≤ S9728x128.size a := fun i v203 k0_hw32 k0_h3 => k0_hw32 k0_h3

def k0_cond4 (i : grid0.Coords) : BitVec 1 :=
  let arg0 : BitVec 32 := BitVec.ofNat 32 (i 0).val
  let c18_i32 : BitVec 32 := 18#32
  let v9 : BitVec 1 := Scalar.cmpi .eq arg0 c18_i32
  let v10 : BitVec 32 := Scalar.extui v9
  let c0_i32_4 : BitVec 32 := 0#32
  let v11 : BitVec 1 := Scalar.cmpi .ne v10 c0_i32_4
  v11

def k0_cond1 (i : grid0.Coords) : BitVec 1 :=
  let arg0 : BitVec 32 := BitVec.ofNat 32 (i 0).val
  let c0_i32 : BitVec 32 := 0#32
  let v0 : BitVec 1 := Scalar.cmpi .eq arg0 c0_i32
  let v1 : BitVec 32 := Scalar.extui v0
  let c0_i32_0 : BitVec 32 := 0#32
  let v2 : BitVec 1 := Scalar.cmpi .ne v1 c0_i32_0
  v2

def cc0_transform_0 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c15_i32 : BitVec 32 := 15#32
  let v0 : BitVec 32 := Scalar.minsi arg0 c15_i32
  let c0_i32 : BitVec 32 := 0#32
  let c0_i32_0 : BitVec 32 := 0#32
  ![v0.toNat, c0_i32.toNat]

def cc0_transform_3 (i : grid0.Coords) : Fin 2 → Nat :=
  let arg0 : BitVec 32 := BitVec.ofNat 32 (i 0).val
  let c15_i32 : BitVec 32 := 15#32
  let v0 : BitVec 32 := Scalar.minsi arg0 c15_i32
  let c0_i32 : BitVec 32 := 0#32
  let c0_i32_0 : BitVec 32 := 0#32
  ![v0.toNat, c0_i32.toNat]

def cc0_transform_4 (i : grid0.Coords) : Fin 2 → Nat :=
  let arg0 : BitVec 32 := BitVec.ofNat 32 (i 0).val
  let c16_i32 : BitVec 32 := 16#32
  let v0 : BitVec 32 := Scalar.subi arg0 c16_i32
  let c0_i32 : BitVec 32 := 0#32
  let v1 : BitVec 32 := Scalar.maxsi v0 c0_i32
  let c0_i32_0 : BitVec 32 := 0#32
  let c0_i32_1 : BitVec 32 := 0#32
  ![v1.toNat, c0_i32_0.toNat]

def cc0_transform_5 (i : grid0.Coords) : Fin 2 → Nat :=
  let arg0 : BitVec 32 := BitVec.ofNat 32 (i 0).val
  let c16_i32 : BitVec 32 := 16#32
  let v0 : BitVec 32 := Scalar.subi arg0 c16_i32
  let c0_i32 : BitVec 32 := 0#32
  let v1 : BitVec 32 := Scalar.maxsi v0 c0_i32
  let c0_i32_0 : BitVec 32 := 0#32
  let c0_i32_1 : BitVec 32 := 0#32
  ![v1.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .smem S9728 .i32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S256x2560 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S256x2560 .i8 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x20 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x2560 .i8 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x1 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S256x9728 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S256x2560 .i8 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S2x128 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]
-- ==== KernelIdeal.lean ====
abbrev S2x128x2560 : Shape := ⟨3, ![2, 128, 2560]⟩
abbrev S9728 : Shape := ⟨1, ![9728]⟩
abbrev S1536x2560 : Shape := ⟨2, ![1536, 2560]⟩
abbrev S1536 : Shape := ⟨1, ![1536]⟩
abbrev S4096x2560 : Shape := ⟨2, ![4096, 2560]⟩
abbrev S8192x20 : Shape := ⟨2, ![8192, 20]⟩
abbrev S256x2560 : Shape := ⟨2, ![256, 2560]⟩
abbrev S1536x1 : Shape := ⟨2, ![1536, 1]⟩
abbrev S256x9728 : Shape := ⟨2, ![256, 9728]⟩
abbrev S2x128 : Shape := ⟨2, ![2, 128]⟩
abbrev S512x20 : Shape := ⟨2, ![512, 20]⟩
abbrev S512x2560 : Shape := ⟨2, ![512, 2560]⟩
abbrev S512x1 : Shape := ⟨2, ![512, 1]⟩
abbrev S256x128 : Shape := ⟨2, ![256, 128]⟩
abbrev S8x256 : Shape := ⟨2, ![8, 256]⟩
abbrev S512x128 : Shape := ⟨2, ![512, 128]⟩
abbrev S512x2x128 : Shape := ⟨3, ![512, 2, 128]⟩
abbrev S512x1x128 : Shape := ⟨3, ![512, 1, 128]⟩
abbrev S9728x128 : Shape := ⟨2, ![9728, 128]⟩
abbrev S9728x2x128 : Shape := ⟨3, ![9728, 2, 128]⟩
abbrev S9728x1x128 : Shape := ⟨3, ![9728, 1, 128]⟩
abbrev S256 : Shape := ⟨1, ![256]⟩
abbrev S256x1 : Shape := ⟨2, ![256, 1]⟩
abbrev S128x2560 : Shape := ⟨2, ![128, 2560]⟩
abbrev S128x128 : Shape := ⟨2, ![128, 128]⟩
abbrev S1x128 : Shape := ⟨2, ![1, 128]⟩
abbrev S256x1x2560 : Shape := ⟨3, ![256, 1, 2560]⟩
abbrev S256x2x2560 : Shape := ⟨3, ![256, 2, 2560]⟩
abbrev S512x256 : Shape := ⟨2, ![512, 256]⟩
abbrev S1x2x128 : Shape := ⟨3, ![1, 2, 128]⟩
abbrev S1x1x128 : Shape := ⟨3, ![1, 1, 128]⟩
abbrev S1 : Shape := ⟨1, ![1]⟩
abbrev S1x256 : Shape := ⟨2, ![1, 256]⟩
abbrev S128x2x128 : Shape := ⟨3, ![128, 2, 128]⟩
abbrev S128x1x128 : Shape := ⟨3, ![128, 1, 128]⟩
abbrev S2x128x9728 : Shape := ⟨3, ![2, 128, 9728]⟩

abbrev nBuf : Space → Nat
  | .hbm => 13
  | .vmem => 19
  | .smem => 1
  | _ => 0

abbrev bufTy : (tb : Table) → Fin (tcTables nBuf tb) → BufTy
  | .hbm, ⟨0, _⟩ => ⟨S2x128x2560, .bf16⟩
  | .hbm, ⟨1, _⟩ => ⟨S9728, .i32⟩
  | .hbm, ⟨2, _⟩ => ⟨S1536x2560, .i8⟩
  | .hbm, ⟨3, _⟩ => ⟨S1536, .f32⟩
  | .hbm, ⟨4, _⟩ => ⟨S4096x2560, .i8⟩
  | .hbm, ⟨5, _⟩ => ⟨S8192x20, .bf16⟩
  | .hbm, ⟨6, _⟩ => ⟨S256x2560, .bf16⟩
  | .hbm, ⟨7, _⟩ => ⟨S1536x1, .f32⟩
  | .hbm, ⟨8, _⟩ => ⟨S256x9728, .bf16⟩
  | .hbm, ⟨9, _⟩ => ⟨S256x2560, .i8⟩
  | .hbm, ⟨10, _⟩ => ⟨S2x128, .f32⟩
  | .hbm, ⟨11, _⟩ => ⟨S2x128x9728, .bf16⟩
  | .hbm, ⟨12, _⟩ => ⟨S2x128x2560, .i8⟩
  | .local _ .vmem, ⟨0, _⟩ => ⟨S256x2560, .bf16⟩
  | .local _ .vmem, ⟨1, _⟩ => ⟨S256x2560, .i8⟩
  | .local _ .vmem, ⟨2, _⟩ => ⟨S256x2560, .i8⟩
  | .local _ .vmem, ⟨3, _⟩ => ⟨S512x20, .bf16⟩
  | .local _ .vmem, ⟨4, _⟩ => ⟨S512x20, .bf16⟩
  | .local _ .vmem, ⟨5, _⟩ => ⟨S512x2560, .i8⟩
  | .local _ .vmem, ⟨6, _⟩ => ⟨S512x2560, .i8⟩
  | .local _ .vmem, ⟨7, _⟩ => ⟨S512x1, .f32⟩
  | .local _ .vmem, ⟨8, _⟩ => ⟨S512x1, .f32⟩
  | .local _ .vmem, ⟨9, _⟩ => ⟨S256x9728, .bf16⟩
  | .local _ .vmem, ⟨10, _⟩ => ⟨S256x2560, .i8⟩
  | .local _ .vmem, ⟨11, _⟩ => ⟨S2x128, .f32⟩
  | .local _ .vmem, ⟨12, _⟩ => ⟨S256x2560, .bf16⟩
  | .local _ .vmem, ⟨13, _⟩ => ⟨S256x2560, .bf16⟩
  | .local _ .vmem, ⟨14, _⟩ => ⟨S256x128, .f32⟩
  | .local _ .vmem, ⟨15, _⟩ => ⟨S8x256, .f32⟩
  | .local _ .vmem, ⟨16, _⟩ => ⟨S512x2560, .bf16⟩
  | .local _ .vmem, ⟨17, _⟩ => ⟨S512x2x128, .bf16⟩
  | .local _ .vmem, ⟨18, _⟩ => ⟨S9728x2x128, .bf16⟩
  | .local _ .smem, ⟨0, _⟩ => ⟨S9728, .i32⟩
  | _, _ => ⟨S2x128x2560, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .smem, ⟨0, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2_0 : Ref sig .tc := ⟨.hbm, 8, rfl⟩
abbrev main_v2_1 : Ref sig .tc := ⟨.hbm, 9, rfl⟩
abbrev main_v2_2 : Ref sig .tc := ⟨.hbm, 10, rfl⟩
abbrev main_v3 : Ref sig .tc := ⟨.hbm, 11, rfl⟩
abbrev main_v4 : Ref sig .tc := ⟨.hbm, 12, rfl⟩
abbrev cc0_stg1_0 : Ref sig .tc := ⟨.vmem, 0, rfl⟩
abbrev cc0_stg2_0 : Ref sig .tc := ⟨.vmem, 1, rfl⟩
abbrev cc0_stg2_1 : Ref sig .tc := ⟨.vmem, 2, rfl⟩
abbrev cc0_stg3_0 : Ref sig .tc := ⟨.vmem, 3, rfl⟩
abbrev cc0_stg3_1 : Ref sig .tc := ⟨.vmem, 4, rfl⟩
abbrev cc0_stg4_0 : Ref sig .tc := ⟨.vmem, 5, rfl⟩
abbrev cc0_stg4_1 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_scratch0 : Ref sig .tc := ⟨.vmem, 12, rfl⟩
abbrev cc0_scratch1 : Ref sig .tc := ⟨.vmem, 13, rfl⟩
abbrev cc0_scratch2 : Ref sig .tc := ⟨.vmem, 14, rfl⟩
abbrev cc0_scratch3 : Ref sig .tc := ⟨.vmem, 15, rfl⟩
abbrev cc0_scratch4 : Ref sig .tc := ⟨.vmem, 16, rfl⟩
abbrev cc0_scratch5 : Ref sig .tc := ⟨.vmem, 17, rfl⟩
abbrev cc0_scratch6 : Ref sig .tc := ⟨.vmem, 18, rfl⟩
abbrev cc0_stg0_0 : Ref sig .tc := ⟨.smem, 0, rfl⟩
abbrev cc0_sem0_0 : DmaSem sig := 0
abbrev cc0_sem1_0 : DmaSem sig := 1
abbrev cc0_sem2_0 : DmaSem sig := 2
abbrev cc0_sem2_1 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem7_0 : DmaSem sig := 11
abbrev cc0_sem8_0 : DmaSem sig := 12

abbrev nD : Nat := 1
abbrev τ : Topo := Topo.v7x

variable {F : FTy → Type} [FloatOps F]

abbrev grid0 : Pipeline.Grid := ⟨1, ![19], ![false]⟩

def k0_cond2 (i : grid0.Coords) : BitVec 1 :=
  let arg0 : BitVec 32 := BitVec.ofNat 32 (i 0).val
  let c16_i32 : BitVec 32 := 16#32
  let v3 : BitVec 1 := Scalar.cmpi .slt arg0 c16_i32
  let v4 : BitVec 32 := Scalar.extui v3
  let c0_i32_1 : BitVec 32 := 0#32
  let v5 : BitVec 1 := Scalar.cmpi .ne v4 c0_i32_1
  v5

@[reducible] def k0_t1_loop : Scf.Loop 32 :=
  let c0_i32_37 : BitVec 32 := 0#32
  let c32_i32 : BitVec 32 := 32#32
  let v185 : BitVec 32 := Scalar.addi c0_i32_37 c32_i32
  let c1_i32_38 : BitVec 32 := 1#32
  ⟨c0_i32_37, v185, c1_i32_38⟩
def k0_off1 (k0_t1 : Fin k0_t1_loop.trips) : Fin 3 → Nat :=
  let c0_i32_37 : BitVec 32 := 0#32
  let c1_i32_38 : BitVec 32 := 1#32
  let arg17 : BitVec 32 := Scf.iv c0_i32_37 c1_i32_38 k0_t1
  let c16_i32_40 : BitVec 32 := 16#32
  let v186 : BitVec 32 := Scalar.muli arg17 c16_i32_40
  let c0_i32_41 : BitVec 32 := 0#32
  let v187 : BitVec 32 := Scalar.addi v186 c0_i32_41
  let v188 : Index := Scalar.indexCast v187
  let c0_42 : Index := 0#32
  ![v188.toNat, 0, 0]
def k0_off2 (i : grid0.Coords) (k0_t1 : Fin k0_t1_loop.trips) : Fin 1 → Nat :=
  let c1536_i32 : BitVec 32 := 1536#32
  let arg0 : BitVec 32 := BitVec.ofNat 32 (i 0).val
  let c512_i32 : BitVec 32 := 512#32
  let v177 : BitVec 32 := Scalar.muli arg0 c512_i32
  let v178 : BitVec 32 := Scalar.addi c1536_i32 v177
  let c0_i32_37 : BitVec 32 := 0#32
  let c1_i32_38 : BitVec 32 := 1#32
  let arg17 : BitVec 32 := Scf.iv c0_i32_37 c1_i32_38 k0_t1
  let c16_i32_40 : BitVec 32 := 16#32
  let v186 : BitVec 32 := Scalar.muli arg17 c16_i32_40
  let c0_i32_41 : BitVec 32 := 0#32
  let v187 : BitVec 32 := Scalar.addi v186 c0_i32_41
  let v190 : BitVec 32 := Scalar.addi v178 v187
  let v191 : Index := Scalar.indexCast v190
  ![v191.toNat]
def k0_off3 (v192 : BitVec 32) : Fin 3 → Nat :=
  let v193 : Index := Scalar.indexCast v192
  let c0_43 : Index := 0#32
  ![v193.toNat, 0, 0]

def k0_chk1 (i : grid0.Coords) (v192 : BitVec 32) : Prop :=
  (∀ (k0_h2 : k0_cond2 i = 1#1), ∀ a, (k0_off3 v192) a + S1x2x128.size a ≤ S9728x2x128.size a)
theorem k0_off3_inb : ∀ (i : grid0.Coords) (v192 : BitVec 32) (k0_hw1 : k0_chk1 i v192), ∀ (k0_h2 : k0_cond2 i = 1#1), ∀ a, (k0_off3 v192) a + S1x2x128.size a ≤ S9728x2x128.size a := fun i v192 k0_hw1 k0_h2 => k0_hw1 k0_h2

def k0_off4 (k0_t1 : Fin k0_t1_loop.trips) : Fin 3 → Nat :=
  let c0_i32_37 : BitVec 32 := 0#32
  let c1_i32_38 : BitVec 32 := 1#32
  let arg17 : BitVec 32 := Scf.iv c0_i32_37 c1_i32_38 k0_t1
  let c16_i32_44 : BitVec 32 := 16#32
  let v197 : BitVec 32 := Scalar.muli arg17 c16_i32_44
  let c1_i32_45 : BitVec 32 := 1#32
  let v198 : BitVec 32 := Scalar.addi v197 c1_i32_45
  let v199 : Index := Scalar.indexCast v198
  let c0_46 : Index := 0#32
  ![v199.toNat, 0, 0]
def k0_off5 (i : grid0.Coords) (k0_t1 : Fin k0_t1_loop.trips) : Fin 1 → Nat :=
  let c1536_i32 : BitVec 32 := 1536#32
  let arg0 : BitVec 32 := BitVec.ofNat 32 (i 0).val
  let c512_i32 : BitVec 32 := 512#32
  let v177 : BitVec 32 := Scalar.muli arg0 c512_i32
  let v178 : BitVec 32 := Scalar.addi c1536_i32 v177
  let c0_i32_37 : BitVec 32 := 0#32
  let c1_i32_38 : BitVec 32 := 1#32
  let arg17 : BitVec 32 := Scf.iv c0_i32_37 c1_i32_38 k0_t1
  let c16_i32_44 : BitVec 32 := 16#32
  let v197 : BitVec 32 := Scalar.muli arg17 c16_i32_44
  let c1_i32_45 : BitVec 32 := 1#32
  let v198 : BitVec 32 := Scalar.addi v197 c1_i32_45
  let v201 : BitVec 32 := Scalar.addi v178 v198
  let v202 : Index := Scalar.indexCast v201
  ![v202.toNat]
def k0_off6 (v203 : BitVec 32) : Fin 3 → Nat :=
  let v204 : Index := Scalar.indexCast v203
  let c0_47 : Index := 0#32
  ![v204.toNat, 0, 0]

def k0_chk2 (i : grid0.Coords) (v203 : BitVec 32) : Prop :=
  (∀ (k0_h2 : k0_cond2 i = 1#1), ∀ a, (k0_off6 v203) a + S1x2x128.size a ≤ S9728x2x128.size a)
theorem k0_off6_inb : ∀ (i : grid0.Coords) (v203 : BitVec 32) (k0_hw2 : k0_chk2 i v203), ∀ (k0_h2 : k0_cond2 i = 1#1), ∀ a, (k0_off6 v203) a + S1x2x128.size a ≤ S9728x2x128.size a := fun i v203 k0_hw2 k0_h2 => k0_hw2 k0_h2

def k0_off7 (k0_t1 : Fin k0_t1_loop.trips) : Fin 3 → Nat :=
  let c0_i32_37 : BitVec 32 := 0#32
  let c1_i32_38 : BitVec 32 := 1#32
  let arg17 : BitVec 32 := Scf.iv c0_i32_37 c1_i32_38 k0_t1
  let c16_i32_48 : BitVec 32 := 16#32
  let v208 : BitVec 32 := Scalar.muli arg17 c16_i32_48
  let c2_i32 : BitVec 32 := 2#32
  let v209 : BitVec 32 := Scalar.addi v208 c2_i32
  let v210 : Index := Scalar.indexCast v209
  let c0_49 : Index := 0#32
  ![v210.toNat, 0, 0]
def k0_off8 (i : grid0.Coords) (k0_t1 : Fin k0_t1_loop.trips) : Fin 1 → Nat :=
  let c1536_i32 : BitVec 32 := 1536#32
  let arg0 : BitVec 32 := BitVec.ofNat 32 (i 0).val
  let c512_i32 : BitVec 32 := 512#32
  let v177 : BitVec 32 := Scalar.muli arg0 c512_i32
  let v178 : BitVec 32 := Scalar.addi c1536_i32 v177
  let c0_i32_37 : BitVec 32 := 0#32
  let c1_i32_38 : BitVec 32 := 1#32
  let arg17 : BitVec 32 := Scf.iv c0_i32_37 c1_i32_38 k0_t1
  let c16_i32_48 : BitVec 32 := 16#32
  let v208 : BitVec 32 := Scalar.muli arg17 c16_i32_48
  let c2_i32 : BitVec 32 := 2#32
  let v209 : BitVec 32 := Scalar.addi v208 c2_i32
  let v212 : BitVec 32 := Scalar.addi v178 v209
  let v213 : Index := Scalar.indexCast v212
  ![v213.toNat]
def k0_off9 (v214 : BitVec 32) : Fin 3 → Nat :=
  let v215 : Index := Scalar.indexCast v214
  let c0_50 : Index := 0#32
  ![v215.toNat, 0, 0]

def k0_chk3 (i : grid0.Coords) (v214 : BitVec 32) : Prop :=
  (∀ (k0_h2 : k0_cond2 i = 1#1), ∀ a, (k0_off9 v214) a + S1x2x128.size a ≤ S9728x2x128.size a)
theorem k0_off9_inb : ∀ (i : grid0.Coords) (v214 : BitVec 32) (k0_hw3 : k0_chk3 i v214), ∀ (k0_h2 : k0_cond2 i = 1#1), ∀ a, (k0_off9 v214) a + S1x2x128.size a ≤ S9728x2x128.size a := fun i v214 k0_hw3 k0_h2 => k0_hw3 k0_h2

def k0_off10 (k0_t1 : Fin k0_t1_loop.trips) : Fin 3 → Nat :=
  let c0_i32_37 : BitVec 32 := 0#32
  let c1_i32_38 : BitVec 32 := 1#32
  let arg17 : BitVec 32 := Scf.iv c0_i32_37 c1_i32_38 k0_t1
  let c16_i32_51 : BitVec 32 := 16#32
  let v219 : BitVec 32 := Scalar.muli arg17 c16_i32_51
  let c3_i32 : BitVec 32 := 3#32
  let v220 : BitVec 32 := Scalar.addi v219 c3_i32
  let v221 : Index := Scalar.indexCast v220
  let c0_52 : Index := 0#32
  ![v221.toNat, 0, 0]
def k0_off11 (i : grid0.Coords) (k0_t1 : Fin k0_t1_loop.trips) : Fin 1 → Nat :=
  let c1536_i32 : BitVec 32 := 1536#32
  let arg0 : BitVec 32 := BitVec.ofNat 32 (i 0).val
  let c512_i32 : BitVec 32 := 512#32
  let v177 : BitVec 32 := Scalar.muli arg0 c512_i32
  let v178 : BitVec 32 := Scalar.addi c1536_i32 v177
  let c0_i32_37 : BitVec 32 := 0#32
  let c1_i32_38 : BitVec 32 := 1#32
  let arg17 : BitVec 32 := Scf.iv c0_i32_37 c1_i32_38 k0_t1
  let c16_i32_51 : BitVec 32 := 16#32
  let v219 : BitVec 32 := Scalar.muli arg17 c16_i32_51
  let c3_i32 : BitVec 32 := 3#32
  let v220 : BitVec 32 := Scalar.addi v219 c3_i32
  let v223 : BitVec 32 := Scalar.addi v178 v220
  let v224 : Index := Scalar.indexCast v223
  ![v224.toNat]
def k0_off12 (v225 : BitVec 32) : Fin 3 → Nat :=
  let v226 : Index := Scalar.indexCast v225
  let c0_53 : Index := 0#32
  ![v226.toNat, 0, 0]

def k0_chk4 (i : grid0.Coords) (v225 : BitVec 32) : Prop :=
  (∀ (k0_h2 : k0_cond2 i = 1#1), ∀ a, (k0_off12 v225) a + S1x2x128.size a ≤ S9728x2x128.size a)
theorem k0_off12_inb : ∀ (i : grid0.Coords) (v225 : BitVec 32) (k0_hw4 : k0_chk4 i v225), ∀ (k0_h2 : k0_cond2 i = 1#1), ∀ a, (k0_off12 v225) a + S1x2x128.size a ≤ S9728x2x128.size a := fun i v225 k0_hw4 k0_h2 => k0_hw4 k0_h2

def k0_off13 (k0_t1 : Fin k0_t1_loop.trips) : Fin 3 → Nat :=
  let c0_i32_37 : BitVec 32 := 0#32
  let c1_i32_38 : BitVec 32 := 1#32
  let arg17 : BitVec 32 := Scf.iv c0_i32_37 c1_i32_38 k0_t1
  let c16_i32_54 : BitVec 32 := 16#32
  let v230 : BitVec 32 := Scalar.muli arg17 c16_i32_54
  let c4_i32_55 : BitVec 32 := 4#32
  let v231 : BitVec 32 := Scalar.addi v230 c4_i32_55
  let v232 : Index := Scalar.indexCast v231
  let c0_56 : Index := 0#32
  ![v232.toNat, 0, 0]
def k0_off14 (i : grid0.Coords) (k0_t1 : Fin k0_t1_loop.trips) : Fin 1 → Nat :=
  let c1536_i32 : BitVec 32 := 1536#32
  let arg0 : BitVec 32 := BitVec.ofNat 32 (i 0).val
  let c512_i32 : BitVec 32 := 512#32
  let v177 : BitVec 32 := Scalar.muli arg0 c512_i32
  let v178 : BitVec 32 := Scalar.addi c1536_i32 v177
  let c0_i32_37 : BitVec 32 := 0#32
  let c1_i32_38 : BitVec 32 := 1#32
  let arg17 : BitVec 32 := Scf.iv c0_i32_37 c1_i32_38 k0_t1
  let c16_i32_54 : BitVec 32 := 16#32
  let v230 : BitVec 32 := Scalar.muli arg17 c16_i32_54
  let c4_i32_55 : BitVec 32 := 4#32
  let v231 : BitVec 32 := Scalar.addi v230 c4_i32_55
  let v234 : BitVec 32 := Scalar.addi v178 v231
  let v235 : Index := Scalar.indexCast v234
  ![v235.toNat]
def k0_off15 (v236 : BitVec 32) : Fin 3 → Nat :=
  let v237 : Index := Scalar.indexCast v236
  let c0_57 : Index := 0#32
  ![v237.toNat, 0, 0]

def k0_chk5 (i : grid0.Coords) (v236 : BitVec 32) : Prop :=
  (∀ (k0_h2 : k0_cond2 i = 1#1), ∀ a, (k0_off15 v236) a + S1x2x128.size a ≤ S9728x2x128.size a)
theorem k0_off15_inb : ∀ (i : grid0.Coords) (v236 : BitVec 32) (k0_hw5 : k0_chk5 i v236), ∀ (k0_h2 : k0_cond2 i = 1#1), ∀ a, (k0_off15 v236) a + S1x2x128.size a ≤ S9728x2x128.size a := fun i v236 k0_hw5 k0_h2 => k0_hw5 k0_h2

def k0_off16 (k0_t1 : Fin k0_t1_loop.trips) : Fin 3 → Nat :=
  let c0_i32_37 : BitVec 32 := 0#32
  let c1_i32_38 : BitVec 32 := 1#32
  let arg17 : BitVec 32 := Scf.iv c0_i32_37 c1_i32_38 k0_t1
  let c16_i32_58 : BitVec 32 := 16#32
  let v241 : BitVec 32 := Scalar.muli arg17 c16_i32_58
  let c5_i32 : BitVec 32 := 5#32
  let v242 : BitVec 32 := Scalar.addi v241 c5_i32
  let v243 : Index := Scalar.indexCast v242
  let c0_59 : Index := 0#32
  ![v243.toNat, 0, 0]
def k0_off17 (i : grid0.Coords) (k0_t1 : Fin k0_t1_loop.trips) : Fin 1 → Nat :=
  let c1536_i32 : BitVec 32 := 1536#32
  let arg0 : BitVec 32 := BitVec.ofNat 32 (i 0).val
  let c512_i32 : BitVec 32 := 512#32
  let v177 : BitVec 32 := Scalar.muli arg0 c512_i32
  let v178 : BitVec 32 := Scalar.addi c1536_i32 v177
  let c0_i32_37 : BitVec 32 := 0#32
  let c1_i32_38 : BitVec 32 := 1#32
  let arg17 : BitVec 32 := Scf.iv c0_i32_37 c1_i32_38 k0_t1
  let c16_i32_58 : BitVec 32 := 16#32
  let v241 : BitVec 32 := Scalar.muli arg17 c16_i32_58
  let c5_i32 : BitVec 32 := 5#32
  let v242 : BitVec 32 := Scalar.addi v241 c5_i32
  let v245 : BitVec 32 := Scalar.addi v178 v242
  let v246 : Index := Scalar.indexCast v245
  ![v246.toNat]
def k0_off18 (v247 : BitVec 32) : Fin 3 → Nat :=
  let v248 : Index := Scalar.indexCast v247
  let c0_60 : Index := 0#32
  ![v248.toNat, 0, 0]

def k0_chk6 (i : grid0.Coords) (v247 : BitVec 32) : Prop :=
  (∀ (k0_h2 : k0_cond2 i = 1#1), ∀ a, (k0_off18 v247) a + S1x2x128.size a ≤ S9728x2x128.size a)
theorem k0_off18_inb : ∀ (i : grid0.Coords) (v247 : BitVec 32) (k0_hw6 : k0_chk6 i v247), ∀ (k0_h2 : k0_cond2 i = 1#1), ∀ a, (k0_off18 v247) a + S1x2x128.size a ≤ S9728x2x128.size a := fun i v247 k0_hw6 k0_h2 => k0_hw6 k0_h2

def k0_off19 (k0_t1 : Fin k0_t1_loop.trips) : Fin 3 → Nat :=
  let c0_i32_37 : BitVec 32 := 0#32
  let c1_i32_38 : BitVec 32 := 1#32
  let arg17 : BitVec 32 := Scf.iv c0_i32_37 c1_i32_38 k0_t1
  let c16_i32_61 : BitVec 32 := 16#32
  let v252 : BitVec 32 := Scalar.muli arg17 c16_i32_61
  let c6_i32 : BitVec 32 := 6#32
  let v253 : BitVec 32 := Scalar.addi v252 c6_i32
  let v254 : Index := Scalar.indexCast v253
  let c0_62 : Index := 0#32
  ![v254.toNat, 0, 0]
def k0_off20 (i : grid0.Coords) (k0_t1 : Fin k0_t1_loop.trips) : Fin 1 → Nat :=
  let c1536_i32 : BitVec 32 := 1536#32
  let arg0 : BitVec 32 := BitVec.ofNat 32 (i 0).val
  let c512_i32 : BitVec 32 := 512#32
  let v177 : BitVec 32 := Scalar.muli arg0 c512_i32
  let v178 : BitVec 32 := Scalar.addi c1536_i32 v177
  let c0_i32_37 : BitVec 32 := 0#32
  let c1_i32_38 : BitVec 32 := 1#32
  let arg17 : BitVec 32 := Scf.iv c0_i32_37 c1_i32_38 k0_t1
  let c16_i32_61 : BitVec 32 := 16#32
  let v252 : BitVec 32 := Scalar.muli arg17 c16_i32_61
  let c6_i32 : BitVec 32 := 6#32
  let v253 : BitVec 32 := Scalar.addi v252 c6_i32
  let v256 : BitVec 32 := Scalar.addi v178 v253
  let v257 : Index := Scalar.indexCast v256
  ![v257.toNat]
def k0_off21 (v258 : BitVec 32) : Fin 3 → Nat :=
  let v259 : Index := Scalar.indexCast v258
  let c0_63 : Index := 0#32
  ![v259.toNat, 0, 0]

def k0_chk7 (i : grid0.Coords) (v258 : BitVec 32) : Prop :=
  (∀ (k0_h2 : k0_cond2 i = 1#1), ∀ a, (k0_off21 v258) a + S1x2x128.size a ≤ S9728x2x128.size a)
theorem k0_off21_inb : ∀ (i : grid0.Coords) (v258 : BitVec 32) (k0_hw7 : k0_chk7 i v258), ∀ (k0_h2 : k0_cond2 i = 1#1), ∀ a, (k0_off21 v258) a + S1x2x128.size a ≤ S9728x2x128.size a := fun i v258 k0_hw7 k0_h2 => k0_hw7 k0_h2

def k0_off22 (k0_t1 : Fin k0_t1_loop.trips) : Fin 3 → Nat :=
  let c0_i32_37 : BitVec 32 := 0#32
  let c1_i32_38 : BitVec 32 := 1#32
  let arg17 : BitVec 32 := Scf.iv c0_i32_37 c1_i32_38 k0_t1
  let c16_i32_64 : BitVec 32 := 16#32
  let v263 : BitVec 32 := Scalar.muli arg17 c16_i32_64
  let c7_i32 : BitVec 32 := 7#32
  let v264 : BitVec 32 := Scalar.addi v263 c7_i32
  let v265 : Index := Scalar.indexCast v264
  let c0_65 : Index := 0#32
  ![v265.toNat, 0, 0]
def k0_off23 (i : grid0.Coords) (k0_t1 : Fin k0_t1_loop.trips) : Fin 1 → Nat :=
  let c1536_i32 : BitVec 32 := 1536#32
  let arg0 : BitVec 32 := BitVec.ofNat 32 (i 0).val
  let c512_i32 : BitVec 32 := 512#32
  let v177 : BitVec 32 := Scalar.muli arg0 c512_i32
  let v178 : BitVec 32 := Scalar.addi c1536_i32 v177
  let c0_i32_37 : BitVec 32 := 0#32
  let c1_i32_38 : BitVec 32 := 1#32
  let arg17 : BitVec 32 := Scf.iv c0_i32_37 c1_i32_38 k0_t1
  let c16_i32_64 : BitVec 32 := 16#32
  let v263 : BitVec 32 := Scalar.muli arg17 c16_i32_64
  let c7_i32 : BitVec 32 := 7#32
  let v264 : BitVec 32 := Scalar.addi v263 c7_i32
  let v267 : BitVec 32 := Scalar.addi v178 v264
  let v268 : Index := Scalar.indexCast v267
  ![v268.toNat]
def k0_off24 (v269 : BitVec 32) : Fin 3 → Nat :=
  let v270 : Index := Scalar.indexCast v269
  let c0_66 : Index := 0#32
  ![v270.toNat, 0, 0]

def k0_chk8 (i : grid0.Coords) (v269 : BitVec 32) : Prop :=
  (∀ (k0_h2 : k0_cond2 i = 1#1), ∀ a, (k0_off24 v269) a + S1x2x128.size a ≤ S9728x2x128.size a)
theorem k0_off24_inb : ∀ (i : grid0.Coords) (v269 : BitVec 32) (k0_hw8 : k0_chk8 i v269), ∀ (k0_h2 : k0_cond2 i = 1#1), ∀ a, (k0_off24 v269) a + S1x2x128.size a ≤ S9728x2x128.size a := fun i v269 k0_hw8 k0_h2 => k0_hw8 k0_h2

def k0_off25 (k0_t1 : Fin k0_t1_loop.trips) : Fin 3 → Nat :=
  let c0_i32_37 : BitVec 32 := 0#32
  let c1_i32_38 : BitVec 32 := 1#32
  let arg17 : BitVec 32 := Scf.iv c0_i32_37 c1_i32_38 k0_t1
  let c16_i32_67 : BitVec 32 := 16#32
  let v274 : BitVec 32 := Scalar.muli arg17 c16_i32_67
  let c8_i32_68 : BitVec 32 := 8#32
  let v275 : BitVec 32 := Scalar.addi v274 c8_i32_68
  let v276 : Index := Scalar.indexCast v275
  let c0_69 : Index := 0#32
  ![v276.toNat, 0, 0]
def k0_off26 (i : grid0.Coords) (k0_t1 : Fin k0_t1_loop.trips) : Fin 1 → Nat :=
  let c1536_i32 : BitVec 32 := 1536#32
  let arg0 : BitVec 32 := BitVec.ofNat 32 (i 0).val
  let c512_i32 : BitVec 32 := 512#32
  let v177 : BitVec 32 := Scalar.muli arg0 c512_i32
  let v178 : BitVec 32 := Scalar.addi c1536_i32 v177
  let c0_i32_37 : BitVec 32 := 0#32
  let c1_i32_38 : BitVec 32 := 1#32
  let arg17 : BitVec 32 := Scf.iv c0_i32_37 c1_i32_38 k0_t1
  let c16_i32_67 : BitVec 32 := 16#32
  let v274 : BitVec 32 := Scalar.muli arg17 c16_i32_67
  let c8_i32_68 : BitVec 32 := 8#32
  let v275 : BitVec 32 := Scalar.addi v274 c8_i32_68
  let v278 : BitVec 32 := Scalar.addi v178 v275
  let v279 : Index := Scalar.indexCast v278
  ![v279.toNat]
def k0_off27 (v280 : BitVec 32) : Fin 3 → Nat :=
  let v281 : Index := Scalar.indexCast v280
  let c0_70 : Index := 0#32
  ![v281.toNat, 0, 0]

def k0_chk9 (i : grid0.Coords) (v280 : BitVec 32) : Prop :=
  (∀ (k0_h2 : k0_cond2 i = 1#1), ∀ a, (k0_off27 v280) a + S1x2x128.size a ≤ S9728x2x128.size a)
theorem k0_off27_inb : ∀ (i : grid0.Coords) (v280 : BitVec 32) (k0_hw9 : k0_chk9 i v280), ∀ (k0_h2 : k0_cond2 i = 1#1), ∀ a, (k0_off27 v280) a + S1x2x128.size a ≤ S9728x2x128.size a := fun i v280 k0_hw9 k0_h2 => k0_hw9 k0_h2

def k0_off28 (k0_t1 : Fin k0_t1_loop.trips) : Fin 3 → Nat :=
  let c0_i32_37 : BitVec 32 := 0#32
  let c1_i32_38 : BitVec 32 := 1#32
  let arg17 : BitVec 32 := Scf.iv c0_i32_37 c1_i32_38 k0_t1
  let c16_i32_71 : BitVec 32 := 16#32
  let v285 : BitVec 32 := Scalar.muli arg17 c16_i32_71
  let c9_i32 : BitVec 32 := 9#32
  let v286 : BitVec 32 := Scalar.addi v285 c9_i32
  let v287 : Index := Scalar.indexCast v286
  let c0_72 : Index := 0#32
  ![v287.toNat, 0, 0]
def k0_off29 (i : grid0.Coords) (k0_t1 : Fin k0_t1_loop.trips) : Fin 1 → Nat :=
  let c1536_i32 : BitVec 32 := 1536#32
  let arg0 : BitVec 32 := BitVec.ofNat 32 (i 0).val
  let c512_i32 : BitVec 32 := 512#32
  let v177 : BitVec 32 := Scalar.muli arg0 c512_i32
  let v178 : BitVec 32 := Scalar.addi c1536_i32 v177
  let c0_i32_37 : BitVec 32 := 0#32
  let c1_i32_38 : BitVec 32 := 1#32
  let arg17 : BitVec 32 := Scf.iv c0_i32_37 c1_i32_38 k0_t1
  let c16_i32_71 : BitVec 32 := 16#32
  let v285 : BitVec 32 := Scalar.muli arg17 c16_i32_71
  let c9_i32 : BitVec 32 := 9#32
  let v286 : BitVec 32 := Scalar.addi v285 c9_i32
  let v289 : BitVec 32 := Scalar.addi v178 v286
  let v290 : Index := Scalar.indexCast v289
  ![v290.toNat]
def k0_off30 (v291 : BitVec 32) : Fin 3 → Nat :=
  let v292 : Index := Scalar.indexCast v291
  let c0_73 : Index := 0#32
  ![v292.toNat, 0, 0]

def k0_chk10 (i : grid0.Coords) (v291 : BitVec 32) : Prop :=
  (∀ (k0_h2 : k0_cond2 i = 1#1), ∀ a, (k0_off30 v291) a + S1x2x128.size a ≤ S9728x2x128.size a)
theorem k0_off30_inb : ∀ (i : grid0.Coords) (v291 : BitVec 32) (k0_hw10 : k0_chk10 i v291), ∀ (k0_h2 : k0_cond2 i = 1#1), ∀ a, (k0_off30 v291) a + S1x2x128.size a ≤ S9728x2x128.size a := fun i v291 k0_hw10 k0_h2 => k0_hw10 k0_h2

def k0_off31 (k0_t1 : Fin k0_t1_loop.trips) : Fin 3 → Nat :=
  let c0_i32_37 : BitVec 32 := 0#32
  let c1_i32_38 : BitVec 32 := 1#32
  let arg17 : BitVec 32 := Scf.iv c0_i32_37 c1_i32_38 k0_t1
  let c16_i32_74 : BitVec 32 := 16#32
  let v296 : BitVec 32 := Scalar.muli arg17 c16_i32_74
  let c10_i32 : BitVec 32 := 10#32
  let v297 : BitVec 32 := Scalar.addi v296 c10_i32
  let v298 : Index := Scalar.indexCast v297
  let c0_75 : Index := 0#32
  ![v298.toNat, 0, 0]
def k0_off32 (i : grid0.Coords) (k0_t1 : Fin k0_t1_loop.trips) : Fin 1 → Nat :=
  let c1536_i32 : BitVec 32 := 1536#32
  let arg0 : BitVec 32 := BitVec.ofNat 32 (i 0).val
  let c512_i32 : BitVec 32 := 512#32
  let v177 : BitVec 32 := Scalar.muli arg0 c512_i32
  let v178 : BitVec 32 := Scalar.addi c1536_i32 v177
  let c0_i32_37 : BitVec 32 := 0#32
  let c1_i32_38 : BitVec 32 := 1#32
  let arg17 : BitVec 32 := Scf.iv c0_i32_37 c1_i32_38 k0_t1
  let c16_i32_74 : BitVec 32 := 16#32
  let v296 : BitVec 32 := Scalar.muli arg17 c16_i32_74
  let c10_i32 : BitVec 32 := 10#32
  let v297 : BitVec 32 := Scalar.addi v296 c10_i32
  let v300 : BitVec 32 := Scalar.addi v178 v297
  let v301 : Index := Scalar.indexCast v300
  ![v301.toNat]
def k0_off33 (v302 : BitVec 32) : Fin 3 → Nat :=
  let v303 : Index := Scalar.indexCast v302
  let c0_76 : Index := 0#32
  ![v303.toNat, 0, 0]

def k0_chk11 (i : grid0.Coords) (v302 : BitVec 32) : Prop :=
  (∀ (k0_h2 : k0_cond2 i = 1#1), ∀ a, (k0_off33 v302) a + S1x2x128.size a ≤ S9728x2x128.size a)
theorem k0_off33_inb : ∀ (i : grid0.Coords) (v302 : BitVec 32) (k0_hw11 : k0_chk11 i v302), ∀ (k0_h2 : k0_cond2 i = 1#1), ∀ a, (k0_off33 v302) a + S1x2x128.size a ≤ S9728x2x128.size a := fun i v302 k0_hw11 k0_h2 => k0_hw11 k0_h2

def k0_off34 (k0_t1 : Fin k0_t1_loop.trips) : Fin 3 → Nat :=
  let c0_i32_37 : BitVec 32 := 0#32
  let c1_i32_38 : BitVec 32 := 1#32
  let arg17 : BitVec 32 := Scf.iv c0_i32_37 c1_i32_38 k0_t1
  let c16_i32_77 : BitVec 32 := 16#32
  let v307 : BitVec 32 := Scalar.muli arg17 c16_i32_77
  let c11_i32 : BitVec 32 := 11#32
  let v308 : BitVec 32 := Scalar.addi v307 c11_i32
  let v309 : Index := Scalar.indexCast v308
  let c0_78 : Index := 0#32
  ![v309.toNat, 0, 0]
def k0_off35 (i : grid0.Coords) (k0_t1 : Fin k0_t1_loop.trips) : Fin 1 → Nat :=
  let c1536_i32 : BitVec 32 := 1536#32
  let arg0 : BitVec 32 := BitVec.ofNat 32 (i 0).val
  let c512_i32 : BitVec 32 := 512#32
  let v177 : BitVec 32 := Scalar.muli arg0 c512_i32
  let v178 : BitVec 32 := Scalar.addi c1536_i32 v177
  let c0_i32_37 : BitVec 32 := 0#32
  let c1_i32_38 : BitVec 32 := 1#32
  let arg17 : BitVec 32 := Scf.iv c0_i32_37 c1_i32_38 k0_t1
  let c16_i32_77 : BitVec 32 := 16#32
  let v307 : BitVec 32 := Scalar.muli arg17 c16_i32_77
  let c11_i32 : BitVec 32 := 11#32
  let v308 : BitVec 32 := Scalar.addi v307 c11_i32
  let v311 : BitVec 32 := Scalar.addi v178 v308
  let v312 : Index := Scalar.indexCast v311
  ![v312.toNat]
def k0_off36 (v313 : BitVec 32) : Fin 3 → Nat :=
  let v314 : Index := Scalar.indexCast v313
  let c0_79 : Index := 0#32
  ![v314.toNat, 0, 0]

def k0_chk12 (i : grid0.Coords) (v313 : BitVec 32) : Prop :=
  (∀ (k0_h2 : k0_cond2 i = 1#1), ∀ a, (k0_off36 v313) a + S1x2x128.size a ≤ S9728x2x128.size a)
theorem k0_off36_inb : ∀ (i : grid0.Coords) (v313 : BitVec 32) (k0_hw12 : k0_chk12 i v313), ∀ (k0_h2 : k0_cond2 i = 1#1), ∀ a, (k0_off36 v313) a + S1x2x128.size a ≤ S9728x2x128.size a := fun i v313 k0_hw12 k0_h2 => k0_hw12 k0_h2

def k0_off37 (k0_t1 : Fin k0_t1_loop.trips) : Fin 3 → Nat :=
  let c0_i32_37 : BitVec 32 := 0#32
  let c1_i32_38 : BitVec 32 := 1#32
  let arg17 : BitVec 32 := Scf.iv c0_i32_37 c1_i32_38 k0_t1
  let c16_i32_80 : BitVec 32 := 16#32
  let v318 : BitVec 32 := Scalar.muli arg17 c16_i32_80
  let c12_i32 : BitVec 32 := 12#32
  let v319 : BitVec 32 := Scalar.addi v318 c12_i32
  let v320 : Index := Scalar.indexCast v319
  let c0_81 : Index := 0#32
  ![v320.toNat, 0, 0]
def k0_off38 (i : grid0.Coords) (k0_t1 : Fin k0_t1_loop.trips) : Fin 1 → Nat :=
  let c1536_i32 : BitVec 32 := 1536#32
  let arg0 : BitVec 32 := BitVec.ofNat 32 (i 0).val
  let c512_i32 : BitVec 32 := 512#32
  let v177 : BitVec 32 := Scalar.muli arg0 c512_i32
  let v178 : BitVec 32 := Scalar.addi c1536_i32 v177
  let c0_i32_37 : BitVec 32 := 0#32
  let c1_i32_38 : BitVec 32 := 1#32
  let arg17 : BitVec 32 := Scf.iv c0_i32_37 c1_i32_38 k0_t1
  let c16_i32_80 : BitVec 32 := 16#32
  let v318 : BitVec 32 := Scalar.muli arg17 c16_i32_80
  let c12_i32 : BitVec 32 := 12#32
  let v319 : BitVec 32 := Scalar.addi v318 c12_i32
  let v322 : BitVec 32 := Scalar.addi v178 v319
  let v323 : Index := Scalar.indexCast v322
  ![v323.toNat]
def k0_off39 (v324 : BitVec 32) : Fin 3 → Nat :=
  let v325 : Index := Scalar.indexCast v324
  let c0_82 : Index := 0#32
  ![v325.toNat, 0, 0]

def k0_chk13 (i : grid0.Coords) (v324 : BitVec 32) : Prop :=
  (∀ (k0_h2 : k0_cond2 i = 1#1), ∀ a, (k0_off39 v324) a + S1x2x128.size a ≤ S9728x2x128.size a)
theorem k0_off39_inb : ∀ (i : grid0.Coords) (v324 : BitVec 32) (k0_hw13 : k0_chk13 i v324), ∀ (k0_h2 : k0_cond2 i = 1#1), ∀ a, (k0_off39 v324) a + S1x2x128.size a ≤ S9728x2x128.size a := fun i v324 k0_hw13 k0_h2 => k0_hw13 k0_h2

def k0_off40 (k0_t1 : Fin k0_t1_loop.trips) : Fin 3 → Nat :=
  let c0_i32_37 : BitVec 32 := 0#32
  let c1_i32_38 : BitVec 32 := 1#32
  let arg17 : BitVec 32 := Scf.iv c0_i32_37 c1_i32_38 k0_t1
  let c16_i32_83 : BitVec 32 := 16#32
  let v329 : BitVec 32 := Scalar.muli arg17 c16_i32_83
  let c13_i32 : BitVec 32 := 13#32
  let v330 : BitVec 32 := Scalar.addi v329 c13_i32
  let v331 : Index := Scalar.indexCast v330
  let c0_84 : Index := 0#32
  ![v331.toNat, 0, 0]
def k0_off41 (i : grid0.Coords) (k0_t1 : Fin k0_t1_loop.trips) : Fin 1 → Nat :=
  let c1536_i32 : BitVec 32 := 1536#32
  let arg0 : BitVec 32 := BitVec.ofNat 32 (i 0).val
  let c512_i32 : BitVec 32 := 512#32
  let v177 : BitVec 32 := Scalar.muli arg0 c512_i32
  let v178 : BitVec 32 := Scalar.addi c1536_i32 v177
  let c0_i32_37 : BitVec 32 := 0#32
  let c1_i32_38 : BitVec 32 := 1#32
  let arg17 : BitVec 32 := Scf.iv c0_i32_37 c1_i32_38 k0_t1
  let c16_i32_83 : BitVec 32 := 16#32
  let v329 : BitVec 32 := Scalar.muli arg17 c16_i32_83
  let c13_i32 : BitVec 32 := 13#32
  let v330 : BitVec 32 := Scalar.addi v329 c13_i32
  let v333 : BitVec 32 := Scalar.addi v178 v330
  let v334 : Index := Scalar.indexCast v333
  ![v334.toNat]
def k0_off42 (v335 : BitVec 32) : Fin 3 → Nat :=
  let v336 : Index := Scalar.indexCast v335
  let c0_85 : Index := 0#32
  ![v336.toNat, 0, 0]

def k0_chk14 (i : grid0.Coords) (v335 : BitVec 32) : Prop :=
  (∀ (k0_h2 : k0_cond2 i = 1#1), ∀ a, (k0_off42 v335) a + S1x2x128.size a ≤ S9728x2x128.size a)
theorem k0_off42_inb : ∀ (i : grid0.Coords) (v335 : BitVec 32) (k0_hw14 : k0_chk14 i v335), ∀ (k0_h2 : k0_cond2 i = 1#1), ∀ a, (k0_off42 v335) a + S1x2x128.size a ≤ S9728x2x128.size a := fun i v335 k0_hw14 k0_h2 => k0_hw14 k0_h2

def k0_off43 (k0_t1 : Fin k0_t1_loop.trips) : Fin 3 → Nat :=
  let c0_i32_37 : BitVec 32 := 0#32
  let c1_i32_38 : BitVec 32 := 1#32
  let arg17 : BitVec 32 := Scf.iv c0_i32_37 c1_i32_38 k0_t1
  let c16_i32_86 : BitVec 32 := 16#32
  let v340 : BitVec 32 := Scalar.muli arg17 c16_i32_86
  let c14_i32 : BitVec 32 := 14#32
  let v341 : BitVec 32 := Scalar.addi v340 c14_i32
  let v342 : Index := Scalar.indexCast v341
  let c0_87 : Index := 0#32
  ![v342.toNat, 0, 0]
def k0_off44 (i : grid0.Coords) (k0_t1 : Fin k0_t1_loop.trips) : Fin 1 → Nat :=
  let c1536_i32 : BitVec 32 := 1536#32
  let arg0 : BitVec 32 := BitVec.ofNat 32 (i 0).val
  let c512_i32 : BitVec 32 := 512#32
  let v177 : BitVec 32 := Scalar.muli arg0 c512_i32
  let v178 : BitVec 32 := Scalar.addi c1536_i32 v177
  let c0_i32_37 : BitVec 32 := 0#32
  let c1_i32_38 : BitVec 32 := 1#32
  let arg17 : BitVec 32 := Scf.iv c0_i32_37 c1_i32_38 k0_t1
  let c16_i32_86 : BitVec 32 := 16#32
  let v340 : BitVec 32 := Scalar.muli arg17 c16_i32_86
  let c14_i32 : BitVec 32 := 14#32
  let v341 : BitVec 32 := Scalar.addi v340 c14_i32
  let v344 : BitVec 32 := Scalar.addi v178 v341
  let v345 : Index := Scalar.indexCast v344
  ![v345.toNat]
def k0_off45 (v346 : BitVec 32) : Fin 3 → Nat :=
  let v347 : Index := Scalar.indexCast v346
  let c0_88 : Index := 0#32
  ![v347.toNat, 0, 0]

def k0_chk15 (i : grid0.Coords) (v346 : BitVec 32) : Prop :=
  (∀ (k0_h2 : k0_cond2 i = 1#1), ∀ a, (k0_off45 v346) a + S1x2x128.size a ≤ S9728x2x128.size a)
theorem k0_off45_inb : ∀ (i : grid0.Coords) (v346 : BitVec 32) (k0_hw15 : k0_chk15 i v346), ∀ (k0_h2 : k0_cond2 i = 1#1), ∀ a, (k0_off45 v346) a + S1x2x128.size a ≤ S9728x2x128.size a := fun i v346 k0_hw15 k0_h2 => k0_hw15 k0_h2

def k0_off46 (k0_t1 : Fin k0_t1_loop.trips) : Fin 3 → Nat :=
  let c0_i32_37 : BitVec 32 := 0#32
  let c1_i32_38 : BitVec 32 := 1#32
  let arg17 : BitVec 32 := Scf.iv c0_i32_37 c1_i32_38 k0_t1
  let c16_i32_89 : BitVec 32 := 16#32
  let v351 : BitVec 32 := Scalar.muli arg17 c16_i32_89
  let c15_i32_90 : BitVec 32 := 15#32
  let v352 : BitVec 32 := Scalar.addi v351 c15_i32_90
  let v353 : Index := Scalar.indexCast v352
  let c0_91 : Index := 0#32
  ![v353.toNat, 0, 0]
def k0_off47 (i : grid0.Coords) (k0_t1 : Fin k0_t1_loop.trips) : Fin 1 → Nat :=
  let c1536_i32 : BitVec 32 := 1536#32
  let arg0 : BitVec 32 := BitVec.ofNat 32 (i 0).val
  let c512_i32 : BitVec 32 := 512#32
  let v177 : BitVec 32 := Scalar.muli arg0 c512_i32
  let v178 : BitVec 32 := Scalar.addi c1536_i32 v177
  let c0_i32_37 : BitVec 32 := 0#32
  let c1_i32_38 : BitVec 32 := 1#32
  let arg17 : BitVec 32 := Scf.iv c0_i32_37 c1_i32_38 k0_t1
  let c16_i32_89 : BitVec 32 := 16#32
  let v351 : BitVec 32 := Scalar.muli arg17 c16_i32_89
  let c15_i32_90 : BitVec 32 := 15#32
  let v352 : BitVec 32 := Scalar.addi v351 c15_i32_90
  let v355 : BitVec 32 := Scalar.addi v178 v352
  let v356 : Index := Scalar.indexCast v355
  ![v356.toNat]
def k0_off48 (v357 : BitVec 32) : Fin 3 → Nat :=
  let v358 : Index := Scalar.indexCast v357
  let c0_92 : Index := 0#32
  ![v358.toNat, 0, 0]

def k0_chk16 (i : grid0.Coords) (v357 : BitVec 32) : Prop :=
  (∀ (k0_h2 : k0_cond2 i = 1#1), ∀ a, (k0_off48 v357) a + S1x2x128.size a ≤ S9728x2x128.size a)
theorem k0_off48_inb : ∀ (i : grid0.Coords) (v357 : BitVec 32) (k0_hw16 : k0_chk16 i v357), ∀ (k0_h2 : k0_cond2 i = 1#1), ∀ a, (k0_off48 v357) a + S1x2x128.size a ≤ S9728x2x128.size a := fun i v357 k0_hw16 k0_h2 => k0_hw16 k0_h2

def k0_cond3 (i : grid0.Coords) : BitVec 1 :=
  let arg0 : BitVec 32 := BitVec.ofNat 32 (i 0).val
  let c16_i32_2 : BitVec 32 := 16#32
  let v6 : BitVec 1 := Scalar.cmpi .sge arg0 c16_i32_2
  let v7 : BitVec 32 := Scalar.extui v6
  let c0_i32_3 : BitVec 32 := 0#32
  let v8 : BitVec 1 := Scalar.cmpi .ne v7 c0_i32_3
  v8

@[reducible] def k0_t2_loop : Scf.Loop 32 :=
  let c0_i32_15 : BitVec 32 := 0#32
  let c32_i32 : BitVec 32 := 32#32
  let v31 : BitVec 32 := Scalar.addi c0_i32_15 c32_i32
  let c1_i32 : BitVec 32 := 1#32
  ⟨c0_i32_15, v31, c1_i32⟩
def k0_off49 (k0_t2 : Fin k0_t2_loop.trips) : Fin 3 → Nat :=
  let c0_i32_15 : BitVec 32 := 0#32
  let c1_i32 : BitVec 32 := 1#32
  let arg17 : BitVec 32 := Scf.iv c0_i32_15 c1_i32 k0_t2
  let c16_i32_17 : BitVec 32 := 16#32
  let v32 : BitVec 32 := Scalar.muli arg17 c16_i32_17
  let c0_i32_18 : BitVec 32 := 0#32
  let v33 : BitVec 32 := Scalar.addi v32 c0_i32_18
  let v34 : Index := Scalar.indexCast v33
  let c0_19 : Index := 0#32
  ![v34.toNat, 0, 0]
def k0_off50 (i : grid0.Coords) (k0_t2 : Fin k0_t2_loop.trips) : Fin 1 → Nat :=
  let arg0 : BitVec 32 := BitVec.ofNat 32 (i 0).val
  let c16_i32_12 : BitVec 32 := 16#32
  let v23 : BitVec 32 := Scalar.subi arg0 c16_i32_12
  let c512_i32 : BitVec 32 := 512#32
  let v24 : BitVec 32 := Scalar.muli v23 c512_i32
  let c0_i32_15 : BitVec 32 := 0#32
  let c1_i32 : BitVec 32 := 1#32
  let arg17 : BitVec 32 := Scf.iv c0_i32_15 c1_i32 k0_t2
  let c16_i32_17 : BitVec 32 := 16#32
  let v32 : BitVec 32 := Scalar.muli arg17 c16_i32_17
  let c0_i32_18 : BitVec 32 := 0#32
  let v33 : BitVec 32 := Scalar.addi v32 c0_i32_18
  let v36 : BitVec 32 := Scalar.addi v24 v33
  let v37 : Index := Scalar.indexCast v36
  ![v37.toNat]
def k0_off51 (v38 : BitVec 32) : Fin 3 → Nat :=
  let v39 : Index := Scalar.indexCast v38
  let c0_20 : Index := 0#32
  ![v39.toNat, 0, 0]

def k0_chk17 (i : grid0.Coords) (v38 : BitVec 32) : Prop :=
  (∀ (k0_h3 : k0_cond3 i = 1#1), ∀ a, (k0_off51 v38) a + S1x2x128.size a ≤ S9728x2x128.size a)
theorem k0_off51_inb : ∀ (i : grid0.Coords) (v38 : BitVec 32) (k0_hw17 : k0_chk17 i v38), ∀ (k0_h3 : k0_cond3 i = 1#1), ∀ a, (k0_off51 v38) a + S1x2x128.size a ≤ S9728x2x128.size a := fun i v38 k0_hw17 k0_h3 => k0_hw17 k0_h3

def k0_off52 (k0_t2 : Fin k0_t2_loop.trips) : Fin 3 → Nat :=
  let c0_i32_15 : BitVec 32 := 0#32
  let c1_i32 : BitVec 32 := 1#32
  let arg17 : BitVec 32 := Scf.iv c0_i32_15 c1_i32 k0_t2
  let c16_i32_21 : BitVec 32 := 16#32
  let v43 : BitVec 32 := Scalar.muli arg17 c16_i32_21
  let c1_i32_22 : BitVec 32 := 1#32
  let v44 : BitVec 32 := Scalar.addi v43 c1_i32_22
  let v45 : Index := Scalar.indexCast v44
  let c0_23 : Index := 0#32
  ![v45.toNat, 0, 0]
def k0_off53 (i : grid0.Coords) (k0_t2 : Fin k0_t2_loop.trips) : Fin 1 → Nat :=
  let arg0 : BitVec 32 := BitVec.ofNat 32 (i 0).val
  let c16_i32_12 : BitVec 32 := 16#32
  let v23 : BitVec 32 := Scalar.subi arg0 c16_i32_12
  let c512_i32 : BitVec 32 := 512#32
  let v24 : BitVec 32 := Scalar.muli v23 c512_i32
  let c0_i32_15 : BitVec 32 := 0#32
  let c1_i32 : BitVec 32 := 1#32
  let arg17 : BitVec 32 := Scf.iv c0_i32_15 c1_i32 k0_t2
  let c16_i32_21 : BitVec 32 := 16#32
  let v43 : BitVec 32 := Scalar.muli arg17 c16_i32_21
  let c1_i32_22 : BitVec 32 := 1#32
  let v44 : BitVec 32 := Scalar.addi v43 c1_i32_22
  let v47 : BitVec 32 := Scalar.addi v24 v44
  let v48 : Index := Scalar.indexCast v47
  ![v48.toNat]
def k0_off54 (v49 : BitVec 32) : Fin 3 → Nat :=
  let v50 : Index := Scalar.indexCast v49
  let c0_24 : Index := 0#32
  ![v50.toNat, 0, 0]

def k0_chk18 (i : grid0.Coords) (v49 : BitVec 32) : Prop :=
  (∀ (k0_h3 : k0_cond3 i = 1#1), ∀ a, (k0_off54 v49) a + S1x2x128.size a ≤ S9728x2x128.size a)
theorem k0_off54_inb : ∀ (i : grid0.Coords) (v49 : BitVec 32) (k0_hw18 : k0_chk18 i v49), ∀ (k0_h3 : k0_cond3 i = 1#1), ∀ a, (k0_off54 v49) a + S1x2x128.size a ≤ S9728x2x128.size a := fun i v49 k0_hw18 k0_h3 => k0_hw18 k0_h3

def k0_off55 (k0_t2 : Fin k0_t2_loop.trips) : Fin 3 → Nat :=
  let c0_i32_15 : BitVec 32 := 0#32
  let c1_i32 : BitVec 32 := 1#32
  let arg17 : BitVec 32 := Scf.iv c0_i32_15 c1_i32 k0_t2
  let c16_i32_25 : BitVec 32 := 16#32
  let v54 : BitVec 32 := Scalar.muli arg17 c16_i32_25
  let c2_i32 : BitVec 32 := 2#32
  let v55 : BitVec 32 := Scalar.addi v54 c2_i32
  let v56 : Index := Scalar.indexCast v55
  let c0_26 : Index := 0#32
  ![v56.toNat, 0, 0]
def k0_off56 (i : grid0.Coords) (k0_t2 : Fin k0_t2_loop.trips) : Fin 1 → Nat :=
  let arg0 : BitVec 32 := BitVec.ofNat 32 (i 0).val
  let c16_i32_12 : BitVec 32 := 16#32
  let v23 : BitVec 32 := Scalar.subi arg0 c16_i32_12
  let c512_i32 : BitVec 32 := 512#32
  let v24 : BitVec 32 := Scalar.muli v23 c512_i32
  let c0_i32_15 : BitVec 32 := 0#32
  let c1_i32 : BitVec 32 := 1#32
  let arg17 : BitVec 32 := Scf.iv c0_i32_15 c1_i32 k0_t2
  let c16_i32_25 : BitVec 32 := 16#32
  let v54 : BitVec 32 := Scalar.muli arg17 c16_i32_25
  let c2_i32 : BitVec 32 := 2#32
  let v55 : BitVec 32 := Scalar.addi v54 c2_i32
  let v58 : BitVec 32 := Scalar.addi v24 v55
  let v59 : Index := Scalar.indexCast v58
  ![v59.toNat]
def k0_off57 (v60 : BitVec 32) : Fin 3 → Nat :=
  let v61 : Index := Scalar.indexCast v60
  let c0_27 : Index := 0#32
  ![v61.toNat, 0, 0]

def k0_chk19 (i : grid0.Coords) (v60 : BitVec 32) : Prop :=
  (∀ (k0_h3 : k0_cond3 i = 1#1), ∀ a, (k0_off57 v60) a + S1x2x128.size a ≤ S9728x2x128.size a)
theorem k0_off57_inb : ∀ (i : grid0.Coords) (v60 : BitVec 32) (k0_hw19 : k0_chk19 i v60), ∀ (k0_h3 : k0_cond3 i = 1#1), ∀ a, (k0_off57 v60) a + S1x2x128.size a ≤ S9728x2x128.size a := fun i v60 k0_hw19 k0_h3 => k0_hw19 k0_h3

def k0_off58 (k0_t2 : Fin k0_t2_loop.trips) : Fin 3 → Nat :=
  let c0_i32_15 : BitVec 32 := 0#32
  let c1_i32 : BitVec 32 := 1#32
  let arg17 : BitVec 32 := Scf.iv c0_i32_15 c1_i32 k0_t2
  let c16_i32_28 : BitVec 32 := 16#32
  let v65 : BitVec 32 := Scalar.muli arg17 c16_i32_28
  let c3_i32 : BitVec 32 := 3#32
  let v66 : BitVec 32 := Scalar.addi v65 c3_i32
  let v67 : Index := Scalar.indexCast v66
  let c0_29 : Index := 0#32
  ![v67.toNat, 0, 0]
def k0_off59 (i : grid0.Coords) (k0_t2 : Fin k0_t2_loop.trips) : Fin 1 → Nat :=
  let arg0 : BitVec 32 := BitVec.ofNat 32 (i 0).val
  let c16_i32_12 : BitVec 32 := 16#32
  let v23 : BitVec 32 := Scalar.subi arg0 c16_i32_12
  let c512_i32 : BitVec 32 := 512#32
  let v24 : BitVec 32 := Scalar.muli v23 c512_i32
  let c0_i32_15 : BitVec 32 := 0#32
  let c1_i32 : BitVec 32 := 1#32
  let arg17 : BitVec 32 := Scf.iv c0_i32_15 c1_i32 k0_t2
  let c16_i32_28 : BitVec 32 := 16#32
  let v65 : BitVec 32 := Scalar.muli arg17 c16_i32_28
  let c3_i32 : BitVec 32 := 3#32
  let v66 : BitVec 32 := Scalar.addi v65 c3_i32
  let v69 : BitVec 32 := Scalar.addi v24 v66
  let v70 : Index := Scalar.indexCast v69
  ![v70.toNat]
def k0_off60 (v71 : BitVec 32) : Fin 3 → Nat :=
  let v72 : Index := Scalar.indexCast v71
  let c0_30 : Index := 0#32
  ![v72.toNat, 0, 0]

def k0_chk20 (i : grid0.Coords) (v71 : BitVec 32) : Prop :=
  (∀ (k0_h3 : k0_cond3 i = 1#1), ∀ a, (k0_off60 v71) a + S1x2x128.size a ≤ S9728x2x128.size a)
theorem k0_off60_inb : ∀ (i : grid0.Coords) (v71 : BitVec 32) (k0_hw20 : k0_chk20 i v71), ∀ (k0_h3 : k0_cond3 i = 1#1), ∀ a, (k0_off60 v71) a + S1x2x128.size a ≤ S9728x2x128.size a := fun i v71 k0_hw20 k0_h3 => k0_hw20 k0_h3

def k0_off61 (k0_t2 : Fin k0_t2_loop.trips) : Fin 3 → Nat :=
  let c0_i32_15 : BitVec 32 := 0#32
  let c1_i32 : BitVec 32 := 1#32
  let arg17 : BitVec 32 := Scf.iv c0_i32_15 c1_i32 k0_t2
  let c16_i32_31 : BitVec 32 := 16#32
  let v76 : BitVec 32 := Scalar.muli arg17 c16_i32_31
  let c4_i32 : BitVec 32 := 4#32
  let v77 : BitVec 32 := Scalar.addi v76 c4_i32
  let v78 : Index := Scalar.indexCast v77
  let c0_32 : Index := 0#32
  ![v78.toNat, 0, 0]
def k0_off62 (i : grid0.Coords) (k0_t2 : Fin k0_t2_loop.trips) : Fin 1 → Nat :=
  let arg0 : BitVec 32 := BitVec.ofNat 32 (i 0).val
  let c16_i32_12 : BitVec 32 := 16#32
  let v23 : BitVec 32 := Scalar.subi arg0 c16_i32_12
  let c512_i32 : BitVec 32 := 512#32
  let v24 : BitVec 32 := Scalar.muli v23 c512_i32
  let c0_i32_15 : BitVec 32 := 0#32
  let c1_i32 : BitVec 32 := 1#32
  let arg17 : BitVec 32 := Scf.iv c0_i32_15 c1_i32 k0_t2
  let c16_i32_31 : BitVec 32 := 16#32
  let v76 : BitVec 32 := Scalar.muli arg17 c16_i32_31
  let c4_i32 : BitVec 32 := 4#32
  let v77 : BitVec 32 := Scalar.addi v76 c4_i32
  let v80 : BitVec 32 := Scalar.addi v24 v77
  let v81 : Index := Scalar.indexCast v80
  ![v81.toNat]
def k0_off63 (v82 : BitVec 32) : Fin 3 → Nat :=
  let v83 : Index := Scalar.indexCast v82
  let c0_33 : Index := 0#32
  ![v83.toNat, 0, 0]

def k0_chk21 (i : grid0.Coords) (v82 : BitVec 32) : Prop :=
  (∀ (k0_h3 : k0_cond3 i = 1#1), ∀ a, (k0_off63 v82) a + S1x2x128.size a ≤ S9728x2x128.size a)
theorem k0_off63_inb : ∀ (i : grid0.Coords) (v82 : BitVec 32) (k0_hw21 : k0_chk21 i v82), ∀ (k0_h3 : k0_cond3 i = 1#1), ∀ a, (k0_off63 v82) a + S1x2x128.size a ≤ S9728x2x128.size a := fun i v82 k0_hw21 k0_h3 => k0_hw21 k0_h3

def k0_off64 (k0_t2 : Fin k0_t2_loop.trips) : Fin 3 → Nat :=
  let c0_i32_15 : BitVec 32 := 0#32
  let c1_i32 : BitVec 32 := 1#32
  let arg17 : BitVec 32 := Scf.iv c0_i32_15 c1_i32 k0_t2
  let c16_i32_34 : BitVec 32 := 16#32
  let v87 : BitVec 32 := Scalar.muli arg17 c16_i32_34
  let c5_i32 : BitVec 32 := 5#32
  let v88 : BitVec 32 := Scalar.addi v87 c5_i32
  let v89 : Index := Scalar.indexCast v88
  let c0_35 : Index := 0#32
  ![v89.toNat, 0, 0]
def k0_off65 (i : grid0.Coords) (k0_t2 : Fin k0_t2_loop.trips) : Fin 1 → Nat :=
  let arg0 : BitVec 32 := BitVec.ofNat 32 (i 0).val
  let c16_i32_12 : BitVec 32 := 16#32
  let v23 : BitVec 32 := Scalar.subi arg0 c16_i32_12
  let c512_i32 : BitVec 32 := 512#32
  let v24 : BitVec 32 := Scalar.muli v23 c512_i32
  let c0_i32_15 : BitVec 32 := 0#32
  let c1_i32 : BitVec 32 := 1#32
  let arg17 : BitVec 32 := Scf.iv c0_i32_15 c1_i32 k0_t2
  let c16_i32_34 : BitVec 32 := 16#32
  let v87 : BitVec 32 := Scalar.muli arg17 c16_i32_34
  let c5_i32 : BitVec 32 := 5#32
  let v88 : BitVec 32 := Scalar.addi v87 c5_i32
  let v91 : BitVec 32 := Scalar.addi v24 v88
  let v92 : Index := Scalar.indexCast v91
  ![v92.toNat]
def k0_off66 (v93 : BitVec 32) : Fin 3 → Nat :=
  let v94 : Index := Scalar.indexCast v93
  let c0_36 : Index := 0#32
  ![v94.toNat, 0, 0]

def k0_chk22 (i : grid0.Coords) (v93 : BitVec 32) : Prop :=
  (∀ (k0_h3 : k0_cond3 i = 1#1), ∀ a, (k0_off66 v93) a + S1x2x128.size a ≤ S9728x2x128.size a)
theorem k0_off66_inb : ∀ (i : grid0.Coords) (v93 : BitVec 32) (k0_hw22 : k0_chk22 i v93), ∀ (k0_h3 : k0_cond3 i = 1#1), ∀ a, (k0_off66 v93) a + S1x2x128.size a ≤ S9728x2x128.size a := fun i v93 k0_hw22 k0_h3 => k0_hw22 k0_h3

def k0_off67 (k0_t2 : Fin k0_t2_loop.trips) : Fin 3 → Nat :=
  let c0_i32_15 : BitVec 32 := 0#32
  let c1_i32 : BitVec 32 := 1#32
  let arg17 : BitVec 32 := Scf.iv c0_i32_15 c1_i32 k0_t2
  let c16_i32_37 : BitVec 32 := 16#32
  let v98 : BitVec 32 := Scalar.muli arg17 c16_i32_37
  let c6_i32 : BitVec 32 := 6#32
  let v99 : BitVec 32 := Scalar.addi v98 c6_i32
  let v100 : Index := Scalar.indexCast v99
  let c0_38 : Index := 0#32
  ![v100.toNat, 0, 0]
def k0_off68 (i : grid0.Coords) (k0_t2 : Fin k0_t2_loop.trips) : Fin 1 → Nat :=
  let arg0 : BitVec 32 := BitVec.ofNat 32 (i 0).val
  let c16_i32_12 : BitVec 32 := 16#32
  let v23 : BitVec 32 := Scalar.subi arg0 c16_i32_12
  let c512_i32 : BitVec 32 := 512#32
  let v24 : BitVec 32 := Scalar.muli v23 c512_i32
  let c0_i32_15 : BitVec 32 := 0#32
  let c1_i32 : BitVec 32 := 1#32
  let arg17 : BitVec 32 := Scf.iv c0_i32_15 c1_i32 k0_t2
  let c16_i32_37 : BitVec 32 := 16#32
  let v98 : BitVec 32 := Scalar.muli arg17 c16_i32_37
  let c6_i32 : BitVec 32 := 6#32
  let v99 : BitVec 32 := Scalar.addi v98 c6_i32
  let v102 : BitVec 32 := Scalar.addi v24 v99
  let v103 : Index := Scalar.indexCast v102
  ![v103.toNat]
def k0_off69 (v104 : BitVec 32) : Fin 3 → Nat :=
  let v105 : Index := Scalar.indexCast v104
  let c0_39 : Index := 0#32
  ![v105.toNat, 0, 0]

def k0_chk23 (i : grid0.Coords) (v104 : BitVec 32) : Prop :=
  (∀ (k0_h3 : k0_cond3 i = 1#1), ∀ a, (k0_off69 v104) a + S1x2x128.size a ≤ S9728x2x128.size a)
theorem k0_off69_inb : ∀ (i : grid0.Coords) (v104 : BitVec 32) (k0_hw23 : k0_chk23 i v104), ∀ (k0_h3 : k0_cond3 i = 1#1), ∀ a, (k0_off69 v104) a + S1x2x128.size a ≤ S9728x2x128.size a := fun i v104 k0_hw23 k0_h3 => k0_hw23 k0_h3

def k0_off70 (k0_t2 : Fin k0_t2_loop.trips) : Fin 3 → Nat :=
  let c0_i32_15 : BitVec 32 := 0#32
  let c1_i32 : BitVec 32 := 1#32
  let arg17 : BitVec 32 := Scf.iv c0_i32_15 c1_i32 k0_t2
  let c16_i32_40 : BitVec 32 := 16#32
  let v109 : BitVec 32 := Scalar.muli arg17 c16_i32_40
  let c7_i32 : BitVec 32 := 7#32
  let v110 : BitVec 32 := Scalar.addi v109 c7_i32
  let v111 : Index := Scalar.indexCast v110
  let c0_41 : Index := 0#32
  ![v111.toNat, 0, 0]
def k0_off71 (i : grid0.Coords) (k0_t2 : Fin k0_t2_loop.trips) : Fin 1 → Nat :=
  let arg0 : BitVec 32 := BitVec.ofNat 32 (i 0).val
  let c16_i32_12 : BitVec 32 := 16#32
  let v23 : BitVec 32 := Scalar.subi arg0 c16_i32_12
  let c512_i32 : BitVec 32 := 512#32
  let v24 : BitVec 32 := Scalar.muli v23 c512_i32
  let c0_i32_15 : BitVec 32 := 0#32
  let c1_i32 : BitVec 32 := 1#32
  let arg17 : BitVec 32 := Scf.iv c0_i32_15 c1_i32 k0_t2
  let c16_i32_40 : BitVec 32 := 16#32
  let v109 : BitVec 32 := Scalar.muli arg17 c16_i32_40
  let c7_i32 : BitVec 32 := 7#32
  let v110 : BitVec 32 := Scalar.addi v109 c7_i32
  let v113 : BitVec 32 := Scalar.addi v24 v110
  let v114 : Index := Scalar.indexCast v113
  ![v114.toNat]
def k0_off72 (v115 : BitVec 32) : Fin 3 → Nat :=
  let v116 : Index := Scalar.indexCast v115
  let c0_42 : Index := 0#32
  ![v116.toNat, 0, 0]

def k0_chk24 (i : grid0.Coords) (v115 : BitVec 32) : Prop :=
  (∀ (k0_h3 : k0_cond3 i = 1#1), ∀ a, (k0_off72 v115) a + S1x2x128.size a ≤ S9728x2x128.size a)
theorem k0_off72_inb : ∀ (i : grid0.Coords) (v115 : BitVec 32) (k0_hw24 : k0_chk24 i v115), ∀ (k0_h3 : k0_cond3 i = 1#1), ∀ a, (k0_off72 v115) a + S1x2x128.size a ≤ S9728x2x128.size a := fun i v115 k0_hw24 k0_h3 => k0_hw24 k0_h3

def k0_off73 (k0_t2 : Fin k0_t2_loop.trips) : Fin 3 → Nat :=
  let c0_i32_15 : BitVec 32 := 0#32
  let c1_i32 : BitVec 32 := 1#32
  let arg17 : BitVec 32 := Scf.iv c0_i32_15 c1_i32 k0_t2
  let c16_i32_43 : BitVec 32 := 16#32
  let v120 : BitVec 32 := Scalar.muli arg17 c16_i32_43
  let c8_i32 : BitVec 32 := 8#32
  let v121 : BitVec 32 := Scalar.addi v120 c8_i32
  let v122 : Index := Scalar.indexCast v121
  let c0_44 : Index := 0#32
  ![v122.toNat, 0, 0]
def k0_off74 (i : grid0.Coords) (k0_t2 : Fin k0_t2_loop.trips) : Fin 1 → Nat :=
  let arg0 : BitVec 32 := BitVec.ofNat 32 (i 0).val
  let c16_i32_12 : BitVec 32 := 16#32
  let v23 : BitVec 32 := Scalar.subi arg0 c16_i32_12
  let c512_i32 : BitVec 32 := 512#32
  let v24 : BitVec 32 := Scalar.muli v23 c512_i32
  let c0_i32_15 : BitVec 32 := 0#32
  let c1_i32 : BitVec 32 := 1#32
  let arg17 : BitVec 32 := Scf.iv c0_i32_15 c1_i32 k0_t2
  let c16_i32_43 : BitVec 32 := 16#32
  let v120 : BitVec 32 := Scalar.muli arg17 c16_i32_43
  let c8_i32 : BitVec 32 := 8#32
  let v121 : BitVec 32 := Scalar.addi v120 c8_i32
  let v124 : BitVec 32 := Scalar.addi v24 v121
  let v125 : Index := Scalar.indexCast v124
  ![v125.toNat]
def k0_off75 (v126 : BitVec 32) : Fin 3 → Nat :=
  let v127 : Index := Scalar.indexCast v126
  let c0_45 : Index := 0#32
  ![v127.toNat, 0, 0]

def k0_chk25 (i : grid0.Coords) (v126 : BitVec 32) : Prop :=
  (∀ (k0_h3 : k0_cond3 i = 1#1), ∀ a, (k0_off75 v126) a + S1x2x128.size a ≤ S9728x2x128.size a)
theorem k0_off75_inb : ∀ (i : grid0.Coords) (v126 : BitVec 32) (k0_hw25 : k0_chk25 i v126), ∀ (k0_h3 : k0_cond3 i = 1#1), ∀ a, (k0_off75 v126) a + S1x2x128.size a ≤ S9728x2x128.size a := fun i v126 k0_hw25 k0_h3 => k0_hw25 k0_h3

def k0_off76 (k0_t2 : Fin k0_t2_loop.trips) : Fin 3 → Nat :=
  let c0_i32_15 : BitVec 32 := 0#32
  let c1_i32 : BitVec 32 := 1#32
  let arg17 : BitVec 32 := Scf.iv c0_i32_15 c1_i32 k0_t2
  let c16_i32_46 : BitVec 32 := 16#32
  let v131 : BitVec 32 := Scalar.muli arg17 c16_i32_46
  let c9_i32 : BitVec 32 := 9#32
  let v132 : BitVec 32 := Scalar.addi v131 c9_i32
  let v133 : Index := Scalar.indexCast v132
  let c0_47 : Index := 0#32
  ![v133.toNat, 0, 0]
def k0_off77 (i : grid0.Coords) (k0_t2 : Fin k0_t2_loop.trips) : Fin 1 → Nat :=
  let arg0 : BitVec 32 := BitVec.ofNat 32 (i 0).val
  let c16_i32_12 : BitVec 32 := 16#32
  let v23 : BitVec 32 := Scalar.subi arg0 c16_i32_12
  let c512_i32 : BitVec 32 := 512#32
  let v24 : BitVec 32 := Scalar.muli v23 c512_i32
  let c0_i32_15 : BitVec 32 := 0#32
  let c1_i32 : BitVec 32 := 1#32
  let arg17 : BitVec 32 := Scf.iv c0_i32_15 c1_i32 k0_t2
  let c16_i32_46 : BitVec 32 := 16#32
  let v131 : BitVec 32 := Scalar.muli arg17 c16_i32_46
  let c9_i32 : BitVec 32 := 9#32
  let v132 : BitVec 32 := Scalar.addi v131 c9_i32
  let v135 : BitVec 32 := Scalar.addi v24 v132
  let v136 : Index := Scalar.indexCast v135
  ![v136.toNat]
def k0_off78 (v137 : BitVec 32) : Fin 3 → Nat :=
  let v138 : Index := Scalar.indexCast v137
  let c0_48 : Index := 0#32
  ![v138.toNat, 0, 0]

def k0_chk26 (i : grid0.Coords) (v137 : BitVec 32) : Prop :=
  (∀ (k0_h3 : k0_cond3 i = 1#1), ∀ a, (k0_off78 v137) a + S1x2x128.size a ≤ S9728x2x128.size a)
theorem k0_off78_inb : ∀ (i : grid0.Coords) (v137 : BitVec 32) (k0_hw26 : k0_chk26 i v137), ∀ (k0_h3 : k0_cond3 i = 1#1), ∀ a, (k0_off78 v137) a + S1x2x128.size a ≤ S9728x2x128.size a := fun i v137 k0_hw26 k0_h3 => k0_hw26 k0_h3

def k0_off79 (k0_t2 : Fin k0_t2_loop.trips) : Fin 3 → Nat :=
  let c0_i32_15 : BitVec 32 := 0#32
  let c1_i32 : BitVec 32 := 1#32
  let arg17 : BitVec 32 := Scf.iv c0_i32_15 c1_i32 k0_t2
  let c16_i32_49 : BitVec 32 := 16#32
  let v142 : BitVec 32 := Scalar.muli arg17 c16_i32_49
  let c10_i32 : BitVec 32 := 10#32
  let v143 : BitVec 32 := Scalar.addi v142 c10_i32
  let v144 : Index := Scalar.indexCast v143
  let c0_50 : Index := 0#32
  ![v144.toNat, 0, 0]
def k0_off80 (i : grid0.Coords) (k0_t2 : Fin k0_t2_loop.trips) : Fin 1 → Nat :=
  let arg0 : BitVec 32 := BitVec.ofNat 32 (i 0).val
  let c16_i32_12 : BitVec 32 := 16#32
  let v23 : BitVec 32 := Scalar.subi arg0 c16_i32_12
  let c512_i32 : BitVec 32 := 512#32
  let v24 : BitVec 32 := Scalar.muli v23 c512_i32
  let c0_i32_15 : BitVec 32 := 0#32
  let c1_i32 : BitVec 32 := 1#32
  let arg17 : BitVec 32 := Scf.iv c0_i32_15 c1_i32 k0_t2
  let c16_i32_49 : BitVec 32 := 16#32
  let v142 : BitVec 32 := Scalar.muli arg17 c16_i32_49
  let c10_i32 : BitVec 32 := 10#32
  let v143 : BitVec 32 := Scalar.addi v142 c10_i32
  let v146 : BitVec 32 := Scalar.addi v24 v143
  let v147 : Index := Scalar.indexCast v146
  ![v147.toNat]
def k0_off81 (v148 : BitVec 32) : Fin 3 → Nat :=
  let v149 : Index := Scalar.indexCast v148
  let c0_51 : Index := 0#32
  ![v149.toNat, 0, 0]

def k0_chk27 (i : grid0.Coords) (v148 : BitVec 32) : Prop :=
  (∀ (k0_h3 : k0_cond3 i = 1#1), ∀ a, (k0_off81 v148) a + S1x2x128.size a ≤ S9728x2x128.size a)
theorem k0_off81_inb : ∀ (i : grid0.Coords) (v148 : BitVec 32) (k0_hw27 : k0_chk27 i v148), ∀ (k0_h3 : k0_cond3 i = 1#1), ∀ a, (k0_off81 v148) a + S1x2x128.size a ≤ S9728x2x128.size a := fun i v148 k0_hw27 k0_h3 => k0_hw27 k0_h3

def k0_off82 (k0_t2 : Fin k0_t2_loop.trips) : Fin 3 → Nat :=
  let c0_i32_15 : BitVec 32 := 0#32
  let c1_i32 : BitVec 32 := 1#32
  let arg17 : BitVec 32 := Scf.iv c0_i32_15 c1_i32 k0_t2
  let c16_i32_52 : BitVec 32 := 16#32
  let v153 : BitVec 32 := Scalar.muli arg17 c16_i32_52
  let c11_i32 : BitVec 32 := 11#32
  let v154 : BitVec 32 := Scalar.addi v153 c11_i32
  let v155 : Index := Scalar.indexCast v154
  let c0_53 : Index := 0#32
  ![v155.toNat, 0, 0]
def k0_off83 (i : grid0.Coords) (k0_t2 : Fin k0_t2_loop.trips) : Fin 1 → Nat :=
  let arg0 : BitVec 32 := BitVec.ofNat 32 (i 0).val
  let c16_i32_12 : BitVec 32 := 16#32
  let v23 : BitVec 32 := Scalar.subi arg0 c16_i32_12
  let c512_i32 : BitVec 32 := 512#32
  let v24 : BitVec 32 := Scalar.muli v23 c512_i32
  let c0_i32_15 : BitVec 32 := 0#32
  let c1_i32 : BitVec 32 := 1#32
  let arg17 : BitVec 32 := Scf.iv c0_i32_15 c1_i32 k0_t2
  let c16_i32_52 : BitVec 32 := 16#32
  let v153 : BitVec 32 := Scalar.muli arg17 c16_i32_52
  let c11_i32 : BitVec 32 := 11#32
  let v154 : BitVec 32 := Scalar.addi v153 c11_i32
  let v157 : BitVec 32 := Scalar.addi v24 v154
  let v158 : Index := Scalar.indexCast v157
  ![v158.toNat]
def k0_off84 (v159 : BitVec 32) : Fin 3 → Nat :=
  let v160 : Index := Scalar.indexCast v159
  let c0_54 : Index := 0#32
  ![v160.toNat, 0, 0]

def k0_chk28 (i : grid0.Coords) (v159 : BitVec 32) : Prop :=
  (∀ (k0_h3 : k0_cond3 i = 1#1), ∀ a, (k0_off84 v159) a + S1x2x128.size a ≤ S9728x2x128.size a)
theorem k0_off84_inb : ∀ (i : grid0.Coords) (v159 : BitVec 32) (k0_hw28 : k0_chk28 i v159), ∀ (k0_h3 : k0_cond3 i = 1#1), ∀ a, (k0_off84 v159) a + S1x2x128.size a ≤ S9728x2x128.size a := fun i v159 k0_hw28 k0_h3 => k0_hw28 k0_h3

def k0_off85 (k0_t2 : Fin k0_t2_loop.trips) : Fin 3 → Nat :=
  let c0_i32_15 : BitVec 32 := 0#32
  let c1_i32 : BitVec 32 := 1#32
  let arg17 : BitVec 32 := Scf.iv c0_i32_15 c1_i32 k0_t2
  let c16_i32_55 : BitVec 32 := 16#32
  let v164 : BitVec 32 := Scalar.muli arg17 c16_i32_55
  let c12_i32 : BitVec 32 := 12#32
  let v165 : BitVec 32 := Scalar.addi v164 c12_i32
  let v166 : Index := Scalar.indexCast v165
  let c0_56 : Index := 0#32
  ![v166.toNat, 0, 0]
def k0_off86 (i : grid0.Coords) (k0_t2 : Fin k0_t2_loop.trips) : Fin 1 → Nat :=
  let arg0 : BitVec 32 := BitVec.ofNat 32 (i 0).val
  let c16_i32_12 : BitVec 32 := 16#32
  let v23 : BitVec 32 := Scalar.subi arg0 c16_i32_12
  let c512_i32 : BitVec 32 := 512#32
  let v24 : BitVec 32 := Scalar.muli v23 c512_i32
  let c0_i32_15 : BitVec 32 := 0#32
  let c1_i32 : BitVec 32 := 1#32
  let arg17 : BitVec 32 := Scf.iv c0_i32_15 c1_i32 k0_t2
  let c16_i32_55 : BitVec 32 := 16#32
  let v164 : BitVec 32 := Scalar.muli arg17 c16_i32_55
  let c12_i32 : BitVec 32 := 12#32
  let v165 : BitVec 32 := Scalar.addi v164 c12_i32
  let v168 : BitVec 32 := Scalar.addi v24 v165
  let v169 : Index := Scalar.indexCast v168
  ![v169.toNat]
def k0_off87 (v170 : BitVec 32) : Fin 3 → Nat :=
  let v171 : Index := Scalar.indexCast v170
  let c0_57 : Index := 0#32
  ![v171.toNat, 0, 0]

def k0_chk29 (i : grid0.Coords) (v170 : BitVec 32) : Prop :=
  (∀ (k0_h3 : k0_cond3 i = 1#1), ∀ a, (k0_off87 v170) a + S1x2x128.size a ≤ S9728x2x128.size a)
theorem k0_off87_inb : ∀ (i : grid0.Coords) (v170 : BitVec 32) (k0_hw29 : k0_chk29 i v170), ∀ (k0_h3 : k0_cond3 i = 1#1), ∀ a, (k0_off87 v170) a + S1x2x128.size a ≤ S9728x2x128.size a := fun i v170 k0_hw29 k0_h3 => k0_hw29 k0_h3

def k0_off88 (k0_t2 : Fin k0_t2_loop.trips) : Fin 3 → Nat :=
  let c0_i32_15 : BitVec 32 := 0#32
  let c1_i32 : BitVec 32 := 1#32
  let arg17 : BitVec 32 := Scf.iv c0_i32_15 c1_i32 k0_t2
  let c16_i32_58 : BitVec 32 := 16#32
  let v175 : BitVec 32 := Scalar.muli arg17 c16_i32_58
  let c13_i32 : BitVec 32 := 13#32
  let v176 : BitVec 32 := Scalar.addi v175 c13_i32
  let v177 : Index := Scalar.indexCast v176
  let c0_59 : Index := 0#32
  ![v177.toNat, 0, 0]
def k0_off89 (i : grid0.Coords) (k0_t2 : Fin k0_t2_loop.trips) : Fin 1 → Nat :=
  let arg0 : BitVec 32 := BitVec.ofNat 32 (i 0).val
  let c16_i32_12 : BitVec 32 := 16#32
  let v23 : BitVec 32 := Scalar.subi arg0 c16_i32_12
  let c512_i32 : BitVec 32 := 512#32
  let v24 : BitVec 32 := Scalar.muli v23 c512_i32
  let c0_i32_15 : BitVec 32 := 0#32
  let c1_i32 : BitVec 32 := 1#32
  let arg17 : BitVec 32 := Scf.iv c0_i32_15 c1_i32 k0_t2
  let c16_i32_58 : BitVec 32 := 16#32
  let v175 : BitVec 32 := Scalar.muli arg17 c16_i32_58
  let c13_i32 : BitVec 32 := 13#32
  let v176 : BitVec 32 := Scalar.addi v175 c13_i32
  let v179 : BitVec 32 := Scalar.addi v24 v176
  let v180 : Index := Scalar.indexCast v179
  ![v180.toNat]
def k0_off90 (v181 : BitVec 32) : Fin 3 → Nat :=
  let v182 : Index := Scalar.indexCast v181
  let c0_60 : Index := 0#32
  ![v182.toNat, 0, 0]

def k0_chk30 (i : grid0.Coords) (v181 : BitVec 32) : Prop :=
  (∀ (k0_h3 : k0_cond3 i = 1#1), ∀ a, (k0_off90 v181) a + S1x2x128.size a ≤ S9728x2x128.size a)
theorem k0_off90_inb : ∀ (i : grid0.Coords) (v181 : BitVec 32) (k0_hw30 : k0_chk30 i v181), ∀ (k0_h3 : k0_cond3 i = 1#1), ∀ a, (k0_off90 v181) a + S1x2x128.size a ≤ S9728x2x128.size a := fun i v181 k0_hw30 k0_h3 => k0_hw30 k0_h3

def k0_off91 (k0_t2 : Fin k0_t2_loop.trips) : Fin 3 → Nat :=
  let c0_i32_15 : BitVec 32 := 0#32
  let c1_i32 : BitVec 32 := 1#32
  let arg17 : BitVec 32 := Scf.iv c0_i32_15 c1_i32 k0_t2
  let c16_i32_61 : BitVec 32 := 16#32
  let v186 : BitVec 32 := Scalar.muli arg17 c16_i32_61
  let c14_i32 : BitVec 32 := 14#32
  let v187 : BitVec 32 := Scalar.addi v186 c14_i32
  let v188 : Index := Scalar.indexCast v187
  let c0_62 : Index := 0#32
  ![v188.toNat, 0, 0]
def k0_off92 (i : grid0.Coords) (k0_t2 : Fin k0_t2_loop.trips) : Fin 1 → Nat :=
  let arg0 : BitVec 32 := BitVec.ofNat 32 (i 0).val
  let c16_i32_12 : BitVec 32 := 16#32
  let v23 : BitVec 32 := Scalar.subi arg0 c16_i32_12
  let c512_i32 : BitVec 32 := 512#32
  let v24 : BitVec 32 := Scalar.muli v23 c512_i32
  let c0_i32_15 : BitVec 32 := 0#32
  let c1_i32 : BitVec 32 := 1#32
  let arg17 : BitVec 32 := Scf.iv c0_i32_15 c1_i32 k0_t2
  let c16_i32_61 : BitVec 32 := 16#32
  let v186 : BitVec 32 := Scalar.muli arg17 c16_i32_61
  let c14_i32 : BitVec 32 := 14#32
  let v187 : BitVec 32 := Scalar.addi v186 c14_i32
  let v190 : BitVec 32 := Scalar.addi v24 v187
  let v191 : Index := Scalar.indexCast v190
  ![v191.toNat]
def k0_off93 (v192 : BitVec 32) : Fin 3 → Nat :=
  let v193 : Index := Scalar.indexCast v192
  let c0_63 : Index := 0#32
  ![v193.toNat, 0, 0]

def k0_chk31 (i : grid0.Coords) (v192 : BitVec 32) : Prop :=
  (∀ (k0_h3 : k0_cond3 i = 1#1), ∀ a, (k0_off93 v192) a + S1x2x128.size a ≤ S9728x2x128.size a)
theorem k0_off93_inb : ∀ (i : grid0.Coords) (v192 : BitVec 32) (k0_hw31 : k0_chk31 i v192), ∀ (k0_h3 : k0_cond3 i = 1#1), ∀ a, (k0_off93 v192) a + S1x2x128.size a ≤ S9728x2x128.size a := fun i v192 k0_hw31 k0_h3 => k0_hw31 k0_h3

def k0_off94 (k0_t2 : Fin k0_t2_loop.trips) : Fin 3 → Nat :=
  let c0_i32_15 : BitVec 32 := 0#32
  let c1_i32 : BitVec 32 := 1#32
  let arg17 : BitVec 32 := Scf.iv c0_i32_15 c1_i32 k0_t2
  let c16_i32_64 : BitVec 32 := 16#32
  let v197 : BitVec 32 := Scalar.muli arg17 c16_i32_64
  let c15_i32 : BitVec 32 := 15#32
  let v198 : BitVec 32 := Scalar.addi v197 c15_i32
  let v199 : Index := Scalar.indexCast v198
  let c0_65 : Index := 0#32
  ![v199.toNat, 0, 0]
def k0_off95 (i : grid0.Coords) (k0_t2 : Fin k0_t2_loop.trips) : Fin 1 → Nat :=
  let arg0 : BitVec 32 := BitVec.ofNat 32 (i 0).val
  let c16_i32_12 : BitVec 32 := 16#32
  let v23 : BitVec 32 := Scalar.subi arg0 c16_i32_12
  let c512_i32 : BitVec 32 := 512#32
  let v24 : BitVec 32 := Scalar.muli v23 c512_i32
  let c0_i32_15 : BitVec 32 := 0#32
  let c1_i32 : BitVec 32 := 1#32
  let arg17 : BitVec 32 := Scf.iv c0_i32_15 c1_i32 k0_t2
  let c16_i32_64 : BitVec 32 := 16#32
  let v197 : BitVec 32 := Scalar.muli arg17 c16_i32_64
  let c15_i32 : BitVec 32 := 15#32
  let v198 : BitVec 32 := Scalar.addi v197 c15_i32
  let v201 : BitVec 32 := Scalar.addi v24 v198
  let v202 : Index := Scalar.indexCast v201
  ![v202.toNat]
def k0_off96 (v203 : BitVec 32) : Fin 3 → Nat :=
  let v204 : Index := Scalar.indexCast v203
  let c0_66 : Index := 0#32
  ![v204.toNat, 0, 0]

def k0_chk32 (i : grid0.Coords) (v203 : BitVec 32) : Prop :=
  (∀ (k0_h3 : k0_cond3 i = 1#1), ∀ a, (k0_off96 v203) a + S1x2x128.size a ≤ S9728x2x128.size a)
theorem k0_off96_inb : ∀ (i : grid0.Coords) (v203 : BitVec 32) (k0_hw32 : k0_chk32 i v203), ∀ (k0_h3 : k0_cond3 i = 1#1), ∀ a, (k0_off96 v203) a + S1x2x128.size a ≤ S9728x2x128.size a := fun i v203 k0_hw32 k0_h3 => k0_hw32 k0_h3

def k0_cond4 (i : grid0.Coords) : BitVec 1 :=
  let arg0 : BitVec 32 := BitVec.ofNat 32 (i 0).val
  let c18_i32 : BitVec 32 := 18#32
  let v9 : BitVec 1 := Scalar.cmpi .eq arg0 c18_i32
  let v10 : BitVec 32 := Scalar.extui v9
  let c0_i32_4 : BitVec 32 := 0#32
  let v11 : BitVec 1 := Scalar.cmpi .ne v10 c0_i32_4
  v11

def k0_cond1 (i : grid0.Coords) : BitVec 1 :=
  let arg0 : BitVec 32 := BitVec.ofNat 32 (i 0).val
  let c0_i32 : BitVec 32 := 0#32
  let v0 : BitVec 1 := Scalar.cmpi .eq arg0 c0_i32
  let v1 : BitVec 32 := Scalar.extui v0
  let c0_i32_0 : BitVec 32 := 0#32
  let v2 : BitVec 1 := Scalar.cmpi .ne v1 c0_i32_0
  v2

def cc0_transform_0 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c15_i32 : BitVec 32 := 15#32
  let v0 : BitVec 32 := Scalar.minsi arg0 c15_i32
  let c0_i32 : BitVec 32 := 0#32
  let c0_i32_0 : BitVec 32 := 0#32
  ![v0.toNat, c0_i32.toNat]

def cc0_transform_3 (i : grid0.Coords) : Fin 2 → Nat :=
  let arg0 : BitVec 32 := BitVec.ofNat 32 (i 0).val
  let c15_i32 : BitVec 32 := 15#32
  let v0 : BitVec 32 := Scalar.minsi arg0 c15_i32
  let c0_i32 : BitVec 32 := 0#32
  let c0_i32_0 : BitVec 32 := 0#32
  ![v0.toNat, c0_i32.toNat]

def cc0_transform_4 (i : grid0.Coords) : Fin 2 → Nat :=
  let arg0 : BitVec 32 := BitVec.ofNat 32 (i 0).val
  let c16_i32 : BitVec 32 := 16#32
  let v0 : BitVec 32 := Scalar.subi arg0 c16_i32
  let c0_i32 : BitVec 32 := 0#32
  let v1 : BitVec 32 := Scalar.maxsi v0 c0_i32
  let c0_i32_0 : BitVec 32 := 0#32
  let c0_i32_1 : BitVec 32 := 0#32
  ![v1.toNat, c0_i32_0.toNat]

def cc0_transform_5 (i : grid0.Coords) : Fin 2 → Nat :=
  let arg0 : BitVec 32 := BitVec.ofNat 32 (i 0).val
  let c16_i32 : BitVec 32 := 16#32
  let v0 : BitVec 32 := Scalar.subi arg0 c16_i32
  let c0_i32 : BitVec 32 := 0#32
  let v1 : BitVec 32 := Scalar.maxsi v0 c0_i32
  let c0_i32_0 : BitVec 32 := 0#32
  let c0_i32_1 : BitVec 32 := 0#32
  ![v1.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .smem S9728 .i32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S256x2560 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S256x2560 .i8 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x20 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x2560 .i8 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x1 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S256x9728 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S256x2560 .i8 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S2x128 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]
-- ==== ReferenceIdeal.lean ====
abbrev S2x128x2560 : Shape := ⟨3, ![2, 128, 2560]⟩
abbrev S9728 : Shape := ⟨1, ![9728]⟩
abbrev S1536x2560 : Shape := ⟨2, ![1536, 2560]⟩
abbrev S1536 : Shape := ⟨1, ![1536]⟩
abbrev S4096x2560 : Shape := ⟨2, ![4096, 2560]⟩
abbrev S8192x20 : Shape := ⟨2, ![8192, 20]⟩
abbrev S_ : Shape := ⟨0, ![]⟩
abbrev S2x128 : Shape := ⟨2, ![2, 128]⟩
abbrev S2x128x1 : Shape := ⟨3, ![2, 128, 1]⟩
abbrev S2x128x1536 : Shape := ⟨3, ![2, 128, 1536]⟩
abbrev S1x1x1536 : Shape := ⟨3, ![1, 1, 1536]⟩
abbrev S4096x20x128 : Shape := ⟨3, ![4096, 20, 128]⟩
abbrev S4096x2x20 : Shape := ⟨3, ![4096, 2, 20]⟩
abbrev S4096x1x20 : Shape := ⟨3, ![4096, 1, 20]⟩
abbrev S4096x20 : Shape := ⟨2, ![4096, 20]⟩
abbrev S4096x20x1 : Shape := ⟨3, ![4096, 20, 1]⟩
abbrev S2x128x4096 : Shape := ⟨3, ![2, 128, 4096]⟩
abbrev S2x128x9728 : Shape := ⟨3, ![2, 128, 9728]⟩
abbrev S4096 : Shape := ⟨1, ![4096]⟩
abbrev S9728x1 : Shape := ⟨2, ![9728, 1]⟩
abbrev S1 : Shape := ⟨1, ![1]⟩
abbrev S1x1 : Shape := ⟨2, ![1, 1]⟩

abbrev nBuf : Space → Nat
  | .hbm => 125
  | .vmem => 0
  | .smem => 0
  | _ => 0

abbrev bufTy : (tb : Table) → Fin (tcTables nBuf tb) → BufTy
  | .hbm, ⟨0, _⟩ => ⟨S2x128x2560, .bf16⟩
  | .hbm, ⟨1, _⟩ => ⟨S9728, .i32⟩
  | .hbm, ⟨2, _⟩ => ⟨S1536x2560, .i8⟩
  | .hbm, ⟨3, _⟩ => ⟨S1536, .f32⟩
  | .hbm, ⟨4, _⟩ => ⟨S4096x2560, .i8⟩
  | .hbm, ⟨5, _⟩ => ⟨S8192x20, .bf16⟩
  | .hbm, ⟨6, _⟩ => ⟨S2x128x2560, .f32⟩
  | .hbm, ⟨7, _⟩ => ⟨S2x128x2560, .f32⟩
  | .hbm, ⟨8, _⟩ => ⟨S_, .f32⟩
  | .hbm, ⟨9, _⟩ => ⟨S2x128, .f32⟩
  | .hbm, ⟨10, _⟩ => ⟨S_, .f32⟩
  | .hbm, ⟨11, _⟩ => ⟨S2x128, .f32⟩
  | .hbm, ⟨12, _⟩ => ⟨S2x128, .i1⟩
  | .hbm, ⟨13, _⟩ => ⟨S_, .f32⟩
  | .hbm, ⟨14, _⟩ => ⟨S2x128, .f32⟩
  | .hbm, ⟨15, _⟩ => ⟨S2x128, .f32⟩
  | .hbm, ⟨16, _⟩ => ⟨S_, .f32⟩
  | .hbm, ⟨17, _⟩ => ⟨S_, .f32⟩
  | .hbm, ⟨18, _⟩ => ⟨S2x128, .f32⟩
  | .hbm, ⟨19, _⟩ => ⟨S2x128, .f32⟩
  | .hbm, ⟨20, _⟩ => ⟨S2x128x1, .f32⟩
  | .hbm, ⟨21, _⟩ => ⟨S2x128x2560, .f32⟩
  | .hbm, ⟨22, _⟩ => ⟨S2x128x2560, .f32⟩
  | .hbm, ⟨23, _⟩ => ⟨S2x128x2560, .f32⟩
  | .hbm, ⟨24, _⟩ => ⟨S_, .f32⟩
  | .hbm, ⟨25, _⟩ => ⟨S_, .f32⟩
  | .hbm, ⟨26, _⟩ => ⟨S_, .f32⟩
  | .hbm, ⟨27, _⟩ => ⟨S2x128x2560, .f32⟩
  | .hbm, ⟨28, _⟩ => ⟨S2x128x2560, .f32⟩
  | .hbm, ⟨29, _⟩ => ⟨S_, .f32⟩
  | .hbm, ⟨30, _⟩ => ⟨S2x128x2560, .f32⟩
  | .hbm, ⟨31, _⟩ => ⟨S2x128x2560, .f32⟩
  | .hbm, ⟨32, _⟩ => ⟨S2x128x2560, .i32⟩
  | .hbm, ⟨33, _⟩ => ⟨S2x128x2560, .i8⟩
  | .hbm, ⟨34, _⟩ => ⟨S2x128x2560, .i32⟩
  | .hbm, ⟨35, _⟩ => ⟨S2x128x2560, .bf16⟩
  | .hbm, ⟨36, _⟩ => ⟨S1536x2560, .i32⟩
  | .hbm, ⟨37, _⟩ => ⟨S1536x2560, .bf16⟩
  | .hbm, ⟨38, _⟩ => ⟨S2x128x1536, .f32⟩
  | .hbm, ⟨39, _⟩ => ⟨S2x128x1, .f32⟩
  | .hbm, ⟨40, _⟩ => ⟨S2x128x1536, .f32⟩
  | .hbm, ⟨41, _⟩ => ⟨S2x128x1536, .f32⟩
  | .hbm, ⟨42, _⟩ => ⟨S1x1x1536, .f32⟩
  | .hbm, ⟨43, _⟩ => ⟨S2x128x1536, .f32⟩
  | .hbm, ⟨44, _⟩ => ⟨S2x128x1536, .f32⟩
  | .hbm, ⟨45, _⟩ => ⟨S4096x2560, .i32⟩
  | .hbm, ⟨46, _⟩ => ⟨S4096x20x128, .i32⟩
  | .hbm, ⟨47, _⟩ => ⟨S4096x2x20, .bf16⟩
  | .hbm, ⟨48, _⟩ => ⟨S_, .i32⟩
  | .hbm, ⟨49, _⟩ => ⟨S4096x20x128, .i32⟩
  | .hbm, ⟨50, _⟩ => ⟨S4096x20x128, .i32⟩
  | .hbm, ⟨51, _⟩ => ⟨S_, .i32⟩
  | .hbm, ⟨52, _⟩ => ⟨S4096x20x128, .i32⟩
  | .hbm, ⟨53, _⟩ => ⟨S4096x20x128, .i1⟩
  | .hbm, ⟨54, _⟩ => ⟨S_, .i32⟩
  | .hbm, ⟨55, _⟩ => ⟨S4096x20x128, .i32⟩
  | .hbm, ⟨56, _⟩ => ⟨S4096x20x128, .i32⟩
  | .hbm, ⟨57, _⟩ => ⟨S4096x20x128, .i32⟩
  | .hbm, ⟨58, _⟩ => ⟨S4096x20x128, .bf16⟩
  | .hbm, ⟨59, _⟩ => ⟨S_, .i32⟩
  | .hbm, ⟨60, _⟩ => ⟨S4096x20x128, .i32⟩
  | .hbm, ⟨61, _⟩ => ⟨S4096x20x128, .i32⟩
  | .hbm, ⟨62, _⟩ => ⟨S_, .i32⟩
  | .hbm, ⟨63, _⟩ => ⟨S4096x20x128, .i32⟩
  | .hbm, ⟨64, _⟩ => ⟨S4096x20x128, .i1⟩
  | .hbm, ⟨65, _⟩ => ⟨S_, .i32⟩
  | .hbm, ⟨66, _⟩ => ⟨S4096x20x128, .i32⟩
  | .hbm, ⟨67, _⟩ => ⟨S4096x20x128, .i32⟩
  | .hbm, ⟨68, _⟩ => ⟨S4096x20x128, .i32⟩
  | .hbm, ⟨69, _⟩ => ⟨S4096x20x128, .bf16⟩
  | .hbm, ⟨70, _⟩ => ⟨S4096x1x20, .bf16⟩
  | .hbm, ⟨71, _⟩ => ⟨S4096x20, .bf16⟩
  | .hbm, ⟨72, _⟩ => ⟨S4096x20x1, .bf16⟩
  | .hbm, ⟨73, _⟩ => ⟨S4096x20x128, .bf16⟩
  | .hbm, ⟨74, _⟩ => ⟨S4096x20x128, .bf16⟩
  | .hbm, ⟨75, _⟩ => ⟨S4096x2560, .bf16⟩
  | .hbm, ⟨76, _⟩ => ⟨S4096x1x20, .bf16⟩
  | .hbm, ⟨77, _⟩ => ⟨S4096x20, .bf16⟩
  | .hbm, ⟨78, _⟩ => ⟨S4096x20x1, .bf16⟩
  | .hbm, ⟨79, _⟩ => ⟨S4096x20x128, .bf16⟩
  | .hbm, ⟨80, _⟩ => ⟨S4096x20x128, .bf16⟩
  | .hbm, ⟨81, _⟩ => ⟨S4096x2560, .bf16⟩
  | .hbm, ⟨82, _⟩ => ⟨S2x128x4096, .f32⟩
  | .hbm, ⟨83, _⟩ => ⟨S2x128x4096, .f32⟩
  | .hbm, ⟨84, _⟩ => ⟨S2x128x9728, .f32⟩
  | .hbm, ⟨85, _⟩ => ⟨S2x128x9728, .bf16⟩
  | .hbm, ⟨86, _⟩ => ⟨S1536, .i32⟩
  | .hbm, ⟨87, _⟩ => ⟨S4096, .i32⟩
  | .hbm, ⟨88, _⟩ => ⟨S4096, .i32⟩
  | .hbm, ⟨89, _⟩ => ⟨S9728, .i32⟩
  | .hbm, ⟨90, _⟩ => ⟨S_, .i32⟩
  | .hbm, ⟨91, _⟩ => ⟨S9728, .i32⟩
  | .hbm, ⟨92, _⟩ => ⟨S9728, .i32⟩
  | .hbm, ⟨93, _⟩ => ⟨S_, .i32⟩
  | .hbm, ⟨94, _⟩ => ⟨S9728, .i32⟩
  | .hbm, ⟨95, _⟩ => ⟨S9728, .i1⟩
  | .hbm, ⟨96, _⟩ => ⟨S_, .i32⟩
  | .hbm, ⟨97, _⟩ => ⟨S9728, .i32⟩
  | .hbm, ⟨98, _⟩ => ⟨S9728, .i32⟩
  | .hbm, ⟨99, _⟩ => ⟨S9728, .i32⟩
  | .hbm, ⟨100, _⟩ => ⟨S9728x1, .i32⟩
  | .hbm, ⟨101, _⟩ => ⟨S9728, .i32⟩
  | .hbm, ⟨102, _⟩ => ⟨S_, .i32⟩
  | .hbm, ⟨103, _⟩ => ⟨S9728, .i32⟩
  | .hbm, ⟨104, _⟩ => ⟨S9728, .i1⟩
  | .hbm, ⟨105, _⟩ => ⟨S_, .i32⟩
  | .hbm, ⟨106, _⟩ => ⟨S9728, .i32⟩
  | .hbm, ⟨107, _⟩ => ⟨S9728, .i32⟩
  | .hbm, ⟨108, _⟩ => ⟨S9728, .i32⟩
  | .hbm, ⟨109, _⟩ => ⟨S9728x1, .i32⟩
  | .hbm, ⟨110, _⟩ => ⟨S1, .i32⟩
  | .hbm, ⟨111, _⟩ => ⟨S_, .i32⟩
  | .hbm, ⟨112, _⟩ => ⟨S9728x1, .i32⟩
  | .hbm, ⟨113, _⟩ => ⟨S9728x1, .i1⟩
  | .hbm, ⟨114, _⟩ => ⟨S1x1, .i32⟩
  | .hbm, ⟨115, _⟩ => ⟨S9728x1, .i32⟩
  | .hbm, ⟨116, _⟩ => ⟨S9728x1, .i1⟩
  | .hbm, ⟨117, _⟩ => ⟨S9728x1, .i1⟩
  | .hbm, ⟨118, _⟩ => ⟨S_, .i1⟩
  | .hbm, ⟨119, _⟩ => ⟨S9728, .i1⟩
  | .hbm, ⟨120, _⟩ => ⟨S2x128x9728, .bf16⟩
  | .hbm, ⟨121, _⟩ => ⟨S2x128x9728, .i1⟩
  | .hbm, ⟨122, _⟩ => ⟨S_, .bf16⟩
  | .hbm, ⟨123, _⟩ => ⟨S2x128x9728, .bf16⟩
  | .hbm, ⟨124, _⟩ => ⟨S2x128x9728, .bf16⟩
  | _, _ => ⟨S2x128x2560, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_cst : Ref sig .tc := ⟨.hbm, 8, rfl⟩
abbrev main_v2 : Ref sig .tc := ⟨.hbm, 9, rfl⟩
abbrev main_cst_0 : Ref sig .tc := ⟨.hbm, 10, rfl⟩
abbrev main_v3 : Ref sig .tc := ⟨.hbm, 11, rfl⟩
abbrev main_v4 : Ref sig .tc := ⟨.hbm, 12, rfl⟩
abbrev main_cst_1 : Ref sig .tc := ⟨.hbm, 13, rfl⟩
abbrev main_v5 : Ref sig .tc := ⟨.hbm, 14, rfl⟩
abbrev main_v6 : Ref sig .tc := ⟨.hbm, 15, rfl⟩
abbrev main_cst_2 : Ref sig .tc := ⟨.hbm, 16, rfl⟩
abbrev main_call0_v0 : Ref sig .tc := ⟨.hbm, 17, rfl⟩
abbrev main_call0_v1 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_cst_3 : Ref sig .tc := ⟨.hbm, 24, rfl⟩
abbrev main_cst_4 : Ref sig .tc := ⟨.hbm, 25, rfl⟩
abbrev main_call2_v0 : Ref sig .tc := ⟨.hbm, 26, rfl⟩
abbrev main_call2_v1 : Ref sig .tc := ⟨.hbm, 27, rfl⟩
abbrev main_call2_v2 : Ref sig .tc := ⟨.hbm, 28, rfl⟩
abbrev main_call2_v3 : Ref sig .tc := ⟨.hbm, 29, rfl⟩
abbrev main_call2_v4 : Ref sig .tc := ⟨.hbm, 30, rfl⟩
abbrev main_v12 : Ref sig .tc := ⟨.hbm, 31, rfl⟩
abbrev main_v13 : Ref sig .tc := ⟨.hbm, 32, rfl⟩
abbrev main_v14 : Ref sig .tc := ⟨.hbm, 33, rfl⟩
abbrev main_v15 : Ref sig .tc := ⟨.hbm, 34, rfl⟩
abbrev main_v16 : Ref sig .tc := ⟨.hbm, 35, rfl⟩
abbrev main_v17 : Ref sig .tc := ⟨.hbm, 36, rfl⟩
abbrev main_v18 : Ref sig .tc := ⟨.hbm, 37, rfl⟩
abbrev main_v19 : Ref sig .tc := ⟨.hbm, 38, rfl⟩
abbrev main_v20 : Ref sig .tc := ⟨.hbm, 39, rfl⟩
abbrev main_v21 : Ref sig .tc := ⟨.hbm, 40, rfl⟩
abbrev main_v22 : Ref sig .tc := ⟨.hbm, 41, rfl⟩
abbrev main_v23 : Ref sig .tc := ⟨.hbm, 42, rfl⟩
abbrev main_v24 : Ref sig .tc := ⟨.hbm, 43, rfl⟩
abbrev main_v25 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩
abbrev main_c : Ref sig .tc := ⟨.hbm, 48, rfl⟩
abbrev main_v29 : Ref sig .tc := ⟨.hbm, 49, rfl⟩
abbrev main_v30 : Ref sig .tc := ⟨.hbm, 50, rfl⟩
abbrev main_c_5 : Ref sig .tc := ⟨.hbm, 51, rfl⟩
abbrev main_v31 : Ref sig .tc := ⟨.hbm, 52, rfl⟩
abbrev main_v32 : Ref sig .tc := ⟨.hbm, 53, rfl⟩
abbrev main_c_6 : Ref sig .tc := ⟨.hbm, 54, rfl⟩
abbrev main_v33 : Ref sig .tc := ⟨.hbm, 55, rfl⟩
abbrev main_v34 : Ref sig .tc := ⟨.hbm, 56, rfl⟩
abbrev main_v35 : Ref sig .tc := ⟨.hbm, 57, rfl⟩
abbrev main_v36 : Ref sig .tc := ⟨.hbm, 58, rfl⟩
abbrev main_c_7 : Ref sig .tc := ⟨.hbm, 59, rfl⟩
abbrev main_v37 : Ref sig .tc := ⟨.hbm, 60, rfl⟩
abbrev main_v38 : Ref sig .tc := ⟨.hbm, 61, rfl⟩
abbrev main_c_8 : Ref sig .tc := ⟨.hbm, 62, rfl⟩
abbrev main_v39 : Ref sig .tc := ⟨.hbm, 63, rfl⟩
abbrev main_v40 : Ref sig .tc := ⟨.hbm, 64, rfl⟩
abbrev main_c_9 : Ref sig .tc := ⟨.hbm, 65, rfl⟩
abbrev main_v41 : Ref sig .tc := ⟨.hbm, 66, rfl⟩
abbrev main_v42 : Ref sig .tc := ⟨.hbm, 67, rfl⟩
abbrev main_v43 : Ref sig .tc := ⟨.hbm, 68, rfl⟩
abbrev main_v44 : Ref sig .tc := ⟨.hbm, 69, rfl⟩
abbrev main_v45 : Ref sig .tc := ⟨.hbm, 70, rfl⟩
abbrev main_v46 : Ref sig .tc := ⟨.hbm, 71, rfl⟩
abbrev main_v47 : Ref sig .tc := ⟨.hbm, 72, rfl⟩
abbrev main_v48 : Ref sig .tc := ⟨.hbm, 73, rfl⟩
abbrev main_v49 : Ref sig .tc := ⟨.hbm, 74, rfl⟩
abbrev main_v50 : Ref sig .tc := ⟨.hbm, 75, rfl⟩
abbrev main_v51 : Ref sig .tc := ⟨.hbm, 76, rfl⟩
abbrev main_v52 : Ref sig .tc := ⟨.hbm, 77, rfl⟩
abbrev main_v53 : Ref sig .tc := ⟨.hbm, 78, rfl⟩
abbrev main_v54 : Ref sig .tc := ⟨.hbm, 79, rfl⟩
abbrev main_v55 : Ref sig .tc := ⟨.hbm, 80, rfl⟩
abbrev main_v56 : Ref sig .tc := ⟨.hbm, 81, rfl⟩
abbrev main_v57 : Ref sig .tc := ⟨.hbm, 82, rfl⟩
abbrev main_v58 : Ref sig .tc := ⟨.hbm, 83, rfl⟩
abbrev main_v59 : Ref sig .tc := ⟨.hbm, 84, rfl⟩
abbrev main_v60 : Ref sig .tc := ⟨.hbm, 85, rfl⟩
abbrev main_v61 : Ref sig .tc := ⟨.hbm, 86, rfl⟩
abbrev main_v62 : Ref sig .tc := ⟨.hbm, 87, rfl⟩
abbrev main_v63 : Ref sig .tc := ⟨.hbm, 88, rfl⟩
abbrev main_v64 : Ref sig .tc := ⟨.hbm, 89, rfl⟩
abbrev main_c_10 : Ref sig .tc := ⟨.hbm, 90, rfl⟩
abbrev main_v65 : Ref sig .tc := ⟨.hbm, 91, rfl⟩
abbrev main_v66 : Ref sig .tc := ⟨.hbm, 92, rfl⟩
abbrev main_c_11 : Ref sig .tc := ⟨.hbm, 93, rfl⟩
abbrev main_v67 : Ref sig .tc := ⟨.hbm, 94, rfl⟩
abbrev main_v68 : Ref sig .tc := ⟨.hbm, 95, rfl⟩
abbrev main_c_12 : Ref sig .tc := ⟨.hbm, 96, rfl⟩
abbrev main_v69 : Ref sig .tc := ⟨.hbm, 97, rfl⟩
abbrev main_v70 : Ref sig .tc := ⟨.hbm, 98, rfl⟩
abbrev main_v71 : Ref sig .tc := ⟨.hbm, 99, rfl⟩
abbrev main_v72 : Ref sig .tc := ⟨.hbm, 100, rfl⟩
abbrev main_v73 : Ref sig .tc := ⟨.hbm, 101, rfl⟩
abbrev main_call5_c : Ref sig .tc := ⟨.hbm, 102, rfl⟩
abbrev main_call5_v0 : Ref sig .tc := ⟨.hbm, 103, rfl⟩
abbrev main_call5_v1 : Ref sig .tc := ⟨.hbm, 104, rfl⟩
abbrev main_call5_c_0 : Ref sig .tc := ⟨.hbm, 105, rfl⟩
abbrev main_call5_v2 : Ref sig .tc := ⟨.hbm, 106, rfl⟩
abbrev main_call5_v3 : Ref sig .tc := ⟨.hbm, 107, rfl⟩
abbrev main_call5_v4 : Ref sig .tc := ⟨.hbm, 108, rfl⟩
abbrev main_call5_v5 : Ref sig .tc := ⟨.hbm, 109, rfl⟩
abbrev main_call5_c_1 : Ref sig .tc := ⟨.hbm, 110, rfl⟩
abbrev main_call5_c_2 : Ref sig .tc := ⟨.hbm, 111, rfl⟩
abbrev main_call5_v6 : Ref sig .tc := ⟨.hbm, 112, rfl⟩
abbrev main_call5_v7 : Ref sig .tc := ⟨.hbm, 113, rfl⟩
abbrev main_call5_v8 : Ref sig .tc := ⟨.hbm, 114, rfl⟩
abbrev main_call5_v9 : Ref sig .tc := ⟨.hbm, 115, rfl⟩
abbrev main_call5_v10 : Ref sig .tc := ⟨.hbm, 116, rfl⟩
abbrev main_call5_v11 : Ref sig .tc := ⟨.hbm, 117, rfl⟩
abbrev main_call5_c_3 : Ref sig .tc := ⟨.hbm, 118, rfl⟩
abbrev main_call5_v12 : Ref sig .tc := ⟨.hbm, 119, rfl⟩
abbrev main_call5_v13 : Ref sig .tc := ⟨.hbm, 120, rfl⟩
abbrev main_call5_v14 : Ref sig .tc := ⟨.hbm, 121, rfl⟩
abbrev main_call5_cst : Ref sig .tc := ⟨.hbm, 122, rfl⟩
abbrev main_call5_v15 : Ref sig .tc := ⟨.hbm, 123, rfl⟩
abbrev main_v74 : Ref sig .tc := ⟨.hbm, 124, rfl⟩

abbrev nD : Nat := 1
abbrev τ : Topo := Topo.v7x

variable {F : FTy → Type} [FloatOps F]
-- ==== Proof.BitsTrips.lean ====
module

public import proofs.«01_k».proof.Proof.Gen.Kernel
public import proofs.«01_k».proof.Proof.Gen.Kernel.Skeleton
public import proofs.«01_k».proof.Proof.Gen.Kernel.Loops
public import proofs.«01_k».proof.Proof.Gen.Kernel.Launch
public import proofs.«01_k».proof.Proof.Gen.Kernel.Points
public import proofs.«01_k».proof.Proof.Gen.Kernel.Frame
public import Idealize.ShloMosaic.Lib.Tactic

@[expose] public section

set_option maxRecDepth 16384

noncomputable section

namespace Cert.Proof.Kernel

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [BitOps F] [∀ e, Nonempty (Elt F e)]

abbrev UU (nD : Nat) (τ : Topo) : Type := UR sig nD τ
abbrev 𝒱₀ : Variants := Variants.none
local notation "𝕄" => MT nD τ sig Unit (Elt F) ℕ (UU nD τ) ℕ

/-- Every word the row table holds names an output row. -/
def InRange (f : S9728.Idx → BitVec 32) : Prop := ∀ x, (f x).toNat < 9728

/-- A word read out of a table in range names an output row. -/
theorem inRange_readAt {sp : Space} {κ : Kind} (v : View sig κ sp S9728 .i32) (f : v.ty.Contents (Elt F)) (h : InRange (v.read (Elt F) f))
    (r : LoadRect S9728) (x : r.shape.Idx) : (v.readAt (Elt F) r f x : BitVec 32).toNat < 9728 := h _

/-- The row that word 1 of a trip names lies inside the output. -/
theorem chk1_of {i : grid0.Coords} {v : BitVec 32} (h : v.toNat < 9728) : k0_chk1 i v := by
  intro _ a
  fin_cases a
  · show v.toNat + 1 ≤ 9728
    omega
  · show 0 + 128 ≤ 128
    omega

/-- The row that word 2 of a trip names lies inside the output. -/
theorem chk2_of {i : grid0.Coords} {v : BitVec 32} (h : v.toNat < 9728) : k0_chk2 i v := by
  intro _ a
  fin_cases a
  · show v.toNat + 1 ≤ 9728
    omega
  · show 0 + 128 ≤ 128
    omega

/-- The row that word 3 of a trip names lies inside the output. -/
theorem chk3_of {i : grid0.Coords} {v : BitVec 32} (h : v.toNat < 9728) : k0_chk3 i v := by
  intro _ a
  fin_cases a
  · show v.toNat + 1 ≤ 9728
    omega
  · show 0 + 128 ≤ 128
    omega

/-- The row that word 4 of a trip names lies inside the output. -/
theorem chk4_of {i : grid0.Coords} {v : BitVec 32} (h : v.toNat < 9728) : k0_chk4 i v := by
  intro _ a
  fin_cases a
  · show v.toNat + 1 ≤ 9728
    omega
  · show 0 + 128 ≤ 128
    omega

/-- The row that word 5 of a trip names lies inside the output. -/
theorem chk5_of {i : grid0.Coords} {v : BitVec 32} (h : v.toNat < 9728) : k0_chk5 i v := by
  intro _ a
  fin_cases a
  · show v.toNat + 1 ≤ 9728
    omega
  · show 0 + 128 ≤ 128
    omega

/-- The row that word 6 of a trip names lies inside the output. -/
theorem chk6_of {i : grid0.Coords} {v : BitVec 32} (h : v.toNat < 9728) : k0_chk6 i v := by
  intro _ a
  fin_cases a
  · show v.toNat + 1 ≤ 9728
    omega
  · show 0 + 128 ≤ 128
    omega

/-- The row that word 7 of a trip names lies inside the output. -/
theorem chk7_of {i : grid0.Coords} {v : BitVec 32} (h : v.toNat < 9728) : k0_chk7 i v := by
  intro _ a
  fin_cases a
  · show v.toNat + 1 ≤ 9728
    omega
  · show 0 + 128 ≤ 128
    omega

/-- The row that word 8 of a trip names lies inside the output. -/
theorem chk8_of {i : grid0.Coords} {v : BitVec 32} (h : v.toNat < 9728) : k0_chk8 i v := by
  intro _ a
  fin_cases a
  · show v.toNat + 1 ≤ 9728
    omega
  · show 0 + 128 ≤ 128
    omega

/-- The row that word 9 of a trip names lies inside the output. -/
theorem chk9_of {i : grid0.Coords} {v : BitVec 32} (h : v.toNat < 9728) : k0_chk9 i v := by
  intro _ a
  fin_cases a
  · show v.toNat + 1 ≤ 9728
    omega
  · show 0 + 128 ≤ 128
    omega

/-- The row that word 10 of a trip names lies inside the output. -/
theorem chk10_of {i : grid0.Coords} {v : BitVec 32} (h : v.toNat < 9728) : k0_chk10 i v := by
  intro _ a
  fin_cases a
  · show v.toNat + 1 ≤ 9728
    omega
  · show 0 + 128 ≤ 128
    omega

/-- The row that word 11 of a trip names lies inside the output. -/
theorem chk11_of {i : grid0.Coords} {v : BitVec 32} (h : v.toNat < 9728) : k0_chk11 i v := by
  intro _ a
  fin_cases a
  · show v.toNat + 1 ≤ 9728
    omega
  · show 0 + 128 ≤ 128
    omega

/-- The row that word 12 of a trip names lies inside the output. -/
theorem chk12_of {i : grid0.Coords} {v : BitVec 32} (h : v.toNat < 9728) : k0_chk12 i v := by
  intro _ a
  fin_cases a
  · show v.toNat + 1 ≤ 9728
    omega
  · show 0 + 128 ≤ 128
    omega

/-- The row that word 13 of a trip names lies inside the output. -/
theorem chk13_of {i : grid0.Coords} {v : BitVec 32} (h : v.toNat < 9728) : k0_chk13 i v := by
  intro _ a
  fin_cases a
  · show v.toNat + 1 ≤ 9728
    omega
  · show 0 + 128 ≤ 128
    omega

/-- The row that word 14 of a trip names lies inside the output. -/
theorem chk14_of {i : grid0.Coords} {v : BitVec 32} (h : v.toNat < 9728) : k0_chk14 i v := by
  intro _ a
  fin_cases a
  · show v.toNat + 1 ≤ 9728
    omega
  · show 0 + 128 ≤ 128
    omega

/-- The row that word 15 of a trip names lies inside the output. -/
theorem chk15_of {i : grid0.Coords} {v : BitVec 32} (h : v.toNat < 9728) : k0_chk15 i v := by
  intro _ a
  fin_cases a
  · show v.toNat + 1 ≤ 9728
    omega
  · show 0 + 128 ≤ 128
    omega

/-- The row that word 16 of a trip names lies inside the output. -/
theorem chk16_of {i : grid0.Coords} {v : BitVec 32} (h : v.toNat < 9728) : k0_chk16 i v := by
  intro _ a
  fin_cases a
  · show v.toNat + 1 ≤ 9728
    omega
  · show 0 + 128 ≤ 128
    omega

/-- The row that word 17 of a trip names lies inside the output. -/
theorem chk17_of {i : grid0.Coords} {v : BitVec 32} (h : v.toNat < 9728) : k0_chk17 i v := by
  intro _ a
  fin_cases a
  · show v.toNat + 1 ≤ 9728
    omega
  · show 0 + 128 ≤ 128
    omega

/-- The row that word 18 of a trip names lies inside the output. -/
theorem chk18_of {i : grid0.Coords} {v : BitVec 32} (h : v.toNat < 9728) : k0_chk18 i v := by
  intro _ a
  fin_cases a
  · show v.toNat + 1 ≤ 9728
    omega
  · show 0 + 128 ≤ 128
    omega

/-- The row that word 19 of a trip names lies inside the output. -/
theorem chk19_of {i : grid0.Coords} {v : BitVec 32} (h : v.toNat < 9728) : k0_chk19 i v := by
  intro _ a
  fin_cases a
  · show v.toNat + 1 ≤ 9728
    omega
  · show 0 + 128 ≤ 128
    omega

/-- The row that word 20 of a trip names lies inside the output. -/
theorem chk20_of {i : grid0.Coords} {v : BitVec 32} (h : v.toNat < 9728) : k0_chk20 i v := by
  intro _ a
  fin_cases a
  · show v.toNat + 1 ≤ 9728
    omega
  · show 0 + 128 ≤ 128
    omega

/-- The row that word 21 of a trip names lies inside the output. -/
theorem chk21_of {i : grid0.Coords} {v : BitVec 32} (h : v.toNat < 9728) : k0_chk21 i v := by
  intro _ a
  fin_cases a
  · show v.toNat + 1 ≤ 9728
    omega
  · show 0 + 128 ≤ 128
    omega

/-- The row that word 22 of a trip names lies inside the output. -/
theorem chk22_of {i : grid0.Coords} {v : BitVec 32} (h : v.toNat < 9728) : k0_chk22 i v := by
  intro _ a
  fin_cases a
  · show v.toNat + 1 ≤ 9728
    omega
  · show 0 + 128 ≤ 128
    omega

/-- The row that word 23 of a trip names lies inside the output. -/
theorem chk23_of {i : grid0.Coords} {v : BitVec 32} (h : v.toNat < 9728) : k0_chk23 i v := by
  intro _ a
  fin_cases a
  · show v.toNat + 1 ≤ 9728
    omega
  · show 0 + 128 ≤ 128
    omega

/-- The row that word 24 of a trip names lies inside the output. -/
theorem chk24_of {i : grid0.Coords} {v : BitVec 32} (h : v.toNat < 9728) : k0_chk24 i v := by
  intro _ a
  fin_cases a
  · show v.toNat + 1 ≤ 9728
    omega
  · show 0 + 128 ≤ 128
    omega

/-- The row that word 25 of a trip names lies inside the output. -/
theorem chk25_of {i : grid0.Coords} {v : BitVec 32} (h : v.toNat < 9728) : k0_chk25 i v := by
  intro _ a
  fin_cases a
  · show v.toNat + 1 ≤ 9728
    omega
  · show 0 + 128 ≤ 128
    omega

/-- The row that word 26 of a trip names lies inside the output. -/
theorem chk26_of {i : grid0.Coords} {v : BitVec 32} (h : v.toNat < 9728) : k0_chk26 i v := by
  intro _ a
  fin_cases a
  · show v.toNat + 1 ≤ 9728
    omega
  · show 0 + 128 ≤ 128
    omega

/-- The row that word 27 of a trip names lies inside the output. -/
theorem chk27_of {i : grid0.Coords} {v : BitVec 32} (h : v.toNat < 9728) : k0_chk27 i v := by
  intro _ a
  fin_cases a
  · show v.toNat + 1 ≤ 9728
    omega
  · show 0 + 128 ≤ 128
    omega

/-- The row that word 28 of a trip names lies inside the output. -/
theorem chk28_of {i : grid0.Coords} {v : BitVec 32} (h : v.toNat < 9728) : k0_chk28 i v := by
  intro _ a
  fin_cases a
  · show v.toNat + 1 ≤ 9728
    omega
  · show 0 + 128 ≤ 128
    omega

/-- The row that word 29 of a trip names lies inside the output. -/
theorem chk29_of {i : grid0.Coords} {v : BitVec 32} (h : v.toNat < 9728) : k0_chk29 i v := by
  intro _ a
  fin_cases a
  · show v.toNat + 1 ≤ 9728
    omega
  · show 0 + 128 ≤ 128
    omega

/-- The row that word 30 of a trip names lies inside the output. -/
theorem chk30_of {i : grid0.Coords} {v : BitVec 32} (h : v.toNat < 9728) : k0_chk30 i v := by
  intro _ a
  fin_cases a
  · show v.toNat + 1 ≤ 9728
    omega
  · show 0 + 128 ≤ 128
    omega

/-- The row that word 31 of a trip names lies inside the output. -/
theorem chk31_of {i : grid0.Coords} {v : BitVec 32} (h : v.toNat < 9728) : k0_chk31 i v := by
  intro _ a
  fin_cases a
  · show v.toNat + 1 ≤ 9728
    omega
  · show 0 + 128 ≤ 128
    omega

/-- The row that word 32 of a trip names lies inside the output. -/
theorem chk32_of {i : grid0.Coords} {v : BitVec 32} (h : v.toNat < 9728) : k0_chk32 i v := by
  intro _ a
  fin_cases a
  · show v.toNat + 1 ≤ 9728
    omega
  · show 0 + 128 ≤ 128
    omega

variable (c : Dev nD) (i : grid0.Coords) (arg1 : Memref sig .tc .smem S9728 .i32) (harg1 : arg1.IsWhole) (arg2 : Memref sig .tc .vmem S256x2560 .bf16) (harg2 : arg2.IsWhole) (arg3 : Memref sig .tc .vmem S256x2560 .i8) (harg3 : arg3.IsWhole) (arg4 : Memref sig .tc .vmem S512x20 .bf16) (harg4 : arg4.IsWhole) (arg5 : Memref sig .tc .vmem S512x2560 .i8) (harg5 : arg5.IsWhole) (arg6 : Memref sig .tc .vmem S512x1 .f32) (harg6 : arg6.IsWhole) (arg7 : Memref sig .tc .vmem S256x9728 .bf16) (harg7 : arg7.IsWhole) (arg8 : Memref sig .tc .vmem S256x2560 .i8) (harg8 : arg8.IsWhole) (arg9 : Memref sig .tc .vmem S2x128 .f32) (harg9 : arg9.IsWhole) (arg10 : Memref sig .tc .vmem S256x2560 .bf16) (harg10 : arg10.IsWhole) (arg11 : Memref sig .tc .vmem S256x2560 .bf16) (harg11 : arg11.IsWhole) (arg12 : Memref sig .tc .vmem S256x128 .f32) (harg12 : arg12.IsWhole) (arg13 : Memref sig .tc .vmem S8x256 .f32) (harg13 : arg13.IsWhole) (arg14 : Memref sig .tc .vmem S512x2560 .bf16) (harg14 : arg14.IsWhole) (arg15 : Memref sig .tc .vmem S512x128 .i32) (harg15 : arg15.IsWhole) (arg16 : Memref sig .tc .vmem S9728x128 .i32) (harg16 : arg16.IsWhole)

/-- One trip of the loop that scatters the rows of a block, between its ends: the row table and the staged rows stay, the output rows hold something. -/
theorem trip_t1 (X1 : S9728.Idx → BitVec 32) (h1 : InRange X1) (X15 : S512x128.Idx → BitVec 32) (k0_h2 : k0_cond2 i = 1#1) (v178 : BitVec 32) (k : Fin k0_t1_loop.trips) (a : Unit) :
    (iprop(owns (c : Thread nD τ) arg1 fullShare X1 ∗ owns (c : Thread nD τ) arg15 fullShare X15 ∗ ∃ Y, owns (c : Thread nD τ) arg16 fullShare Y) : sProp 𝕄)
      ⊢ wp Idealize.ShloMosaic.frame (wpE (defs₀ (F := F)) 𝒱₀ (c : Thread nD τ) none) Set.univ (k0_t1_body (F := F) i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 k0_h2 v178 k a)
        (fun _ => iprop(owns (c : Thread nD τ) arg1 fullShare X1 ∗ owns (c : Thread nD τ) arg15 fullShare X15 ∗ ∃ Y, owns (c : Thread nD τ) arg16 fullShare Y)) := by
  unfold k0_t1_body
  simp only [k0_part3_eq_skeleton, k0_part4_eq_skeleton, k0_part5_eq_skeleton, k0_part6_eq_skeleton]
  unfold k0_part3_skel k0_part4_skel k0_part5_skel k0_part6_skel
  unfold owns
  iintro ⟨⟨%f1, %e1, H1⟩, ⟨%f15, %e15, H15⟩, ⟨%Y, %f16, -, H16⟩⟩
  have hr := inRange_readAt (F := F) arg1.view f1 (e1 ▸ h1)
  sl_exec (disch := (first | exact chk1_of (hr _ _) | exact chk2_of (hr _ _) | exact chk3_of (hr _ _) | exact chk4_of (hr _ _) | exact chk5_of (hr _ _) | exact chk6_of (hr _ _) | exact chk7_of (hr _ _) | exact chk8_of (hr _ _) | exact chk9_of (hr _ _) | exact chk10_of (hr _ _) | exact chk11_of (hr _ _) | exact chk12_of (hr _ _) | exact chk13_of (hr _ _) | exact chk14_of (hr _ _) | exact chk15_of (hr _ _) | exact chk16_of (hr _ _)))
  sl_step
  isplitl [H1]
  · iexists f1; isplitr; · ipureintro; exact e1
    iexact H1
  isplitl [H15]
  · iexists f15; isplitr; · ipureintro; exact e15
    iexact H15
  iexists _, _; isplitr; swap; · iexact H16
  ipureintro; rfl

/-- One trip of the loop that scatters the rows of a block, between its ends: the row table and the staged rows stay, the output rows hold something. -/
theorem trip_t2 (X1 : S9728.Idx → BitVec 32) (h1 : InRange X1) (X15 : S512x128.Idx → BitVec 32) (k0_h3 : k0_cond3 i = 1#1) (v24 : BitVec 32) (k : Fin k0_t2_loop.trips) (a : Unit) :
    (iprop(owns (c : Thread nD τ) arg1 fullShare X1 ∗ owns (c : Thread nD τ) arg15 fullShare X15 ∗ ∃ Y, owns (c : Thread nD τ) arg16 fullShare Y) : sProp 𝕄)
      ⊢ wp Idealize.ShloMosaic.frame (wpE (defs₀ (F := F)) 𝒱₀ (c : Thread nD τ) none) Set.univ (k0_t2_body (F := F) i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 k0_h3 v24 k a)
        (fun _ => iprop(owns (c : Thread nD τ) arg1 fullShare X1 ∗ owns (c : Thread nD τ) arg15 fullShare X15 ∗ ∃ Y, owns (c : Thread nD τ) arg16 fullShare Y)) := by
  unfold k0_t2_body
  simp only [k0_part11_eq_skeleton, k0_part12_eq_skeleton, k0_part13_eq_skeleton, k0_part14_eq_skeleton]
  unfold k0_part11_skel k0_part12_skel k0_part13_skel k0_part14_skel
  unfold owns
  iintro ⟨⟨%f1, %e1, H1⟩, ⟨%f15, %e15, H15⟩, ⟨%Y, %f16, -, H16⟩⟩
  have hr := inRange_readAt (F := F) arg1.view f1 (e1 ▸ h1)
  sl_exec (disch := (first | exact chk17_of (hr _ _) | exact chk18_of (hr _ _) | exact chk19_of (hr _ _) | exact chk20_of (hr _ _) | exact chk21_of (hr _ _) | exact chk22_of (hr _ _) | exact chk23_of (hr _ _) | exact chk24_of (hr _ _) | exact chk25_of (hr _ _) | exact chk26_of (hr _ _) | exact chk27_of (hr _ _) | exact chk28_of (hr _ _) | exact chk29_of (hr _ _) | exact chk30_of (hr _ _) | exact chk31_of (hr _ _) | exact chk32_of (hr _ _)))
  sl_step
  isplitl [H1]
  · iexists f1; isplitr; · ipureintro; exact e1
    iexact H1
  isplitl [H15]
  · iexists f15; isplitr; · ipureintro; exact e15
    iexact H15
  iexists _, _; isplitr; swap; · iexact H16
  ipureintro; rfl

end Cert.Proof.Kernel
end
-- ==== Proof.BitsRun.lean ====
module

public import proofs.«01_k».proof.Proof.Gen.Kernel
public import proofs.«01_k».proof.Proof.Gen.Kernel.Skeleton
public import proofs.«01_k».proof.Proof.Gen.Kernel.Loops
public import proofs.«01_k».proof.Proof.Gen.Kernel.Launch
public import proofs.«01_k».proof.Proof.Gen.Kernel.Points
public import proofs.«01_k».proof.Proof.Gen.Kernel.Frame
public import proofs.«01_k».proof.Proof.BitsTrips
public import Idealize.ShloMosaic.Lib.Tactic

@[expose] public section

set_option maxRecDepth 16384

noncomputable section

namespace Cert.Proof.Kernel

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [BitOps F] [∀ e, Nonempty (Elt F e)]

local notation "𝕄" => MT nD τ sig Unit (Elt F) ℕ (UU nD τ) ℕ

variable (c : Dev nD) (i : grid0.Coords) (arg1 : Memref sig .tc .smem S9728 .i32) (harg1 : arg1.IsWhole) (arg2 : Memref sig .tc .vmem S256x2560 .bf16) (harg2 : arg2.IsWhole) (arg3 : Memref sig .tc .vmem S256x2560 .i8) (harg3 : arg3.IsWhole) (arg4 : Memref sig .tc .vmem S512x20 .bf16) (harg4 : arg4.IsWhole) (arg5 : Memref sig .tc .vmem S512x2560 .i8) (harg5 : arg5.IsWhole) (arg6 : Memref sig .tc .vmem S512x1 .f32) (harg6 : arg6.IsWhole) (arg7 : Memref sig .tc .vmem S256x9728 .bf16) (harg7 : arg7.IsWhole) (arg8 : Memref sig .tc .vmem S256x2560 .i8) (harg8 : arg8.IsWhole) (arg9 : Memref sig .tc .vmem S2x128 .f32) (harg9 : arg9.IsWhole) (arg10 : Memref sig .tc .vmem S256x2560 .bf16) (harg10 : arg10.IsWhole) (arg11 : Memref sig .tc .vmem S256x2560 .bf16) (harg11 : arg11.IsWhole) (arg12 : Memref sig .tc .vmem S256x128 .f32) (harg12 : arg12.IsWhole) (arg13 : Memref sig .tc .vmem S8x256 .f32) (harg13 : arg13.IsWhole) (arg14 : Memref sig .tc .vmem S512x2560 .bf16) (harg14 : arg14.IsWhole) (arg15 : Memref sig .tc .vmem S512x128 .i32) (harg15 : arg15.IsWhole) (arg16 : Memref sig .tc .vmem S9728x128 .i32) (harg16 : arg16.IsWhole)

/-- The body at the first point: the tokens are quantised and the first block of 4-bit rows is done. The row table and the weights are read and stay; everything else holds something after. -/
theorem run_first (X1 : S9728.Idx → BitVec 32) (X2 : S256x2560.Idx → Elt F .bf16) (X3 : S256x2560.Idx → BitVec 8) (X4 : S512x20.Idx → Elt F .bf16) (X5 : S512x2560.Idx → BitVec 8) (X6 : S512x1.Idx → Elt F .f32) (hr : InRange X1) (h1 : k0_cond1 i = 1#1) (h2 : k0_cond2 i = 1#1) (h3 : ¬ k0_cond3 i = 1#1) (h4 : ¬ k0_cond4 i = 1#1) (K : PUnit → sProp 𝕄) :
    iprop(owns (c : Thread nD τ) arg1 fullShare X1 ∗ owns (c : Thread nD τ) arg2 fullShare X2 ∗ owns (c : Thread nD τ) arg3 fullShare X3 ∗ owns (c : Thread nD τ) arg4 fullShare X4 ∗ owns (c : Thread nD τ) arg5 fullShare X5 ∗ owns (c : Thread nD τ) arg6 fullShare X6 ∗ (∃ Y, owns (c : Thread nD τ) arg7 fullShare Y) ∗ (∃ Y, owns (c : Thread nD τ) arg8 fullShare Y) ∗ (∃ Y, owns (c : Thread nD τ) arg9 fullShare Y) ∗ (∃ Y, owns (c : Thread nD τ) arg10 fullShare Y) ∗ (∃ Y, owns (c : Thread nD τ) arg11 fullShare Y) ∗ (∃ Y, owns (c : Thread nD τ) arg12 fullShare Y) ∗ (∃ Y, owns (c : Thread nD τ) arg13 fullShare Y) ∗ (∃ Y, owns (c : Thread nD τ) arg14 fullShare Y) ∗ (∃ Y, owns (c : Thread nD τ) arg15 fullShare Y) ∗ (∃ Y, owns (c : Thread nD τ) arg16 fullShare Y) ∗ ((owns (c : Thread nD τ) arg1 fullShare X1 ∗ owns (c : Thread nD τ) arg2 fullShare X2 ∗ owns (c : Thread nD τ) arg3 fullShare X3 ∗ owns (c : Thread nD τ) arg4 fullShare X4 ∗ owns (c : Thread nD τ) arg5 fullShare X5 ∗ owns (c : Thread nD τ) arg6 fullShare X6 ∗ (∃ Y, owns (c : Thread nD τ) arg7 fullShare Y) ∗ (∃ Y, owns (c : Thread nD τ) arg8 fullShare Y) ∗ (∃ Y, owns (c : Thread nD τ) arg9 fullShare Y) ∗ (∃ Y, owns (c : Thread nD τ) arg10 fullShare Y) ∗ (∃ Y, owns (c : Thread nD τ) arg11 fullShare Y) ∗ (∃ Y, owns (c : Thread nD τ) arg12 fullShare Y) ∗ (∃ Y, owns (c : Thread nD τ) arg13 fullShare Y) ∗ (∃ Y, owns (c : Thread nD τ) arg14 fullShare Y) ∗ (∃ Y, owns (c : Thread nD τ) arg15 fullShare Y) ∗ (∃ Y, owns (c : Thread nD τ) arg16 fullShare Y)) -∗ K ⟨⟩))
      ⊢ wp Idealize.ShloMosaic.frame (wpE (defs₀ (F := F)) 𝒱₀ (c : Thread nD τ) none) Set.univ (cc0_mixllm_linear (F := F) i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16) K := by
  simp only [cc0_mixllm_linear_eq_skeleton]
  unfold cc0_mixllm_linear_skel
  simp only [k0_part1_eq_skeleton, k0_part2_eq_skeleton, k0_part7_eq_skeleton, k0_part8_eq_skeleton, k0_part9_eq_skeleton, k0_part10_eq_skeleton]
  unfold k0_part1_skel k0_part2_skel k0_part7_skel k0_part8_skel k0_part9_skel k0_part10_skel
  unfold owns
  iintro ⟨⟨%f1, %e1, H1⟩, ⟨%f2, %e2, H2⟩, ⟨%f3, %e3, H3⟩, ⟨%f4, %e4, H4⟩, ⟨%f5, %e5, H5⟩, ⟨%f6, %e6, H6⟩, ⟨%Y7, %f7, -, H7⟩, ⟨%Y8, %f8, -, H8⟩, ⟨%Y9, %f9, -, H9⟩, ⟨%Y10, %f10, -, H10⟩, ⟨%Y11, %f11, -, H11⟩, ⟨%Y12, %f12, -, H12⟩, ⟨%Y13, %f13, -, H13⟩, ⟨%Y14, %f14, -, H14⟩, ⟨%Y15, %f15, -, H15⟩, ⟨%Y16, %f16, -, H16⟩, Hk⟩
  sl_exec
  iapply (Scf.wp_for_bind Idealize.ShloMosaic.frame (wpE (defs₀ (F := F)) 𝒱₀ (c : Thread nD τ) none) Set.univ _ _ _ (k0_t1_ok i h2) _ _
    (fun _ _ => iprop(owns (c : Thread nD τ) arg1 fullShare X1 ∗ owns (c : Thread nD τ) arg15 fullShare _ ∗ ∃ Y, owns (c : Thread nD τ) arg16 fullShare Y))
    (fun k a => trip_t1 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 X1 hr _ h2 _ k a)) $$ [H1 H15 H16]
  · unfold owns
    isplitl [H1]
    · iexists f1; isplitr; · ipureintro; exact e1
      iexact H1
    isplitl [H15]
    · iexists _; isplitr; swap; · iexact H15
      ipureintro; rfl
    iexists _, _; isplitr; swap; · iexact H16
    ipureintro; rfl
  iintro %a ⟨H1, H15, ⟨%Z16, H16⟩⟩
  unfold owns
  icases H1 with ⟨%f1', %e1', H1⟩
  icases H15 with ⟨%f15', -, H15⟩
  icases H16 with ⟨%f16', -, H16⟩
  sl_exec
  sl_step
  iapply Hk
  isplitl [H1]
  · iexists f1'; isplitr; · ipureintro; exact e1'
    iexact H1
  isplitl [H2]
  · iexists f2; isplitr; · ipureintro; exact e2
    iexact H2
  isplitl [H3]
  · iexists f3; isplitr; · ipureintro; exact e3
    iexact H3
  isplitl [H4]
  · iexists f4; isplitr; · ipureintro; exact e4
    iexact H4
  isplitl [H5]
  · iexists f5; isplitr; · ipureintro; exact e5
    iexact H5
  isplitl [H6]
  · iexists f6; isplitr; · ipureintro; exact e6
    iexact H6
  isplitl [H7]
  · iexists _, _; isplitr; swap; · iexact H7
    ipureintro; rfl
  isplitl [H8]
  · iexists _, _; isplitr; swap; · iexact H8
    ipureintro; rfl
  isplitl [H9]
  · iexists _, _; isplitr; swap; · iexact H9
    ipureintro; rfl
  isplitl [H10]
  · iexists _, _; isplitr; swap; · iexact H10
    ipureintro; rfl
  isplitl [H11]
  · iexists _, _; isplitr; swap; · iexact H11
    ipureintro; rfl
  isplitl [H12]
  · iexists _, _; isplitr; swap; · iexact H12
    ipureintro; rfl
  isplitl [H13]
  · iexists _, _; isplitr; swap; · iexact H13
    ipureintro; rfl
  isplitl [H14]
  · iexists _, _; isplitr; swap; · iexact H14
    ipureintro; rfl
  isplitl [H15]
  · iexists _, _; isplitr; swap; · iexact H15
    ipureintro; rfl
  iexists _, _; isplitr; swap; · iexact H16
  ipureintro; rfl

/-- The body at a later point of the 4-bit rows. The row table and the weights are read and stay; everything else holds something after. -/
theorem run_four (X1 : S9728.Idx → BitVec 32) (X2 : S256x2560.Idx → Elt F .bf16) (X3 : S256x2560.Idx → BitVec 8) (X4 : S512x20.Idx → Elt F .bf16) (X5 : S512x2560.Idx → BitVec 8) (X6 : S512x1.Idx → Elt F .f32) (hr : InRange X1) (h1 : ¬ k0_cond1 i = 1#1) (h2 : k0_cond2 i = 1#1) (h3 : ¬ k0_cond3 i = 1#1) (h4 : ¬ k0_cond4 i = 1#1) (K : PUnit → sProp 𝕄) :
    iprop(owns (c : Thread nD τ) arg1 fullShare X1 ∗ owns (c : Thread nD τ) arg2 fullShare X2 ∗ owns (c : Thread nD τ) arg3 fullShare X3 ∗ owns (c : Thread nD τ) arg4 fullShare X4 ∗ owns (c : Thread nD τ) arg5 fullShare X5 ∗ owns (c : Thread nD τ) arg6 fullShare X6 ∗ (∃ Y, owns (c : Thread nD τ) arg7 fullShare Y) ∗ (∃ Y, owns (c : Thread nD τ) arg8 fullShare Y) ∗ (∃ Y, owns (c : Thread nD τ) arg9 fullShare Y) ∗ (∃ Y, owns (c : Thread nD τ) arg10 fullShare Y) ∗ (∃ Y, owns (c : Thread nD τ) arg11 fullShare Y) ∗ (∃ Y, owns (c : Thread nD τ) arg12 fullShare Y) ∗ (∃ Y, owns (c : Thread nD τ) arg13 fullShare Y) ∗ (∃ Y, owns (c : Thread nD τ) arg14 fullShare Y) ∗ (∃ Y, owns (c : Thread nD τ) arg15 fullShare Y) ∗ (∃ Y, owns (c : Thread nD τ) arg16 fullShare Y) ∗ ((owns (c : Thread nD τ) arg1 fullShare X1 ∗ owns (c : Thread nD τ) arg2 fullShare X2 ∗ owns (c : Thread nD τ) arg3 fullShare X3 ∗ owns (c : Thread nD τ) arg4 fullShare X4 ∗ owns (c : Thread nD τ) arg5 fullShare X5 ∗ owns (c : Thread nD τ) arg6 fullShare X6 ∗ (∃ Y, owns (c : Thread nD τ) arg7 fullShare Y) ∗ (∃ Y, owns (c : Thread nD τ) arg8 fullShare Y) ∗ (∃ Y, owns (c : Thread nD τ) arg9 fullShare Y) ∗ (∃ Y, owns (c : Thread nD τ) arg10 fullShare Y) ∗ (∃ Y, owns (c : Thread nD τ) arg11 fullShare Y) ∗ (∃ Y, owns (c : Thread nD τ) arg12 fullShare Y) ∗ (∃ Y, owns (c : Thread nD τ) arg13 fullShare Y) ∗ (∃ Y, owns (c : Thread nD τ) arg14 fullShare Y) ∗ (∃ Y, owns (c : Thread nD τ) arg15 fullShare Y) ∗ (∃ Y, owns (c : Thread nD τ) arg16 fullShare Y)) -∗ K ⟨⟩))
      ⊢ wp Idealize.ShloMosaic.frame (wpE (defs₀ (F := F)) 𝒱₀ (c : Thread nD τ) none) Set.univ (cc0_mixllm_linear (F := F) i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16) K := by
  simp only [cc0_mixllm_linear_eq_skeleton]
  unfold cc0_mixllm_linear_skel
  simp only [k0_part7_eq_skeleton, k0_part8_eq_skeleton, k0_part9_eq_skeleton, k0_part10_eq_skeleton]
  unfold k0_part7_skel k0_part8_skel k0_part9_skel k0_part10_skel
  unfold owns
  iintro ⟨⟨%f1, %e1, H1⟩, ⟨%f2, %e2, H2⟩, ⟨%f3, %e3, H3⟩, ⟨%f4, %e4, H4⟩, ⟨%f5, %e5, H5⟩, ⟨%f6, %e6, H6⟩, ⟨%Y7, %f7, -, H7⟩, ⟨%Y8, %f8, -, H8⟩, ⟨%Y9, %f9, -, H9⟩, ⟨%Y10, %f10, -, H10⟩, ⟨%Y11, %f11, -, H11⟩, ⟨%Y12, %f12, -, H12⟩, ⟨%Y13, %f13, -, H13⟩, ⟨%Y14, %f14, -, H14⟩, ⟨%Y15, %f15, -, H15⟩, ⟨%Y16, %f16, -, H16⟩, Hk⟩
  sl_exec
  iapply (Scf.wp_for_bind Idealize.ShloMosaic.frame (wpE (defs₀ (F := F)) 𝒱₀ (c : Thread nD τ) none) Set.univ _ _ _ (k0_t1_ok i h2) _ _
    (fun _ _ => iprop(owns (c : Thread nD τ) arg1 fullShare X1 ∗ owns (c : Thread nD τ) arg15 fullShare _ ∗ ∃ Y, owns (c : Thread nD τ) arg16 fullShare Y))
    (fun k a => trip_t1 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 X1 hr _ h2 _ k a)) $$ [H1 H15 H16]
  · unfold owns
    isplitl [H1]
    · iexists f1; isplitr; · ipureintro; exact e1
      iexact H1
    isplitl [H15]
    · iexists _; isplitr; swap; · iexact H15
      ipureintro; rfl
    iexists _, _; isplitr; swap; · iexact H16
    ipureintro; rfl
  iintro %a ⟨H1, H15, ⟨%Z16, H16⟩⟩
  unfold owns
  icases H1 with ⟨%f1', %e1', H1⟩
  icases H15 with ⟨%f15', -, H15⟩
  icases H16 with ⟨%f16', -, H16⟩
  sl_exec
  sl_step
  iapply Hk
  isplitl [H1]
  · iexists f1'; isplitr; · ipureintro; exact e1'
    iexact H1
  isplitl [H2]
  · iexists f2; isplitr; · ipureintro; exact e2
    iexact H2
  isplitl [H3]
  · iexists f3; isplitr; · ipureintro; exact e3
    iexact H3
  isplitl [H4]
  · iexists f4; isplitr; · ipureintro; exact e4
    iexact H4
  isplitl [H5]
  · iexists f5; isplitr; · ipureintro; exact e5
    iexact H5
  isplitl [H6]
  · iexists f6; isplitr; · ipureintro; exact e6
    iexact H6
  isplitl [H7]
  · iexists _, _; isplitr; swap; · iexact H7
    ipureintro; rfl
  isplitl [H8]
  · iexists _, _; isplitr; swap; · iexact H8
    ipureintro; rfl
  isplitl [H9]
  · iexists _, _; isplitr; swap; · iexact H9
    ipureintro; rfl
  isplitl [H10]
  · iexists _, _; isplitr; swap; · iexact H10
    ipureintro; rfl
  isplitl [H11]
  · iexists _, _; isplitr; swap; · iexact H11
    ipureintro; rfl
  isplitl [H12]
  · iexists _, _; isplitr; swap; · iexact H12
    ipureintro; rfl
  isplitl [H13]
  · iexists _, _; isplitr; swap; · iexact H13
    ipureintro; rfl
  isplitl [H14]
  · iexists _, _; isplitr; swap; · iexact H14
    ipureintro; rfl
  isplitl [H15]
  · iexists _, _; isplitr; swap; · iexact H15
    ipureintro; rfl
  iexists _, _; isplitr; swap; · iexact H16
  ipureintro; rfl

/-- The body at a point of the 8-bit rows. The row table and the weights are read and stay; everything else holds something after. -/
theorem run_eight (X1 : S9728.Idx → BitVec 32) (X2 : S256x2560.Idx → Elt F .bf16) (X3 : S256x2560.Idx → BitVec 8) (X4 : S512x20.Idx → Elt F .bf16) (X5 : S512x2560.Idx → BitVec 8) (X6 : S512x1.Idx → Elt F .f32) (hr : InRange X1) (h1 : ¬ k0_cond1 i = 1#1) (h2 : ¬ k0_cond2 i = 1#1) (h3 : k0_cond3 i = 1#1) (h4 : ¬ k0_cond4 i = 1#1) (K : PUnit → sProp 𝕄) :
    iprop(owns (c : Thread nD τ) arg1 fullShare X1 ∗ owns (c : Thread nD τ) arg2 fullShare X2 ∗ owns (c : Thread nD τ) arg3 fullShare X3 ∗ owns (c : Thread nD τ) arg4 fullShare X4 ∗ owns (c : Thread nD τ) arg5 fullShare X5 ∗ owns (c : Thread nD τ) arg6 fullShare X6 ∗ (∃ Y, owns (c : Thread nD τ) arg7 fullShare Y) ∗ (∃ Y, owns (c : Thread nD τ) arg8 fullShare Y) ∗ (∃ Y, owns (c : Thread nD τ) arg9 fullShare Y) ∗ (∃ Y, owns (c : Thread nD τ) arg10 fullShare Y) ∗ (∃ Y, owns (c : Thread nD τ) arg11 fullShare Y) ∗ (∃ Y, owns (c : Thread nD τ) arg12 fullShare Y) ∗ (∃ Y, owns (c : Thread nD τ) arg13 fullShare Y) ∗ (∃ Y, owns (c : Thread nD τ) arg14 fullShare Y) ∗ (∃ Y, owns (c : Thread nD τ) arg15 fullShare Y) ∗ (∃ Y, owns (c : Thread nD τ) arg16 fullShare Y) ∗ ((owns (c : Thread nD τ) arg1 fullShare X1 ∗ owns (c : Thread nD τ) arg2 fullShare X2 ∗ owns (c : Thread nD τ) arg3 fullShare X3 ∗ owns (c : Thread nD τ) arg4 fullShare X4 ∗ owns (c : Thread nD τ) arg5 fullShare X5 ∗ owns (c : Thread nD τ) arg6 fullShare X6 ∗ (∃ Y, owns (c : Thread nD τ) arg7 fullShare Y) ∗ (∃ Y, owns (c : Thread nD τ) arg8 fullShare Y) ∗ (∃ Y, owns (c : Thread nD τ) arg9 fullShare Y) ∗ (∃ Y, owns (c : Thread nD τ) arg10 fullShare Y) ∗ (∃ Y, owns (c : Thread nD τ) arg11 fullShare Y) ∗ (∃ Y, owns (c : Thread nD τ) arg12 fullShare Y) ∗ (∃ Y, owns (c : Thread nD τ) arg13 fullShare Y) ∗ (∃ Y, owns (c : Thread nD τ) arg14 fullShare Y) ∗ (∃ Y, owns (c : Thread nD τ) arg15 fullShare Y) ∗ (∃ Y, owns (c : Thread nD τ) arg16 fullShare Y)) -∗ K ⟨⟩))
      ⊢ wp Idealize.ShloMosaic.frame (wpE (defs₀ (F := F)) 𝒱₀ (c : Thread nD τ) none) Set.univ (cc0_mixllm_linear (F := F) i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16) K := by
  simp only [cc0_mixllm_linear_eq_skeleton]
  unfold cc0_mixllm_linear_skel
  unfold owns
  iintro ⟨⟨%f1, %e1, H1⟩, ⟨%f2, %e2, H2⟩, ⟨%f3, %e3, H3⟩, ⟨%f4, %e4, H4⟩, ⟨%f5, %e5, H5⟩, ⟨%f6, %e6, H6⟩, ⟨%Y7, %f7, -, H7⟩, ⟨%Y8, %f8, -, H8⟩, ⟨%Y9, %f9, -, H9⟩, ⟨%Y10, %f10, -, H10⟩, ⟨%Y11, %f11, -, H11⟩, ⟨%Y12, %f12, -, H12⟩, ⟨%Y13, %f13, -, H13⟩, ⟨%Y14, %f14, -, H14⟩, ⟨%Y15, %f15, -, H15⟩, ⟨%Y16, %f16, -, H16⟩, Hk⟩
  sl_exec
  iapply (Scf.wp_for_bind Idealize.ShloMosaic.frame (wpE (defs₀ (F := F)) 𝒱₀ (c : Thread nD τ) none) Set.univ _ _ _ (k0_t2_ok i h3) _ _
    (fun _ _ => iprop(owns (c : Thread nD τ) arg1 fullShare X1 ∗ owns (c : Thread nD τ) arg15 fullShare _ ∗ ∃ Y, owns (c : Thread nD τ) arg16 fullShare Y))
    (fun k a => trip_t2 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 X1 hr _ h3 _ k a)) $$ [H1 H15 H16]
  · unfold owns
    isplitl [H1]
    · iexists f1; isplitr; · ipureintro; exact e1
      iexact H1
    isplitl [H15]
    · iexists _; isplitr; swap; · iexact H15
      ipureintro; rfl
    iexists _, _; isplitr; swap; · iexact H16
    ipureintro; rfl
  iintro %a ⟨H1, H15, ⟨%Z16, H16⟩⟩
  unfold owns
  icases H1 with ⟨%f1', %e1', H1⟩
  icases H15 with ⟨%f15', -, H15⟩
  icases H16 with ⟨%f16', -, H16⟩
  sl_exec
  sl_step
  iapply Hk
  isplitl [H1]
  · iexists f1'; isplitr; · ipureintro; exact e1'
    iexact H1
  isplitl [H2]
  · iexists f2; isplitr; · ipureintro; exact e2
    iexact H2
  isplitl [H3]
  · iexists f3; isplitr; · ipureintro; exact e3
    iexact H3
  isplitl [H4]
  · iexists f4; isplitr; · ipureintro; exact e4
    iexact H4
  isplitl [H5]
  · iexists f5; isplitr; · ipureintro; exact e5
    iexact H5
  isplitl [H6]
  · iexists f6; isplitr; · ipureintro; exact e6
    iexact H6
  isplitl [H7]
  · iexists _, _; isplitr; swap; · iexact H7
    ipureintro; rfl
  isplitl [H8]
  · iexists _, _; isplitr; swap; · iexact H8
    ipureintro; rfl
  isplitl [H9]
  · iexists _, _; isplitr; swap; · iexact H9
    ipureintro; rfl
  isplitl [H10]
  · iexists _, _; isplitr; swap; · iexact H10
    ipureintro; rfl
  isplitl [H11]
  · iexists _, _; isplitr; swap; · iexact H11
    ipureintro; rfl
  isplitl [H12]
  · iexists _, _; isplitr; swap; · iexact H12
    ipureintro; rfl
  isplitl [H13]
  · iexists _, _; isplitr; swap; · iexact H13
    ipureintro; rfl
  isplitl [H14]
  · iexists _, _; isplitr; swap; · iexact H14
    ipureintro; rfl
  isplitl [H15]
  · iexists _, _; isplitr; swap; · iexact H15
    ipureintro; rfl
  iexists _, _; isplitr; swap; · iexact H16
  ipureintro; rfl

/-- The body at the last point: the last block of 8-bit rows is done and the output is written. The row table and the weights are read and stay; everything else holds something after. -/
theorem run_last (X1 : S9728.Idx → BitVec 32) (X2 : S256x2560.Idx → Elt F .bf16) (X3 : S256x2560.Idx → BitVec 8) (X4 : S512x20.Idx → Elt F .bf16) (X5 : S512x2560.Idx → BitVec 8) (X6 : S512x1.Idx → Elt F .f32) (hr : InRange X1) (h1 : ¬ k0_cond1 i = 1#1) (h2 : ¬ k0_cond2 i = 1#1) (h3 : k0_cond3 i = 1#1) (h4 : k0_cond4 i = 1#1) (K : PUnit → sProp 𝕄) :
    iprop(owns (c : Thread nD τ) arg1 fullShare X1 ∗ owns (c : Thread nD τ) arg2 fullShare X2 ∗ owns (c : Thread nD τ) arg3 fullShare X3 ∗ owns (c : Thread nD τ) arg4 fullShare X4 ∗ owns (c : Thread nD τ) arg5 fullShare X5 ∗ owns (c : Thread nD τ) arg6 fullShare X6 ∗ (∃ Y, owns (c : Thread nD τ) arg7 fullShare Y) ∗ (∃ Y, owns (c : Thread nD τ) arg8 fullShare Y) ∗ (∃ Y, owns (c : Thread nD τ) arg9 fullShare Y) ∗ (∃ Y, owns (c : Thread nD τ) arg10 fullShare Y) ∗ (∃ Y, owns (c : Thread nD τ) arg11 fullShare Y) ∗ (∃ Y, owns (c : Thread nD τ) arg12 fullShare Y) ∗ (∃ Y, owns (c : Thread nD τ) arg13 fullShare Y) ∗ (∃ Y, owns (c : Thread nD τ) arg14 fullShare Y) ∗ (∃ Y, owns (c : Thread nD τ) arg15 fullShare Y) ∗ (∃ Y, owns (c : Thread nD τ) arg16 fullShare Y) ∗ ((owns (c : Thread nD τ) arg1 fullShare X1 ∗ owns (c : Thread nD τ) arg2 fullShare X2 ∗ owns (c : Thread nD τ) arg3 fullShare X3 ∗ owns (c : Thread nD τ) arg4 fullShare X4 ∗ owns (c : Thread nD τ) arg5 fullShare X5 ∗ owns (c : Thread nD τ) arg6 fullShare X6 ∗ (∃ Y, owns (c : Thread nD τ) arg7 fullShare Y) ∗ (∃ Y, owns (c : Thread nD τ) arg8 fullShare Y) ∗ (∃ Y, owns (c : Thread nD τ) arg9 fullShare Y) ∗ (∃ Y, owns (c : Thread nD τ) arg10 fullShare Y) ∗ (∃ Y, owns (c : Thread nD τ) arg11 fullShare Y) ∗ (∃ Y, owns (c : Thread nD τ) arg12 fullShare Y) ∗ (∃ Y, owns (c : Thread nD τ) arg13 fullShare Y) ∗ (∃ Y, owns (c : Thread nD τ) arg14 fullShare Y) ∗ (∃ Y, owns (c : Thread nD τ) arg15 fullShare Y) ∗ (∃ Y, owns (c : Thread nD τ) arg16 fullShare Y)) -∗ K ⟨⟩))
      ⊢ wp Idealize.ShloMosaic.frame (wpE (defs₀ (F := F)) 𝒱₀ (c : Thread nD τ) none) Set.univ (cc0_mixllm_linear (F := F) i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16) K := by
  simp only [cc0_mixllm_linear_eq_skeleton]
  unfold cc0_mixllm_linear_skel
  simp only [k0_part15_eq_skeleton, k0_part16_eq_skeleton, k0_part17_eq_skeleton, k0_part18_eq_skeleton, k0_part19_eq_skeleton, k0_part20_eq_skeleton, k0_part21_eq_skeleton, k0_part22_eq_skeleton, k0_part23_eq_skeleton, k0_part24_eq_skeleton, k0_part25_eq_skeleton, k0_part26_eq_skeleton, k0_part27_eq_skeleton, k0_part28_eq_skeleton, k0_part29_eq_skeleton, k0_part30_eq_skeleton, k0_part31_eq_skeleton, k0_part32_eq_skeleton, k0_part33_eq_skeleton, k0_part34_eq_skeleton, k0_part35_eq_skeleton, k0_part36_eq_skeleton, k0_part37_eq_skeleton, k0_part38_eq_skeleton]
  unfold k0_part15_skel k0_part16_skel k0_part17_skel k0_part18_skel k0_part19_skel k0_part20_skel k0_part21_skel k0_part22_skel k0_part23_skel k0_part24_skel k0_part25_skel k0_part26_skel k0_part27_skel k0_part28_skel k0_part29_skel k0_part30_skel k0_part31_skel k0_part32_skel k0_part33_skel k0_part34_skel k0_part35_skel k0_part36_skel k0_part37_skel k0_part38_skel
  unfold owns
  iintro ⟨⟨%f1, %e1, H1⟩, ⟨%f2, %e2, H2⟩, ⟨%f3, %e3, H3⟩, ⟨%f4, %e4, H4⟩, ⟨%f5, %e5, H5⟩, ⟨%f6, %e6, H6⟩, ⟨%Y7, %f7, -, H7⟩, ⟨%Y8, %f8, -, H8⟩, ⟨%Y9, %f9, -, H9⟩, ⟨%Y10, %f10, -, H10⟩, ⟨%Y11, %f11, -, H11⟩, ⟨%Y12, %f12, -, H12⟩, ⟨%Y13, %f13, -, H13⟩, ⟨%Y14, %f14, -, H14⟩, ⟨%Y15, %f15, -, H15⟩, ⟨%Y16, %f16, -, H16⟩, Hk⟩
  sl_exec
  iapply (Scf.wp_for_bind Idealize.ShloMosaic.frame (wpE (defs₀ (F := F)) 𝒱₀ (c : Thread nD τ) none) Set.univ _ _ _ (k0_t2_ok i h3) _ _
    (fun _ _ => iprop(owns (c : Thread nD τ) arg1 fullShare X1 ∗ owns (c : Thread nD τ) arg15 fullShare _ ∗ ∃ Y, owns (c : Thread nD τ) arg16 fullShare Y))
    (fun k a => trip_t2 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 X1 hr _ h3 _ k a)) $$ [H1 H15 H16]
  · unfold owns
    isplitl [H1]
    · iexists f1; isplitr; · ipureintro; exact e1
      iexact H1
    isplitl [H15]
    · iexists _; isplitr; swap; · iexact H15
      ipureintro; rfl
    iexists _, _; isplitr; swap; · iexact H16
    ipureintro; rfl
  iintro %a ⟨H1, H15, ⟨%Z16, H16⟩⟩
  unfold owns
  icases H1 with ⟨%f1', %e1', H1⟩
  icases H15 with ⟨%f15', -, H15⟩
  icases H16 with ⟨%f16', -, H16⟩
  sl_exec
  sl_step
  iapply Hk
  isplitl [H1]
  · iexists f1'; isplitr; · ipureintro; exact e1'
    iexact H1
  isplitl [H2]
  · iexists f2; isplitr; · ipureintro; exact e2
    iexact H2
  isplitl [H3]
  · iexists f3; isplitr; · ipureintro; exact e3
    iexact H3
  isplitl [H4]
  · iexists f4; isplitr; · ipureintro; exact e4
    iexact H4
  isplitl [H5]
  · iexists f5; isplitr; · ipureintro; exact e5
    iexact H5
  isplitl [H6]
  · iexists f6; isplitr; · ipureintro; exact e6
    iexact H6
  isplitl [H7]
  · iexists _, _; isplitr; swap; · iexact H7
    ipureintro; rfl
  isplitl [H8]
  · iexists _, _; isplitr; swap; · iexact H8
    ipureintro; rfl
  isplitl [H9]
  · iexists _, _; isplitr; swap; · iexact H9
    ipureintro; rfl
  isplitl [H10]
  · iexists _, _; isplitr; swap; · iexact H10
    ipureintro; rfl
  isplitl [H11]
  · iexists _, _; isplitr; swap; · iexact H11
    ipureintro; rfl
  isplitl [H12]
  · iexists _, _; isplitr; swap; · iexact H12
    ipureintro; rfl
  isplitl [H13]
  · iexists _, _; isplitr; swap; · iexact H13
    ipureintro; rfl
  isplitl [H14]
  · iexists _, _; isplitr; swap; · iexact H14
    ipureintro; rfl
  isplitl [H15]
  · iexists _, _; isplitr; swap; · iexact H15
    ipureintro; rfl
  iexists _, _; isplitr; swap; · iexact H16
  ipureintro; rfl

end Cert.Proof.Kernel
end
-- ==== Proof.BitsFrame.lean ====
module

public import proofs.«01_k».proof.Proof.Gen.Kernel
public import proofs.«01_k».proof.Proof.Gen.Kernel.Skeleton
public import proofs.«01_k».proof.Proof.Gen.Kernel.Loops
public import proofs.«01_k».proof.Proof.Gen.Kernel.Launch
public import proofs.«01_k».proof.Proof.Gen.Kernel.Points
public import proofs.«01_k».proof.Proof.Gen.Kernel.Frame
public import proofs.«01_k».proof.Proof.BitsRun
public import Idealize.ShloMosaic.Lib.Pipeline.Frame
public import Idealize.ShloMosaic.Lib.Pipeline.FrameSuffix
public import Idealize.ShloMosaic.Lib.Tactic

@[expose] public section

set_option maxRecDepth 16384

noncomputable section

namespace Cert.Proof.Kernel

open Cert.Kernel Cert.Kernel.Gen
open Idealize.ShloMosaic Idealize.ShloMosaic.TcCoe Idealize.ShloMosaic.Tactic
open Idealize.SL Idealize.SL.RA Idealize.SL.BI
open scoped Idealize.SL.BI
open Idealize.ShloMosaic.Pipeline (Dat BodyObligation)
open Idealize.SL.BI.BIBase Idealize.SL.BI.Laws Idealize.SL.ProofMode Idealize.SL.Sem

variable {F : FTy → Type} [BitOps F] [∀ e, Nonempty (Elt F e)]

local notation "𝕄" => MT nD τ sig Unit (Elt F) ℕ (UU nD τ) ℕ

variable (m : (ℓ : Loc nD τ sig) → Buf (Elt F) ℓ) (ρ : Dev nD → PrngReg)

/-- The tokens are quantised at the first point. -/
theorem cond1_iff (t : Fin cfg0.N) : k0_cond1 (grid0.coords t) = 1#1 ↔ t.val = 0 := by
  revert t; exact (by decide +kernel : ∀ t : Fin grid0.N, k0_cond1 (grid0.coords t) = 1#1 ↔ t.val = 0)
/-- The first sixteen points do the 4-bit rows. -/
theorem cond2_iff (t : Fin cfg0.N) : k0_cond2 (grid0.coords t) = 1#1 ↔ t.val < 16 := by
  revert t; exact (by decide +kernel : ∀ t : Fin grid0.N, k0_cond2 (grid0.coords t) = 1#1 ↔ t.val < 16)
/-- The last three do the 8-bit rows. -/
theorem cond3_iff (t : Fin cfg0.N) : k0_cond3 (grid0.coords t) = 1#1 ↔ 16 ≤ t.val := by
  revert t; exact (by decide +kernel : ∀ t : Fin grid0.N, k0_cond3 (grid0.coords t) = 1#1 ↔ 16 ≤ t.val)
/-- The last point writes the output. -/
theorem cond4_iff (t : Fin cfg0.N) : k0_cond4 (grid0.coords t) = 1#1 ↔ t.val = 18 := by
  revert t; exact (by decide +kernel : ∀ t : Fin grid0.N, k0_cond4 (grid0.coords t) = 1#1 ↔ t.val = 18)

/-- What is carried between points, conjunct by conjunct: the scratch buffers at some contents and the generator's register. -/
theorem PhiA_eq (c : Dev nD) :
    (Pipeline.ΦA spec0 c : sProp 𝕄) = iprop(((∃ d, owns (c : Thread nD τ) (Memref.whole cc0_scratch0) fullShare d) ∗ (∃ d, owns (c : Thread nD τ) (Memref.whole cc0_scratch1) fullShare d) ∗ (∃ d, owns (c : Thread nD τ) (Memref.whole cc0_scratch2) fullShare d) ∗ (∃ d, owns (c : Thread nD τ) (Memref.whole cc0_scratch3) fullShare d) ∗ (∃ d, owns (c : Thread nD τ) (Memref.whole cc0_scratch4) fullShare d) ∗ (∃ d, owns (c : Thread nD τ) (Memref.whole cc0_scratch5) fullShare d) ∗ (∃ d, owns (c : Thread nD τ) (Memref.whole cc0_scratch6) fullShare d)) ∗ (∃ r, prngReg c r)) := by
  unfold Pipeline.ΦA
  rw [scopedRest0_eq]; simp only [owns_whole]; try rfl

/-- The three outputs are forgotten: nothing here reads what the body leaves in them. -/
def forgets : Fin 9 → Bool := fun | 6 => true | 7 => true | 8 => true | _ => false

/-- The proof data: the arrays as the region finds them, the inputs' blocks left in place, the outputs unnamed. -/
def dats (_ : Fin 1) (c : Dev nD) : Dat τ (Elt F) Unit ℕ (UU nD τ) ℕ cfg0 c where
  A w := V m c (Pipeline.arrRef spec0 w)
  after := fun
    | 0 => fun t => iblk m c 0 t | 1 => fun t => iblk m c 1 t | 2 => fun t => iblk m c 2 t
    | 3 => fun t => iblk m c 3 t | 4 => fun t => iblk m c 4 t | 5 => fun t => iblk m c 5 t
    | 6 => fun t => Pipeline.Dat.unnamed (cfg := cfg0) 6 t | 7 => fun t => Pipeline.Dat.unnamed (cfg := cfg0) 7 t | 8 => fun t => Pipeline.Dat.unnamed (cfg := cfg0) 8 t
  Φ _ := Pipeline.ΦA spec0 c
  q _ := fullShare
  owed _ := 0

/-- The arrays that the region finds. -/
theorem A_eq (c : Dev nD) (w : Fin cfg0.W) : (dats m 0 c).A w = V m c (Pipeline.arrRef spec0 w) := by dsimp only [dats]

/-- What the body is called with at a point. -/
def bodyPre (c : Dev nD) (t : Fin cfg0.N) : sProp 𝕄 :=
  iprop((dats m 0 c).Φ t.castSucc ∗ (dats m 0 c).owesAt () t.castSucc ∗ (∃ d, owns (c : Thread nD τ) (st0_0 t) fullShare ((dats m 0 c).before 0 t d)) ∗ (∃ d, owns (c : Thread nD τ) (st0_1 t) fullShare ((dats m 0 c).before 1 t d)) ∗ (∃ d, owns (c : Thread nD τ) (st0_2 t) fullShare ((dats m 0 c).before 2 t d)) ∗ (∃ d, owns (c : Thread nD τ) (st0_3 t) fullShare ((dats m 0 c).before 3 t d)) ∗ (∃ d, owns (c : Thread nD τ) (st0_4 t) fullShare ((dats m 0 c).before 4 t d)) ∗ (∃ d, owns (c : Thread nD τ) (st0_5 t) fullShare ((dats m 0 c).before 5 t d)) ∗ (∃ d, owns (c : Thread nD τ) (st0_6 t) fullShare d) ∗ (∃ d, owns (c : Thread nD τ) (st0_7 t) fullShare d) ∗ (∃ d, owns (c : Thread nD τ) (st0_8 t) fullShare d))
/-- What it returns. -/
def bodyPost (c : Dev nD) (t : Fin cfg0.N) : sProp 𝕄 :=
  iprop((dats m 0 c).Φ t.succ ∗ (dats m 0 c).owesAt () t.succ ∗ owns (c : Thread nD τ) (st0_0 t) fullShare (iblk m c 0 t) ∗ owns (c : Thread nD τ) (st0_1 t) fullShare (iblk m c 1 t) ∗ owns (c : Thread nD τ) (st0_2 t) fullShare (iblk m c 2 t) ∗ owns (c : Thread nD τ) (st0_3 t) fullShare (iblk m c 3 t) ∗ owns (c : Thread nD τ) (st0_4 t) fullShare (iblk m c 4 t) ∗ owns (c : Thread nD τ) (st0_5 t) fullShare (iblk m c 5 t) ∗ (∃ d, owns (c : Thread nD τ) (st0_6 t) fullShare d) ∗ (∃ d, owns (c : Thread nD τ) (st0_7 t) fullShare d) ∗ (∃ d, owns (c : Thread nD τ) (st0_8 t) fullShare d))

/-- The body at a point, from the row table being in range. -/
theorem sound_body (c : Dev nD) (t : Fin cfg0.N) (hr : InRange (iblk m c 0 t)) :
    bodyPre m c t ⊢ wp Idealize.ShloMosaic.frame (wpE (defs₀ (F := F)) 𝒱₀ (c : Thread nD τ) none) Set.univ (bodyAt0 t) (fun _ => bodyPost m c t) := by
  unfold bodyPre bodyPost bodyAt0
  rw [show (dats m 0 c).Φ t.succ = (dats m 0 c).Φ t.castSucc from rfl,
    show (dats m 0 c).owesAt () t.succ = (dats m 0 c).owesAt () t.castSucc from rfl,
    show (dats m 0 c).Φ t.castSucc = Pipeline.ΦA spec0 c from rfl, PhiA_eq]
  simp only [before0_0_of m (dats m 0 c) (A_eq m c 0) (fun _ => rfl), before0_1_of m (dats m 0 c) (A_eq m c 1) (fun _ => rfl),
    before0_2_of m (dats m 0 c) (A_eq m c 2) (fun _ => rfl), before0_3_of m (dats m 0 c) (A_eq m c 3) (fun _ => rfl),
    before0_4_of m (dats m 0 c) (A_eq m c 4) (fun _ => rfl), before0_5_of m (dats m 0 c) (A_eq m c 5) (fun _ => rfl)]
  iintro ⟨⟨⟨H10, H11, H12, H13, H14, H15, H16⟩, Hg⟩, HO, ⟨%d0, H1⟩, ⟨%d1, H2⟩, ⟨%d2, H3⟩, ⟨%d3, H4⟩, ⟨%d4, H5⟩, ⟨%d5, H6⟩, H7, H8, H9⟩
  have hc1 := cond1_iff t
  have hc2 := cond2_iff t
  have hc3 := cond3_iff t
  have hc4 := cond4_iff t
  have hN : t.val < 19 := t.isLt
  by_cases h0 : t.val = 0
  · iapply (run_first c (grid0.coords t) _ _ _ _ _ _ _ _ _ _ _ _ _ _ _ _ _ _ _ _ _ _ _ _ _ _ _ _ _ _ _ _ (iblk m c 0 t) (iblk m c 1 t) (iblk m c 2 t) (iblk m c 3 t) (iblk m c 4 t) (iblk m c 5 t) hr (hc1.mpr h0) (hc2.mpr (by omega)) (fun h => absurd (hc3.mp h) (by omega)) (fun h => absurd (hc4.mp h) (by omega)))
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    isplitl [H14]; · iexact H14
    isplitl [H15]; · iexact H15
    isplitl [H16]; · iexact H16
    iintro ⟨H1, H2, H3, H4, H5, H6, H7, H8, H9, H10, H11, H12, H13, H14, H15, H16⟩
    isplitl [H10 H11 H12 H13 H14 H15 H16 Hg]
    · isplitl [H10 H11 H12 H13 H14 H15 H16]
      · isplitl [H10]; · iexact H10
        isplitl [H11]; · iexact H11
        isplitl [H12]; · iexact H12
        isplitl [H13]; · iexact H13
        isplitl [H14]; · iexact H14
        isplitl [H15]; · iexact H15
        iexact H16
      iexact Hg
    isplitl [HO]; · iexact HO
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    iexact H9
  by_cases hf : t.val < 16
  · iapply (run_four c (grid0.coords t) _ _ _ _ _ _ _ _ _ _ _ _ _ _ _ _ _ _ _ _ _ _ _ _ _ _ _ _ _ _ _ _ (iblk m c 0 t) (iblk m c 1 t) (iblk m c 2 t) (iblk m c 3 t) (iblk m c 4 t) (iblk m c 5 t) hr (fun h => absurd (hc1.mp h) h0) (hc2.mpr hf) (fun h => absurd (hc3.mp h) (by omega)) (fun h => absurd (hc4.mp h) (by omega)))
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    isplitl [H14]; · iexact H14
    isplitl [H15]; · iexact H15
    isplitl [H16]; · iexact H16
    iintro ⟨H1, H2, H3, H4, H5, H6, H7, H8, H9, H10, H11, H12, H13, H14, H15, H16⟩
    isplitl [H10 H11 H12 H13 H14 H15 H16 Hg]
    · isplitl [H10 H11 H12 H13 H14 H15 H16]
      · isplitl [H10]; · iexact H10
        isplitl [H11]; · iexact H11
        isplitl [H12]; · iexact H12
        isplitl [H13]; · iexact H13
        isplitl [H14]; · iexact H14
        isplitl [H15]; · iexact H15
        iexact H16
      iexact Hg
    isplitl [HO]; · iexact HO
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    iexact H9
  by_cases hl : t.val = 18
  · iapply (run_last c (grid0.coords t) _ _ _ _ _ _ _ _ _ _ _ _ _ _ _ _ _ _ _ _ _ _ _ _ _ _ _ _ _ _ _ _ (iblk m c 0 t) (iblk m c 1 t) (iblk m c 2 t) (iblk m c 3 t) (iblk m c 4 t) (iblk m c 5 t) hr (fun h => absurd (hc1.mp h) h0) (fun h => hf (hc2.mp h)) (hc3.mpr (by omega)) (hc4.mpr hl))
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    isplitl [H14]; · iexact H14
    isplitl [H15]; · iexact H15
    isplitl [H16]; · iexact H16
    iintro ⟨H1, H2, H3, H4, H5, H6, H7, H8, H9, H10, H11, H12, H13, H14, H15, H16⟩
    isplitl [H10 H11 H12 H13 H14 H15 H16 Hg]
    · isplitl [H10 H11 H12 H13 H14 H15 H16]
      · isplitl [H10]; · iexact H10
        isplitl [H11]; · iexact H11
        isplitl [H12]; · iexact H12
        isplitl [H13]; · iexact H13
        isplitl [H14]; · iexact H14
        isplitl [H15]; · iexact H15
        iexact H16
      iexact Hg
    isplitl [HO]; · iexact HO
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    iexact H9
  iapply (run_eight c (grid0.coords t) _ _ _ _ _ _ _ _ _ _ _ _ _ _ _ _ _ _ _ _ _ _ _ _ _ _ _ _ _ _ _ _ (iblk m c 0 t) (iblk m c 1 t) (iblk m c 2 t) (iblk m c 3 t) (iblk m c 4 t) (iblk m c 5 t) hr (fun h => absurd (hc1.mp h) h0) (fun h => hf (hc2.mp h)) (hc3.mpr (by omega)) (fun h => hl (hc4.mp h)))
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  iintro ⟨H1, H2, H3, H4, H5, H6, H7, H8, H9, H10, H11, H12, H13, H14, H15, H16⟩
  isplitl [H10 H11 H12 H13 H14 H15 H16 Hg]
  · isplitl [H10 H11 H12 H13 H14 H15 H16]
    · isplitl [H10]; · iexact H10
      isplitl [H11]; · iexact H11
      isplitl [H12]; · iexact H12
      isplitl [H13]; · iexact H13
      isplitl [H14]; · iexact H14
      isplitl [H15]; · iexact H15
      iexact H16
    iexact Hg
  isplitl [HO]; · iexact HO
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  iexact H9

/-- The body table's row at the point is the body as `bodyAt0` spells it. -/
theorem defs₀_row (t : Fin cfg0.N) : defs₀ (F := F) .tc cfg0.body (cfg0.bodyArgs t (cfg0.slots t)) = bodyAt0 t := by
  unfold defs₀; rw [Defs.onTc_tc]

/-- Every entry of the table array, read through its block, is in range when the array is. -/
theorem inRange_iblk (c : Dev nD) (t : Fin cfg0.N) (h : InRange (m ((c : Thread nD τ).loc main_arg1))) : InRange (iblk m c 0 t) := fun x => by
  unfold iblk
  rw [View.read_apply, cast_eq]
  have e : V m c (Pipeline.arrRef spec0 0) = m ((c : Thread nD τ).loc main_arg1) := V_main_arg1 m c
  rw [e]
  exact h _

/-- The library's body obligation with the outputs forgotten. -/
theorem body_obligation (h : ∀ c : Dev nD, InRange (m ((c : Thread nD τ).loc main_arg1))) (c : Dev nD) :
    BodyObligation (dats (F := F) m 0 c) (defs₀ (F := F)) 𝒱₀ () Set.univ forgets := fun t => by
  rw [bigSep_W0, bigSep_W0, defs₀_row]
  exact triple_restated (sound_body m c t (inRange_iblk m c t (h c))) rfl .rfl fun _ => .rfl

/-- The buffers the operations after the region write. -/
def tail : Finset (Ref sig .tc) := {main_v3, main_v4}

theorem tail_writes : ∀ ops ∈ ([hostOps1] : List (List (HloOp τ sig (Elt F)))), ∀ op ∈ ops, ∀ b : Ref sig .tc, Proc.devRef .tc b ∈ op.writes → b ∈ tail := by
  intro ops hops op hop b hb
  simp only [List.mem_singleton] at hops
  subst hops
  simp only [hostOps1, List.mem_cons, List.not_mem_nil, or_false] at hop
  rcases hop with rfl | rfl
  · simp only [StableHlo.reshape_writes, Finset.mem_singleton] at hb
    have e : b = main_v3 := by
      by_contra hne
      exact StableHlo.devRef_ne_of_ne hne hb
    subst e; decide
  · simp only [StableHlo.reshape_writes, Finset.mem_singleton] at hb
    have e : b = main_v4 := by
      by_contra hne
      exact StableHlo.devRef_ne_of_ne hne hb
    subst e; decide

set_option backward.isDefEq.respectTransparency.types false in
/-- From any memory whose row table is in range and zero counters: every weakly fair execution of @main terminates, and in every final state the
    inputs hold what they held and every semaphore counter is zero. -/
theorem run_main (h : ∀ c : Dev nD, InRange (m ((c : Thread nD τ).loc main_arg1))) :
    θ_run defs (onTc (τ := τ) (main (F := F))) (s₀ m ρ)
      (fun r => Pipeline.RDat.FramePostR (cfgs 0) (fun c => (dats m 0 c).toRForget forgets) tail (V m) r ∧ r.2.sem = fun _ => 0) :=
  Pipeline.θ_run_frame_around_T_track_forget (Q' := _) cfgs (dats m) (0 : Fin 1) launch0 defs₀ 𝒱₀ forgets tail m ρ main
    (hbody := fun c => (body_obligation m h c).loose) (hshare := fun c => (dats m 0 c).share_full fun _ => rfl)
    (howed := fun _ _ => rfl) (V₀ := V0 m) (opss := [hostOps1]) (hsub := sfx_sub) (hfresh := sfx_fresh) (hkeep := sfx_keeps) (hT := tail_writes)
    (hmain := hmain m 𝒱₀) (hA := A_eq m)
    (hin := fun _ => .rfl) (hout := fun _ => .rfl) (hQ' := fun _ h => h)

/-- The frame claim's post. -/
theorem frame (h : ∀ c : Dev nD, InRange (m ((c : Thread nD τ).loc main_arg1))) :
    θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) ∧ r.2.sem = fun _ => 0) :=
  (θ_run defs _ _).mono (fun _ hp => ⟨fun c => ⟨
      ((hp.1 c).2 main_arg0 (Finset.mem_sdiff.mpr ⟨Pipeline.mem_restRefs_of main_arg0 (by decide) (by decide), by decide⟩)).trans (V_main_arg0 m c),
      (hp.1.arr_in c 0 rfl).trans (V_main_arg1 m c),
      (hp.1.arr_in c 4 rfl).trans (V_main_arg2 m c),
      ((hp.1 c).2 main_arg3 (Finset.mem_sdiff.mpr ⟨Pipeline.mem_restRefs_of main_arg3 (by decide) (by decide), by decide⟩)).trans (V_main_arg3 m c),
      (hp.1.arr_in c 2 rfl).trans (V_main_arg4 m c),
      (hp.1.arr_in c 3 rfl).trans (V_main_arg5 m c)⟩, hp.2⟩) (run_main m ρ h)

end Cert.Proof.Kernel
end
-- ==== Proof.IdealTrips.lean ====
module

public import proofs.«01_k».proof.Proof.Gen.KernelIdeal
public import proofs.«01_k».proof.Proof.Gen.KernelIdeal.Skeleton
public import proofs.«01_k».proof.Proof.Gen.KernelIdeal.Loops
public import proofs.«01_k».proof.Proof.Gen.KernelIdeal.Launch
public import proofs.«01_k».proof.Proof.Gen.KernelIdeal.Points
public import proofs.«01_k».proof.Proof.Gen.KernelIdeal.Frame
public import Idealize.ShloMosaic.Lib.Tactic

@[expose] public section

set_option maxRecDepth 16384

noncomputable section

namespace Cert.Proof.KernelIdeal

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F] [∀ e, Nonempty (Elt F e)]

abbrev UU (nD : Nat) (τ : Topo) : Type := UR sig nD τ
abbrev 𝒱₀ : Variants := Variants.none
local notation "𝕄" => MT nD τ sig Unit (Elt F) ℕ (UU nD τ) ℕ

/-- Every word the row table holds names an output row. -/
def InRange (f : S9728.Idx → BitVec 32) : Prop := ∀ x, (f x).toNat < 9728

/-- A word read out of a table in range names an output row. -/
theorem inRange_readAt {sp : Space} {κ : Kind} (v : View sig κ sp S9728 .i32) (f : v.ty.Contents (Elt F)) (h : InRange (v.read (Elt F) f))
    (r : LoadRect S9728) (x : r.shape.Idx) : (v.readAt (Elt F) r f x : BitVec 32).toNat < 9728 := h _

/-- The row that word 1 of a trip names lies inside the output. -/
theorem chk1_of {i : grid0.Coords} {v : BitVec 32} (h : v.toNat < 9728) : k0_chk1 i v := by
  intro _ a
  fin_cases a
  · show v.toNat + 1 ≤ 9728
    omega
  · show 0 + 2 ≤ 2
    omega
  · show 0 + 128 ≤ 128
    omega

/-- The row that word 2 of a trip names lies inside the output. -/
theorem chk2_of {i : grid0.Coords} {v : BitVec 32} (h : v.toNat < 9728) : k0_chk2 i v := by
  intro _ a
  fin_cases a
  · show v.toNat + 1 ≤ 9728
    omega
  · show 0 + 2 ≤ 2
    omega
  · show 0 + 128 ≤ 128
    omega

/-- The row that word 3 of a trip names lies inside the output. -/
theorem chk3_of {i : grid0.Coords} {v : BitVec 32} (h : v.toNat < 9728) : k0_chk3 i v := by
  intro _ a
  fin_cases a
  · show v.toNat + 1 ≤ 9728
    omega
  · show 0 + 2 ≤ 2
    omega
  · show 0 + 128 ≤ 128
    omega

/-- The row that word 4 of a trip names lies inside the output. -/
theorem chk4_of {i : grid0.Coords} {v : BitVec 32} (h : v.toNat < 9728) : k0_chk4 i v := by
  intro _ a
  fin_cases a
  · show v.toNat + 1 ≤ 9728
    omega
  · show 0 + 2 ≤ 2
    omega
  · show 0 + 128 ≤ 128
    omega

/-- The row that word 5 of a trip names lies inside the output. -/
theorem chk5_of {i : grid0.Coords} {v : BitVec 32} (h : v.toNat < 9728) : k0_chk5 i v := by
  intro _ a
  fin_cases a
  · show v.toNat + 1 ≤ 9728
    omega
  · show 0 + 2 ≤ 2
    omega
  · show 0 + 128 ≤ 128
    omega

/-- The row that word 6 of a trip names lies inside the output. -/
theorem chk6_of {i : grid0.Coords} {v : BitVec 32} (h : v.toNat < 9728) : k0_chk6 i v := by
  intro _ a
  fin_cases a
  · show v.toNat + 1 ≤ 9728
    omega
  · show 0 + 2 ≤ 2
    omega
  · show 0 + 128 ≤ 128
    omega

/-- The row that word 7 of a trip names lies inside the output. -/
theorem chk7_of {i : grid0.Coords} {v : BitVec 32} (h : v.toNat < 9728) : k0_chk7 i v := by
  intro _ a
  fin_cases a
  · show v.toNat + 1 ≤ 9728
    omega
  · show 0 + 2 ≤ 2
    omega
  · show 0 + 128 ≤ 128
    omega

/-- The row that word 8 of a trip names lies inside the output. -/
theorem chk8_of {i : grid0.Coords} {v : BitVec 32} (h : v.toNat < 9728) : k0_chk8 i v := by
  intro _ a
  fin_cases a
  · show v.toNat + 1 ≤ 9728
    omega
  · show 0 + 2 ≤ 2
    omega
  · show 0 + 128 ≤ 128
    omega

/-- The row that word 9 of a trip names lies inside the output. -/
theorem chk9_of {i : grid0.Coords} {v : BitVec 32} (h : v.toNat < 9728) : k0_chk9 i v := by
  intro _ a
  fin_cases a
  · show v.toNat + 1 ≤ 9728
    omega
  · show 0 + 2 ≤ 2
    omega
  · show 0 + 128 ≤ 128
    omega

/-- The row that word 10 of a trip names lies inside the output. -/
theorem chk10_of {i : grid0.Coords} {v : BitVec 32} (h : v.toNat < 9728) : k0_chk10 i v := by
  intro _ a
  fin_cases a
  · show v.toNat + 1 ≤ 9728
    omega
  · show 0 + 2 ≤ 2
    omega
  · show 0 + 128 ≤ 128
    omega

/-- The row that word 11 of a trip names lies inside the output. -/
theorem chk11_of {i : grid0.Coords} {v : BitVec 32} (h : v.toNat < 9728) : k0_chk11 i v := by
  intro _ a
  fin_cases a
  · show v.toNat + 1 ≤ 9728
    omega
  · show 0 + 2 ≤ 2
    omega
  · show 0 + 128 ≤ 128
    omega

/-- The row that word 12 of a trip names lies inside the output. -/
theorem chk12_of {i : grid0.Coords} {v : BitVec 32} (h : v.toNat < 9728) : k0_chk12 i v := by
  intro _ a
  fin_cases a
  · show v.toNat + 1 ≤ 9728
    omega
  · show 0 + 2 ≤ 2
    omega
  · show 0 + 128 ≤ 128
    omega

/-- The row that word 13 of a trip names lies inside the output. -/
theorem chk13_of {i : grid0.Coords} {v : BitVec 32} (h : v.toNat < 9728) : k0_chk13 i v := by
  intro _ a
  fin_cases a
  · show v.toNat + 1 ≤ 9728
    omega
  · show 0 + 2 ≤ 2
    omega
  · show 0 + 128 ≤ 128
    omega

/-- The row that word 14 of a trip names lies inside the output. -/
theorem chk14_of {i : grid0.Coords} {v : BitVec 32} (h : v.toNat < 9728) : k0_chk14 i v := by
  intro _ a
  fin_cases a
  · show v.toNat + 1 ≤ 9728
    omega
  · show 0 + 2 ≤ 2
    omega
  · show 0 + 128 ≤ 128
    omega

/-- The row that word 15 of a trip names lies inside the output. -/
theorem chk15_of {i : grid0.Coords} {v : BitVec 32} (h : v.toNat < 9728) : k0_chk15 i v := by
  intro _ a
  fin_cases a
  · show v.toNat + 1 ≤ 9728
    omega
  · show 0 + 2 ≤ 2
    omega
  · show 0 + 128 ≤ 128
    omega

/-- The row that word 16 of a trip names lies inside the output. -/
theorem chk16_of {i : grid0.Coords} {v : BitVec 32} (h : v.toNat < 9728) : k0_chk16 i v := by
  intro _ a
  fin_cases a
  · show v.toNat + 1 ≤ 9728
    omega
  · show 0 + 2 ≤ 2
    omega
  · show 0 + 128 ≤ 128
    omega

/-- The row that word 17 of a trip names lies inside the output. -/
theorem chk17_of {i : grid0.Coords} {v : BitVec 32} (h : v.toNat < 9728) : k0_chk17 i v := by
  intro _ a
  fin_cases a
  · show v.toNat + 1 ≤ 9728
    omega
  · show 0 + 2 ≤ 2
    omega
  · show 0 + 128 ≤ 128
    omega

/-- The row that word 18 of a trip names lies inside the output. -/
theorem chk18_of {i : grid0.Coords} {v : BitVec 32} (h : v.toNat < 9728) : k0_chk18 i v := by
  intro _ a
  fin_cases a
  · show v.toNat + 1 ≤ 9728
    omega
  · show 0 + 2 ≤ 2
    omega
  · show 0 + 128 ≤ 128
    omega

/-- The row that word 19 of a trip names lies inside the output. -/
theorem chk19_of {i : grid0.Coords} {v : BitVec 32} (h : v.toNat < 9728) : k0_chk19 i v := by
  intro _ a
  fin_cases a
  · show v.toNat + 1 ≤ 9728
    omega
  · show 0 + 2 ≤ 2
    omega
  · show 0 + 128 ≤ 128
    omega

/-- The row that word 20 of a trip names lies inside the output. -/
theorem chk20_of {i : grid0.Coords} {v : BitVec 32} (h : v.toNat < 9728) : k0_chk20 i v := by
  intro _ a
  fin_cases a
  · show v.toNat + 1 ≤ 9728
    omega
  · show 0 + 2 ≤ 2
    omega
  · show 0 + 128 ≤ 128
    omega

/-- The row that word 21 of a trip names lies inside the output. -/
theorem chk21_of {i : grid0.Coords} {v : BitVec 32} (h : v.toNat < 9728) : k0_chk21 i v := by
  intro _ a
  fin_cases a
  · show v.toNat + 1 ≤ 9728
    omega
  · show 0 + 2 ≤ 2
    omega
  · show 0 + 128 ≤ 128
    omega

/-- The row that word 22 of a trip names lies inside the output. -/
theorem chk22_of {i : grid0.Coords} {v : BitVec 32} (h : v.toNat < 9728) : k0_chk22 i v := by
  intro _ a
  fin_cases a
  · show v.toNat + 1 ≤ 9728
    omega
  · show 0 + 2 ≤ 2
    omega
  · show 0 + 128 ≤ 128
    omega

/-- The row that word 23 of a trip names lies inside the output. -/
theorem chk23_of {i : grid0.Coords} {v : BitVec 32} (h : v.toNat < 9728) : k0_chk23 i v := by
  intro _ a
  fin_cases a
  · show v.toNat + 1 ≤ 9728
    omega
  · show 0 + 2 ≤ 2
    omega
  · show 0 + 128 ≤ 128
    omega

/-- The row that word 24 of a trip names lies inside the output. -/
theorem chk24_of {i : grid0.Coords} {v : BitVec 32} (h : v.toNat < 9728) : k0_chk24 i v := by
  intro _ a
  fin_cases a
  · show v.toNat + 1 ≤ 9728
    omega
  · show 0 + 2 ≤ 2
    omega
  · show 0 + 128 ≤ 128
    omega

/-- The row that word 25 of a trip names lies inside the output. -/
theorem chk25_of {i : grid0.Coords} {v : BitVec 32} (h : v.toNat < 9728) : k0_chk25 i v := by
  intro _ a
  fin_cases a
  · show v.toNat + 1 ≤ 9728
    omega
  · show 0 + 2 ≤ 2
    omega
  · show 0 + 128 ≤ 128
    omega

/-- The row that word 26 of a trip names lies inside the output. -/
theorem chk26_of {i : grid0.Coords} {v : BitVec 32} (h : v.toNat < 9728) : k0_chk26 i v := by
  intro _ a
  fin_cases a
  · show v.toNat + 1 ≤ 9728
    omega
  · show 0 + 2 ≤ 2
    omega
  · show 0 + 128 ≤ 128
    omega

/-- The row that word 27 of a trip names lies inside the output. -/
theorem chk27_of {i : grid0.Coords} {v : BitVec 32} (h : v.toNat < 9728) : k0_chk27 i v := by
  intro _ a
  fin_cases a
  · show v.toNat + 1 ≤ 9728
    omega
  · show 0 + 2 ≤ 2
    omega
  · show 0 + 128 ≤ 128
    omega

/-- The row that word 28 of a trip names lies inside the output. -/
theorem chk28_of {i : grid0.Coords} {v : BitVec 32} (h : v.toNat < 9728) : k0_chk28 i v := by
  intro _ a
  fin_cases a
  · show v.toNat + 1 ≤ 9728
    omega
  · show 0 + 2 ≤ 2
    omega
  · show 0 + 128 ≤ 128
    omega

/-- The row that word 29 of a trip names lies inside the output. -/
theorem chk29_of {i : grid0.Coords} {v : BitVec 32} (h : v.toNat < 9728) : k0_chk29 i v := by
  intro _ a
  fin_cases a
  · show v.toNat + 1 ≤ 9728
    omega
  · show 0 + 2 ≤ 2
    omega
  · show 0 + 128 ≤ 128
    omega

/-- The row that word 30 of a trip names lies inside the output. -/
theorem chk30_of {i : grid0.Coords} {v : BitVec 32} (h : v.toNat < 9728) : k0_chk30 i v := by
  intro _ a
  fin_cases a
  · show v.toNat + 1 ≤ 9728
    omega
  · show 0 + 2 ≤ 2
    omega
  · show 0 + 128 ≤ 128
    omega

/-- The row that word 31 of a trip names lies inside the output. -/
theorem chk31_of {i : grid0.Coords} {v : BitVec 32} (h : v.toNat < 9728) : k0_chk31 i v := by
  intro _ a
  fin_cases a
  · show v.toNat + 1 ≤ 9728
    omega
  · show 0 + 2 ≤ 2
    omega
  · show 0 + 128 ≤ 128
    omega

/-- The row that word 32 of a trip names lies inside the output. -/
theorem chk32_of {i : grid0.Coords} {v : BitVec 32} (h : v.toNat < 9728) : k0_chk32 i v := by
  intro _ a
  fin_cases a
  · show v.toNat + 1 ≤ 9728
    omega
  · show 0 + 2 ≤ 2
    omega
  · show 0 + 128 ≤ 128
    omega

variable (c : Dev nD) (i : grid0.Coords) (arg1 : Memref sig .tc .smem S9728 .i32) (harg1 : arg1.IsWhole) (arg2 : Memref sig .tc .vmem S256x2560 .bf16) (harg2 : arg2.IsWhole) (arg3 : Memref sig .tc .vmem S256x2560 .i8) (harg3 : arg3.IsWhole) (arg4 : Memref sig .tc .vmem S512x20 .bf16) (harg4 : arg4.IsWhole) (arg5 : Memref sig .tc .vmem S512x2560 .i8) (harg5 : arg5.IsWhole) (arg6 : Memref sig .tc .vmem S512x1 .f32) (harg6 : arg6.IsWhole) (arg7 : Memref sig .tc .vmem S256x9728 .bf16) (harg7 : arg7.IsWhole) (arg8 : Memref sig .tc .vmem S256x2560 .i8) (harg8 : arg8.IsWhole) (arg9 : Memref sig .tc .vmem S2x128 .f32) (harg9 : arg9.IsWhole) (arg10 : Memref sig .tc .vmem S256x2560 .bf16) (harg10 : arg10.IsWhole) (arg11 : Memref sig .tc .vmem S256x2560 .bf16) (harg11 : arg11.IsWhole) (arg12 : Memref sig .tc .vmem S256x128 .f32) (harg12 : arg12.IsWhole) (arg13 : Memref sig .tc .vmem S8x256 .f32) (harg13 : arg13.IsWhole) (arg14 : Memref sig .tc .vmem S512x2560 .bf16) (harg14 : arg14.IsWhole) (arg15 : Memref sig .tc .vmem S512x2x128 .bf16) (harg15 : arg15.IsWhole) (arg16 : Memref sig .tc .vmem S9728x2x128 .bf16) (harg16 : arg16.IsWhole)

/-- One trip of the loop that scatters the rows of a block, between its ends: the row table and the staged rows stay, the output rows hold something. -/
theorem trip_t1 (X1 : S9728.Idx → BitVec 32) (h1 : InRange X1) (X15 : S512x2x128.Idx → Elt F .bf16) (k0_h2 : k0_cond2 i = 1#1) (v178 : BitVec 32) (k : Fin k0_t1_loop.trips) (a : Unit) :
    (iprop(owns (c : Thread nD τ) arg1 fullShare X1 ∗ owns (c : Thread nD τ) arg15 fullShare X15 ∗ ∃ Y, owns (c : Thread nD τ) arg16 fullShare Y) : sProp 𝕄)
      ⊢ wp Idealize.ShloMosaic.frame (wpE (defs₀ (F := F)) 𝒱₀ (c : Thread nD τ) none) Set.univ (k0_t1_body (F := F) i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 k0_h2 v178 k a)
        (fun _ => iprop(owns (c : Thread nD τ) arg1 fullShare X1 ∗ owns (c : Thread nD τ) arg15 fullShare X15 ∗ ∃ Y, owns (c : Thread nD τ) arg16 fullShare Y)) := by
  unfold k0_t1_body
  simp only [k0_part3_eq_skeleton, k0_part4_eq_skeleton, k0_part5_eq_skeleton, k0_part6_eq_skeleton, k0_part7_eq_skeleton, k0_part8_eq_skeleton]
  unfold k0_part3_skel k0_part4_skel k0_part5_skel k0_part6_skel k0_part7_skel k0_part8_skel
  unfold owns
  iintro ⟨⟨%f1, %e1, H1⟩, ⟨%f15, %e15, H15⟩, ⟨%Y, %f16, -, H16⟩⟩
  have hr := inRange_readAt (F := F) arg1.view f1 (e1 ▸ h1)
  sl_exec (disch := (first | exact chk1_of (hr _ _) | exact chk2_of (hr _ _) | exact chk3_of (hr _ _) | exact chk4_of (hr _ _) | exact chk5_of (hr _ _) | exact chk6_of (hr _ _) | exact chk7_of (hr _ _) | exact chk8_of (hr _ _) | exact chk9_of (hr _ _) | exact chk10_of (hr _ _) | exact chk11_of (hr _ _) | exact chk12_of (hr _ _) | exact chk13_of (hr _ _) | exact chk14_of (hr _ _) | exact chk15_of (hr _ _) | exact chk16_of (hr _ _)))
  sl_step
  isplitl [H1]
  · iexists f1; isplitr; · ipureintro; exact e1
    iexact H1
  isplitl [H15]
  · iexists f15; isplitr; · ipureintro; exact e15
    iexact H15
  iexists _, _; isplitr; swap; · iexact H16
  ipureintro; rfl

/-- One trip of the loop that scatters the rows of a block, between its ends: the row table and the staged rows stay, the output rows hold something. -/
theorem trip_t2 (X1 : S9728.Idx → BitVec 32) (h1 : InRange X1) (X15 : S512x2x128.Idx → Elt F .bf16) (k0_h3 : k0_cond3 i = 1#1) (v24 : BitVec 32) (k : Fin k0_t2_loop.trips) (a : Unit) :
    (iprop(owns (c : Thread nD τ) arg1 fullShare X1 ∗ owns (c : Thread nD τ) arg15 fullShare X15 ∗ ∃ Y, owns (c : Thread nD τ) arg16 fullShare Y) : sProp 𝕄)
      ⊢ wp Idealize.ShloMosaic.frame (wpE (defs₀ (F := F)) 𝒱₀ (c : Thread nD τ) none) Set.univ (k0_t2_body (F := F) i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 k0_h3 v24 k a)
        (fun _ => iprop(owns (c : Thread nD τ) arg1 fullShare X1 ∗ owns (c : Thread nD τ) arg15 fullShare X15 ∗ ∃ Y, owns (c : Thread nD τ) arg16 fullShare Y)) := by
  unfold k0_t2_body
  simp only [k0_part13_eq_skeleton, k0_part14_eq_skeleton, k0_part15_eq_skeleton, k0_part16_eq_skeleton, k0_part17_eq_skeleton, k0_part18_eq_skeleton]
  unfold k0_part13_skel k0_part14_skel k0_part15_skel k0_part16_skel k0_part17_skel k0_part18_skel
  unfold owns
  iintro ⟨⟨%f1, %e1, H1⟩, ⟨%f15, %e15, H15⟩, ⟨%Y, %f16, -, H16⟩⟩
  have hr := inRange_readAt (F := F) arg1.view f1 (e1 ▸ h1)
  sl_exec (disch := (first | exact chk17_of (hr _ _) | exact chk18_of (hr _ _) | exact chk19_of (hr _ _) | exact chk20_of (hr _ _) | exact chk21_of (hr _ _) | exact chk22_of (hr _ _) | exact chk23_of (hr _ _) | exact chk24_of (hr _ _) | exact chk25_of (hr _ _) | exact chk26_of (hr _ _) | exact chk27_of (hr _ _) | exact chk28_of (hr _ _) | exact chk29_of (hr _ _) | exact chk30_of (hr _ _) | exact chk31_of (hr _ _) | exact chk32_of (hr _ _)))
  sl_step
  isplitl [H1]
  · iexists f1; isplitr; · ipureintro; exact e1
    iexact H1
  isplitl [H15]
  · iexists f15; isplitr; · ipureintro; exact e15
    iexact H15
  iexists _, _; isplitr; swap; · iexact H16
  ipureintro; rfl

end Cert.Proof.KernelIdeal
end
-- ==== Proof.IdealRun.lean ====
module

public import proofs.«01_k».proof.Proof.Gen.KernelIdeal
public import proofs.«01_k».proof.Proof.Gen.KernelIdeal.Skeleton
public import proofs.«01_k».proof.Proof.Gen.KernelIdeal.Loops
public import proofs.«01_k».proof.Proof.Gen.KernelIdeal.Launch
public import proofs.«01_k».proof.Proof.Gen.KernelIdeal.Points
public import proofs.«01_k».proof.Proof.Gen.KernelIdeal.Frame
public import proofs.«01_k».proof.Proof.IdealTrips
public import Idealize.ShloMosaic.Lib.Tactic

@[expose] public section

set_option maxRecDepth 16384

noncomputable section

namespace Cert.Proof.KernelIdeal

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F] [∀ e, Nonempty (Elt F e)]

local notation "𝕄" => MT nD τ sig Unit (Elt F) ℕ (UU nD τ) ℕ

variable (c : Dev nD) (i : grid0.Coords) (arg1 : Memref sig .tc .smem S9728 .i32) (harg1 : arg1.IsWhole) (arg2 : Memref sig .tc .vmem S256x2560 .bf16) (harg2 : arg2.IsWhole) (arg3 : Memref sig .tc .vmem S256x2560 .i8) (harg3 : arg3.IsWhole) (arg4 : Memref sig .tc .vmem S512x20 .bf16) (harg4 : arg4.IsWhole) (arg5 : Memref sig .tc .vmem S512x2560 .i8) (harg5 : arg5.IsWhole) (arg6 : Memref sig .tc .vmem S512x1 .f32) (harg6 : arg6.IsWhole) (arg7 : Memref sig .tc .vmem S256x9728 .bf16) (harg7 : arg7.IsWhole) (arg8 : Memref sig .tc .vmem S256x2560 .i8) (harg8 : arg8.IsWhole) (arg9 : Memref sig .tc .vmem S2x128 .f32) (harg9 : arg9.IsWhole) (arg10 : Memref sig .tc .vmem S256x2560 .bf16) (harg10 : arg10.IsWhole) (arg11 : Memref sig .tc .vmem S256x2560 .bf16) (harg11 : arg11.IsWhole) (arg12 : Memref sig .tc .vmem S256x128 .f32) (harg12 : arg12.IsWhole) (arg13 : Memref sig .tc .vmem S8x256 .f32) (harg13 : arg13.IsWhole) (arg14 : Memref sig .tc .vmem S512x2560 .bf16) (harg14 : arg14.IsWhole) (arg15 : Memref sig .tc .vmem S512x2x128 .bf16) (harg15 : arg15.IsWhole) (arg16 : Memref sig .tc .vmem S9728x2x128 .bf16) (harg16 : arg16.IsWhole)

/-- The body at the first point: the tokens are quantised and the first block of 4-bit rows is done. The row table and the weights are read and stay; everything else holds something after. -/
theorem run_first (X1 : S9728.Idx → BitVec 32) (X2 : S256x2560.Idx → Elt F .bf16) (X3 : S256x2560.Idx → BitVec 8) (X4 : S512x20.Idx → Elt F .bf16) (X5 : S512x2560.Idx → BitVec 8) (X6 : S512x1.Idx → Elt F .f32) (hr : InRange X1) (h1 : k0_cond1 i = 1#1) (h2 : k0_cond2 i = 1#1) (h3 : ¬ k0_cond3 i = 1#1) (h4 : ¬ k0_cond4 i = 1#1) (K : PUnit → sProp 𝕄) :
    iprop(owns (c : Thread nD τ) arg1 fullShare X1 ∗ owns (c : Thread nD τ) arg2 fullShare X2 ∗ owns (c : Thread nD τ) arg3 fullShare X3 ∗ owns (c : Thread nD τ) arg4 fullShare X4 ∗ owns (c : Thread nD τ) arg5 fullShare X5 ∗ owns (c : Thread nD τ) arg6 fullShare X6 ∗ (∃ Y, owns (c : Thread nD τ) arg7 fullShare Y) ∗ (∃ Y, owns (c : Thread nD τ) arg8 fullShare Y) ∗ (∃ Y, owns (c : Thread nD τ) arg9 fullShare Y) ∗ (∃ Y, owns (c : Thread nD τ) arg10 fullShare Y) ∗ (∃ Y, owns (c : Thread nD τ) arg11 fullShare Y) ∗ (∃ Y, owns (c : Thread nD τ) arg12 fullShare Y) ∗ (∃ Y, owns (c : Thread nD τ) arg13 fullShare Y) ∗ (∃ Y, owns (c : Thread nD τ) arg14 fullShare Y) ∗ (∃ Y, owns (c : Thread nD τ) arg15 fullShare Y) ∗ (∃ Y, owns (c : Thread nD τ) arg16 fullShare Y) ∗ ((owns (c : Thread nD τ) arg1 fullShare X1 ∗ owns (c : Thread nD τ) arg2 fullShare X2 ∗ owns (c : Thread nD τ) arg3 fullShare X3 ∗ owns (c : Thread nD τ) arg4 fullShare X4 ∗ owns (c : Thread nD τ) arg5 fullShare X5 ∗ owns (c : Thread nD τ) arg6 fullShare X6 ∗ (∃ Y, owns (c : Thread nD τ) arg7 fullShare Y) ∗ (∃ Y, owns (c : Thread nD τ) arg8 fullShare Y) ∗ (∃ Y, owns (c : Thread nD τ) arg9 fullShare Y) ∗ (∃ Y, owns (c : Thread nD τ) arg10 fullShare Y) ∗ (∃ Y, owns (c : Thread nD τ) arg11 fullShare Y) ∗ (∃ Y, owns (c : Thread nD τ) arg12 fullShare Y) ∗ (∃ Y, owns (c : Thread nD τ) arg13 fullShare Y) ∗ (∃ Y, owns (c : Thread nD τ) arg14 fullShare Y) ∗ (∃ Y, owns (c : Thread nD τ) arg15 fullShare Y) ∗ (∃ Y, owns (c : Thread nD τ) arg16 fullShare Y)) -∗ K ⟨⟩))
      ⊢ wp Idealize.ShloMosaic.frame (wpE (defs₀ (F := F)) 𝒱₀ (c : Thread nD τ) none) Set.univ (cc0_mixllm_linear (F := F) i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16) K := by
  simp only [cc0_mixllm_linear_eq_skeleton]
  unfold cc0_mixllm_linear_skel
  simp only [k0_part2_eq_skeleton, k0_part9_eq_skeleton, k0_part10_eq_skeleton, k0_part11_eq_skeleton, k0_part12_eq_skeleton]
  unfold k0_part2_skel
  simp only [k0_part1_eq_skeleton]
  unfold k0_part1_skel k0_part9_skel k0_part10_skel k0_part11_skel k0_part12_skel
  unfold owns
  iintro ⟨⟨%f1, %e1, H1⟩, ⟨%f2, %e2, H2⟩, ⟨%f3, %e3, H3⟩, ⟨%f4, %e4, H4⟩, ⟨%f5, %e5, H5⟩, ⟨%f6, %e6, H6⟩, ⟨%Y7, %f7, -, H7⟩, ⟨%Y8, %f8, -, H8⟩, ⟨%Y9, %f9, -, H9⟩, ⟨%Y10, %f10, -, H10⟩, ⟨%Y11, %f11, -, H11⟩, ⟨%Y12, %f12, -, H12⟩, ⟨%Y13, %f13, -, H13⟩, ⟨%Y14, %f14, -, H14⟩, ⟨%Y15, %f15, -, H15⟩, ⟨%Y16, %f16, -, H16⟩, Hk⟩
  sl_exec
  iapply (Scf.wp_for_bind Idealize.ShloMosaic.frame (wpE (defs₀ (F := F)) 𝒱₀ (c : Thread nD τ) none) Set.univ _ _ _ (k0_t1_ok i h2) _ _
    (fun _ _ => iprop(owns (c : Thread nD τ) arg1 fullShare X1 ∗ owns (c : Thread nD τ) arg15 fullShare _ ∗ ∃ Y, owns (c : Thread nD τ) arg16 fullShare Y))
    (fun k a => trip_t1 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 X1 hr _ h2 _ k a)) $$ [H1 H15 H16]
  · unfold owns
    isplitl [H1]
    · iexists f1; isplitr; · ipureintro; exact e1
      iexact H1
    isplitl [H15]
    · iexists _; isplitr; swap; · iexact H15
      ipureintro; rfl
    iexists _, _; isplitr; swap; · iexact H16
    ipureintro; rfl
  iintro %a ⟨H1, H15, ⟨%Z16, H16⟩⟩
  unfold owns
  icases H1 with ⟨%f1', %e1', H1⟩
  icases H15 with ⟨%f15', -, H15⟩
  icases H16 with ⟨%f16', -, H16⟩
  sl_exec
  sl_step
  iapply Hk
  isplitl [H1]
  · iexists f1'; isplitr; · ipureintro; exact e1'
    iexact H1
  isplitl [H2]
  · iexists f2; isplitr; · ipureintro; exact e2
    iexact H2
  isplitl [H3]
  · iexists f3; isplitr; · ipureintro; exact e3
    iexact H3
  isplitl [H4]
  · iexists f4; isplitr; · ipureintro; exact e4
    iexact H4
  isplitl [H5]
  · iexists f5; isplitr; · ipureintro; exact e5
    iexact H5
  isplitl [H6]
  · iexists f6; isplitr; · ipureintro; exact e6
    iexact H6
  isplitl [H7]
  · iexists _, _; isplitr; swap; · iexact H7
    ipureintro; rfl
  isplitl [H8]
  · iexists _, _; isplitr; swap; · iexact H8
    ipureintro; rfl
  isplitl [H9]
  · iexists _, _; isplitr; swap; · iexact H9
    ipureintro; rfl
  isplitl [H10]
  · iexists _, _; isplitr; swap; · iexact H10
    ipureintro; rfl
  isplitl [H11]
  · iexists _, _; isplitr; swap; · iexact H11
    ipureintro; rfl
  isplitl [H12]
  · iexists _, _; isplitr; swap; · iexact H12
    ipureintro; rfl
  isplitl [H13]
  · iexists _, _; isplitr; swap; · iexact H13
    ipureintro; rfl
  isplitl [H14]
  · iexists _, _; isplitr; swap; · iexact H14
    ipureintro; rfl
  isplitl [H15]
  · iexists _, _; isplitr; swap; · iexact H15
    ipureintro; rfl
  iexists _, _; isplitr; swap; · iexact H16
  ipureintro; rfl

/-- The body at a later point of the 4-bit rows. The row table and the weights are read and stay; everything else holds something after. -/
theorem run_four (X1 : S9728.Idx → BitVec 32) (X2 : S256x2560.Idx → Elt F .bf16) (X3 : S256x2560.Idx → BitVec 8) (X4 : S512x20.Idx → Elt F .bf16) (X5 : S512x2560.Idx → BitVec 8) (X6 : S512x1.Idx → Elt F .f32) (hr : InRange X1) (h1 : ¬ k0_cond1 i = 1#1) (h2 : k0_cond2 i = 1#1) (h3 : ¬ k0_cond3 i = 1#1) (h4 : ¬ k0_cond4 i = 1#1) (K : PUnit → sProp 𝕄) :
    iprop(owns (c : Thread nD τ) arg1 fullShare X1 ∗ owns (c : Thread nD τ) arg2 fullShare X2 ∗ owns (c : Thread nD τ) arg3 fullShare X3 ∗ owns (c : Thread nD τ) arg4 fullShare X4 ∗ owns (c : Thread nD τ) arg5 fullShare X5 ∗ owns (c : Thread nD τ) arg6 fullShare X6 ∗ (∃ Y, owns (c : Thread nD τ) arg7 fullShare Y) ∗ (∃ Y, owns (c : Thread nD τ) arg8 fullShare Y) ∗ (∃ Y, owns (c : Thread nD τ) arg9 fullShare Y) ∗ (∃ Y, owns (c : Thread nD τ) arg10 fullShare Y) ∗ (∃ Y, owns (c : Thread nD τ) arg11 fullShare Y) ∗ (∃ Y, owns (c : Thread nD τ) arg12 fullShare Y) ∗ (∃ Y, owns (c : Thread nD τ) arg13 fullShare Y) ∗ (∃ Y, owns (c : Thread nD τ) arg14 fullShare Y) ∗ (∃ Y, owns (c : Thread nD τ) arg15 fullShare Y) ∗ (∃ Y, owns (c : Thread nD τ) arg16 fullShare Y) ∗ ((owns (c : Thread nD τ) arg1 fullShare X1 ∗ owns (c : Thread nD τ) arg2 fullShare X2 ∗ owns (c : Thread nD τ) arg3 fullShare X3 ∗ owns (c : Thread nD τ) arg4 fullShare X4 ∗ owns (c : Thread nD τ) arg5 fullShare X5 ∗ owns (c : Thread nD τ) arg6 fullShare X6 ∗ (∃ Y, owns (c : Thread nD τ) arg7 fullShare Y) ∗ (∃ Y, owns (c : Thread nD τ) arg8 fullShare Y) ∗ (∃ Y, owns (c : Thread nD τ) arg9 fullShare Y) ∗ (∃ Y, owns (c : Thread nD τ) arg10 fullShare Y) ∗ (∃ Y, owns (c : Thread nD τ) arg11 fullShare Y) ∗ (∃ Y, owns (c : Thread nD τ) arg12 fullShare Y) ∗ (∃ Y, owns (c : Thread nD τ) arg13 fullShare Y) ∗ (∃ Y, owns (c : Thread nD τ) arg14 fullShare Y) ∗ (∃ Y, owns (c : Thread nD τ) arg15 fullShare Y) ∗ (∃ Y, owns (c : Thread nD τ) arg16 fullShare Y)) -∗ K ⟨⟩))
      ⊢ wp Idealize.ShloMosaic.frame (wpE (defs₀ (F := F)) 𝒱₀ (c : Thread nD τ) none) Set.univ (cc0_mixllm_linear (F := F) i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16) K := by
  simp only [cc0_mixllm_linear_eq_skeleton]
  unfold cc0_mixllm_linear_skel
  simp only [k0_part9_eq_skeleton, k0_part10_eq_skeleton, k0_part11_eq_skeleton, k0_part12_eq_skeleton]
  unfold k0_part9_skel k0_part10_skel k0_part11_skel k0_part12_skel
  unfold owns
  iintro ⟨⟨%f1, %e1, H1⟩, ⟨%f2, %e2, H2⟩, ⟨%f3, %e3, H3⟩, ⟨%f4, %e4, H4⟩, ⟨%f5, %e5, H5⟩, ⟨%f6, %e6, H6⟩, ⟨%Y7, %f7, -, H7⟩, ⟨%Y8, %f8, -, H8⟩, ⟨%Y9, %f9, -, H9⟩, ⟨%Y10, %f10, -, H10⟩, ⟨%Y11, %f11, -, H11⟩, ⟨%Y12, %f12, -, H12⟩, ⟨%Y13, %f13, -, H13⟩, ⟨%Y14, %f14, -, H14⟩, ⟨%Y15, %f15, -, H15⟩, ⟨%Y16, %f16, -, H16⟩, Hk⟩
  sl_exec
  iapply (Scf.wp_for_bind Idealize.ShloMosaic.frame (wpE (defs₀ (F := F)) 𝒱₀ (c : Thread nD τ) none) Set.univ _ _ _ (k0_t1_ok i h2) _ _
    (fun _ _ => iprop(owns (c : Thread nD τ) arg1 fullShare X1 ∗ owns (c : Thread nD τ) arg15 fullShare _ ∗ ∃ Y, owns (c : Thread nD τ) arg16 fullShare Y))
    (fun k a => trip_t1 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 X1 hr _ h2 _ k a)) $$ [H1 H15 H16]
  · unfold owns
    isplitl [H1]
    · iexists f1; isplitr; · ipureintro; exact e1
      iexact H1
    isplitl [H15]
    · iexists _; isplitr; swap; · iexact H15
      ipureintro; rfl
    iexists _, _; isplitr; swap; · iexact H16
    ipureintro; rfl
  iintro %a ⟨H1, H15, ⟨%Z16, H16⟩⟩
  unfold owns
  icases H1 with ⟨%f1', %e1', H1⟩
  icases H15 with ⟨%f15', -, H15⟩
  icases H16 with ⟨%f16', -, H16⟩
  sl_exec
  sl_step
  iapply Hk
  isplitl [H1]
  · iexists f1'; isplitr; · ipureintro; exact e1'
    iexact H1
  isplitl [H2]
  · iexists f2; isplitr; · ipureintro; exact e2
    iexact H2
  isplitl [H3]
  · iexists f3; isplitr; · ipureintro; exact e3
    iexact H3
  isplitl [H4]
  · iexists f4; isplitr; · ipureintro; exact e4
    iexact H4
  isplitl [H5]
  · iexists f5; isplitr; · ipureintro; exact e5
    iexact H5
  isplitl [H6]
  · iexists f6; isplitr; · ipureintro; exact e6
    iexact H6
  isplitl [H7]
  · iexists _, _; isplitr; swap; · iexact H7
    ipureintro; rfl
  isplitl [H8]
  · iexists _, _; isplitr; swap; · iexact H8
    ipureintro; rfl
  isplitl [H9]
  · iexists _, _; isplitr; swap; · iexact H9
    ipureintro; rfl
  isplitl [H10]
  · iexists _, _; isplitr; swap; · iexact H10
    ipureintro; rfl
  isplitl [H11]
  · iexists _, _; isplitr; swap; · iexact H11
    ipureintro; rfl
  isplitl [H12]
  · iexists _, _; isplitr; swap; · iexact H12
    ipureintro; rfl
  isplitl [H13]
  · iexists _, _; isplitr; swap; · iexact H13
    ipureintro; rfl
  isplitl [H14]
  · iexists _, _; isplitr; swap; · iexact H14
    ipureintro; rfl
  isplitl [H15]
  · iexists _, _; isplitr; swap; · iexact H15
    ipureintro; rfl
  iexists _, _; isplitr; swap; · iexact H16
  ipureintro; rfl

/-- The body at a point of the 8-bit rows. The row table and the weights are read and stay; everything else holds something after. -/
theorem run_eight (X1 : S9728.Idx → BitVec 32) (X2 : S256x2560.Idx → Elt F .bf16) (X3 : S256x2560.Idx → BitVec 8) (X4 : S512x20.Idx → Elt F .bf16) (X5 : S512x2560.Idx → BitVec 8) (X6 : S512x1.Idx → Elt F .f32) (hr : InRange X1) (h1 : ¬ k0_cond1 i = 1#1) (h2 : ¬ k0_cond2 i = 1#1) (h3 : k0_cond3 i = 1#1) (h4 : ¬ k0_cond4 i = 1#1) (K : PUnit → sProp 𝕄) :
    iprop(owns (c : Thread nD τ) arg1 fullShare X1 ∗ owns (c : Thread nD τ) arg2 fullShare X2 ∗ owns (c : Thread nD τ) arg3 fullShare X3 ∗ owns (c : Thread nD τ) arg4 fullShare X4 ∗ owns (c : Thread nD τ) arg5 fullShare X5 ∗ owns (c : Thread nD τ) arg6 fullShare X6 ∗ (∃ Y, owns (c : Thread nD τ) arg7 fullShare Y) ∗ (∃ Y, owns (c : Thread nD τ) arg8 fullShare Y) ∗ (∃ Y, owns (c : Thread nD τ) arg9 fullShare Y) ∗ (∃ Y, owns (c : Thread nD τ) arg10 fullShare Y) ∗ (∃ Y, owns (c : Thread nD τ) arg11 fullShare Y) ∗ (∃ Y, owns (c : Thread nD τ) arg12 fullShare Y) ∗ (∃ Y, owns (c : Thread nD τ) arg13 fullShare Y) ∗ (∃ Y, owns (c : Thread nD τ) arg14 fullShare Y) ∗ (∃ Y, owns (c : Thread nD τ) arg15 fullShare Y) ∗ (∃ Y, owns (c : Thread nD τ) arg16 fullShare Y) ∗ ((owns (c : Thread nD τ) arg1 fullShare X1 ∗ owns (c : Thread nD τ) arg2 fullShare X2 ∗ owns (c : Thread nD τ) arg3 fullShare X3 ∗ owns (c : Thread nD τ) arg4 fullShare X4 ∗ owns (c : Thread nD τ) arg5 fullShare X5 ∗ owns (c : Thread nD τ) arg6 fullShare X6 ∗ (∃ Y, owns (c : Thread nD τ) arg7 fullShare Y) ∗ (∃ Y, owns (c : Thread nD τ) arg8 fullShare Y) ∗ (∃ Y, owns (c : Thread nD τ) arg9 fullShare Y) ∗ (∃ Y, owns (c : Thread nD τ) arg10 fullShare Y) ∗ (∃ Y, owns (c : Thread nD τ) arg11 fullShare Y) ∗ (∃ Y, owns (c : Thread nD τ) arg12 fullShare Y) ∗ (∃ Y, owns (c : Thread nD τ) arg13 fullShare Y) ∗ (∃ Y, owns (c : Thread nD τ) arg14 fullShare Y) ∗ (∃ Y, owns (c : Thread nD τ) arg15 fullShare Y) ∗ (∃ Y, owns (c : Thread nD τ) arg16 fullShare Y)) -∗ K ⟨⟩))
      ⊢ wp Idealize.ShloMosaic.frame (wpE (defs₀ (F := F)) 𝒱₀ (c : Thread nD τ) none) Set.univ (cc0_mixllm_linear (F := F) i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16) K := by
  simp only [cc0_mixllm_linear_eq_skeleton]
  unfold cc0_mixllm_linear_skel
  unfold owns
  iintro ⟨⟨%f1, %e1, H1⟩, ⟨%f2, %e2, H2⟩, ⟨%f3, %e3, H3⟩, ⟨%f4, %e4, H4⟩, ⟨%f5, %e5, H5⟩, ⟨%f6, %e6, H6⟩, ⟨%Y7, %f7, -, H7⟩, ⟨%Y8, %f8, -, H8⟩, ⟨%Y9, %f9, -, H9⟩, ⟨%Y10, %f10, -, H10⟩, ⟨%Y11, %f11, -, H11⟩, ⟨%Y12, %f12, -, H12⟩, ⟨%Y13, %f13, -, H13⟩, ⟨%Y14, %f14, -, H14⟩, ⟨%Y15, %f15, -, H15⟩, ⟨%Y16, %f16, -, H16⟩, Hk⟩
  sl_exec
  iapply (Scf.wp_for_bind Idealize.ShloMosaic.frame (wpE (defs₀ (F := F)) 𝒱₀ (c : Thread nD τ) none) Set.univ _ _ _ (k0_t2_ok i h3) _ _
    (fun _ _ => iprop(owns (c : Thread nD τ) arg1 fullShare X1 ∗ owns (c : Thread nD τ) arg15 fullShare _ ∗ ∃ Y, owns (c : Thread nD τ) arg16 fullShare Y))
    (fun k a => trip_t2 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 X1 hr _ h3 _ k a)) $$ [H1 H15 H16]
  · unfold owns
    isplitl [H1]
    · iexists f1; isplitr; · ipureintro; exact e1
      iexact H1
    isplitl [H15]
    · iexists _; isplitr; swap; · iexact H15
      ipureintro; rfl
    iexists _, _; isplitr; swap; · iexact H16
    ipureintro; rfl
  iintro %a ⟨H1, H15, ⟨%Z16, H16⟩⟩
  unfold owns
  icases H1 with ⟨%f1', %e1', H1⟩
  icases H15 with ⟨%f15', -, H15⟩
  icases H16 with ⟨%f16', -, H16⟩
  sl_exec
  sl_step
  iapply Hk
  isplitl [H1]
  · iexists f1'; isplitr; · ipureintro; exact e1'
    iexact H1
  isplitl [H2]
  · iexists f2; isplitr; · ipureintro; exact e2
    iexact H2
  isplitl [H3]
  · iexists f3; isplitr; · ipureintro; exact e3
    iexact H3
  isplitl [H4]
  · iexists f4; isplitr; · ipureintro; exact e4
    iexact H4
  isplitl [H5]
  · iexists f5; isplitr; · ipureintro; exact e5
    iexact H5
  isplitl [H6]
  · iexists f6; isplitr; · ipureintro; exact e6
    iexact H6
  isplitl [H7]
  · iexists _, _; isplitr; swap; · iexact H7
    ipureintro; rfl
  isplitl [H8]
  · iexists _, _; isplitr; swap; · iexact H8
    ipureintro; rfl
  isplitl [H9]
  · iexists _, _; isplitr; swap; · iexact H9
    ipureintro; rfl
  isplitl [H10]
  · iexists _, _; isplitr; swap; · iexact H10
    ipureintro; rfl
  isplitl [H11]
  · iexists _, _; isplitr; swap; · iexact H11
    ipureintro; rfl
  isplitl [H12]
  · iexists _, _; isplitr; swap; · iexact H12
    ipureintro; rfl
  isplitl [H13]
  · iexists _, _; isplitr; swap; · iexact H13
    ipureintro; rfl
  isplitl [H14]
  · iexists _, _; isplitr; swap; · iexact H14
    ipureintro; rfl
  isplitl [H15]
  · iexists _, _; isplitr; swap; · iexact H15
    ipureintro; rfl
  iexists _, _; isplitr; swap; · iexact H16
  ipureintro; rfl

/-- The body at the last point: the last block of 8-bit rows is done and the output is written. The row table and the weights are read and stay; everything else holds something after. -/
theorem run_last (X1 : S9728.Idx → BitVec 32) (X2 : S256x2560.Idx → Elt F .bf16) (X3 : S256x2560.Idx → BitVec 8) (X4 : S512x20.Idx → Elt F .bf16) (X5 : S512x2560.Idx → BitVec 8) (X6 : S512x1.Idx → Elt F .f32) (hr : InRange X1) (h1 : ¬ k0_cond1 i = 1#1) (h2 : ¬ k0_cond2 i = 1#1) (h3 : k0_cond3 i = 1#1) (h4 : k0_cond4 i = 1#1) (K : PUnit → sProp 𝕄) :
    iprop(owns (c : Thread nD τ) arg1 fullShare X1 ∗ owns (c : Thread nD τ) arg2 fullShare X2 ∗ owns (c : Thread nD τ) arg3 fullShare X3 ∗ owns (c : Thread nD τ) arg4 fullShare X4 ∗ owns (c : Thread nD τ) arg5 fullShare X5 ∗ owns (c : Thread nD τ) arg6 fullShare X6 ∗ (∃ Y, owns (c : Thread nD τ) arg7 fullShare Y) ∗ (∃ Y, owns (c : Thread nD τ) arg8 fullShare Y) ∗ (∃ Y, owns (c : Thread nD τ) arg9 fullShare Y) ∗ (∃ Y, owns (c : Thread nD τ) arg10 fullShare Y) ∗ (∃ Y, owns (c : Thread nD τ) arg11 fullShare Y) ∗ (∃ Y, owns (c : Thread nD τ) arg12 fullShare Y) ∗ (∃ Y, owns (c : Thread nD τ) arg13 fullShare Y) ∗ (∃ Y, owns (c : Thread nD τ) arg14 fullShare Y) ∗ (∃ Y, owns (c : Thread nD τ) arg15 fullShare Y) ∗ (∃ Y, owns (c : Thread nD τ) arg16 fullShare Y) ∗ ((owns (c : Thread nD τ) arg1 fullShare X1 ∗ owns (c : Thread nD τ) arg2 fullShare X2 ∗ owns (c : Thread nD τ) arg3 fullShare X3 ∗ owns (c : Thread nD τ) arg4 fullShare X4 ∗ owns (c : Thread nD τ) arg5 fullShare X5 ∗ owns (c : Thread nD τ) arg6 fullShare X6 ∗ (∃ Y, owns (c : Thread nD τ) arg7 fullShare Y) ∗ (∃ Y, owns (c : Thread nD τ) arg8 fullShare Y) ∗ (∃ Y, owns (c : Thread nD τ) arg9 fullShare Y) ∗ (∃ Y, owns (c : Thread nD τ) arg10 fullShare Y) ∗ (∃ Y, owns (c : Thread nD τ) arg11 fullShare Y) ∗ (∃ Y, owns (c : Thread nD τ) arg12 fullShare Y) ∗ (∃ Y, owns (c : Thread nD τ) arg13 fullShare Y) ∗ (∃ Y, owns (c : Thread nD τ) arg14 fullShare Y) ∗ (∃ Y, owns (c : Thread nD τ) arg15 fullShare Y) ∗ (∃ Y, owns (c : Thread nD τ) arg16 fullShare Y)) -∗ K ⟨⟩))
      ⊢ wp Idealize.ShloMosaic.frame (wpE (defs₀ (F := F)) 𝒱₀ (c : Thread nD τ) none) Set.univ (cc0_mixllm_linear (F := F) i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16) K := by
  simp only [cc0_mixllm_linear_eq_skeleton]
  unfold cc0_mixllm_linear_skel
  simp only [k0_part19_eq_skeleton, k0_part20_eq_skeleton, k0_part21_eq_skeleton, k0_part22_eq_skeleton, k0_part23_eq_skeleton, k0_part24_eq_skeleton, k0_part25_eq_skeleton, k0_part26_eq_skeleton, k0_part27_eq_skeleton, k0_part28_eq_skeleton, k0_part29_eq_skeleton, k0_part30_eq_skeleton, k0_part31_eq_skeleton, k0_part32_eq_skeleton, k0_part33_eq_skeleton, k0_part34_eq_skeleton, k0_part35_eq_skeleton, k0_part36_eq_skeleton, k0_part37_eq_skeleton, k0_part38_eq_skeleton, k0_part39_eq_skeleton, k0_part40_eq_skeleton, k0_part41_eq_skeleton, k0_part42_eq_skeleton, k0_part43_eq_skeleton]
  unfold k0_part19_skel k0_part20_skel k0_part21_skel k0_part22_skel k0_part23_skel k0_part24_skel k0_part25_skel k0_part26_skel k0_part27_skel k0_part28_skel k0_part29_skel k0_part30_skel k0_part31_skel k0_part32_skel k0_part33_skel k0_part34_skel k0_part35_skel k0_part36_skel k0_part37_skel k0_part38_skel k0_part39_skel k0_part40_skel k0_part41_skel k0_part42_skel k0_part43_skel
  unfold owns
  iintro ⟨⟨%f1, %e1, H1⟩, ⟨%f2, %e2, H2⟩, ⟨%f3, %e3, H3⟩, ⟨%f4, %e4, H4⟩, ⟨%f5, %e5, H5⟩, ⟨%f6, %e6, H6⟩, ⟨%Y7, %f7, -, H7⟩, ⟨%Y8, %f8, -, H8⟩, ⟨%Y9, %f9, -, H9⟩, ⟨%Y10, %f10, -, H10⟩, ⟨%Y11, %f11, -, H11⟩, ⟨%Y12, %f12, -, H12⟩, ⟨%Y13, %f13, -, H13⟩, ⟨%Y14, %f14, -, H14⟩, ⟨%Y15, %f15, -, H15⟩, ⟨%Y16, %f16, -, H16⟩, Hk⟩
  sl_exec
  iapply (Scf.wp_for_bind Idealize.ShloMosaic.frame (wpE (defs₀ (F := F)) 𝒱₀ (c : Thread nD τ) none) Set.univ _ _ _ (k0_t2_ok i h3) _ _
    (fun _ _ => iprop(owns (c : Thread nD τ) arg1 fullShare X1 ∗ owns (c : Thread nD τ) arg15 fullShare _ ∗ ∃ Y, owns (c : Thread nD τ) arg16 fullShare Y))
    (fun k a => trip_t2 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 X1 hr _ h3 _ k a)) $$ [H1 H15 H16]
  · unfold owns
    isplitl [H1]
    · iexists f1; isplitr; · ipureintro; exact e1
      iexact H1
    isplitl [H15]
    · iexists _; isplitr; swap; · iexact H15
      ipureintro; rfl
    iexists _, _; isplitr; swap; · iexact H16
    ipureintro; rfl
  iintro %a ⟨H1, H15, ⟨%Z16, H16⟩⟩
  unfold owns
  icases H1 with ⟨%f1', %e1', H1⟩
  icases H15 with ⟨%f15', -, H15⟩
  icases H16 with ⟨%f16', -, H16⟩
  sl_exec
  sl_step
  iapply Hk
  isplitl [H1]
  · iexists f1'; isplitr; · ipureintro; exact e1'
    iexact H1
  isplitl [H2]
  · iexists f2; isplitr; · ipureintro; exact e2
    iexact H2
  isplitl [H3]
  · iexists f3; isplitr; · ipureintro; exact e3
    iexact H3
  isplitl [H4]
  · iexists f4; isplitr; · ipureintro; exact e4
    iexact H4
  isplitl [H5]
  · iexists f5; isplitr; · ipureintro; exact e5
    iexact H5
  isplitl [H6]
  · iexists f6; isplitr; · ipureintro; exact e6
    iexact H6
  isplitl [H7]
  · iexists _, _; isplitr; swap; · iexact H7
    ipureintro; rfl
  isplitl [H8]
  · iexists _, _; isplitr; swap; · iexact H8
    ipureintro; rfl
  isplitl [H9]
  · iexists _, _; isplitr; swap; · iexact H9
    ipureintro; rfl
  isplitl [H10]
  · iexists _, _; isplitr; swap; · iexact H10
    ipureintro; rfl
  isplitl [H11]
  · iexists _, _; isplitr; swap; · iexact H11
    ipureintro; rfl
  isplitl [H12]
  · iexists _, _; isplitr; swap; · iexact H12
    ipureintro; rfl
  isplitl [H13]
  · iexists _, _; isplitr; swap; · iexact H13
    ipureintro; rfl
  isplitl [H14]
  · iexists _, _; isplitr; swap; · iexact H14
    ipureintro; rfl
  isplitl [H15]
  · iexists _, _; isplitr; swap; · iexact H15
    ipureintro; rfl
  iexists _, _; isplitr; swap; · iexact H16
  ipureintro; rfl

end Cert.Proof.KernelIdeal
end
-- ==== Proof.IdealFrame.lean ====
module

public import proofs.«01_k».proof.Proof.Gen.KernelIdeal
public import proofs.«01_k».proof.Proof.Gen.KernelIdeal.Skeleton
public import proofs.«01_k».proof.Proof.Gen.KernelIdeal.Loops
public import proofs.«01_k».proof.Proof.Gen.KernelIdeal.Launch
public import proofs.«01_k».proof.Proof.Gen.KernelIdeal.Points
public import proofs.«01_k».proof.Proof.Gen.KernelIdeal.Frame
public import proofs.«01_k».proof.Proof.IdealRun
public import Idealize.ShloMosaic.Lib.Pipeline.Frame
public import Idealize.ShloMosaic.Lib.Pipeline.FrameSuffix
public import Idealize.ShloMosaic.Lib.Tactic

@[expose] public section

set_option maxRecDepth 16384

noncomputable section

namespace Cert.Proof.KernelIdeal

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.ShloMosaic.Pipeline (Dat BodyObligation)
open Idealize.SL.BI.BIBase Idealize.SL.BI.Laws Idealize.SL.ProofMode Idealize.SL.Sem

variable {F : FTy → Type} [FloatOps F] [∀ e, Nonempty (Elt F e)]

local notation "𝕄" => MT nD τ sig Unit (Elt F) ℕ (UU nD τ) ℕ

variable (m : (ℓ : Loc nD τ sig) → Buf (Elt F) ℓ) (ρ : Dev nD → PrngReg)

/-- The tokens are quantised at the first point. -/
theorem cond1_iff (t : Fin cfg0.N) : k0_cond1 (grid0.coords t) = 1#1 ↔ t.val = 0 := by
  revert t; exact (by decide +kernel : ∀ t : Fin grid0.N, k0_cond1 (grid0.coords t) = 1#1 ↔ t.val = 0)
/-- The first sixteen points do the 4-bit rows. -/
theorem cond2_iff (t : Fin cfg0.N) : k0_cond2 (grid0.coords t) = 1#1 ↔ t.val < 16 := by
  revert t; exact (by decide +kernel : ∀ t : Fin grid0.N, k0_cond2 (grid0.coords t) = 1#1 ↔ t.val < 16)
/-- The last three do the 8-bit rows. -/
theorem cond3_iff (t : Fin cfg0.N) : k0_cond3 (grid0.coords t) = 1#1 ↔ 16 ≤ t.val := by
  revert t; exact (by decide +kernel : ∀ t : Fin grid0.N, k0_cond3 (grid0.coords t) = 1#1 ↔ 16 ≤ t.val)
/-- The last point writes the output. -/
theorem cond4_iff (t : Fin cfg0.N) : k0_cond4 (grid0.coords t) = 1#1 ↔ t.val = 18 := by
  revert t; exact (by decide +kernel : ∀ t : Fin grid0.N, k0_cond4 (grid0.coords t) = 1#1 ↔ t.val = 18)

/-- What is carried between points, conjunct by conjunct: the scratch buffers at some contents and the generator's register. -/
theorem PhiA_eq (c : Dev nD) :
    (Pipeline.ΦA spec0 c : sProp 𝕄) = iprop(((∃ d, owns (c : Thread nD τ) (Memref.whole cc0_scratch0) fullShare d) ∗ (∃ d, owns (c : Thread nD τ) (Memref.whole cc0_scratch1) fullShare d) ∗ (∃ d, owns (c : Thread nD τ) (Memref.whole cc0_scratch2) fullShare d) ∗ (∃ d, owns (c : Thread nD τ) (Memref.whole cc0_scratch3) fullShare d) ∗ (∃ d, owns (c : Thread nD τ) (Memref.whole cc0_scratch4) fullShare d) ∗ (∃ d, owns (c : Thread nD τ) (Memref.whole cc0_scratch5) fullShare d) ∗ (∃ d, owns (c : Thread nD τ) (Memref.whole cc0_scratch6) fullShare d)) ∗ (∃ r, prngReg c r)) := by
  unfold Pipeline.ΦA
  rw [scopedRest0_eq]; simp only [owns_whole]; try rfl

/-- The three outputs are forgotten: nothing here reads what the body leaves in them. -/
def forgets : Fin 9 → Bool := fun | 6 => true | 7 => true | 8 => true | _ => false

/-- The proof data: the arrays as the region finds them, the inputs' blocks left in place, the outputs unnamed. -/
def dats (_ : Fin 1) (c : Dev nD) : Dat τ (Elt F) Unit ℕ (UU nD τ) ℕ cfg0 c where
  A w := V m c (Pipeline.arrRef spec0 w)
  after := fun
    | 0 => fun t => iblk m c 0 t | 1 => fun t => iblk m c 1 t | 2 => fun t => iblk m c 2 t
    | 3 => fun t => iblk m c 3 t | 4 => fun t => iblk m c 4 t | 5 => fun t => iblk m c 5 t
    | 6 => fun t => Pipeline.Dat.unnamed (cfg := cfg0) 6 t | 7 => fun t => Pipeline.Dat.unnamed (cfg := cfg0) 7 t | 8 => fun t => Pipeline.Dat.unnamed (cfg := cfg0) 8 t
  Φ _ := Pipeline.ΦA spec0 c
  q _ := fullShare
  owed _ := 0

/-- The arrays that the region finds. -/
theorem A_eq (c : Dev nD) (w : Fin cfg0.W) : (dats m 0 c).A w = V m c (Pipeline.arrRef spec0 w) := by dsimp only [dats]

/-- What the body is called with at a point. -/
def bodyPre (c : Dev nD) (t : Fin cfg0.N) : sProp 𝕄 :=
  iprop((dats m 0 c).Φ t.castSucc ∗ (dats m 0 c).owesAt () t.castSucc ∗ (∃ d, owns (c : Thread nD τ) (st0_0 t) fullShare ((dats m 0 c).before 0 t d)) ∗ (∃ d, owns (c : Thread nD τ) (st0_1 t) fullShare ((dats m 0 c).before 1 t d)) ∗ (∃ d, owns (c : Thread nD τ) (st0_2 t) fullShare ((dats m 0 c).before 2 t d)) ∗ (∃ d, owns (c : Thread nD τ) (st0_3 t) fullShare ((dats m 0 c).before 3 t d)) ∗ (∃ d, owns (c : Thread nD τ) (st0_4 t) fullShare ((dats m 0 c).before 4 t d)) ∗ (∃ d, owns (c : Thread nD τ) (st0_5 t) fullShare ((dats m 0 c).before 5 t d)) ∗ (∃ d, owns (c : Thread nD τ) (st0_6 t) fullShare d) ∗ (∃ d, owns (c : Thread nD τ) (st0_7 t) fullShare d) ∗ (∃ d, owns (c : Thread nD τ) (st0_8 t) fullShare d))
/-- What it returns. -/
def bodyPost (c : Dev nD) (t : Fin cfg0.N) : sProp 𝕄 :=
  iprop((dats m 0 c).Φ t.succ ∗ (dats m 0 c).owesAt () t.succ ∗ owns (c : Thread nD τ) (st0_0 t) fullShare (iblk m c 0 t) ∗ owns (c : Thread nD τ) (st0_1 t) fullShare (iblk m c 1 t) ∗ owns (c : Thread nD τ) (st0_2 t) fullShare (iblk m c 2 t) ∗ owns (c : Thread nD τ) (st0_3 t) fullShare (iblk m c 3 t) ∗ owns (c : Thread nD τ) (st0_4 t) fullShare (iblk m c 4 t) ∗ owns (c : Thread nD τ) (st0_5 t) fullShare (iblk m c 5 t) ∗ (∃ d, owns (c : Thread nD τ) (st0_6 t) fullShare d) ∗ (∃ d, owns (c : Thread nD τ) (st0_7 t) fullShare d) ∗ (∃ d, owns (c : Thread nD τ) (st0_8 t) fullShare d))

/-- The body at a point, from the row table being in range. -/
theorem sound_body (c : Dev nD) (t : Fin cfg0.N) (hr : InRange (iblk m c 0 t)) :
    bodyPre m c t ⊢ wp Idealize.ShloMosaic.frame (wpE (defs₀ (F := F)) 𝒱₀ (c : Thread nD τ) none) Set.univ (bodyAt0 t) (fun _ => bodyPost m c t) := by
  unfold bodyPre bodyPost bodyAt0
  rw [show (dats m 0 c).Φ t.succ = (dats m 0 c).Φ t.castSucc from rfl,
    show (dats m 0 c).owesAt () t.succ = (dats m 0 c).owesAt () t.castSucc from rfl,
    show (dats m 0 c).Φ t.castSucc = Pipeline.ΦA spec0 c from rfl, PhiA_eq]
  simp only [before0_0_of m (dats m 0 c) (A_eq m c 0) (fun _ => rfl), before0_1_of m (dats m 0 c) (A_eq m c 1) (fun _ => rfl),
    before0_2_of m (dats m 0 c) (A_eq m c 2) (fun _ => rfl), before0_3_of m (dats m 0 c) (A_eq m c 3) (fun _ => rfl),
    before0_4_of m (dats m 0 c) (A_eq m c 4) (fun _ => rfl), before0_5_of m (dats m 0 c) (A_eq m c 5) (fun _ => rfl)]
  iintro ⟨⟨⟨H10, H11, H12, H13, H14, H15, H16⟩, Hg⟩, HO, ⟨%d0, H1⟩, ⟨%d1, H2⟩, ⟨%d2, H3⟩, ⟨%d3, H4⟩, ⟨%d4, H5⟩, ⟨%d5, H6⟩, H7, H8, H9⟩
  have hc1 := cond1_iff t
  have hc2 := cond2_iff t
  have hc3 := cond3_iff t
  have hc4 := cond4_iff t
  have hN : t.val < 19 := t.isLt
  by_cases h0 : t.val = 0
  · iapply (run_first c (grid0.coords t) _ _ _ _ _ _ _ _ _ _ _ _ _ _ _ _ _ _ _ _ _ _ _ _ _ _ _ _ _ _ _ _ (iblk m c 0 t) (iblk m c 1 t) (iblk m c 2 t) (iblk m c 3 t) (iblk m c 4 t) (iblk m c 5 t) hr (hc1.mpr h0) (hc2.mpr (by omega)) (fun h => absurd (hc3.mp h) (by omega)) (fun h => absurd (hc4.mp h) (by omega)))
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    isplitl [H14]; · iexact H14
    isplitl [H15]; · iexact H15
    isplitl [H16]; · iexact H16
    iintro ⟨H1, H2, H3, H4, H5, H6, H7, H8, H9, H10, H11, H12, H13, H14, H15, H16⟩
    isplitl [H10 H11 H12 H13 H14 H15 H16 Hg]
    · isplitl [H10 H11 H12 H13 H14 H15 H16]
      · isplitl [H10]; · iexact H10
        isplitl [H11]; · iexact H11
        isplitl [H12]; · iexact H12
        isplitl [H13]; · iexact H13
        isplitl [H14]; · iexact H14
        isplitl [H15]; · iexact H15
        iexact H16
      iexact Hg
    isplitl [HO]; · iexact HO
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    iexact H9
  by_cases hf : t.val < 16
  · iapply (run_four c (grid0.coords t) _ _ _ _ _ _ _ _ _ _ _ _ _ _ _ _ _ _ _ _ _ _ _ _ _ _ _ _ _ _ _ _ (iblk m c 0 t) (iblk m c 1 t) (iblk m c 2 t) (iblk m c 3 t) (iblk m c 4 t) (iblk m c 5 t) hr (fun h => absurd (hc1.mp h) h0) (hc2.mpr hf) (fun h => absurd (hc3.mp h) (by omega)) (fun h => absurd (hc4.mp h) (by omega)))
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    isplitl [H14]; · iexact H14
    isplitl [H15]; · iexact H15
    isplitl [H16]; · iexact H16
    iintro ⟨H1, H2, H3, H4, H5, H6, H7, H8, H9, H10, H11, H12, H13, H14, H15, H16⟩
    isplitl [H10 H11 H12 H13 H14 H15 H16 Hg]
    · isplitl [H10 H11 H12 H13 H14 H15 H16]
      · isplitl [H10]; · iexact H10
        isplitl [H11]; · iexact H11
        isplitl [H12]; · iexact H12
        isplitl [H13]; · iexact H13
        isplitl [H14]; · iexact H14
        isplitl [H15]; · iexact H15
        iexact H16
      iexact Hg
    isplitl [HO]; · iexact HO
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    iexact H9
  by_cases hl : t.val = 18
  · iapply (run_last c (grid0.coords t) _ _ _ _ _ _ _ _ _ _ _ _ _ _ _ _ _ _ _ _ _ _ _ _ _ _ _ _ _ _ _ _ (iblk m c 0 t) (iblk m c 1 t) (iblk m c 2 t) (iblk m c 3 t) (iblk m c 4 t) (iblk m c 5 t) hr (fun h => absurd (hc1.mp h) h0) (fun h => hf (hc2.mp h)) (hc3.mpr (by omega)) (hc4.mpr hl))
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    isplitl [H14]; · iexact H14
    isplitl [H15]; · iexact H15
    isplitl [H16]; · iexact H16
    iintro ⟨H1, H2, H3, H4, H5, H6, H7, H8, H9, H10, H11, H12, H13, H14, H15, H16⟩
    isplitl [H10 H11 H12 H13 H14 H15 H16 Hg]
    · isplitl [H10 H11 H12 H13 H14 H15 H16]
      · isplitl [H10]; · iexact H10
        isplitl [H11]; · iexact H11
        isplitl [H12]; · iexact H12
        isplitl [H13]; · iexact H13
        isplitl [H14]; · iexact H14
        isplitl [H15]; · iexact H15
        iexact H16
      iexact Hg
    isplitl [HO]; · iexact HO
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    iexact H9
  iapply (run_eight c (grid0.coords t) _ _ _ _ _ _ _ _ _ _ _ _ _ _ _ _ _ _ _ _ _ _ _ _ _ _ _ _ _ _ _ _ (iblk m c 0 t) (iblk m c 1 t) (iblk m c 2 t) (iblk m c 3 t) (iblk m c 4 t) (iblk m c 5 t) hr (fun h => absurd (hc1.mp h) h0) (fun h => hf (hc2.mp h)) (hc3.mpr (by omega)) (fun h => hl (hc4.mp h)))
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  iintro ⟨H1, H2, H3, H4, H5, H6, H7, H8, H9, H10, H11, H12, H13, H14, H15, H16⟩
  isplitl [H10 H11 H12 H13 H14 H15 H16 Hg]
  · isplitl [H10 H11 H12 H13 H14 H15 H16]
    · isplitl [H10]; · iexact H10
      isplitl [H11]; · iexact H11
      isplitl [H12]; · iexact H12
      isplitl [H13]; · iexact H13
      isplitl [H14]; · iexact H14
      isplitl [H15]; · iexact H15
      iexact H16
    iexact Hg
  isplitl [HO]; · iexact HO
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  iexact H9

/-- The body table's row at the point is the body as `bodyAt0` spells it. -/
theorem defs₀_row (t : Fin cfg0.N) : defs₀ (F := F) .tc cfg0.body (cfg0.bodyArgs t (cfg0.slots t)) = bodyAt0 t := by
  unfold defs₀; rw [Defs.onTc_tc]

/-- Every entry of the table array, read through its block, is in range when the array is. -/
theorem inRange_iblk (c : Dev nD) (t : Fin cfg0.N) (h : InRange (m ((c : Thread nD τ).loc main_arg1))) : InRange (iblk m c 0 t) := fun x => by
  unfold iblk
  rw [View.read_apply, cast_eq]
  have e : V m c (Pipeline.arrRef spec0 0) = m ((c : Thread nD τ).loc main_arg1) := V_main_arg1 m c
  rw [e]
  exact h _

/-- The library's body obligation with the outputs forgotten. -/
theorem body_obligation (h : ∀ c : Dev nD, InRange (m ((c : Thread nD τ).loc main_arg1))) (c : Dev nD) :
    BodyObligation (dats (F := F) m 0 c) (defs₀ (F := F)) 𝒱₀ () Set.univ forgets := fun t => by
  rw [bigSep_W0, bigSep_W0, defs₀_row]
  exact triple_restated (sound_body m c t (inRange_iblk m c t (h c))) rfl .rfl fun _ => .rfl

/-- The buffers the operations after the region write. -/
def tail : Finset (Ref sig .tc) := {main_v3, main_v4}

theorem tail_writes : ∀ ops ∈ ([hostOps1] : List (List (HloOp τ sig (Elt F)))), ∀ op ∈ ops, ∀ b : Ref sig .tc, Proc.devRef .tc b ∈ op.writes → b ∈ tail := by
  intro ops hops op hop b hb
  simp only [List.mem_singleton] at hops
  subst hops
  simp only [hostOps1, List.mem_cons, List.not_mem_nil, or_false] at hop
  rcases hop with rfl | rfl
  · simp only [StableHlo.reshape_writes, Finset.mem_singleton] at hb
    have e : b = main_v3 := by
      by_contra hne
      exact StableHlo.devRef_ne_of_ne hne hb
    subst e; decide
  · simp only [StableHlo.reshape_writes, Finset.mem_singleton] at hb
    have e : b = main_v4 := by
      by_contra hne
      exact StableHlo.devRef_ne_of_ne hne hb
    subst e; decide

set_option backward.isDefEq.respectTransparency.types false in
/-- From any memory whose row table is in range and zero counters: every weakly fair execution of @main terminates, and in every final state the
    inputs hold what they held and every semaphore counter is zero. -/
theorem run_main (h : ∀ c : Dev nD, InRange (m ((c : Thread nD τ).loc main_arg1))) :
    θ_run defs (onTc (τ := τ) (main (F := F))) (s₀ m ρ)
      (fun r => Pipeline.RDat.FramePostR (cfgs 0) (fun c => (dats m 0 c).toRForget forgets) tail (V m) r ∧ r.2.sem = fun _ => 0) :=
  Pipeline.θ_run_frame_around_T_track_forget (Q' := _) cfgs (dats m) (0 : Fin 1) launch0 defs₀ 𝒱₀ forgets tail m ρ main
    (hbody := fun c => (body_obligation m h c).loose) (hshare := fun c => (dats m 0 c).share_full fun _ => rfl)
    (howed := fun _ _ => rfl) (V₀ := V0 m) (opss := [hostOps1]) (hsub := sfx_sub) (hfresh := sfx_fresh) (hkeep := sfx_keeps) (hT := tail_writes)
    (hmain := hmain m 𝒱₀) (hA := A_eq m)
    (hin := fun _ => .rfl) (hout := fun _ => .rfl) (hQ' := fun _ h => h)

/-- The frame claim's post. -/
theorem frame (h : ∀ c : Dev nD, InRange (m ((c : Thread nD τ).loc main_arg1))) :
    θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) ∧ r.2.sem = fun _ => 0) :=
  (θ_run defs _ _).mono (fun _ hp => ⟨fun c => ⟨
      ((hp.1 c).2 main_arg0 (Finset.mem_sdiff.mpr ⟨Pipeline.mem_restRefs_of main_arg0 (by decide) (by decide), by decide⟩)).trans (V_main_arg0 m c),
      (hp.1.arr_in c 0 rfl).trans (V_main_arg1 m c),
      (hp.1.arr_in c 4 rfl).trans (V_main_arg2 m c),
      ((hp.1 c).2 main_arg3 (Finset.mem_sdiff.mpr ⟨Pipeline.mem_restRefs_of main_arg3 (by decide) (by decide), by decide⟩)).trans (V_main_arg3 m c),
      (hp.1.arr_in c 2 rfl).trans (V_main_arg4 m c),
      (hp.1.arr_in c 3 rfl).trans (V_main_arg5 m c)⟩, hp.2⟩) (run_main m ρ h)

end Cert.Proof.KernelIdeal
end
-- ==== Proof.Pre.lean ====
/- What the range precondition says of the row table, read off the printed predicate. -/
module

public import proofs.«01_k».proof.Proof.Gen.Pre_perm_in_range
public import Idealize.ShloMosaic.Lib.Tactic

@[expose] public section

noncomputable section

namespace Cert.Proof

open Idealize.ShloMosaic

theorem andi_ofBool (p q : Bool) : IntOp.andi (BitVec.ofBool p) (BitVec.ofBool q) = BitVec.ofBool (p && q) := by
  cases p <;> cases q <;> decide
theorem ori_ofBool (p q : Bool) : IntOp.ori (BitVec.ofBool p) (BitVec.ofBool q) = BitVec.ofBool (p || q) := by
  cases p <;> cases q <;> decide
theorem ofBool_eq_one (p : Bool) : (BitVec.ofBool p = 1#1) ↔ p = true := by cases p <;> decide

/-- A signed word between 0 and 9728 is a natural number below 9728. -/
theorem lt_of_signed (w : BitVec 32) (hge : (0#32).sle w = true) (hlt : w.slt 9728#32 = true) : w.toNat < 9728 := by
  simp only [BitVec.sle, BitVec.slt, decide_eq_true_eq, BitVec.toInt, BitVec.toNat_ofNat] at hge hlt
  omega

/-- The table in range: every word names an output row. -/
theorem inRange_of_pre {F : FTy → Type} [FloatOps F] (a0 a1 a2 a3 a4 a5)
    (h : Cert.Pre_perm_in_range.fn (F := F) a0 a1 a2 a3 a4 a5 = fun _ => 1#1) : ∀ x, (a1 x).toNat < 9728 := by
  intro y
  have e := congrFun h y
  simp only [Pre_perm_in_range.fn, andi, cmpi, broadcastInDim, constantI, IntOp.cmpi, andi_ofBool, ofBool_eq_one, Bool.and_eq_true] at e
  exact lt_of_signed _ e.1 e.2

end Cert.Proof

end
-- ==== Proof.PrePerm.lean ====
/- What the permutation precondition says of the row table, read off the printed predicate. -/
module

public import proofs.«01_k».proof.Proof.Gen.Pre_perm_is_permutation
public import proofs.«01_k».proof.Proof.Pre
public import Idealize.ShloMosaic.Lib.Tactic

@[expose] public section

noncomputable section

namespace Cert.Proof

open Idealize.ShloMosaic

/-- The table a permutation: every word names an output row, and no two words name the same. -/
theorem perm_of_pre {F : FTy → Type} [FloatOps F] (a0 a1 a2 a3 a4 a5)
    (h : Cert.Pre_perm_is_permutation.fn (F := F) a0 a1 a2 a3 a4 a5 = fun _ => 1#1) :
    (∀ x, (a1 x).toNat < 9728) ∧ ∀ x y, a1 x = a1 y → x = y := by
  have key : ∀ x y : Pre_perm_is_permutation.S9728.Idx, ((0#32).sle (a1 x) = true ∧ (a1 x).slt 9728#32 = true)
      ∧ (a1 x ≠ a1 y ∨ x = y) := by
    intro x y
    have e := congrFun h (fun | 0 => x 0 | 1 => y 0)
    simp only [Pre_perm_is_permutation.fn, andi, ori, cmpi, broadcastInDim, constantI, iotaInDim, IntOp.cmpi, andi_ofBool, ori_ofBool, ofBool_eq_one,
      Bool.and_eq_true, Bool.or_eq_true, bne_iff_ne, beq_iff_eq] at e
    obtain ⟨e1, e2⟩ := e
    have hx : ∀ z : Pre_perm_is_permutation.S9728.Idx, (∀ a, (z a).val = (x a).val) → z = x := fun z hz => funext fun a => Fin.ext (hz a)
    have hy : ∀ z : Pre_perm_is_permutation.S9728.Idx, (∀ a, (z a).val = (y a).val) → z = y := fun z hz => funext fun a => Fin.ext (hz a)
    refine ⟨?_, ?_⟩
    · convert e1 using 4 <;> exact (hx _ (by intro a; fin_cases a; rfl)).symm
    · rcases e2 with e2 | e2
      · left
        convert e2 using 2
        · exact (hx _ (by intro a; fin_cases a; rfl)).symm
        · exact (hy _ (by intro a; fin_cases a; rfl)).symm
      · right
        funext a
        fin_cases a
        have hxl : (x 0).val < 9728 := (x 0).isLt
        have hyl : (y 0).val < 9728 := (y 0).isLt
        have e3 := congrArg BitVec.toNat e2
        rw [BitVec.toNat_ofNat, BitVec.toNat_ofNat] at e3
        apply Fin.ext
        change (x 0).val % 2 ^ 32 = (y 0).val % 2 ^ 32 at e3
        change (x 0).val = (y 0).val
        omega
  constructor
  · intro x
    exact lt_of_signed _ (key x x).1.1 (key x x).1.2
  · intro x y hxy
    rcases (key x y).2 with hne | he
    · exact absurd hxy hne
    · exact he

end Cert.Proof

end
-- ==== Proof.IdealBlocks.lean ====
module

public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import Idealize.ShloMosaic.Lib.Pipeline.ValueKit
public import Idealize.ShloMosaic.Lib.Claim
public import Idealize.ShloMosaic.Lib.Pointwise

@[expose] public section

set_option maxRecDepth 16384

noncomputable section

namespace Cert.Proof.KernelIdeal

open Cert.KernelIdeal Cert.KernelIdeal.Gen
open Idealize.ShloMosaic Idealize.ShloMosaic.TcCoe Idealize.ShloMosaic.Tactic

variable {F : FTy → Type} [FloatOps F] [∀ e, Nonempty (Elt F e)]
variable (m : (ℓ : Loc nD τ sig) → Buf (Elt F) ℓ)

/-- Which block each input window holds at each point. -/
theorem index_at : ∀ t : Fin cfg0.N, (cfg0.win 0).index t = ![0] ∧ (cfg0.win 1).index t = ![0, 0] ∧ (cfg0.win 2).index t = ![min t.val 15, 0] ∧
    (cfg0.win 3).index t = ![min t.val 15, 0] ∧ (cfg0.win 4).index t = ![t.val - 16, 0] ∧ (cfg0.win 5).index t = ![t.val - 16, 0] :=
  (by decide +kernel : ∀ t : Fin grid0.N, _)

/-- The first two axes of an array of tokens as one. -/
theorem tokens_apply {α : Type} (v : S2x128x2560.Idx → α) (y : S256x2560.Idx) : shapeCast S256x2560 v shapeCasts_S2x128x2560_S256x2560 y
    = v (ix3 (⟨(y 0).val / 128, by have h : (y 0).val < 256 := (y 0).isLt; omega⟩ : Fin 2) (⟨(y 0).val % 128, by omega⟩ : Fin 128) (y 1)) := by
  pointwise!

/-- The region finds the tokens with their first two axes as one. -/
theorem V_main_v0 (c : Dev nD) : V m c main_v0 = shapeCast S256x2560 (m ((c : Thread nD τ).loc main_arg0)) shapeCasts_S2x128x2560_S256x2560 := by
  show StableHlo.after hostOps0 (fun b => m (c, b)) (Proc.devRef .tc main_v0) = _
  entry_read
  rfl

/-- The region finds the scales of the 8-bit rows as a column. -/
theorem V_main_v1 (c : Dev nD) : V m c main_v1 = shapeCast S1536x1 (m ((c : Thread nD τ).loc main_arg3)) shapeCasts_S1536_S1536x1 := by
  show StableHlo.after hostOps0 (fun b => m (c, b)) (Proc.devRef .tc main_v1) = _
  entry_read
  rfl

/-- The table is one block: the whole array. -/
theorem iblk0 (c : Dev nD) (t : Fin cfg0.N) : (iblk m c 0 t : S9728.Idx → BitVec 32) = m ((c : Thread nD τ).loc main_arg1) := by
  funext y
  have e := index_at t
  blk_ext [iblk, V, e.1]

/-- The tokens are one block: the array of tokens, its first two axes as one. -/
theorem iblk1 (c : Dev nD) (t : Fin cfg0.N) (y : S256x2560.Idx) : (iblk m c 1 t : S256x2560.Idx → Elt F .bf16) y
    = m ((c : Thread nD τ).loc main_arg0) (ix3 (⟨(y 0).val / 128, by have h : (y 0).val < 256 := (y 0).isLt; omega⟩ : Fin 2) (⟨(y 0).val % 128, by omega⟩ : Fin 128) (y 1)) := by
  have e := index_at t
  have ev : V m c (Pipeline.arrRef spec0 1) = shapeCast S256x2560 (m ((c : Thread nD τ).loc main_arg0)) shapeCasts_S2x128x2560_S256x2560 := V_main_v0 m c
  unfold iblk
  rw [View.read_apply, ev]
  have ey : ((cfg0.win 1).blk t).view.emb y = y := by
    funext a
    refine Fin.ext ?_
    blk_simp [e.2.1]
    fin_cases a <;> simp
  rw [ey, cast_eq]
  exact tokens_apply _ y

/-- The packed weights at a point of the 4-bit rows. -/
theorem iblk2 (c : Dev nD) (t : Fin cfg0.N) (ht : t.val < 16) (y : S256x2560.Idx) : (iblk m c 2 t : S256x2560.Idx → BitVec 8) y
    = m ((c : Thread nD τ).loc main_arg4) (ix2 (⟨256 * t.val + (y 0).val, by have h : (y 0).val < 256 := (y 0).isLt; omega⟩ : Fin 4096) (y 1)) := by
  have e := index_at t
  have h : min t.val 15 = t.val := by omega
  blk_ext [iblk, V, e.2.2.1, h]

/-- Their scales. -/
theorem iblk3 (c : Dev nD) (t : Fin cfg0.N) (ht : t.val < 16) (y : S512x20.Idx) : (iblk m c 3 t : S512x20.Idx → Elt F .bf16) y
    = m ((c : Thread nD τ).loc main_arg5) (ix2 (⟨512 * t.val + (y 0).val, by have h : (y 0).val < 512 := (y 0).isLt; omega⟩ : Fin 8192) (y 1)) := by
  have e := index_at t
  have h : min t.val 15 = t.val := by omega
  blk_ext [iblk, V, e.2.2.2.1, h]

/-- The 8-bit weights at a point of the 8-bit rows. -/
theorem iblk4 (c : Dev nD) (t : Fin cfg0.N) (ht : 16 ≤ t.val) (y : S512x2560.Idx) : (iblk m c 4 t : S512x2560.Idx → BitVec 8) y
    = m ((c : Thread nD τ).loc main_arg2) (ix2 (⟨512 * (t.val - 16) + (y 0).val, by have h : (y 0).val < 512 := (y 0).isLt; have := t.isLt; have : t.val < 19 := this; omega⟩ : Fin 1536) (y 1)) := by
  have e := index_at t
  blk_ext [iblk, V, e.2.2.2.2.1]

/-- Their scales. -/
theorem iblk5 (c : Dev nD) (t : Fin cfg0.N) (ht : 16 ≤ t.val) (y : S512x1.Idx) : (iblk m c 5 t : S512x1.Idx → Elt F .f32) y
    = m ((c : Thread nD τ).loc main_arg3) (ix1 (⟨512 * (t.val - 16) + (y 0).val, by have h : (y 0).val < 512 := (y 0).isLt; have := t.isLt; have : t.val < 19 := this; omega⟩ : Fin 1536)) := by
  have e := index_at t
  have ev : V m c (Pipeline.arrRef spec0 5) = shapeCast S1536x1 (m ((c : Thread nD τ).loc main_arg3)) shapeCasts_S1536_S1536x1 := V_main_v1 m c
  unfold iblk
  rw [View.read_apply, ev]
  pointwise
  blk_ext [e.2.2.2.2.2]

end Cert.Proof.KernelIdeal
end
-- ==== Proof.IdealRows.lean ====
module

public import proofs.«01_k».proof.Proof.IdealTrips
public import Idealize.ShloMosaic.Lib.VecWindow
public import Idealize.ShloMosaic.Lib.Bf16Pair
public import Idealize.ShloMosaic.Lib.Pipeline.Value

@[expose] public section

set_option maxRecDepth 16384

noncomputable section

namespace Cert.Proof.KernelIdeal

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F] [∀ e, Nonempty (Elt F e)]

local notation "𝕄" => MT nD τ sig Unit (Elt F) ℕ (UU nD τ) ℕ

/-- The output rows that `D` names hold what `G` says. -/
def Agree (D : ℕ → Prop) (G Y : S9728x2x128.Idx → Elt F .bf16) : Prop := ∀ x, D (x 0).val → Y x = G x

/-- The rows of `D`, and those that the words of the table from `base` on, `q` of them, name. -/
def Upto (D : ℕ → Prop) (X1 : S9728.Idx → BitVec 32) (base q : ℕ) (n : ℕ) : Prop :=
  D n ∨ ∃ z : S9728.Idx, base ≤ (z 0).val ∧ (z 0).val < base + q ∧ (X1 z).toNat = n

/-- The staged rows are the rows of `G` that the table's words from `base` on name. -/
def Staged (X1 : S9728.Idx → BitVec 32) (base : ℕ) (G : S9728x2x128.Idx → Elt F .bf16) (X15 : S512x2x128.Idx → Elt F .bf16) : Prop :=
  ∀ (y : S512x2x128.Idx) (x : S9728x2x128.Idx) (z : S9728.Idx), (z 0).val = base + (y 0).val → (x 0).val = (X1 z).toNat →
    (x 1).val = (y 1).val → (x 2).val = (y 2).val → X15 y = G x

/-- No words named yet: just `D`. -/
theorem upto_zero {D : ℕ → Prop} {X1 : S9728.Idx → BitVec 32} {base : ℕ} {G Y : S9728x2x128.Idx → Elt F .bf16} (h : Agree D G Y) :
    Agree (Upto D X1 base 0) G Y := fun x hx => hx.elim (h x) (fun ⟨z, h1, h2, _⟩ => absurd h2 (by omega))

/-- A row of two halves, split by halves and put together again, is itself. -/
theorem repack (v : Vec F S1x2x128 .bf16) :
    interleaveRows S1x2x128 (shapeCast S1x1x128 (shapeCast S1x128 (rowsOfParity 0 S1x1x128 v bitcasts_S1x2x128_w16_S1x1x128_w32) shapeCasts_S1x1x128_S1x128) shapeCasts_S1x128_S1x1x128)
      (shapeCast S1x1x128 (shapeCast S1x128 (rowsOfParity 1 S1x1x128 v bitcasts_S1x2x128_w16_S1x1x128_w32) shapeCasts_S1x1x128_S1x128) shapeCasts_S1x128_S1x1x128)
      bitcasts_S1x2x128_w16_S1x1x128_w32 = v := by
  rw [shapeCast_shapeCast, shapeCast_shapeCast, interleaveRows_rowsOfParity]

/-- One row of a trip: the staged row `q` is written to the row that word `base + q` of the table names. -/
theorem row_step {D : ℕ → Prop} {G : S9728x2x128.Idx → Elt F .bf16} {X1 : S9728.Idx → BitVec 32} {X15 : S512x2x128.Idx → Elt F .bf16} {base q : ℕ}
    (hS : Staged X1 base G X15) {sp1 sp15 sp16 : Space} {κ : Kind}
    (v1 : View sig κ sp1 S9728 .i32) (f1 : v1.ty.Contents (Elt F)) (e1 : v1.read (Elt F) f1 = X1)
    (v15 : View sig κ sp15 S512x2x128 .bf16) (f15 : v15.ty.Contents (Elt F)) (e15 : v15.read (Elt F) f15 = X15)
    (v16 : View sig κ sp16 S9728x2x128 .bf16) (f16 : v16.ty.Contents (Elt F)) (L : List (View.Piece (Elt F) S9728x2x128 .bf16))
    (off15 : Fin 3 → ℕ) (inb15 : ∀ a, off15 a + S1x2x128.size a ≤ S512x2x128.size a) (h15 : off15 = ![q, 0, 0])
    (off1 : Fin 1 → ℕ) (inb1 : ∀ a, off1 a + S1.size a ≤ S9728.size a) (h1 : off1 = ![base + q])
    (x1 : (Rect.unit (s := S9728) off1 S1.size inb1).toLoadRect.shape.Idx)
    (off16 : Fin 3 → ℕ) (inb16 : ∀ a, off16 a + S1x2x128.size a ≤ S9728x2x128.size a)
    (h16 : off16 = ![(v1.readAt (Elt F) (Rect.unit (s := S9728) off1 S1.size inb1).toLoadRect f1 x1 : BitVec 32).toNat, 0, 0])
    (w : (Rect.unit (s := S9728x2x128) off16 S1x2x128.size inb16).shape.Idx → Elt F .bf16)
    (hw : w = v15.readAt (Elt F) (Rect.unit (s := S512x2x128) off15 S1x2x128.size inb15).toLoadRect f15)
    (h : Agree (Upto D X1 base q) G (v16.read (Elt F) (v16.writes (Elt F) f16 L))) :
    Agree (Upto D X1 base (q + 1)) G (v16.read (Elt F) (v16.writes (Elt F) f16 (⟨Rect.unit (s := S9728x2x128) off16 S1x2x128.size inb16, w⟩ :: L))) := by
  subst h15 h1
  rw [View.read_writes_cons_put v16 f16 inb16 w L h16]
  have ew : (v1.readAt (Elt F) (Rect.unit (s := S9728) ![base + q] S1.size inb1).toLoadRect f1 x1 : BitVec 32) = X1 ((Rect.unit (s := S9728) ![base + q] S1.size inb1).emb x1) := by
    rw [View.readAt_unit v1 f1 inb1 rfl inb1, e1]; rfl
  rw [ew]
  have ez : ((Rect.unit (s := S9728) ![base + q] S1.size inb1).emb x1 0).val = base + q := by
    have hx : (x1 0).val < 1 := (x1 0).isLt
    show base + q + 1 * (x1 0).val = base + q
    omega
  generalize (Rect.unit (s := S9728) ![base + q] S1.size inb1).emb x1 = z at ez
  intro x hx
  unfold VecWindow.put
  split
  · rename_i hin
    have h0 := hin 0
    have h0' : (X1 z).toNat ≤ (x 0).val ∧ (x 0).val < (X1 z).toNat + 1 := h0
    subst hw
    rw [View.readAt_unit v15 f15 inb15 rfl inb15, e15]
    refine hS _ x z ?_ (by omega) ?_ ?_
    · rw [ez]
      show base + q = base + (q + 1 * ((x 0).val - (X1 z).toNat))
      omega
    · show (x 1).val = 0 + 1 * ((x 1).val - 0)
      omega
    · show (x 2).val = 0 + 1 * ((x 2).val - 0)
      omega
  · rename_i hout
    refine h x ?_
    rcases hx with hx | ⟨z', hz1, hz2, hz3⟩
    · exact Or.inl hx
    · by_cases hq : (z' 0).val < base + q
      · exact Or.inr ⟨z', hz1, hq, hz3⟩
      · exfalso
        have ezz : z' = z := by
          funext a
          have ha : a = 0 := Subsingleton.elim _ _
          subst ha
          exact Fin.ext (by omega)
        rw [ezz] at hz3
        apply hout
        intro a
        fin_cases a
        · show (X1 z).toNat ≤ (x 0).val ∧ (x 0).val < (X1 z).toNat + 1
          omega
        · have hb : (x 1).val < 2 := (x 1).isLt
          show 0 ≤ (x 1).val ∧ (x 1).val < 0 + 2
          omega
        · have hb : (x 2).val < 128 := (x 2).isLt
          show 0 ≤ (x 2).val ∧ (x 2).val < 0 + 128
          omega

/-- A position in the table, as the loop of the 8-bit rows computes it. -/
theorem off_eight (i : grid0.Coords) (k : Fin k0_t2_loop.trips) (hi : 16 ≤ (i 0).val) (j : ℕ) (hj : j < 16) :
    (Scalar.indexCast (Scalar.addi (Scalar.muli (Scalar.subi (BitVec.ofNat 32 (i 0).val) 16#32) 512#32)
      (Scalar.addi (Scalar.muli (Scf.iv 0#32 1#32 k.val) 16#32) (BitVec.ofNat 32 j)))).toNat = 512 * ((i 0).val - 16) + (16 * k.val + j) := by
  have r_i0 : (i 0).val < 19 := (i 0).isLt
  have r_k : k.val < 32 := Nat.lt_of_lt_of_le k.isLt k0_t2_abs.2.1
  have h_arg0 : Affine.IsInt (BitVec.ofNat 32 (i 0).val) (((i 0).val : Int)) := Affine.ofNat _ (by omega)
  have c0 : Affine.IsInt 0#32 0 := Affine.ofNat _ (by omega)
  have c1 : Affine.IsInt 1#32 1 := Affine.ofNat _ (by omega)
  have c16 : Affine.IsInt 16#32 16 := Affine.ofNat _ (by omega)
  have c512 : Affine.IsInt 512#32 512 := Affine.ofNat _ (by omega)
  have cj : Affine.IsInt (BitVec.ofNat 32 j) (j : Int) := Affine.ofNat _ (by omega)
  have h_s : Affine.IsInt (Scalar.subi (BitVec.ofNat 32 (i 0).val) 16#32) (((i 0).val : Int) - 16) := Affine.subi h_arg0 c16 (by omega)
  have h_m : Affine.IsInt _ (512 * (((i 0).val : Int) - 16)) := Affine.muli h_s c512 (by omega)
  have h_iv : Affine.IsInt (Scf.iv 0#32 1#32 k.val) ((k.val : Int)) := Affine.iv c0 c1 k.val (by omega)
  have h_km : Affine.IsInt _ (16 * (k.val : Int)) := Affine.muli h_iv c16 (by omega)
  have h_kj : Affine.IsInt _ (16 * (k.val : Int) + j) := Affine.addi h_km cj (by omega)
  have h_all : Affine.IsInt _ (512 * (((i 0).val : Int) - 16) + (16 * (k.val : Int) + j)) := Affine.addi h_m h_kj (by omega)
  have h_ix := Affine.indexCast h_all
  have e : (![_] : Fin 1 → ℕ) = ![512 * ((i 0).val - 16) + (16 * k.val + j)] := Affine.vec_cons h_ix (by push_cast; omega) Affine.vec_nil
  exact congrFun e 0

variable (c : Dev nD) (i : grid0.Coords) (arg1 : Memref sig .tc .smem S9728 .i32) (harg1 : arg1.IsWhole) (arg2 : Memref sig .tc .vmem S256x2560 .bf16) (harg2 : arg2.IsWhole) (arg3 : Memref sig .tc .vmem S256x2560 .i8) (harg3 : arg3.IsWhole) (arg4 : Memref sig .tc .vmem S512x20 .bf16) (harg4 : arg4.IsWhole) (arg5 : Memref sig .tc .vmem S512x2560 .i8) (harg5 : arg5.IsWhole) (arg6 : Memref sig .tc .vmem S512x1 .f32) (harg6 : arg6.IsWhole) (arg7 : Memref sig .tc .vmem S256x9728 .bf16) (harg7 : arg7.IsWhole) (arg8 : Memref sig .tc .vmem S256x2560 .i8) (harg8 : arg8.IsWhole) (arg9 : Memref sig .tc .vmem S2x128 .f32) (harg9 : arg9.IsWhole) (arg10 : Memref sig .tc .vmem S256x2560 .bf16) (harg10 : arg10.IsWhole) (arg11 : Memref sig .tc .vmem S256x2560 .bf16) (harg11 : arg11.IsWhole) (arg12 : Memref sig .tc .vmem S256x128 .f32) (harg12 : arg12.IsWhole) (arg13 : Memref sig .tc .vmem S8x256 .f32) (harg13 : arg13.IsWhole) (arg14 : Memref sig .tc .vmem S512x2560 .bf16) (harg14 : arg14.IsWhole) (arg15 : Memref sig .tc .vmem S512x2x128 .bf16) (harg15 : arg15.IsWhole) (arg16 : Memref sig .tc .vmem S9728x2x128 .bf16) (harg16 : arg16.IsWhole)

/-- One trip of the loop that scatters the rows of a block: sixteen more rows of the output are what `G` says. -/
theorem put_t1 (X1 : S9728.Idx → BitVec 32) (h1 : InRange X1) (X15 : S512x2x128.Idx → Elt F .bf16) (k0_h2 : k0_cond2 i = 1#1) (v178 : BitVec 32)
    (D : ℕ → Prop) (G : S9728x2x128.Idx → Elt F .bf16) (hS : Staged X1 (1536 + 512 * (i 0).val) G X15) (k : Fin k0_t1_loop.trips) (a : Unit) :
    (iprop(owns (c : Thread nD τ) arg1 fullShare X1 ∗ owns (c : Thread nD τ) arg15 fullShare X15 ∗ ∃ Y, ⌜Agree (Upto D X1 (1536 + 512 * (i 0).val) (16 * k.val)) G Y⌝ ∗ owns (c : Thread nD τ) arg16 fullShare Y) : sProp 𝕄)
      ⊢ wp Idealize.ShloMosaic.frame (wpE (defs₀ (F := F)) 𝒱₀ (c : Thread nD τ) none) Set.univ (k0_t1_body (F := F) i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 k0_h2 v178 k a)
        (fun _ => iprop(owns (c : Thread nD τ) arg1 fullShare X1 ∗ owns (c : Thread nD τ) arg15 fullShare X15 ∗ ∃ Y, ⌜Agree (Upto D X1 (1536 + 512 * (i 0).val) (16 * (k.val + 1))) G Y⌝ ∗ owns (c : Thread nD τ) arg16 fullShare Y)) := by
  unfold k0_t1_body
  simp only [k0_part3_eq_skeleton, k0_part4_eq_skeleton, k0_part5_eq_skeleton, k0_part6_eq_skeleton, k0_part7_eq_skeleton, k0_part8_eq_skeleton]
  unfold k0_part3_skel k0_part4_skel k0_part5_skel k0_part6_skel k0_part7_skel k0_part8_skel
  unfold owns
  iintro ⟨⟨%f1, %e1, H1⟩, ⟨%f15, %e15, H15⟩, ⟨%Y, %hY, %f16, %e16, H16⟩⟩
  have hr := inRange_readAt (F := F) arg1.view f1 (e1 ▸ h1)
  have r_i0 : (i 0).val < 19 := (i 0).isLt
  sl_exec (disch := (first | exact chk1_of (hr _ _) | exact chk2_of (hr _ _) | exact chk3_of (hr _ _) | exact chk4_of (hr _ _) | exact chk5_of (hr _ _) | exact chk6_of (hr _ _) | exact chk7_of (hr _ _) | exact chk8_of (hr _ _) | exact chk9_of (hr _ _) | exact chk10_of (hr _ _) | exact chk11_of (hr _ _) | exact chk12_of (hr _ _) | exact chk13_of (hr _ _) | exact chk14_of (hr _ _) | exact chk15_of (hr _ _) | exact chk16_of (hr _ _)))
  sl_step
  isplitl [H1]
  · iexists f1; isplitr; · ipureintro; exact e1
    iexact H1
  isplitl [H15]
  · iexists f15; isplitr; · ipureintro; exact e15
    iexact H15
  iexists _; isplitr
  swap
  · iexists _; isplitr; swap; · iexact H16
    ipureintro; rfl
  ipureintro
  refine row_step hS _ _ e1 _ _ e15 _ _ _ _ _ (k0_off46_eq k) _ _ (by rw [k0_off47_eq]; congr 1; omega) _ _ _ rfl _ (repack _) ?_
  refine row_step hS _ _ e1 _ _ e15 _ _ _ _ _ (k0_off43_eq k) _ _ (by rw [k0_off44_eq]; congr 1; omega) _ _ _ rfl _ (repack _) ?_
  refine row_step hS _ _ e1 _ _ e15 _ _ _ _ _ (k0_off40_eq k) _ _ (by rw [k0_off41_eq]; congr 1; omega) _ _ _ rfl _ (repack _) ?_
  refine row_step hS _ _ e1 _ _ e15 _ _ _ _ _ (k0_off37_eq k) _ _ (by rw [k0_off38_eq]; congr 1; omega) _ _ _ rfl _ (repack _) ?_
  refine row_step hS _ _ e1 _ _ e15 _ _ _ _ _ (k0_off34_eq k) _ _ (by rw [k0_off35_eq]; congr 1; omega) _ _ _ rfl _ (repack _) ?_
  refine row_step hS _ _ e1 _ _ e15 _ _ _ _ _ (k0_off31_eq k) _ _ (by rw [k0_off32_eq]; congr 1; omega) _ _ _ rfl _ (repack _) ?_
  refine row_step hS _ _ e1 _ _ e15 _ _ _ _ _ (k0_off28_eq k) _ _ (by rw [k0_off29_eq]; congr 1; omega) _ _ _ rfl _ (repack _) ?_
  refine row_step hS _ _ e1 _ _ e15 _ _ _ _ _ (k0_off25_eq k) _ _ (by rw [k0_off26_eq]; congr 1; omega) _ _ _ rfl _ (repack _) ?_
  refine row_step hS _ _ e1 _ _ e15 _ _ _ _ _ (k0_off22_eq k) _ _ (by rw [k0_off23_eq]; congr 1; omega) _ _ _ rfl _ (repack _) ?_
  refine row_step hS _ _ e1 _ _ e15 _ _ _ _ _ (k0_off19_eq k) _ _ (by rw [k0_off20_eq]; congr 1; omega) _ _ _ rfl _ (repack _) ?_
  refine row_step hS _ _ e1 _ _ e15 _ _ _ _ _ (k0_off16_eq k) _ _ (by rw [k0_off17_eq]; congr 1; omega) _ _ _ rfl _ (repack _) ?_
  refine row_step hS _ _ e1 _ _ e15 _ _ _ _ _ (k0_off13_eq k) _ _ (by rw [k0_off14_eq]; congr 1; omega) _ _ _ rfl _ (repack _) ?_
  refine row_step hS _ _ e1 _ _ e15 _ _ _ _ _ (k0_off10_eq k) _ _ (by rw [k0_off11_eq]; congr 1; omega) _ _ _ rfl _ (repack _) ?_
  refine row_step hS _ _ e1 _ _ e15 _ _ _ _ _ (k0_off7_eq k) _ _ (by rw [k0_off8_eq]; congr 1; omega) _ _ _ rfl _ (repack _) ?_
  refine row_step hS _ _ e1 _ _ e15 _ _ _ _ _ (k0_off4_eq k) _ _ (by rw [k0_off5_eq]; congr 1; omega) _ _ _ rfl _ (repack _) ?_
  refine row_step hS _ _ e1 _ _ e15 _ _ _ _ _ (k0_off1_eq k) _ _ (by rw [k0_off2_eq]; congr 1; omega) _ _ _ rfl _ (repack _) ?_
  rw [View.writes_nil, e16]
  exact hY

/-- One trip of the loop that scatters the rows of a block: sixteen more rows of the output are what `G` says. -/
theorem put_t2 (X1 : S9728.Idx → BitVec 32) (h1 : InRange X1) (X15 : S512x2x128.Idx → Elt F .bf16) (k0_h3 : k0_cond3 i = 1#1) (hi : 16 ≤ (i 0).val) (v24 : BitVec 32)
    (D : ℕ → Prop) (G : S9728x2x128.Idx → Elt F .bf16) (hS : Staged X1 (512 * ((i 0).val - 16)) G X15) (k : Fin k0_t2_loop.trips) (a : Unit) :
    (iprop(owns (c : Thread nD τ) arg1 fullShare X1 ∗ owns (c : Thread nD τ) arg15 fullShare X15 ∗ ∃ Y, ⌜Agree (Upto D X1 (512 * ((i 0).val - 16)) (16 * k.val)) G Y⌝ ∗ owns (c : Thread nD τ) arg16 fullShare Y) : sProp 𝕄)
      ⊢ wp Idealize.ShloMosaic.frame (wpE (defs₀ (F := F)) 𝒱₀ (c : Thread nD τ) none) Set.univ (k0_t2_body (F := F) i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 k0_h3 v24 k a)
        (fun _ => iprop(owns (c : Thread nD τ) arg1 fullShare X1 ∗ owns (c : Thread nD τ) arg15 fullShare X15 ∗ ∃ Y, ⌜Agree (Upto D X1 (512 * ((i 0).val - 16)) (16 * (k.val + 1))) G Y⌝ ∗ owns (c : Thread nD τ) arg16 fullShare Y)) := by
  unfold k0_t2_body
  simp only [k0_part13_eq_skeleton, k0_part14_eq_skeleton, k0_part15_eq_skeleton, k0_part16_eq_skeleton, k0_part17_eq_skeleton, k0_part18_eq_skeleton]
  unfold k0_part13_skel k0_part14_skel k0_part15_skel k0_part16_skel k0_part17_skel k0_part18_skel
  unfold owns
  iintro ⟨⟨%f1, %e1, H1⟩, ⟨%f15, %e15, H15⟩, ⟨%Y, %hY, %f16, %e16, H16⟩⟩
  have hr := inRange_readAt (F := F) arg1.view f1 (e1 ▸ h1)
  have r_i0 : (i 0).val < 19 := (i 0).isLt
  sl_exec (disch := (first | exact chk17_of (hr _ _) | exact chk18_of (hr _ _) | exact chk19_of (hr _ _) | exact chk20_of (hr _ _) | exact chk21_of (hr _ _) | exact chk22_of (hr _ _) | exact chk23_of (hr _ _) | exact chk24_of (hr _ _) | exact chk25_of (hr _ _) | exact chk26_of (hr _ _) | exact chk27_of (hr _ _) | exact chk28_of (hr _ _) | exact chk29_of (hr _ _) | exact chk30_of (hr _ _) | exact chk31_of (hr _ _) | exact chk32_of (hr _ _)))
  sl_step
  isplitl [H1]
  · iexists f1; isplitr; · ipureintro; exact e1
    iexact H1
  isplitl [H15]
  · iexists f15; isplitr; · ipureintro; exact e15
    iexact H15
  iexists _; isplitr
  swap
  · iexists _; isplitr; swap; · iexact H16
    ipureintro; rfl
  ipureintro
  refine row_step hS _ _ e1 _ _ e15 _ _ _ _ _ (k0_off94_eq k) _ _ (congrArg (fun n : ℕ => ![n]) (off_eight i k hi 15 (by omega))) _ _ _ rfl _ (repack _) ?_
  refine row_step hS _ _ e1 _ _ e15 _ _ _ _ _ (k0_off91_eq k) _ _ (congrArg (fun n : ℕ => ![n]) (off_eight i k hi 14 (by omega))) _ _ _ rfl _ (repack _) ?_
  refine row_step hS _ _ e1 _ _ e15 _ _ _ _ _ (k0_off88_eq k) _ _ (congrArg (fun n : ℕ => ![n]) (off_eight i k hi 13 (by omega))) _ _ _ rfl _ (repack _) ?_
  refine row_step hS _ _ e1 _ _ e15 _ _ _ _ _ (k0_off85_eq k) _ _ (congrArg (fun n : ℕ => ![n]) (off_eight i k hi 12 (by omega))) _ _ _ rfl _ (repack _) ?_
  refine row_step hS _ _ e1 _ _ e15 _ _ _ _ _ (k0_off82_eq k) _ _ (congrArg (fun n : ℕ => ![n]) (off_eight i k hi 11 (by omega))) _ _ _ rfl _ (repack _) ?_
  refine row_step hS _ _ e1 _ _ e15 _ _ _ _ _ (k0_off79_eq k) _ _ (congrArg (fun n : ℕ => ![n]) (off_eight i k hi 10 (by omega))) _ _ _ rfl _ (repack _) ?_
  refine row_step hS _ _ e1 _ _ e15 _ _ _ _ _ (k0_off76_eq k) _ _ (congrArg (fun n : ℕ => ![n]) (off_eight i k hi 9 (by omega))) _ _ _ rfl _ (repack _) ?_
  refine row_step hS _ _ e1 _ _ e15 _ _ _ _ _ (k0_off73_eq k) _ _ (congrArg (fun n : ℕ => ![n]) (off_eight i k hi 8 (by omega))) _ _ _ rfl _ (repack _) ?_
  refine row_step hS _ _ e1 _ _ e15 _ _ _ _ _ (k0_off70_eq k) _ _ (congrArg (fun n : ℕ => ![n]) (off_eight i k hi 7 (by omega))) _ _ _ rfl _ (repack _) ?_
  refine row_step hS _ _ e1 _ _ e15 _ _ _ _ _ (k0_off67_eq k) _ _ (congrArg (fun n : ℕ => ![n]) (off_eight i k hi 6 (by omega))) _ _ _ rfl _ (repack _) ?_
  refine row_step hS _ _ e1 _ _ e15 _ _ _ _ _ (k0_off64_eq k) _ _ (congrArg (fun n : ℕ => ![n]) (off_eight i k hi 5 (by omega))) _ _ _ rfl _ (repack _) ?_
  refine row_step hS _ _ e1 _ _ e15 _ _ _ _ _ (k0_off61_eq k) _ _ (congrArg (fun n : ℕ => ![n]) (off_eight i k hi 4 (by omega))) _ _ _ rfl _ (repack _) ?_
  refine row_step hS _ _ e1 _ _ e15 _ _ _ _ _ (k0_off58_eq k) _ _ (congrArg (fun n : ℕ => ![n]) (off_eight i k hi 3 (by omega))) _ _ _ rfl _ (repack _) ?_
  refine row_step hS _ _ e1 _ _ e15 _ _ _ _ _ (k0_off55_eq k) _ _ (congrArg (fun n : ℕ => ![n]) (off_eight i k hi 2 (by omega))) _ _ _ rfl _ (repack _) ?_
  refine row_step hS _ _ e1 _ _ e15 _ _ _ _ _ (k0_off52_eq k) _ _ (congrArg (fun n : ℕ => ![n]) (off_eight i k hi 1 (by omega))) _ _ _ rfl _ (repack _) ?_
  refine row_step hS _ _ e1 _ _ e15 _ _ _ _ _ (k0_off49_eq k) _ _ (congrArg (fun n : ℕ => ![n]) (off_eight i k hi 0 (by omega))) _ _ _ rfl _ (repack _) ?_
  rw [View.writes_nil, e16]
  exact hY

end Cert.Proof.KernelIdeal
end
-- ==== Proof.IdealTarget.lean ====
module

public import proofs.«01_k».proof.Proof.IdealRows
public import Idealize.ShloMosaic.Lib.Pointwise

@[expose] public section

set_option maxRecDepth 16384

noncomputable section

namespace Cert.Proof.KernelIdeal

open Cert.KernelIdeal Cert.KernelIdeal.Gen
open Idealize.ShloMosaic Idealize.ShloMosaic.TcCoe Idealize.ShloMosaic.Tactic

variable {F : FTy → Type} [FloatOps F] [∀ e, Nonempty (Elt F e)]

/-- The first word of the table that a point reads. -/
def base (t : ℕ) : ℕ := if t < 16 then 1536 + 512 * t else 512 * (t - 16)
/-- The point that reads a word of the table. -/
def point (n : ℕ) : ℕ := if n < 1536 then 16 + n / 512 else (n - 1536) / 512
/-- The row of that point's block that goes where the word says. -/
def row (n : ℕ) : Fin 512 := ⟨if n < 1536 then n % 512 else (n - 1536) % 512, by split <;> omega⟩

/-- A point reads the words from its first on. -/
theorem point_base {t q : ℕ} (ht : t < 19) (hq : q < 512) : point (base t + q) = t := by
  unfold point base
  split <;> split <;> omega

/-- Word by word, row by row. -/
theorem row_base {t q : ℕ} (ht : t < 19) (hq : q < 512) : (row (base t + q)).val = q := by
  show (if base t + q < 1536 then (base t + q) % 512 else (base t + q - 1536) % 512) = q
  unfold base
  split <;> split <;> omega

/-- Each word lies where its point and its row say. -/
theorem base_point {n : ℕ} (hn : n < 9728) : base (point n) + (row n).val = n := by
  show base (point n) + (if n < 1536 then n % 512 else (n - 1536) % 512) = n
  unfold base point
  by_cases h : n < 1536
  · rw [if_pos h, if_pos h, if_neg (by omega)]; omega
  · rw [if_neg h, if_neg h, if_pos (by omega)]; omega

/-- There are nineteen points. -/
theorem point_lt {n : ℕ} (hn : n < 9728) : point n < 19 := by
  unfold point
  split <;> omega

/-- The word of the table that names a row of the output. -/
def wordOf (X1 : S9728.Idx → BitVec 32) (n : ℕ) : ℕ := Classical.epsilon fun k => ∃ z : S9728.Idx, (z 0).val = k ∧ (X1 z).toNat = n

/-- When no two words are equal, each row that is named has one word. -/
theorem wordOf_eq {X1 : S9728.Idx → BitVec 32} (hinj : ∀ x y, X1 x = X1 y → x = y) (z : S9728.Idx) : wordOf X1 (X1 z).toNat = (z 0).val := by
  have h : ∃ z' : S9728.Idx, (z' 0).val = wordOf X1 (X1 z).toNat ∧ (X1 z').toNat = (X1 z).toNat :=
    Classical.epsilon_spec (p := fun k => ∃ z' : S9728.Idx, (z' 0).val = k ∧ (X1 z').toNat = (X1 z).toNat) ⟨_, z, rfl, rfl⟩
  obtain ⟨z', h1, h2⟩ := h
  rw [← h1, hinj z' z (BitVec.eq_of_toNat_eq h2)]

/-- The rows of the output: each is the staged row of the word that names it. -/
def target (stg : ℕ → S512x2x128.Idx → Elt F .bf16) (X1 : S9728.Idx → BitVec 32) : S9728x2x128.Idx → Elt F .bf16 := fun x =>
  stg (point (wordOf X1 (x 0).val)) (ix3 (row (wordOf X1 (x 0).val)) (x 1) (x 2))

/-- The row that a word names is the word's staged row. -/
theorem target_apply {stg : ℕ → S512x2x128.Idx → Elt F .bf16} {X1 : S9728.Idx → BitVec 32} (hinj : ∀ x y, X1 x = X1 y → x = y)
    (x : S9728x2x128.Idx) (z : S9728.Idx) (h : (x 0).val = (X1 z).toNat) :
    target stg X1 x = stg (point (z 0).val) (ix3 (row (z 0).val) (x 1) (x 2)) := by
  unfold target
  rw [h, wordOf_eq hinj z]

/-- Each point's block is a block of those rows. -/
theorem staged_target {stg : ℕ → S512x2x128.Idx → Elt F .bf16} {X1 : S9728.Idx → BitVec 32} (hinj : ∀ x y, X1 x = X1 y → x = y)
    {t : ℕ} (ht : t < 19) : Staged X1 (base t) (target stg X1) (stg t) := by
  intro y x z hz hx h1 h2
  have hy : (y 0).val < 512 := (y 0).isLt
  rw [target_apply hinj x z hx, hz, point_base ht hy]
  congr 1
  funext a
  fin_cases a
  · exact Fin.ext (row_base ht hy).symm
  · exact Fin.ext h1.symm
  · exact Fin.ext h2.symm

/-- The rows that are named before a point. -/
def named (X1 : S9728.Idx → BitVec 32) : ℕ → ℕ → Prop
  | 0 => fun _ => False
  | t + 1 => Upto (named X1 t) X1 (base t) 512

/-- A row is named before a point when one of the earlier points' words names it. -/
theorem named_of (X1 : S9728.Idx → BitVec 32) (z : S9728.Idx) : ∀ t, point (z 0).val < t → named X1 t (X1 z).toNat
  | 0, h => absurd h (by omega)
  | t + 1, h => by
    by_cases ht : point (z 0).val = t
    · have hz : (z 0).val < 9728 := (z 0).isLt
      have hb := base_point hz
      rw [ht] at hb
      exact Or.inr ⟨z, by omega, by have := (row (z 0).val).isLt; omega, rfl⟩
    · exact Or.inl (named_of X1 z t (by omega))

/-- At the end every row is named. -/
theorem named_all {X1 : S9728.Idx → BitVec 32} (hr : InRange X1) (hinj : ∀ x y, X1 x = X1 y → x = y) {n : ℕ} (hn : n < 9728) : named X1 19 n := by
  have hs : Function.Surjective (fun k : Fin 9728 => (⟨(X1 (ix1 k)).toNat, hr _⟩ : Fin 9728)) :=
    Finite.injective_iff_surjective.mp fun a b h => by
      have e := hinj (ix1 a) (ix1 b) (BitVec.eq_of_toNat_eq (Fin.mk.inj h))
      exact congrFun e 0
  obtain ⟨k, hk⟩ := hs ⟨n, hn⟩
  have e : (X1 (ix1 k)).toNat = n := congrArg Fin.val hk
  rw [← e]
  exact named_of X1 (ix1 k) 19 (point_lt (ix1 k 0).isLt)

end Cert.Proof.KernelIdeal
end
-- ==== Proof.IdealValues.lean ====
module

public import proofs.«01_k».proof.Proof.Gen.KernelIdeal
public import proofs.«01_k».proof.Proof.Gen.KernelIdeal.Skeleton
public import Idealize.ShloMosaic.Lib.VecWindow
public import Idealize.ShloMosaic.Lib.Pointwise

@[expose] public section

set_option maxRecDepth 16384

noncomputable section

namespace Cert.Proof.KernelIdeal

open Cert.KernelIdeal Cert.KernelIdeal.Gen
open Idealize.ShloMosaic
open Idealize.ShloMosaic.ValueIdx (idx2_lt0 idx2_lt1)

variable {F : FTy → Type} [FloatOps F]

/-- The weights of a block of 4-bit rows: each code times the scale of its row and its group of 128 columns. -/
def wgt (X3 : S256x2560.Idx → BitVec 8) (X4 : S512x20.Idx → Elt F .bf16) : S512x2560.Idx → Elt F .bf16 := fun y =>
  FloatOps.mulf (k0_pay41 (F := F) X3 y) (X4 (ix2 (y 0) ⟨(y 1).val / 128, by have := idx2_lt1 y; omega⟩))

/-- The scales of the tokens as one row: the even tokens, then the odd ones. -/
def frow (X2 : S256x2560.Idx → Elt F .bf16) : S1x256.Idx → Elt F .f32 := fun y =>
  k0_pay7 (F := F) X2 (ix2 ⟨2 * ((y 1).val % 128) + (y 1).val / 128, by have := idx2_lt1 y; omega⟩ 0)

/-- The scales of the tokens, sequence by sequence. -/
def fxs (X2 : S256x2560.Idx → Elt F .bf16) : S2x128.Idx → Elt F .f32 := fun y =>
  k0_pay7 (F := F) X2 (ix2 ⟨128 * (y 0).val + (y 1).val, by have := idx2_lt0 y; have := idx2_lt1 y; omega⟩ 0)

/-- The staged rows of a block of 4-bit rows. -/
def stage4 (X3 : S256x2560.Idx → BitVec 8) (X4 : S512x20.Idx → Elt F .bf16) (X10 : S256x2560.Idx → Elt F .bf16) : S512x2x128.Idx → Elt F .bf16 :=
  k0_pay1 (F := F) (k0_pay65 (F := F) (wgt X3 X4) X10)

/-- The output as it is written out of the buffer of channels: 128 channels at a time, transposed. -/
def fout (G : S9728x2x128.Idx → Elt F .bf16) : S256x9728.Idx → Elt F .bf16 := fun y =>
  k0_pay5 (F := F) (fun x : S128x2x128.Idx => G (ix3 ⟨128 * ((y 1).val / 128) + (x 0).val, by
    have := idx2_lt1 y; have : (x 0).val < 128 := (x 0).isLt; omega⟩ (x 1) (x 2))) (ix2 (y 0) ⟨(y 1).val % 128, by omega⟩)

/-- The first row of a buffer of eight rows holds `r`. -/
def Row0 (r : S1x256.Idx → Elt F .f32) (Y : S8x256.Idx → Elt F .f32) : Prop :=
  ∀ y : S8x256.Idx, (y 0).val = 0 → Y y = r (ix2 0 (y 1))

section Steps
variable {Val : EltTy → Type} {sig : RefSig} {κ : Kind} {sp : Space} {e : EltTy}

/-- A store of a group of columns over what held `G` in the columns before it. -/
theorem col_step {R C : ℕ} (v : View sig κ sp ⟨2, ![R, C]⟩ e) (f : v.ty.Contents Val) (G : (⟨2, ![R, C]⟩ : Shape).Idx → Val e)
    (o W : ℕ) {off size : Fin 2 → ℕ} (inb : ∀ a, off a + size a ≤ (⟨2, ![R, C]⟩ : Shape).size a)
    (w : (Rect.unit (s := ⟨2, ![R, C]⟩) off size inb).shape.Idx → Val e) (L : List (View.Piece Val ⟨2, ![R, C]⟩ e)) (hoff : off = ![0, o]) (hsz : size = ![R, W])
    (hw : ∀ (x : (⟨2, ![R, W]⟩ : Shape).Idx) (y : (⟨2, ![R, C]⟩ : Shape).Idx), (y 0).val = (x 0).val → (y 1).val = o + (x 1).val →
      w (fun a => (x a).cast (by rw [← hsz]; rfl)) = G y)
    (hL : ∀ y : (⟨2, ![R, C]⟩ : Shape).Idx, (y 1).val < o → v.read Val (v.writes Val f L) y = G y) :
    ∀ y : (⟨2, ![R, C]⟩ : Shape).Idx, (y 1).val < o + W → v.read Val (v.writes Val f (⟨Rect.unit off size inb, w⟩ :: L)) y = G y := by
  subst hoff hsz
  intro y hy
  by_cases h : (y 1).val < o
  · rw [View.read_writes_cons_unit_of_not_mem v f inb w L y rfl (a := 1) (Or.inl h)]
    exact hL y h
  · have h0 : (y 0).val < R := (y 0).isLt
    rw [View.read_writes_cons_unit_of_mem v f inb w L y (ix2 ⟨(y 0).val, h0⟩ (⟨(y 1).val - o, by omega⟩ : Fin W)) rfl]
    · exact hw (ix2 ⟨(y 0).val, h0⟩ (⟨(y 1).val - o, by omega⟩ : Fin W)) y rfl (by show (y 1).val = o + ((y 1).val - o); omega)
    · intro a
      match a with
      | ⟨0, _⟩ => exact (Nat.zero_add _).symm
      | ⟨1, _⟩ => show (y 1).val = o + ((y 1).val - o); omega
end Steps

/-- One group of 128 columns of the weights. -/
theorem wgt_piece (v32 : S512x2560.Idx → Elt F .bf16) (v33 : S512x20.Idx → Elt F .bf16) (o j : ℕ) (h : o = 128 * j)
    (hs : S512x2560.Slices ![0, o] S512x128) (hs1 : S512x20.Slices ![0, j] S512x1) (hb : S512x1.Broadcasts S512x128) (hc : S512x128.ShapeCasts S512x128)
    (x : S512x128.Idx) (y : S512x2560.Idx) (h0 : (y 0).val = (x 0).val) (h1 : (y 1).val = o + (x 1).val) :
    shapeCast S512x128 (mulf (F := F) (φ := .bf16) (extractStridedSlice S512x128 ![0, o] v32 hs) (broadcastTo S512x128 (extractStridedSlice S512x1 ![0, j] v33 hs1) hb)) hc x
      = FloatOps.mulf (v32 y) (v33 (ix2 (y 0) ⟨(y 1).val / 128, by have := idx2_lt1 y; omega⟩)) := by
  rw [shapeCast_self]
  have hx1 : (x 1).val < 128 := (x 1).isLt
  refine congrArg₂ FloatOps.mulf (congrArg v32 ?_) (congrArg v33 ?_)
  · funext a
    match a with
    | ⟨0, _⟩ => exact Fin.ext (by show 0 + (x 0).val = (y 0).val; omega)
    | ⟨1, _⟩ => exact Fin.ext (by show o + (x 1).val = (y 1).val; omega)
  · funext a
    match a with
    | ⟨0, _⟩ => exact Fin.ext (by show 0 + (x 0).val = (y 0).val; omega)
    | ⟨1, _⟩ => exact Fin.ext (by show j + 0 = (y 1).val / 128; omega)

/-- One group of 128 columns of the output. -/
theorem fout_piece (G Y : S9728x2x128.Idx → Elt F .bf16) (hY : Y = G) (c : ℕ) (w : S128x2x128.Idx → Elt F .bf16) (hc : c < 76)
    (hw : w = VecWindow.window Y ![128 * c, 0, 0] ![128, 2, 128] (by intro a; match a with | ⟨0, _⟩ => (show 128 * c + 128 ≤ 9728; omega) | ⟨1, _⟩ => exact le_refl _ | ⟨2, _⟩ => exact le_refl _))
    (x : S256x128.Idx) (y : S256x9728.Idx) (h0 : (y 0).val = (x 0).val) (h1 : (y 1).val = 128 * c + (x 1).val) :
    k0_pay5 (F := F) w x = fout G y := by
  subst hY hw
  have hx1 : (x 1).val < 128 := (x 1).isLt
  have e1 : (y 1).val / 128 = c := by omega
  have e2 : (y 1).val % 128 = (x 1).val := by omega
  unfold fout
  refine congr (congrArg _ ?_) ?_
  · funext z
    refine congrArg Y ?_
    funext a
    match a with
    | ⟨0, _⟩ => exact Fin.ext (by show 128 * c + 1 * (z 0).val = 128 * ((y 1).val / 128) + (z 0).val; omega)
    | ⟨1, _⟩ => exact Fin.ext (by show 0 + 1 * (z 1).val = (z 1).val; omega)
    | ⟨2, _⟩ => exact Fin.ext (by show 0 + 1 * (z 2).val = (z 2).val; omega)
  · funext a
    match a with
    | ⟨0, _⟩ => exact Fin.ext h0.symm
    | ⟨1, _⟩ => exact Fin.ext e2.symm

/-- Every index of a row of 128 words has a last coordinate below 128. -/
theorem lt128 (x : S1x128.Idx) : (x 1).val < 128 := (x 1).isLt

/-- A row of the transposed scales: the scales of the tokens that the rows of `w` are. -/
theorem pay17_apply (X2 : S256x2560.Idx → Elt F .bf16) (w : S128x128.Idx → Elt F .f32) (t : Fin 128 → Fin 256)
    (hw : ∀ x : S128x128.Idx, w x = k0_pay15 (F := F) (k0_pay7 (F := F) X2) (ix2 (t (x 0)) (x 1))) (x : S1x128.Idx) :
    k0_pay17 (F := F) w x = k0_pay7 (F := F) X2 (ix2 (t (x 1)) 0) := by
  unfold k0_pay17
  rw [shapeCast_self]
  pointwise [hw, k0_pay15]

/-- The same, for the rows that are stored without a further cast. -/
theorem pay16_apply (X2 : S256x2560.Idx → Elt F .bf16) (w : S128x128.Idx → Elt F .f32) (t : Fin 128 → Fin 256)
    (hw : ∀ x : S128x128.Idx, w x = k0_pay15 (F := F) (k0_pay7 (F := F) X2) (ix2 (t (x 0)) (x 1))) (x : S1x128.Idx) :
    k0_pay16 (F := F) w x = k0_pay7 (F := F) X2 (ix2 (t (x 1)) 0) := by
  unfold k0_pay16
  pointwise [hw, k0_pay15]

/-- The same, for the second half of the tokens. -/
theorem pay18_apply (X2 : S256x2560.Idx → Elt F .bf16) (w : S128x128.Idx → Elt F .f32) (t : Fin 128 → Fin 256)
    (hw : ∀ x : S128x128.Idx, w x = k0_pay15 (F := F) (k0_pay7 (F := F) X2) (ix2 (t (x 0)) (x 1))) (x : S1x128.Idx) :
    k0_pay18 (F := F) w x = k0_pay7 (F := F) X2 (ix2 (t (x 1)) 0) :=
  pay16_apply X2 w t hw x

/-- The same, for the second half of the tokens. -/
theorem pay19_apply (X2 : S256x2560.Idx → Elt F .bf16) (w : S128x128.Idx → Elt F .f32) (t : Fin 128 → Fin 256)
    (hw : ∀ x : S128x128.Idx, w x = k0_pay15 (F := F) (k0_pay7 (F := F) X2) (ix2 (t (x 0)) (x 1))) (x : S1x128.Idx) :
    k0_pay19 (F := F) w x = k0_pay7 (F := F) X2 (ix2 (t (x 1)) 0) :=
  pay17_apply X2 w t hw x

section Reads
variable {sig : RefSig} {κ : Kind} {sp : Space}

/-- What the buffer of scales reads as, stored whole and loaded through any box. -/
theorem read_box [∀ e, Nonempty (Elt F e)] (v : View sig κ sp S256x128 .f32) (inb : ∀ a, (![0, 0] : Fin 2 → ℕ) a + S256x128.size a ≤ S256x128.size a)
    (w : S256x128.Idx → Elt F .f32) (B : LoadRect S256x128) (x : B.shape.Idx) :
    v.readCov (Val := Elt F) [⟨Rect.unit (s := S256x128) ![0, 0] S256x128.size inb, w⟩] B x = w (B.idx x) := by
  show v.read (Elt F) (v.writes (Elt F) v.junk _) (B.idx x) = _
  rw [View.read_writes_full]

/-- The row of scales, stored in two halves. -/
theorem row13 (X2 : S256x2560.Idx → Elt F .bf16) (v : View sig κ sp S8x256 .f32) (f : v.ty.Contents (Elt F))
    (inb1 : ∀ a, (![0, 128] : Fin 2 → ℕ) a + S1x128.size a ≤ S8x256.size a) (inb0 : ∀ a, (![0, 0] : Fin 2 → ℕ) a + S1x128.size a ≤ S8x256.size a)
    (w1 w0 : S1x128.Idx → Elt F .f32)
    (h1 : ∀ x, w1 x = k0_pay7 (F := F) X2 (ix2 ⟨2 * (x 1).val + 1, by have := lt128 x; omega⟩ 0))
    (h0 : ∀ x, w0 x = k0_pay7 (F := F) X2 (ix2 ⟨2 * (x 1).val, by have := lt128 x; omega⟩ 0)) :
    Row0 (frow X2) (v.read (Elt F) (v.writes (Elt F) f [⟨Rect.unit (s := S8x256) ![0, 128] S1x128.size inb1, w1⟩, ⟨Rect.unit (s := S8x256) ![0, 0] S1x128.size inb0, w0⟩])) := by
  intro y hy
  have hy1 : (y 1).val < 256 := (y 1).isLt
  unfold frow
  by_cases h : (y 1).val < 128
  · rw [View.read_writes_cons_unit_of_not_mem v f inb1 w1 _ y rfl (a := 1) (Or.inl h),
      View.read_writes_cons_unit_of_mem v f inb0 w0 _ y (ix2 (0 : Fin 1) (⟨(y 1).val, h⟩ : Fin 128)) rfl (by
        intro a
        match a with
        | ⟨0, _⟩ => exact hy
        | ⟨1, _⟩ => exact (Nat.zero_add _).symm), h0]
    refine congrArg (k0_pay7 X2) (congrFun (congrArg ix2 (Fin.ext ?_)) _)
    show 2 * (y 1).val = 2 * ((y 1).val % 128) + (y 1).val / 128
    omega
  · rw [View.read_writes_cons_unit_of_mem v f inb1 w1 _ y (ix2 (0 : Fin 1) (⟨(y 1).val - 128, by omega⟩ : Fin 128)) rfl (by
        intro a
        match a with
        | ⟨0, _⟩ => exact hy
        | ⟨1, _⟩ => show (y 1).val = 128 + ((y 1).val - 128); omega), h1]
    refine congrArg (k0_pay7 X2) (congrFun (congrArg ix2 (Fin.ext ?_)) _)
    show 2 * ((y 1).val - 128) + 1 = 2 * ((y 1).val % 128) + (y 1).val / 128
    omega

/-- The scales sequence by sequence, stored in two rows. -/
theorem rows9 (X2 : S256x2560.Idx → Elt F .bf16) (v : View sig κ sp S2x128 .f32) (f : v.ty.Contents (Elt F))
    (inb1 : ∀ a, (![1, 0] : Fin 2 → ℕ) a + S1x128.size a ≤ S2x128.size a) (inb0 : ∀ a, (![0, 0] : Fin 2 → ℕ) a + S1x128.size a ≤ S2x128.size a)
    (w1 w0 : S1x128.Idx → Elt F .f32)
    (h1 : ∀ x, w1 x = k0_pay7 (F := F) X2 (ix2 ⟨128 + (x 1).val, by have := lt128 x; omega⟩ 0))
    (h0 : ∀ x, w0 x = k0_pay7 (F := F) X2 (ix2 ⟨(x 1).val, by have := lt128 x; omega⟩ 0)) :
    v.read (Elt F) (v.writes (Elt F) f [⟨Rect.unit (s := S2x128) ![1, 0] S1x128.size inb1, w1⟩, ⟨Rect.unit (s := S2x128) ![0, 0] S1x128.size inb0, w0⟩]) = fxs X2 := by
  funext y
  have hy0 : (y 0).val < 2 := (y 0).isLt
  have hy1 : (y 1).val < 128 := (y 1).isLt
  unfold fxs
  by_cases h : (y 0).val < 1
  · rw [View.read_writes_cons_unit_of_not_mem v f inb1 w1 _ y rfl (a := 0) (Or.inl h),
      View.read_writes_cons_unit_of_mem v f inb0 w0 _ y (ix2 (0 : Fin 1) (⟨(y 1).val, hy1⟩ : Fin 128)) rfl (by
        intro a
        match a with
        | ⟨0, _⟩ => show (y 0).val = 0 + 0; omega
        | ⟨1, _⟩ => exact (Nat.zero_add _).symm), h0]
    refine congrArg (k0_pay7 X2) (congrFun (congrArg ix2 (Fin.ext ?_)) _)
    show (y 1).val = 128 * (y 0).val + (y 1).val
    omega
  · rw [View.read_writes_cons_unit_of_mem v f inb1 w1 _ y (ix2 (0 : Fin 1) (⟨(y 1).val, hy1⟩ : Fin 128)) rfl (by
        intro a
        match a with
        | ⟨0, _⟩ => show (y 0).val = 1 + 0; omega
        | ⟨1, _⟩ => exact (Nat.zero_add _).symm), h1]
    refine congrArg (k0_pay7 X2) (congrFun (congrArg ix2 (Fin.ext ?_)) _)
    show 128 + (y 1).val = 128 * (y 0).val + (y 1).val
    omega

/-- The first row of the buffer of scales, loaded. -/
theorem read_row (v : View sig κ sp S8x256 .f32) (f : v.ty.Contents (Elt F)) (r : S1x256.Idx → Elt F .f32) (h : Row0 r (v.read (Elt F) f))
    (inb : ∀ a, (![0, 0] : Fin 2 → ℕ) a + S1x256.size a ≤ S8x256.size a) :
    v.readAt (Elt F) (Rect.unit (s := S8x256) ![0, 0] S1x256.size inb).toLoadRect f = r := by
  rw [View.readAt_unit v f inb rfl inb]
  funext x
  have hx : (x 0).val = 0 := by have : (x 0).val < 1 := (x 0).isLt; omega
  refine (h _ (by show 0 + 1 * (x 0).val = 0; omega)).trans (congrArg r ?_)
  funext a
  match a with
  | ⟨0, _⟩ => exact Fin.ext hx.symm
  | ⟨1, _⟩ => exact Fin.ext (by show 0 + 1 * (x 1).val = (x 1).val; omega)

/-- The buffer of weights after its twenty groups of columns are stored. -/
theorem wgt_cols (X3 : S256x2560.Idx → BitVec 8) (X4 : S512x20.Idx → Elt F .bf16) (v : View sig κ sp S512x2560 .bf16) (f : v.ty.Contents (Elt F)) :
    v.read (Elt F) (v.writes (Elt F) f [
      ⟨Rect.unit (s := S512x2560) ![0, 2432] S512x128.size inb_S512x2560_S512x128_0_2432, k0_pay64 (k0_pay41 (F := F) X3) X4⟩,
      ⟨Rect.unit (s := S512x2560) ![0, 2304] S512x128.size inb_S512x2560_S512x128_0_2304, k0_pay63 (k0_pay41 (F := F) X3) X4⟩,
      ⟨Rect.unit (s := S512x2560) ![0, 2176] S512x128.size inb_S512x2560_S512x128_0_2176, k0_pay62 (k0_pay41 (F := F) X3) X4⟩,
      ⟨Rect.unit (s := S512x2560) ![0, 2048] S512x128.size inb_S512x2560_S512x128_0_2048, k0_pay61 (k0_pay41 (F := F) X3) X4⟩,
      ⟨Rect.unit (s := S512x2560) ![0, 1920] S512x128.size inb_S512x2560_S512x128_0_1920, k0_pay60 (k0_pay41 (F := F) X3) X4⟩,
      ⟨Rect.unit (s := S512x2560) ![0, 1792] S512x128.size inb_S512x2560_S512x128_0_1792, k0_pay59 (k0_pay58 (k0_pay41 (F := F) X3) X4)⟩,
      ⟨Rect.unit (s := S512x2560) ![0, 1664] S512x128.size inb_S512x2560_S512x128_0_1664, k0_pay57 (k0_pay41 (F := F) X3) X4⟩,
      ⟨Rect.unit (s := S512x2560) ![0, 1536] S512x128.size inb_S512x2560_S512x128_0_1536, k0_pay56 (k0_pay41 (F := F) X3) X4⟩,
      ⟨Rect.unit (s := S512x2560) ![0, 1408] S512x128.size inb_S512x2560_S512x128_0_1408, k0_pay55 (k0_pay41 (F := F) X3) X4⟩,
      ⟨Rect.unit (s := S512x2560) ![0, 1280] S512x128.size inb_S512x2560_S512x128_0_1280, k0_pay54 (k0_pay41 (F := F) X3) X4⟩,
      ⟨Rect.unit (s := S512x2560) ![0, 1152] S512x128.size inb_S512x2560_S512x128_0_1152, k0_pay53 (k0_pay41 (F := F) X3) X4⟩,
      ⟨Rect.unit (s := S512x2560) ![0, 1024] S512x128.size inb_S512x2560_S512x128_0_1024, k0_pay52 (k0_pay51 (k0_pay41 (F := F) X3) X4)⟩,
      ⟨Rect.unit (s := S512x2560) ![0, 896] S512x128.size inb_S512x2560_S512x128_0_896, k0_pay50 (k0_pay41 (F := F) X3) X4⟩,
      ⟨Rect.unit (s := S512x2560) ![0, 768] S512x128.size inb_S512x2560_S512x128_0_768, k0_pay49 (k0_pay41 (F := F) X3) X4⟩,
      ⟨Rect.unit (s := S512x2560) ![0, 640] S512x128.size inb_S512x2560_S512x128_0_640, k0_pay48 (k0_pay41 (F := F) X3) X4⟩,
      ⟨Rect.unit (s := S512x2560) ![0, 512] S512x128.size inb_S512x2560_S512x128_0_512, k0_pay47 (k0_pay41 (F := F) X3) X4⟩,
      ⟨Rect.unit (s := S512x2560) ![0, 384] S512x128.size inb_S512x2560_S512x128_0_384, k0_pay46 (k0_pay41 (F := F) X3) X4⟩,
      ⟨Rect.unit (s := S512x2560) ![0, 256] S512x128.size inb_S512x2560_S512x128_0_256, k0_pay45 (k0_pay44 X3 X4)⟩,
      ⟨Rect.unit (s := S512x2560) ![0, 128] S512x128.size inb_S512x2560_S512x128_0_128, k0_pay43 X3 X4⟩,
      ⟨Rect.unit (s := S512x2560) ![0, 0] S512x128.size inb_S512x2560_S512x128_0_0, k0_pay42 X3 X4⟩]) = wgt X3 X4 := by
  funext y
  have hy : (y 1).val < 2432 + 128 := (y 1).isLt
  revert y
  iterate 20 refine col_step v f (wgt X3 X4) _ 128 _ _ _ rfl rfl (fun x y h0 h1 => wgt_piece _ _ _ _ (by rfl) _ _ _ _ _ y h0 h1) ?_
  exact fun y hy => absurd hy (Nat.not_lt_zero _)

/-- The same, with the weights and the scales as they are loaded. -/
theorem wgt_cols' {X3 Z3 : S256x2560.Idx → BitVec 8} {X4 Z4 : S512x20.Idx → Elt F .bf16} (h3 : Z3 = X3) (h4 : Z4 = X4) (v : View sig κ sp S512x2560 .bf16) (f : v.ty.Contents (Elt F))
    {P : List (View.Piece (Elt F) S512x2560 .bf16)} (hP : v.read (Elt F) (v.writes (Elt F) f P) = wgt Z3 Z4) : v.read (Elt F) (v.writes (Elt F) f P) = wgt X3 X4 := by
  rw [hP, h3, h4]

/-- The broadcast scales at an index that has the same coordinates. -/
theorem box_eq {X2 Z2 : S256x2560.Idx → Elt F .bf16} (h : Z2 = X2) {y z : S256x128.Idx} (hyz : ∀ a, (y a).val = (z a).val) :
    k0_pay15 (F := F) (k0_pay7 Z2) y = k0_pay15 (F := F) (k0_pay7 X2) z := by
  rw [h, show y = z from funext fun a => Fin.ext (hyz a)]

/-- One more group of 128 columns of the output: the buffer of rows, transposed. -/
theorem fout_col (G : S9728x2x128.Idx → Elt F .bf16) {sp' : Space} (v : View sig κ sp S256x9728 .bf16) (f : v.ty.Contents (Elt F))
    (v16 : View sig κ sp' S9728x2x128 .bf16) (f16 : v16.ty.Contents (Elt F)) (e : v16.read (Elt F) f16 = G) (o : ℕ)
    (inb : ∀ a, (![0, o] : Fin 2 → ℕ) a + S256x128.size a ≤ S256x9728.size a)
    (inb16 : ∀ a, (![o, 0, 0] : Fin 3 → ℕ) a + S128x2x128.size a ≤ S9728x2x128.size a) (L : List (View.Piece (Elt F) S256x9728 .bf16)) (ho : o % 128 = 0)
    (hL : ∀ y, (y 1).val < o → v.read (Elt F) (v.writes (Elt F) f L) y = fout G y) :
    ∀ y, (y 1).val < o + 128 → v.read (Elt F) (v.writes (Elt F) f
      (⟨Rect.unit (s := S256x9728) ![0, o] S256x128.size inb, k0_pay5 (v16.readAt (Elt F) (Rect.unit (s := S9728x2x128) ![o, 0, 0] S128x2x128.size inb16).toLoadRect f16)⟩ :: L)) y = fout G y := by
  have hb : o + 128 ≤ 9728 := inb16 0
  have hc : o = 128 * (o / 128) := by omega
  refine col_step v f (fout G) o 128 _ _ _ rfl rfl (fun x y h0 h1 => ?_) hL
  refine fout_piece G _ e (o / 128) _ (by omega) (View.readAt_unit v16 f16 inb16 (by rw [← hc]) _) x y h0 ?_
  rw [← hc]
  exact h1

end Reads

end Cert.Proof.KernelIdeal
end
-- ==== Proof.IdealValFirst.lean ====
module

public import proofs.«01_k».proof.Proof.Gen.KernelIdeal
public import proofs.«01_k».proof.Proof.Gen.KernelIdeal.Skeleton
public import proofs.«01_k».proof.Proof.Gen.KernelIdeal.Loops
public import proofs.«01_k».proof.Proof.Gen.KernelIdeal.Launch
public import proofs.«01_k».proof.Proof.Gen.KernelIdeal.Points
public import proofs.«01_k».proof.Proof.Gen.KernelIdeal.Frame
public import proofs.«01_k».proof.Proof.IdealRows
public import proofs.«01_k».proof.Proof.IdealValues
public import Idealize.ShloMosaic.Lib.Tactic

@[expose] public section

set_option maxRecDepth 16384

noncomputable section

namespace Cert.Proof.KernelIdeal

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F] [∀ e, Nonempty (Elt F e)]

local notation "𝕄" => MT nD τ sig Unit (Elt F) ℕ (UU nD τ) ℕ

variable (c : Dev nD) (i : grid0.Coords) (arg1 : Memref sig .tc .smem S9728 .i32) (harg1 : arg1.IsWhole) (arg2 : Memref sig .tc .vmem S256x2560 .bf16) (harg2 : arg2.IsWhole) (arg3 : Memref sig .tc .vmem S256x2560 .i8) (harg3 : arg3.IsWhole) (arg4 : Memref sig .tc .vmem S512x20 .bf16) (harg4 : arg4.IsWhole) (arg5 : Memref sig .tc .vmem S512x2560 .i8) (harg5 : arg5.IsWhole) (arg6 : Memref sig .tc .vmem S512x1 .f32) (harg6 : arg6.IsWhole) (arg7 : Memref sig .tc .vmem S256x9728 .bf16) (harg7 : arg7.IsWhole) (arg8 : Memref sig .tc .vmem S256x2560 .i8) (harg8 : arg8.IsWhole) (arg9 : Memref sig .tc .vmem S2x128 .f32) (harg9 : arg9.IsWhole) (arg10 : Memref sig .tc .vmem S256x2560 .bf16) (harg10 : arg10.IsWhole) (arg11 : Memref sig .tc .vmem S256x2560 .bf16) (harg11 : arg11.IsWhole) (arg12 : Memref sig .tc .vmem S256x128 .f32) (harg12 : arg12.IsWhole) (arg13 : Memref sig .tc .vmem S8x256 .f32) (harg13 : arg13.IsWhole) (arg14 : Memref sig .tc .vmem S512x2560 .bf16) (harg14 : arg14.IsWhole) (arg15 : Memref sig .tc .vmem S512x2x128 .bf16) (harg15 : arg15.IsWhole) (arg16 : Memref sig .tc .vmem S9728x2x128 .bf16) (harg16 : arg16.IsWhole)

/-- The body at the first point: the tokens are quantised, and the first block of 4-bit rows goes where the table says. -/
theorem val_first (X1 : S9728.Idx → BitVec 32) (X2 : S256x2560.Idx → Elt F .bf16) (X3 : S256x2560.Idx → BitVec 8) (X4 : S512x20.Idx → Elt F .bf16) (X5 : S512x2560.Idx → BitVec 8) (X6 : S512x1.Idx → Elt F .f32) (X7 : S256x9728.Idx → Elt F .bf16) (hr : InRange X1) (D : ℕ → Prop) (G : S9728x2x128.Idx → Elt F .bf16) (hS : Staged X1 (1536 + 512 * (i 0).val) G (stage4 X3 X4 (k0_pay10 X2))) (h1 : k0_cond1 i = 1#1) (h2 : k0_cond2 i = 1#1) (h3 : ¬ k0_cond3 i = 1#1) (h4 : ¬ k0_cond4 i = 1#1) (K : PUnit → sProp 𝕄) :
    iprop(owns (c : Thread nD τ) arg1 fullShare X1 ∗ owns (c : Thread nD τ) arg2 fullShare X2 ∗ owns (c : Thread nD τ) arg3 fullShare X3 ∗ owns (c : Thread nD τ) arg4 fullShare X4 ∗ owns (c : Thread nD τ) arg5 fullShare X5 ∗ owns (c : Thread nD τ) arg6 fullShare X6 ∗ owns (c : Thread nD τ) arg7 fullShare X7 ∗ (∃ Y, owns (c : Thread nD τ) arg8 fullShare Y) ∗ (∃ Y, owns (c : Thread nD τ) arg9 fullShare Y) ∗ (∃ Y, owns (c : Thread nD τ) arg10 fullShare Y) ∗ (∃ Y, owns (c : Thread nD τ) arg11 fullShare Y) ∗ (∃ Y, owns (c : Thread nD τ) arg12 fullShare Y) ∗ (∃ Y, owns (c : Thread nD τ) arg13 fullShare Y) ∗ (∃ Y, owns (c : Thread nD τ) arg14 fullShare Y) ∗ (∃ Y, owns (c : Thread nD τ) arg15 fullShare Y) ∗ (∃ Y, ⌜Agree D G Y⌝ ∗ owns (c : Thread nD τ) arg16 fullShare Y) ∗ ((owns (c : Thread nD τ) arg1 fullShare X1 ∗ owns (c : Thread nD τ) arg2 fullShare X2 ∗ owns (c : Thread nD τ) arg3 fullShare X3 ∗ owns (c : Thread nD τ) arg4 fullShare X4 ∗ owns (c : Thread nD τ) arg5 fullShare X5 ∗ owns (c : Thread nD τ) arg6 fullShare X6 ∗ owns (c : Thread nD τ) arg7 fullShare X7 ∗ owns (c : Thread nD τ) arg8 fullShare (k0_pay9 X2) ∗ owns (c : Thread nD τ) arg9 fullShare (fxs X2) ∗ owns (c : Thread nD τ) arg10 fullShare (k0_pay10 X2) ∗ owns (c : Thread nD τ) arg11 fullShare (k0_pay14 (k0_pay12 X2) (k0_pay13 X2)) ∗ (∃ Y, owns (c : Thread nD τ) arg12 fullShare Y) ∗ (∃ Y, ⌜Row0 (frow X2) Y⌝ ∗ owns (c : Thread nD τ) arg13 fullShare Y) ∗ (∃ Y, owns (c : Thread nD τ) arg14 fullShare Y) ∗ (∃ Y, owns (c : Thread nD τ) arg15 fullShare Y) ∗ (∃ Y, ⌜Agree (Upto D X1 (1536 + 512 * (i 0).val) 512) G Y⌝ ∗ owns (c : Thread nD τ) arg16 fullShare Y)) -∗ K ⟨⟩))
      ⊢ wp Idealize.ShloMosaic.frame (wpE (defs₀ (F := F)) 𝒱₀ (c : Thread nD τ) none) Set.univ (cc0_mixllm_linear (F := F) i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16) K := by
  simp only [cc0_mixllm_linear_eq_skeleton]
  unfold cc0_mixllm_linear_skel
  simp only [k0_part2_eq_skeleton, k0_part9_eq_skeleton, k0_part10_eq_skeleton, k0_part11_eq_skeleton, k0_part12_eq_skeleton]
  unfold k0_part2_skel
  simp only [k0_part1_eq_skeleton]
  unfold k0_part1_skel k0_part9_skel k0_part10_skel k0_part11_skel k0_part12_skel
  unfold owns
  iintro ⟨⟨%f1, %e1, H1⟩, ⟨%f2, %e2, H2⟩, ⟨%f3, %e3, H3⟩, ⟨%f4, %e4, H4⟩, ⟨%f5, %e5, H5⟩, ⟨%f6, %e6, H6⟩, ⟨%f7, %e7, H7⟩, ⟨%Y8, %f8, -, H8⟩, ⟨%Y9, %f9, -, H9⟩, ⟨%Y10, %f10, -, H10⟩, ⟨%Y11, %f11, -, H11⟩, ⟨%Y12, %f12, -, H12⟩, ⟨%Y13, %f13, -, H13⟩, ⟨%Y14, %f14, -, H14⟩, ⟨%Y15, %f15, -, H15⟩, ⟨%Y16, %hY16, %f16, %e16, H16⟩, Hk⟩
  sl_exec
  iapply (Scf.wp_for_bind Idealize.ShloMosaic.frame (wpE (defs₀ (F := F)) 𝒱₀ (c : Thread nD τ) none) Set.univ _ _ _ (k0_t1_ok i h2) _ _
    (fun k _ => iprop(owns (c : Thread nD τ) arg1 fullShare X1 ∗ owns (c : Thread nD τ) arg15 fullShare (stage4 X3 X4 (k0_pay10 X2)) ∗ ∃ Y, ⌜Agree (Upto D X1 (1536 + 512 * (i 0).val) (16 * k)) G Y⌝ ∗ owns (c : Thread nD τ) arg16 fullShare Y))
    (fun k a => put_t1 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 X1 hr _ h2 _ D G hS k a)) $$ [H1 H15 H16]
  · unfold owns
    isplitl [H1]
    · iexists f1; isplitr; · ipureintro; exact e1
      iexact H1
    isplitl [H15]
    · iexists _; isplitr; swap; · iexact H15
      ipureintro
      subst e2 e3 e4
      refine (View.read_writes_full _ _ _ _ _).trans (congrArg k0_pay1 (congr (congrArg k0_pay65 ?_) ?_))
      · refine (View.readAt_full _ _ _).trans ?_
        exact wgt_cols' (View.readAt_full arg3.view f3 inb_S256x2560_S256x2560_0_0) (View.readAt_full arg4.view f4 inb_S512x20_S512x20_0_0) _ _ (wgt_cols _ _ _ _)
      · exact (View.readAt_full _ _ _).trans ((View.read_writes_full _ _ _ _ _).trans (congrArg k0_pay10 (View.readAt_full _ _ _)))
    iexists Y16; isplitr; · ipureintro; exact upto_zero hY16
    iexists f16; isplitr; · ipureintro; exact e16
    iexact H16
  iintro %a ⟨H1, H15, ⟨%Z16, %hZ16, H16⟩⟩
  have hZ16 : Agree (Upto D X1 (1536 + 512 * (i 0).val) 512) G Z16 := hZ16
  unfold owns
  icases H1 with ⟨%f1', %e1', H1⟩
  icases H15 with ⟨%f15', -, H15⟩
  icases H16 with ⟨%f16', %e16', H16⟩
  sl_exec
  sl_step
  iapply Hk
  isplitl [H1]
  · iexists f1'; isplitr; · ipureintro; exact e1'
    iexact H1
  isplitl [H2]
  · iexists f2; isplitr; · ipureintro; exact e2
    iexact H2
  isplitl [H3]
  · iexists f3; isplitr; · ipureintro; exact e3
    iexact H3
  isplitl [H4]
  · iexists f4; isplitr; · ipureintro; exact e4
    iexact H4
  isplitl [H5]
  · iexists f5; isplitr; · ipureintro; exact e5
    iexact H5
  isplitl [H6]
  · iexists f6; isplitr; · ipureintro; exact e6
    iexact H6
  isplitl [H7]
  · iexists f7; isplitr; · ipureintro; exact e7
    iexact H7
  isplitl [H8]
  · iexists _; isplitr; swap; · iexact H8
    ipureintro
    exact (View.read_writes_full _ _ _ _ _).trans (congrArg k0_pay9 ((View.readAt_full _ _ _).trans e2))
  isplitl [H9]
  · iexists _; isplitr; swap; · iexact H9
    ipureintro
    subst e2
    refine rows9 _ _ _ _ _ _ _ ?_ ?_
    · intro x
      refine pay18_apply _ _ (fun t => ⟨128 + t.val, by have := t.isLt; omega⟩) (fun z => ?_) x
      unfold val_first.sl.v77 val_first.sl.H12_1
      refine (read_box arg12.view inb_S256x128_S256x128_0_0 _ (Rect.unit (s := S256x128) ![128, 0] S128x128.size inb_S256x128_S128x128_128_0).toLoadRect z).trans ?_
      refine box_eq (View.readAt_full arg2.view f2 inb_S256x2560_S256x2560_0_0) ?_
      intro a
      match a with
      | ⟨0, _⟩ => show 128 + 1 * (z 0).val = 128 + (z 0).val; omega
      | ⟨1, _⟩ => show 0 + 1 * (z 1).val = (z 1).val; omega
    · intro x
      refine pay16_apply _ _ (fun t => ⟨t.val, by have := t.isLt; omega⟩) (fun z => ?_) x
      unfold val_first.sl.v67 val_first.sl.H12_1
      refine (read_box arg12.view inb_S256x128_S256x128_0_0 _ (Rect.unit (s := S256x128) ![0, 0] S128x128.size inb_S256x128_S128x128_0_0).toLoadRect z).trans ?_
      refine box_eq (View.readAt_full arg2.view f2 inb_S256x2560_S256x2560_0_0) ?_
      intro a
      match a with
      | ⟨0, _⟩ => show 0 + 1 * (z 0).val = (z 0).val; omega
      | ⟨1, _⟩ => show 0 + 1 * (z 1).val = (z 1).val; omega
  isplitl [H10]
  · iexists _; isplitr; swap; · iexact H10
    ipureintro
    exact (View.read_writes_full _ _ _ _ _).trans (congrArg k0_pay10 ((View.readAt_full _ _ _).trans e2))
  isplitl [H11]
  · iexists _; isplitr; swap; · iexact H11
    ipureintro
    exact (View.read_writes_full _ _ _ _ _).trans (congr (congrArg k0_pay14 (congrArg k0_pay12 ((View.readAt_full _ _ _).trans e2))) (congrArg k0_pay13 ((View.readAt_full _ _ _).trans e2)))
  isplitl [H12]
  · iexists _, _; isplitr; swap; · iexact H12
    ipureintro; rfl
  isplitl [H13]
  · iexists _; isplitr; swap
    · iexists _; isplitr; swap; · iexact H13
      ipureintro; rfl
    ipureintro
    subst e2
    refine row13 _ _ _ _ _ _ _ ?_ ?_
    · intro x
      refine pay19_apply _ _ (fun t => ⟨2 * t.val + 1, by have := t.isLt; omega⟩) (fun z => ?_) x
      unfold val_first.sl.v81 val_first.sl.H12_1
      refine (read_box arg12.view inb_S256x128_S256x128_0_0 _ (⟨![1, 0], S128x128.size, ![2, 1], inb_S256x128_S128x128_1_0_s_2_1⟩ : LoadRect S256x128) z).trans ?_
      refine box_eq (View.readAt_full arg2.view f2 inb_S256x2560_S256x2560_0_0) ?_
      intro a
      match a with
      | ⟨0, _⟩ => show 1 + 2 * (z 0).val = 2 * (z 0).val + 1; omega
      | ⟨1, _⟩ => show 0 + 1 * (z 1).val = (z 1).val; omega
    · intro x
      refine pay17_apply _ _ (fun t => ⟨2 * t.val, by have := t.isLt; omega⟩) (fun z => ?_) x
      unfold val_first.sl.v71 val_first.sl.H12_1
      refine (read_box arg12.view inb_S256x128_S256x128_0_0 _ (⟨![0, 0], S128x128.size, ![2, 1], inb_S256x128_S128x128_0_0_s_2_1⟩ : LoadRect S256x128) z).trans ?_
      refine box_eq (View.readAt_full arg2.view f2 inb_S256x2560_S256x2560_0_0) ?_
      intro a
      match a with
      | ⟨0, _⟩ => show 0 + 2 * (z 0).val = 2 * (z 0).val; omega
      | ⟨1, _⟩ => show 0 + 1 * (z 1).val = (z 1).val; omega
  isplitl [H14]
  · iexists _, _; isplitr; swap; · iexact H14
    ipureintro; rfl
  isplitl [H15]
  · iexists _, _; isplitr; swap; · iexact H15
    ipureintro; rfl
  iexists Z16; isplitr; · ipureintro; exact hZ16
  iexists f16'; isplitr; · ipureintro; exact e16'
  iexact H16

end Cert.Proof.KernelIdeal
end
-- ==== Proof.IdealValFour.lean ====
module

public import proofs.«01_k».proof.Proof.Gen.KernelIdeal
public import proofs.«01_k».proof.Proof.Gen.KernelIdeal.Skeleton
public import proofs.«01_k».proof.Proof.Gen.KernelIdeal.Loops
public import proofs.«01_k».proof.Proof.Gen.KernelIdeal.Launch
public import proofs.«01_k».proof.Proof.Gen.KernelIdeal.Points
public import proofs.«01_k».proof.Proof.Gen.KernelIdeal.Frame
public import proofs.«01_k».proof.Proof.IdealRows
public import proofs.«01_k».proof.Proof.IdealValues
public import Idealize.ShloMosaic.Lib.Tactic

@[expose] public section

set_option maxRecDepth 16384

noncomputable section

namespace Cert.Proof.KernelIdeal

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F] [∀ e, Nonempty (Elt F e)]

local notation "𝕄" => MT nD τ sig Unit (Elt F) ℕ (UU nD τ) ℕ

variable (c : Dev nD) (i : grid0.Coords) (arg1 : Memref sig .tc .smem S9728 .i32) (harg1 : arg1.IsWhole) (arg2 : Memref sig .tc .vmem S256x2560 .bf16) (harg2 : arg2.IsWhole) (arg3 : Memref sig .tc .vmem S256x2560 .i8) (harg3 : arg3.IsWhole) (arg4 : Memref sig .tc .vmem S512x20 .bf16) (harg4 : arg4.IsWhole) (arg5 : Memref sig .tc .vmem S512x2560 .i8) (harg5 : arg5.IsWhole) (arg6 : Memref sig .tc .vmem S512x1 .f32) (harg6 : arg6.IsWhole) (arg7 : Memref sig .tc .vmem S256x9728 .bf16) (harg7 : arg7.IsWhole) (arg8 : Memref sig .tc .vmem S256x2560 .i8) (harg8 : arg8.IsWhole) (arg9 : Memref sig .tc .vmem S2x128 .f32) (harg9 : arg9.IsWhole) (arg10 : Memref sig .tc .vmem S256x2560 .bf16) (harg10 : arg10.IsWhole) (arg11 : Memref sig .tc .vmem S256x2560 .bf16) (harg11 : arg11.IsWhole) (arg12 : Memref sig .tc .vmem S256x128 .f32) (harg12 : arg12.IsWhole) (arg13 : Memref sig .tc .vmem S8x256 .f32) (harg13 : arg13.IsWhole) (arg14 : Memref sig .tc .vmem S512x2560 .bf16) (harg14 : arg14.IsWhole) (arg15 : Memref sig .tc .vmem S512x2x128 .bf16) (harg15 : arg15.IsWhole) (arg16 : Memref sig .tc .vmem S9728x2x128 .bf16) (harg16 : arg16.IsWhole)

/-- The body at a later point of the 4-bit rows. -/
theorem val_four (X1 : S9728.Idx → BitVec 32) (X2 : S256x2560.Idx → Elt F .bf16) (X3 : S256x2560.Idx → BitVec 8) (X4 : S512x20.Idx → Elt F .bf16) (X5 : S512x2560.Idx → BitVec 8) (X6 : S512x1.Idx → Elt F .f32) (X7 : S256x9728.Idx → Elt F .bf16) (X8 : S256x2560.Idx → BitVec 8) (X9 : S2x128.Idx → Elt F .f32) (X10 : S256x2560.Idx → Elt F .bf16) (X11 : S256x2560.Idx → Elt F .bf16) (r : S1x256.Idx → Elt F .f32) (hr : InRange X1) (D : ℕ → Prop) (G : S9728x2x128.Idx → Elt F .bf16) (hS : Staged X1 (1536 + 512 * (i 0).val) G (stage4 X3 X4 X10)) (h1 : ¬ k0_cond1 i = 1#1) (h2 : k0_cond2 i = 1#1) (h3 : ¬ k0_cond3 i = 1#1) (h4 : ¬ k0_cond4 i = 1#1) (K : PUnit → sProp 𝕄) :
    iprop(owns (c : Thread nD τ) arg1 fullShare X1 ∗ owns (c : Thread nD τ) arg2 fullShare X2 ∗ owns (c : Thread nD τ) arg3 fullShare X3 ∗ owns (c : Thread nD τ) arg4 fullShare X4 ∗ owns (c : Thread nD τ) arg5 fullShare X5 ∗ owns (c : Thread nD τ) arg6 fullShare X6 ∗ owns (c : Thread nD τ) arg7 fullShare X7 ∗ owns (c : Thread nD τ) arg8 fullShare X8 ∗ owns (c : Thread nD τ) arg9 fullShare X9 ∗ owns (c : Thread nD τ) arg10 fullShare X10 ∗ owns (c : Thread nD τ) arg11 fullShare X11 ∗ (∃ Y, owns (c : Thread nD τ) arg12 fullShare Y) ∗ (∃ Y, ⌜Row0 r Y⌝ ∗ owns (c : Thread nD τ) arg13 fullShare Y) ∗ (∃ Y, owns (c : Thread nD τ) arg14 fullShare Y) ∗ (∃ Y, owns (c : Thread nD τ) arg15 fullShare Y) ∗ (∃ Y, ⌜Agree D G Y⌝ ∗ owns (c : Thread nD τ) arg16 fullShare Y) ∗ ((owns (c : Thread nD τ) arg1 fullShare X1 ∗ owns (c : Thread nD τ) arg2 fullShare X2 ∗ owns (c : Thread nD τ) arg3 fullShare X3 ∗ owns (c : Thread nD τ) arg4 fullShare X4 ∗ owns (c : Thread nD τ) arg5 fullShare X5 ∗ owns (c : Thread nD τ) arg6 fullShare X6 ∗ owns (c : Thread nD τ) arg7 fullShare X7 ∗ owns (c : Thread nD τ) arg8 fullShare X8 ∗ owns (c : Thread nD τ) arg9 fullShare X9 ∗ owns (c : Thread nD τ) arg10 fullShare X10 ∗ owns (c : Thread nD τ) arg11 fullShare X11 ∗ (∃ Y, owns (c : Thread nD τ) arg12 fullShare Y) ∗ (∃ Y, ⌜Row0 r Y⌝ ∗ owns (c : Thread nD τ) arg13 fullShare Y) ∗ (∃ Y, owns (c : Thread nD τ) arg14 fullShare Y) ∗ (∃ Y, owns (c : Thread nD τ) arg15 fullShare Y) ∗ (∃ Y, ⌜Agree (Upto D X1 (1536 + 512 * (i 0).val) 512) G Y⌝ ∗ owns (c : Thread nD τ) arg16 fullShare Y)) -∗ K ⟨⟩))
      ⊢ wp Idealize.ShloMosaic.frame (wpE (defs₀ (F := F)) 𝒱₀ (c : Thread nD τ) none) Set.univ (cc0_mixllm_linear (F := F) i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16) K := by
  simp only [cc0_mixllm_linear_eq_skeleton]
  unfold cc0_mixllm_linear_skel
  simp only [k0_part9_eq_skeleton, k0_part10_eq_skeleton, k0_part11_eq_skeleton, k0_part12_eq_skeleton]
  unfold k0_part9_skel k0_part10_skel k0_part11_skel k0_part12_skel
  unfold owns
  iintro ⟨⟨%f1, %e1, H1⟩, ⟨%f2, %e2, H2⟩, ⟨%f3, %e3, H3⟩, ⟨%f4, %e4, H4⟩, ⟨%f5, %e5, H5⟩, ⟨%f6, %e6, H6⟩, ⟨%f7, %e7, H7⟩, ⟨%f8, %e8, H8⟩, ⟨%f9, %e9, H9⟩, ⟨%f10, %e10, H10⟩, ⟨%f11, %e11, H11⟩, ⟨%Y12, %f12, -, H12⟩, ⟨%Y13, %hY13, %f13, %e13, H13⟩, ⟨%Y14, %f14, -, H14⟩, ⟨%Y15, %f15, -, H15⟩, ⟨%Y16, %hY16, %f16, %e16, H16⟩, Hk⟩
  sl_exec
  iapply (Scf.wp_for_bind Idealize.ShloMosaic.frame (wpE (defs₀ (F := F)) 𝒱₀ (c : Thread nD τ) none) Set.univ _ _ _ (k0_t1_ok i h2) _ _
    (fun k _ => iprop(owns (c : Thread nD τ) arg1 fullShare X1 ∗ owns (c : Thread nD τ) arg15 fullShare (stage4 X3 X4 X10) ∗ ∃ Y, ⌜Agree (Upto D X1 (1536 + 512 * (i 0).val) (16 * k)) G Y⌝ ∗ owns (c : Thread nD τ) arg16 fullShare Y))
    (fun k a => put_t1 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 X1 hr _ h2 _ D G hS k a)) $$ [H1 H15 H16]
  · unfold owns
    isplitl [H1]
    · iexists f1; isplitr; · ipureintro; exact e1
      iexact H1
    isplitl [H15]
    · iexists _; isplitr; swap; · iexact H15
      ipureintro
      subst e3 e4 e10
      refine (View.read_writes_full _ _ _ _ _).trans (congrArg k0_pay1 (congr (congrArg k0_pay65 ?_) ?_))
      · refine (View.readAt_full _ _ _).trans ?_
        exact wgt_cols' (View.readAt_full arg3.view f3 inb_S256x2560_S256x2560_0_0) (View.readAt_full arg4.view f4 inb_S512x20_S512x20_0_0) _ _ (wgt_cols _ _ _ _)
      · exact View.readAt_full _ _ _
    iexists Y16; isplitr; · ipureintro; exact upto_zero hY16
    iexists f16; isplitr; · ipureintro; exact e16
    iexact H16
  iintro %a ⟨H1, H15, ⟨%Z16, %hZ16, H16⟩⟩
  have hZ16 : Agree (Upto D X1 (1536 + 512 * (i 0).val) 512) G Z16 := hZ16
  unfold owns
  icases H1 with ⟨%f1', %e1', H1⟩
  icases H15 with ⟨%f15', -, H15⟩
  icases H16 with ⟨%f16', %e16', H16⟩
  sl_exec
  sl_step
  iapply Hk
  isplitl [H1]
  · iexists f1'; isplitr; · ipureintro; exact e1'
    iexact H1
  isplitl [H2]
  · iexists f2; isplitr; · ipureintro; exact e2
    iexact H2
  isplitl [H3]
  · iexists f3; isplitr; · ipureintro; exact e3
    iexact H3
  isplitl [H4]
  · iexists f4; isplitr; · ipureintro; exact e4
    iexact H4
  isplitl [H5]
  · iexists f5; isplitr; · ipureintro; exact e5
    iexact H5
  isplitl [H6]
  · iexists f6; isplitr; · ipureintro; exact e6
    iexact H6
  isplitl [H7]
  · iexists f7; isplitr; · ipureintro; exact e7
    iexact H7
  isplitl [H8]
  · iexists f8; isplitr; · ipureintro; exact e8
    iexact H8
  isplitl [H9]
  · iexists f9; isplitr; · ipureintro; exact e9
    iexact H9
  isplitl [H10]
  · iexists f10; isplitr; · ipureintro; exact e10
    iexact H10
  isplitl [H11]
  · iexists f11; isplitr; · ipureintro; exact e11
    iexact H11
  isplitl [H12]
  · iexists _, _; isplitr; swap; · iexact H12
    ipureintro; rfl
  isplitl [H13]
  · iexists Y13; isplitr; · ipureintro; exact hY13
    iexists f13; isplitr; · ipureintro; exact e13
    iexact H13
  isplitl [H14]
  · iexists _, _; isplitr; swap; · iexact H14
    ipureintro; rfl
  isplitl [H15]
  · iexists _, _; isplitr; swap; · iexact H15
    ipureintro; rfl
  iexists Z16; isplitr; · ipureintro; exact hZ16
  iexists f16'; isplitr; · ipureintro; exact e16'
  iexact H16

end Cert.Proof.KernelIdeal
end
-- ==== Proof.IdealValEight.lean ====
module

public import proofs.«01_k».proof.Proof.Gen.KernelIdeal
public import proofs.«01_k».proof.Proof.Gen.KernelIdeal.Skeleton
public import proofs.«01_k».proof.Proof.Gen.KernelIdeal.Loops
public import proofs.«01_k».proof.Proof.Gen.KernelIdeal.Launch
public import proofs.«01_k».proof.Proof.Gen.KernelIdeal.Points
public import proofs.«01_k».proof.Proof.Gen.KernelIdeal.Frame
public import proofs.«01_k».proof.Proof.IdealRows
public import proofs.«01_k».proof.Proof.IdealValues
public import Idealize.ShloMosaic.Lib.Tactic

@[expose] public section

set_option maxRecDepth 16384

noncomputable section

namespace Cert.Proof.KernelIdeal

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F] [∀ e, Nonempty (Elt F e)]

local notation "𝕄" => MT nD τ sig Unit (Elt F) ℕ (UU nD τ) ℕ

variable (c : Dev nD) (i : grid0.Coords) (arg1 : Memref sig .tc .smem S9728 .i32) (harg1 : arg1.IsWhole) (arg2 : Memref sig .tc .vmem S256x2560 .bf16) (harg2 : arg2.IsWhole) (arg3 : Memref sig .tc .vmem S256x2560 .i8) (harg3 : arg3.IsWhole) (arg4 : Memref sig .tc .vmem S512x20 .bf16) (harg4 : arg4.IsWhole) (arg5 : Memref sig .tc .vmem S512x2560 .i8) (harg5 : arg5.IsWhole) (arg6 : Memref sig .tc .vmem S512x1 .f32) (harg6 : arg6.IsWhole) (arg7 : Memref sig .tc .vmem S256x9728 .bf16) (harg7 : arg7.IsWhole) (arg8 : Memref sig .tc .vmem S256x2560 .i8) (harg8 : arg8.IsWhole) (arg9 : Memref sig .tc .vmem S2x128 .f32) (harg9 : arg9.IsWhole) (arg10 : Memref sig .tc .vmem S256x2560 .bf16) (harg10 : arg10.IsWhole) (arg11 : Memref sig .tc .vmem S256x2560 .bf16) (harg11 : arg11.IsWhole) (arg12 : Memref sig .tc .vmem S256x128 .f32) (harg12 : arg12.IsWhole) (arg13 : Memref sig .tc .vmem S8x256 .f32) (harg13 : arg13.IsWhole) (arg14 : Memref sig .tc .vmem S512x2560 .bf16) (harg14 : arg14.IsWhole) (arg15 : Memref sig .tc .vmem S512x2x128 .bf16) (harg15 : arg15.IsWhole) (arg16 : Memref sig .tc .vmem S9728x2x128 .bf16) (harg16 : arg16.IsWhole)

/-- The body at a point of the 8-bit rows. -/
theorem val_eight (X1 : S9728.Idx → BitVec 32) (X2 : S256x2560.Idx → Elt F .bf16) (X3 : S256x2560.Idx → BitVec 8) (X4 : S512x20.Idx → Elt F .bf16) (X5 : S512x2560.Idx → BitVec 8) (X6 : S512x1.Idx → Elt F .f32) (X7 : S256x9728.Idx → Elt F .bf16) (X8 : S256x2560.Idx → BitVec 8) (X9 : S2x128.Idx → Elt F .f32) (X10 : S256x2560.Idx → Elt F .bf16) (X11 : S256x2560.Idx → Elt F .bf16) (r : S1x256.Idx → Elt F .f32) (hr : InRange X1) (D : ℕ → Prop) (G : S9728x2x128.Idx → Elt F .bf16) (hS : Staged X1 (512 * ((i 0).val - 16)) G (k0_pay3 X5 X11 r X6)) (hi : 16 ≤ (i 0).val) (h1 : ¬ k0_cond1 i = 1#1) (h2 : ¬ k0_cond2 i = 1#1) (h3 : k0_cond3 i = 1#1) (h4 : ¬ k0_cond4 i = 1#1) (K : PUnit → sProp 𝕄) :
    iprop(owns (c : Thread nD τ) arg1 fullShare X1 ∗ owns (c : Thread nD τ) arg2 fullShare X2 ∗ owns (c : Thread nD τ) arg3 fullShare X3 ∗ owns (c : Thread nD τ) arg4 fullShare X4 ∗ owns (c : Thread nD τ) arg5 fullShare X5 ∗ owns (c : Thread nD τ) arg6 fullShare X6 ∗ owns (c : Thread nD τ) arg7 fullShare X7 ∗ owns (c : Thread nD τ) arg8 fullShare X8 ∗ owns (c : Thread nD τ) arg9 fullShare X9 ∗ owns (c : Thread nD τ) arg10 fullShare X10 ∗ owns (c : Thread nD τ) arg11 fullShare X11 ∗ (∃ Y, owns (c : Thread nD τ) arg12 fullShare Y) ∗ (∃ Y, ⌜Row0 r Y⌝ ∗ owns (c : Thread nD τ) arg13 fullShare Y) ∗ (∃ Y, owns (c : Thread nD τ) arg14 fullShare Y) ∗ (∃ Y, owns (c : Thread nD τ) arg15 fullShare Y) ∗ (∃ Y, ⌜Agree D G Y⌝ ∗ owns (c : Thread nD τ) arg16 fullShare Y) ∗ ((owns (c : Thread nD τ) arg1 fullShare X1 ∗ owns (c : Thread nD τ) arg2 fullShare X2 ∗ owns (c : Thread nD τ) arg3 fullShare X3 ∗ owns (c : Thread nD τ) arg4 fullShare X4 ∗ owns (c : Thread nD τ) arg5 fullShare X5 ∗ owns (c : Thread nD τ) arg6 fullShare X6 ∗ owns (c : Thread nD τ) arg7 fullShare X7 ∗ owns (c : Thread nD τ) arg8 fullShare X8 ∗ owns (c : Thread nD τ) arg9 fullShare X9 ∗ owns (c : Thread nD τ) arg10 fullShare X10 ∗ owns (c : Thread nD τ) arg11 fullShare X11 ∗ (∃ Y, owns (c : Thread nD τ) arg12 fullShare Y) ∗ (∃ Y, ⌜Row0 r Y⌝ ∗ owns (c : Thread nD τ) arg13 fullShare Y) ∗ (∃ Y, owns (c : Thread nD τ) arg14 fullShare Y) ∗ (∃ Y, owns (c : Thread nD τ) arg15 fullShare Y) ∗ (∃ Y, ⌜Agree (Upto D X1 (512 * ((i 0).val - 16)) 512) G Y⌝ ∗ owns (c : Thread nD τ) arg16 fullShare Y)) -∗ K ⟨⟩))
      ⊢ wp Idealize.ShloMosaic.frame (wpE (defs₀ (F := F)) 𝒱₀ (c : Thread nD τ) none) Set.univ (cc0_mixllm_linear (F := F) i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16) K := by
  simp only [cc0_mixllm_linear_eq_skeleton]
  unfold cc0_mixllm_linear_skel
  unfold owns
  iintro ⟨⟨%f1, %e1, H1⟩, ⟨%f2, %e2, H2⟩, ⟨%f3, %e3, H3⟩, ⟨%f4, %e4, H4⟩, ⟨%f5, %e5, H5⟩, ⟨%f6, %e6, H6⟩, ⟨%f7, %e7, H7⟩, ⟨%f8, %e8, H8⟩, ⟨%f9, %e9, H9⟩, ⟨%f10, %e10, H10⟩, ⟨%f11, %e11, H11⟩, ⟨%Y12, %f12, -, H12⟩, ⟨%Y13, %hY13, %f13, %e13, H13⟩, ⟨%Y14, %f14, -, H14⟩, ⟨%Y15, %f15, -, H15⟩, ⟨%Y16, %hY16, %f16, %e16, H16⟩, Hk⟩
  sl_exec
  iapply (Scf.wp_for_bind Idealize.ShloMosaic.frame (wpE (defs₀ (F := F)) 𝒱₀ (c : Thread nD τ) none) Set.univ _ _ _ (k0_t2_ok i h3) _ _
    (fun k _ => iprop(owns (c : Thread nD τ) arg1 fullShare X1 ∗ owns (c : Thread nD τ) arg15 fullShare (k0_pay3 X5 X11 r X6) ∗ ∃ Y, ⌜Agree (Upto D X1 (512 * ((i 0).val - 16)) (16 * k)) G Y⌝ ∗ owns (c : Thread nD τ) arg16 fullShare Y))
    (fun k a => put_t2 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 X1 hr _ h3 hi _ D G hS k a)) $$ [H1 H15 H16]
  · unfold owns
    isplitl [H1]
    · iexists f1; isplitr; · ipureintro; exact e1
      iexact H1
    isplitl [H15]
    · iexists _; isplitr; swap; · iexact H15
      ipureintro
      subst e5 e6 e11 e13
      refine (View.read_writes_full _ _ _ _ _).trans ?_
      refine congr (congr (congr (congrArg k0_pay3 ?_) ?_) ?_) ?_
      · exact View.readAt_full _ _ _
      · exact View.readAt_full _ _ _
      · exact read_row _ _ r hY13 _
      · exact View.readAt_full _ _ _
    iexists Y16; isplitr; · ipureintro; exact upto_zero hY16
    iexists f16; isplitr; · ipureintro; exact e16
    iexact H16
  iintro %a ⟨H1, H15, ⟨%Z16, %hZ16, H16⟩⟩
  have hZ16 : Agree (Upto D X1 (512 * ((i 0).val - 16)) 512) G Z16 := hZ16
  unfold owns
  icases H1 with ⟨%f1', %e1', H1⟩
  icases H15 with ⟨%f15', -, H15⟩
  icases H16 with ⟨%f16', %e16', H16⟩
  sl_exec
  sl_step
  iapply Hk
  isplitl [H1]
  · iexists f1'; isplitr; · ipureintro; exact e1'
    iexact H1
  isplitl [H2]
  · iexists f2; isplitr; · ipureintro; exact e2
    iexact H2
  isplitl [H3]
  · iexists f3; isplitr; · ipureintro; exact e3
    iexact H3
  isplitl [H4]
  · iexists f4; isplitr; · ipureintro; exact e4
    iexact H4
  isplitl [H5]
  · iexists f5; isplitr; · ipureintro; exact e5
    iexact H5
  isplitl [H6]
  · iexists f6; isplitr; · ipureintro; exact e6
    iexact H6
  isplitl [H7]
  · iexists f7; isplitr; · ipureintro; exact e7
    iexact H7
  isplitl [H8]
  · iexists f8; isplitr; · ipureintro; exact e8
    iexact H8
  isplitl [H9]
  · iexists f9; isplitr; · ipureintro; exact e9
    iexact H9
  isplitl [H10]
  · iexists f10; isplitr; · ipureintro; exact e10
    iexact H10
  isplitl [H11]
  · iexists f11; isplitr; · ipureintro; exact e11
    iexact H11
  isplitl [H12]
  · iexists _, _; isplitr; swap; · iexact H12
    ipureintro; rfl
  isplitl [H13]
  · iexists Y13; isplitr; · ipureintro; exact hY13
    iexists f13; isplitr; · ipureintro; exact e13
    iexact H13
  isplitl [H14]
  · iexists _, _; isplitr; swap; · iexact H14
    ipureintro; rfl
  isplitl [H15]
  · iexists _, _; isplitr; swap; · iexact H15
    ipureintro; rfl
  iexists Z16; isplitr; · ipureintro; exact hZ16
  iexists f16'; isplitr; · ipureintro; exact e16'
  iexact H16

end Cert.Proof.KernelIdeal
end
-- ==== Proof.IdealValLast.lean ====
module

public import proofs.«01_k».proof.Proof.Gen.KernelIdeal
public import proofs.«01_k».proof.Proof.Gen.KernelIdeal.Skeleton
public import proofs.«01_k».proof.Proof.Gen.KernelIdeal.Loops
public import proofs.«01_k».proof.Proof.Gen.KernelIdeal.Launch
public import proofs.«01_k».proof.Proof.Gen.KernelIdeal.Points
public import proofs.«01_k».proof.Proof.Gen.KernelIdeal.Frame
public import proofs.«01_k».proof.Proof.IdealRows
public import proofs.«01_k».proof.Proof.IdealValues
public import Idealize.ShloMosaic.Lib.Tactic

@[expose] public section

set_option maxRecDepth 16384

noncomputable section

namespace Cert.Proof.KernelIdeal

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F] [∀ e, Nonempty (Elt F e)]

local notation "𝕄" => MT nD τ sig Unit (Elt F) ℕ (UU nD τ) ℕ

variable (c : Dev nD) (i : grid0.Coords) (arg1 : Memref sig .tc .smem S9728 .i32) (harg1 : arg1.IsWhole) (arg2 : Memref sig .tc .vmem S256x2560 .bf16) (harg2 : arg2.IsWhole) (arg3 : Memref sig .tc .vmem S256x2560 .i8) (harg3 : arg3.IsWhole) (arg4 : Memref sig .tc .vmem S512x20 .bf16) (harg4 : arg4.IsWhole) (arg5 : Memref sig .tc .vmem S512x2560 .i8) (harg5 : arg5.IsWhole) (arg6 : Memref sig .tc .vmem S512x1 .f32) (harg6 : arg6.IsWhole) (arg7 : Memref sig .tc .vmem S256x9728 .bf16) (harg7 : arg7.IsWhole) (arg8 : Memref sig .tc .vmem S256x2560 .i8) (harg8 : arg8.IsWhole) (arg9 : Memref sig .tc .vmem S2x128 .f32) (harg9 : arg9.IsWhole) (arg10 : Memref sig .tc .vmem S256x2560 .bf16) (harg10 : arg10.IsWhole) (arg11 : Memref sig .tc .vmem S256x2560 .bf16) (harg11 : arg11.IsWhole) (arg12 : Memref sig .tc .vmem S256x128 .f32) (harg12 : arg12.IsWhole) (arg13 : Memref sig .tc .vmem S8x256 .f32) (harg13 : arg13.IsWhole) (arg14 : Memref sig .tc .vmem S512x2560 .bf16) (harg14 : arg14.IsWhole) (arg15 : Memref sig .tc .vmem S512x2x128 .bf16) (harg15 : arg15.IsWhole) (arg16 : Memref sig .tc .vmem S9728x2x128 .bf16) (harg16 : arg16.IsWhole)

/-- The body at the last point: the last block of 8-bit rows, and then the whole output. -/
theorem val_last (X1 : S9728.Idx → BitVec 32) (X2 : S256x2560.Idx → Elt F .bf16) (X3 : S256x2560.Idx → BitVec 8) (X4 : S512x20.Idx → Elt F .bf16) (X5 : S512x2560.Idx → BitVec 8) (X6 : S512x1.Idx → Elt F .f32) (X8 : S256x2560.Idx → BitVec 8) (X9 : S2x128.Idx → Elt F .f32) (X10 : S256x2560.Idx → Elt F .bf16) (X11 : S256x2560.Idx → Elt F .bf16) (r : S1x256.Idx → Elt F .f32) (hr : InRange X1) (D : ℕ → Prop) (G : S9728x2x128.Idx → Elt F .bf16) (hS : Staged X1 (512 * ((i 0).val - 16)) G (k0_pay3 X5 X11 r X6)) (hi : 16 ≤ (i 0).val) (hall : ∀ n, n < 9728 → Upto D X1 (512 * ((i 0).val - 16)) 512 n) (h1 : ¬ k0_cond1 i = 1#1) (h2 : ¬ k0_cond2 i = 1#1) (h3 : k0_cond3 i = 1#1) (h4 : k0_cond4 i = 1#1) (K : PUnit → sProp 𝕄) :
    iprop(owns (c : Thread nD τ) arg1 fullShare X1 ∗ owns (c : Thread nD τ) arg2 fullShare X2 ∗ owns (c : Thread nD τ) arg3 fullShare X3 ∗ owns (c : Thread nD τ) arg4 fullShare X4 ∗ owns (c : Thread nD τ) arg5 fullShare X5 ∗ owns (c : Thread nD τ) arg6 fullShare X6 ∗ (∃ Y, owns (c : Thread nD τ) arg7 fullShare Y) ∗ owns (c : Thread nD τ) arg8 fullShare X8 ∗ owns (c : Thread nD τ) arg9 fullShare X9 ∗ owns (c : Thread nD τ) arg10 fullShare X10 ∗ owns (c : Thread nD τ) arg11 fullShare X11 ∗ (∃ Y, owns (c : Thread nD τ) arg12 fullShare Y) ∗ (∃ Y, ⌜Row0 r Y⌝ ∗ owns (c : Thread nD τ) arg13 fullShare Y) ∗ (∃ Y, owns (c : Thread nD τ) arg14 fullShare Y) ∗ (∃ Y, owns (c : Thread nD τ) arg15 fullShare Y) ∗ (∃ Y, ⌜Agree D G Y⌝ ∗ owns (c : Thread nD τ) arg16 fullShare Y) ∗ ((owns (c : Thread nD τ) arg1 fullShare X1 ∗ owns (c : Thread nD τ) arg2 fullShare X2 ∗ owns (c : Thread nD τ) arg3 fullShare X3 ∗ owns (c : Thread nD τ) arg4 fullShare X4 ∗ owns (c : Thread nD τ) arg5 fullShare X5 ∗ owns (c : Thread nD τ) arg6 fullShare X6 ∗ owns (c : Thread nD τ) arg7 fullShare (fout G) ∗ owns (c : Thread nD τ) arg8 fullShare X8 ∗ owns (c : Thread nD τ) arg9 fullShare X9 ∗ owns (c : Thread nD τ) arg10 fullShare X10 ∗ owns (c : Thread nD τ) arg11 fullShare X11 ∗ (∃ Y, owns (c : Thread nD τ) arg12 fullShare Y) ∗ (∃ Y, ⌜Row0 r Y⌝ ∗ owns (c : Thread nD τ) arg13 fullShare Y) ∗ (∃ Y, owns (c : Thread nD τ) arg14 fullShare Y) ∗ (∃ Y, owns (c : Thread nD τ) arg15 fullShare Y) ∗ (∃ Y, ⌜Agree (Upto D X1 (512 * ((i 0).val - 16)) 512) G Y⌝ ∗ owns (c : Thread nD τ) arg16 fullShare Y)) -∗ K ⟨⟩))
      ⊢ wp Idealize.ShloMosaic.frame (wpE (defs₀ (F := F)) 𝒱₀ (c : Thread nD τ) none) Set.univ (cc0_mixllm_linear (F := F) i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16) K := by
  simp only [cc0_mixllm_linear_eq_skeleton]
  unfold cc0_mixllm_linear_skel
  simp only [k0_part19_eq_skeleton, k0_part20_eq_skeleton, k0_part21_eq_skeleton, k0_part22_eq_skeleton, k0_part23_eq_skeleton, k0_part24_eq_skeleton, k0_part25_eq_skeleton, k0_part26_eq_skeleton, k0_part27_eq_skeleton, k0_part28_eq_skeleton, k0_part29_eq_skeleton, k0_part30_eq_skeleton, k0_part31_eq_skeleton, k0_part32_eq_skeleton, k0_part33_eq_skeleton, k0_part34_eq_skeleton, k0_part35_eq_skeleton, k0_part36_eq_skeleton, k0_part37_eq_skeleton, k0_part38_eq_skeleton, k0_part39_eq_skeleton, k0_part40_eq_skeleton, k0_part41_eq_skeleton, k0_part42_eq_skeleton, k0_part43_eq_skeleton]
  unfold k0_part19_skel k0_part20_skel k0_part21_skel k0_part22_skel k0_part23_skel k0_part24_skel k0_part25_skel k0_part26_skel k0_part27_skel k0_part28_skel k0_part29_skel k0_part30_skel k0_part31_skel k0_part32_skel k0_part33_skel k0_part34_skel k0_part35_skel k0_part36_skel k0_part37_skel k0_part38_skel k0_part39_skel k0_part40_skel k0_part41_skel k0_part42_skel k0_part43_skel
  unfold owns
  iintro ⟨⟨%f1, %e1, H1⟩, ⟨%f2, %e2, H2⟩, ⟨%f3, %e3, H3⟩, ⟨%f4, %e4, H4⟩, ⟨%f5, %e5, H5⟩, ⟨%f6, %e6, H6⟩, ⟨%Y7, %f7, -, H7⟩, ⟨%f8, %e8, H8⟩, ⟨%f9, %e9, H9⟩, ⟨%f10, %e10, H10⟩, ⟨%f11, %e11, H11⟩, ⟨%Y12, %f12, -, H12⟩, ⟨%Y13, %hY13, %f13, %e13, H13⟩, ⟨%Y14, %f14, -, H14⟩, ⟨%Y15, %f15, -, H15⟩, ⟨%Y16, %hY16, %f16, %e16, H16⟩, Hk⟩
  sl_exec
  iapply (Scf.wp_for_bind Idealize.ShloMosaic.frame (wpE (defs₀ (F := F)) 𝒱₀ (c : Thread nD τ) none) Set.univ _ _ _ (k0_t2_ok i h3) _ _
    (fun k _ => iprop(owns (c : Thread nD τ) arg1 fullShare X1 ∗ owns (c : Thread nD τ) arg15 fullShare (k0_pay3 X5 X11 r X6) ∗ ∃ Y, ⌜Agree (Upto D X1 (512 * ((i 0).val - 16)) (16 * k)) G Y⌝ ∗ owns (c : Thread nD τ) arg16 fullShare Y))
    (fun k a => put_t2 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 X1 hr _ h3 hi _ D G hS k a)) $$ [H1 H15 H16]
  · unfold owns
    isplitl [H1]
    · iexists f1; isplitr; · ipureintro; exact e1
      iexact H1
    isplitl [H15]
    · iexists _; isplitr; swap; · iexact H15
      ipureintro
      subst e5 e6 e11 e13
      refine (View.read_writes_full _ _ _ _ _).trans ?_
      refine congr (congr (congr (congrArg k0_pay3 ?_) ?_) ?_) ?_
      · exact View.readAt_full _ _ _
      · exact View.readAt_full _ _ _
      · exact read_row _ _ r hY13 _
      · exact View.readAt_full _ _ _
    iexists Y16; isplitr; · ipureintro; exact upto_zero hY16
    iexists f16; isplitr; · ipureintro; exact e16
    iexact H16
  iintro %a ⟨H1, H15, ⟨%Z16, %hZ16, H16⟩⟩
  have hZ16 : Agree (Upto D X1 (512 * ((i 0).val - 16)) 512) G Z16 := hZ16
  unfold owns
  icases H1 with ⟨%f1', %e1', H1⟩
  icases H15 with ⟨%f15', -, H15⟩
  icases H16 with ⟨%f16', %e16', H16⟩
  sl_exec
  sl_step
  have hG : Z16 = G := funext fun x => hZ16 x (hall _ (x 0).isLt)
  iapply Hk
  isplitl [H1]
  · iexists f1'; isplitr; · ipureintro; exact e1'
    iexact H1
  isplitl [H2]
  · iexists f2; isplitr; · ipureintro; exact e2
    iexact H2
  isplitl [H3]
  · iexists f3; isplitr; · ipureintro; exact e3
    iexact H3
  isplitl [H4]
  · iexists f4; isplitr; · ipureintro; exact e4
    iexact H4
  isplitl [H5]
  · iexists f5; isplitr; · ipureintro; exact e5
    iexact H5
  isplitl [H6]
  · iexists f6; isplitr; · ipureintro; exact e6
    iexact H6
  isplitl [H7]
  · iexists _; isplitr; swap; · iexact H7
    ipureintro
    refine funext fun y => ?_
    have hy : (y 1).val < 9600 + 128 := (y 1).isLt
    revert y
    iterate 76 refine fout_col G _ _ arg16.view f16' (e16'.trans hG) _ _ _ _ (by rfl) ?_
    exact fun y hy => absurd hy (Nat.not_lt_zero _)
  isplitl [H8]
  · iexists f8; isplitr; · ipureintro; exact e8
    iexact H8
  isplitl [H9]
  · iexists f9; isplitr; · ipureintro; exact e9
    iexact H9
  isplitl [H10]
  · iexists f10; isplitr; · ipureintro; exact e10
    iexact H10
  isplitl [H11]
  · iexists f11; isplitr; · ipureintro; exact e11
    iexact H11
  isplitl [H12]
  · iexists _, _; isplitr; swap; · iexact H12
    ipureintro; rfl
  isplitl [H13]
  · iexists Y13; isplitr; · ipureintro; exact hY13
    iexists f13; isplitr; · ipureintro; exact e13
    iexact H13
  isplitl [H14]
  · iexists _, _; isplitr; swap; · iexact H14
    ipureintro; rfl
  isplitl [H15]
  · iexists _, _; isplitr; swap; · iexact H15
    ipureintro; rfl
  iexists Z16; isplitr; · ipureintro; exact hZ16
  iexists f16'; isplitr; · ipureintro; exact e16'
  iexact H16

end Cert.Proof.KernelIdeal
end
-- ==== Proof.IdealGroup.lean ====
module

public import proofs.«01_k».proof.Proof.IdealValFirst
public import proofs.«01_k».proof.Proof.IdealValFour
public import proofs.«01_k».proof.Proof.IdealValEight
public import proofs.«01_k».proof.Proof.IdealValLast

public import Idealize.ShloMosaic.Lib.Tactic

@[expose] public section

set_option maxRecDepth 16384

noncomputable section

namespace Cert.Proof.KernelIdeal

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F] [∀ e, Nonempty (Elt F e)]

local notation "𝕄" => MT nD τ sig Unit (Elt F) ℕ (UU nD τ) ℕ

/-- A run of the body, its buffers in the order of the operands, is one with its buffers in the pipeline's order. -/
theorem regroup {δ1 δ2 δ3 δ4 δ5 δ6 δ7 δ8 δ9 : Type} {P1 P2 P3 P4 P5 P6 Q10 Q11 Q12 Q13 Q14 Q15 Q16 P10 P11 P12 P13 P14 P15 P16 g O W R : sProp 𝕄}
    {P7 P7' Q7 : δ7 → sProp 𝕄} {P8 P8' Q8 : δ8 → sProp 𝕄} {P9 P9' Q9 : δ9 → sProp 𝕄} (p7 : ∀ d, P7 d ⊢ P7' d) (p8 : ∀ d, P8 d ⊢ P8' d) (p9 : ∀ d, P9 d ⊢ P9' d)
    (h : ∀ d7 d8 d9, iprop(P1 ∗ P2 ∗ P3 ∗ P4 ∗ P5 ∗ P6 ∗ P7' d7 ∗ P8' d8 ∗ P9' d9 ∗ P10 ∗ P11 ∗ P12 ∗ P13 ∗ P14 ∗ P15 ∗ P16 ∗ ((P1 ∗ P2 ∗ P3 ∗ P4 ∗ P5 ∗ P6 ∗ Q7 d7 ∗ Q8 d8 ∗ Q9 d9 ∗ Q10 ∗ Q11 ∗ Q12 ∗ Q13 ∗ Q14 ∗ Q15 ∗ Q16) -∗ R)) ⊢ W)
    (hR : iprop(((Q10 ∗ Q11 ∗ Q12 ∗ Q13 ∗ Q14 ∗ Q15 ∗ Q16) ∗ g) ∗ O ∗ P1 ∗ P2 ∗ P3 ∗ P4 ∗ P5 ∗ P6 ∗ (∃ d, Q7 d) ∗ (∃ d, Q8 d) ∗ (∃ d, Q9 d)) ⊢ R) :
    iprop(((P10 ∗ P11 ∗ P12 ∗ P13 ∗ P14 ∗ P15 ∗ P16) ∗ g) ∗ O ∗ (∃ _d : δ1, P1) ∗ (∃ _d : δ2, P2) ∗ (∃ _d : δ3, P3) ∗ (∃ _d : δ4, P4) ∗ (∃ _d : δ5, P5) ∗ (∃ _d : δ6, P6) ∗ (∃ d, P7 d) ∗ (∃ d, P8 d) ∗ (∃ d, P9 d)) ⊢ W := by
  iintro ⟨⟨⟨H10, H11, H12, H13, H14, H15, H16⟩, Hg⟩, HO, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
  iapply (h d7 d8 d9)
  isplitl [H1]; · iexact H1
  isplitl [H2]; · iexact H2
  isplitl [H3]; · iexact H3
  isplitl [H4]; · iexact H4
  isplitl [H5]; · iexact H5
  isplitl [H6]; · iexact H6
  isplitl [H7]; · iapply (p7 d7); iexact H7
  isplitl [H8]; · iapply (p8 d8); iexact H8
  isplitl [H9]; · iapply (p9 d9); iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  iintro ⟨H1, H2, H3, H4, H5, H6, H7, H8, H9, H10, H11, H12, H13, H14, H15, H16⟩
  iapply hR
  isplitl [H10 H11 H12 H13 H14 H15 H16 Hg]
  · isplitl [H10 H11 H12 H13 H14 H15 H16]
    · isplitl [H10]; · iexact H10
      isplitl [H11]; · iexact H11
      isplitl [H12]; · iexact H12
      isplitl [H13]; · iexact H13
      isplitl [H14]; · iexact H14
      isplitl [H15]; · iexact H15
      iexact H16
    iexact Hg
  isplitl [HO]; · iexact HO
  isplitl [H1]; · iexact H1
  isplitl [H2]; · iexact H2
  isplitl [H3]; · iexact H3
  isplitl [H4]; · iexact H4
  isplitl [H5]; · iexact H5
  isplitl [H6]; · iexact H6
  isplitl [H7]; · iexists d7; iexact H7
  isplitl [H8]; · iexists d8; iexact H8
  iexists d9; iexact H9

/-- Named contents are some contents. -/
theorem some_owns {c : Thread nD τ} {sp : Space} {s : Shape} {e : EltTy} (a : Memref sig c.2.kind sp s e) (X : s.Idx → Elt F e) :
    (owns c a fullShare X : sProp 𝕄) ⊢ iprop(∃ Y, owns c a fullShare Y) := by
  iintro H
  iexists X
  iexact H

variable (c : Dev nD) (i : grid0.Coords) (arg1 : Memref sig .tc .smem S9728 .i32) (harg1 : arg1.IsWhole) (arg2 : Memref sig .tc .vmem S256x2560 .bf16) (harg2 : arg2.IsWhole) (arg3 : Memref sig .tc .vmem S256x2560 .i8) (harg3 : arg3.IsWhole) (arg4 : Memref sig .tc .vmem S512x20 .bf16) (harg4 : arg4.IsWhole) (arg5 : Memref sig .tc .vmem S512x2560 .i8) (harg5 : arg5.IsWhole) (arg6 : Memref sig .tc .vmem S512x1 .f32) (harg6 : arg6.IsWhole) (arg7 : Memref sig .tc .vmem S256x9728 .bf16) (harg7 : arg7.IsWhole) (arg8 : Memref sig .tc .vmem S256x2560 .i8) (harg8 : arg8.IsWhole) (arg9 : Memref sig .tc .vmem S2x128 .f32) (harg9 : arg9.IsWhole) (arg10 : Memref sig .tc .vmem S256x2560 .bf16) (harg10 : arg10.IsWhole) (arg11 : Memref sig .tc .vmem S256x2560 .bf16) (harg11 : arg11.IsWhole) (arg12 : Memref sig .tc .vmem S256x128 .f32) (harg12 : arg12.IsWhole) (arg13 : Memref sig .tc .vmem S8x256 .f32) (harg13 : arg13.IsWhole) (arg14 : Memref sig .tc .vmem S512x2560 .bf16) (harg14 : arg14.IsWhole) (arg15 : Memref sig .tc .vmem S512x2x128 .bf16) (harg15 : arg15.IsWhole) (arg16 : Memref sig .tc .vmem S9728x2x128 .bf16) (harg16 : arg16.IsWhole)
variable {δ1 δ2 δ3 δ4 δ5 δ6 δ7 δ8 δ9 : Type}

/-- What the first point does, its buffers in the pipeline's order. -/
theorem grouped_first (X1 : S9728.Idx → BitVec 32) (X2 : S256x2560.Idx → Elt F .bf16) (X3 : S256x2560.Idx → BitVec 8) (X4 : S512x20.Idx → Elt F .bf16) (X5 : S512x2560.Idx → BitVec 8) (X6 : S512x1.Idx → Elt F .f32) (hr : InRange X1) (D : ℕ → Prop) (G : S9728x2x128.Idx → Elt F .bf16) (hS : Staged X1 (1536 + 512 * (i 0).val) G (stage4 X3 X4 (k0_pay10 X2))) (h1 : k0_cond1 i = 1#1) (h2 : k0_cond2 i = 1#1) (h3 : ¬ k0_cond3 i = 1#1) (h4 : ¬ k0_cond4 i = 1#1) (B7 : δ7 → S256x9728.Idx → Elt F .bf16) (B8 : δ8 → S256x2560.Idx → BitVec 8) (B9 : δ9 → S2x128.Idx → Elt F .f32) (g O R : sProp 𝕄)
    (hR : iprop(((owns (c : Thread nD τ) arg10 fullShare (k0_pay10 X2) ∗ owns (c : Thread nD τ) arg11 fullShare (k0_pay14 (k0_pay12 X2) (k0_pay13 X2)) ∗ (∃ Y, owns (c : Thread nD τ) arg12 fullShare Y) ∗ (∃ Y, ⌜Row0 (frow X2) Y⌝ ∗ owns (c : Thread nD τ) arg13 fullShare Y) ∗ (∃ Y, owns (c : Thread nD τ) arg14 fullShare Y) ∗ (∃ Y, owns (c : Thread nD τ) arg15 fullShare Y) ∗ (∃ Y, ⌜Agree (Upto D X1 (1536 + 512 * (i 0).val) 512) G Y⌝ ∗ owns (c : Thread nD τ) arg16 fullShare Y)) ∗ g) ∗ O ∗ owns (c : Thread nD τ) arg1 fullShare X1 ∗ owns (c : Thread nD τ) arg2 fullShare X2 ∗ owns (c : Thread nD τ) arg3 fullShare X3 ∗ owns (c : Thread nD τ) arg4 fullShare X4 ∗ owns (c : Thread nD τ) arg5 fullShare X5 ∗ owns (c : Thread nD τ) arg6 fullShare X6 ∗ (∃ d : δ7, owns (c : Thread nD τ) arg7 fullShare (B7 d)) ∗ (∃ d : δ8, owns (c : Thread nD τ) arg8 fullShare (k0_pay9 X2)) ∗ (∃ d : δ9, owns (c : Thread nD τ) arg9 fullShare (fxs X2))) ⊢ R) :
    iprop((((∃ Y, owns (c : Thread nD τ) arg10 fullShare Y) ∗ (∃ Y, owns (c : Thread nD τ) arg11 fullShare Y) ∗ (∃ Y, owns (c : Thread nD τ) arg12 fullShare Y) ∗ (∃ Y, owns (c : Thread nD τ) arg13 fullShare Y) ∗ (∃ Y, owns (c : Thread nD τ) arg14 fullShare Y) ∗ (∃ Y, owns (c : Thread nD τ) arg15 fullShare Y) ∗ (∃ Y, ⌜Agree D G Y⌝ ∗ owns (c : Thread nD τ) arg16 fullShare Y)) ∗ g) ∗ O ∗ (∃ _d : δ1, owns (c : Thread nD τ) arg1 fullShare X1) ∗ (∃ _d : δ2, owns (c : Thread nD τ) arg2 fullShare X2) ∗ (∃ _d : δ3, owns (c : Thread nD τ) arg3 fullShare X3) ∗ (∃ _d : δ4, owns (c : Thread nD τ) arg4 fullShare X4) ∗ (∃ _d : δ5, owns (c : Thread nD τ) arg5 fullShare X5) ∗ (∃ _d : δ6, owns (c : Thread nD τ) arg6 fullShare X6) ∗ (∃ d, owns (c : Thread nD τ) arg7 fullShare (B7 d)) ∗ (∃ d, owns (c : Thread nD τ) arg8 fullShare (B8 d)) ∗ (∃ d, owns (c : Thread nD τ) arg9 fullShare (B9 d)))
      ⊢ wp Idealize.ShloMosaic.frame (wpE (defs₀ (F := F)) 𝒱₀ (c : Thread nD τ) none) Set.univ (cc0_mixllm_linear (F := F) i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16) (fun _ => R) :=
  regroup (fun d => .rfl) (fun d => some_owns _ _) (fun d => some_owns _ _) (fun d7 d8 d9 => val_first c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 X1 X2 X3 X4 X5 X6 (B7 d7) hr D G hS h1 h2 h3 h4 (fun _ => R)) hR

/-- What a point of the 4-bit rows does, its buffers in the pipeline's order. -/
theorem grouped_four (X1 : S9728.Idx → BitVec 32) (X2 : S256x2560.Idx → Elt F .bf16) (X3 : S256x2560.Idx → BitVec 8) (X4 : S512x20.Idx → Elt F .bf16) (X5 : S512x2560.Idx → BitVec 8) (X6 : S512x1.Idx → Elt F .f32) (X10 : S256x2560.Idx → Elt F .bf16) (X11 : S256x2560.Idx → Elt F .bf16) (r : S1x256.Idx → Elt F .f32) (hr : InRange X1) (D : ℕ → Prop) (G : S9728x2x128.Idx → Elt F .bf16) (hS : Staged X1 (1536 + 512 * (i 0).val) G (stage4 X3 X4 X10)) (h1 : ¬ k0_cond1 i = 1#1) (h2 : k0_cond2 i = 1#1) (h3 : ¬ k0_cond3 i = 1#1) (h4 : ¬ k0_cond4 i = 1#1) (B7 : δ7 → S256x9728.Idx → Elt F .bf16) (B8 : δ8 → S256x2560.Idx → BitVec 8) (B9 : δ9 → S2x128.Idx → Elt F .f32) (g O R : sProp 𝕄)
    (hR : iprop(((owns (c : Thread nD τ) arg10 fullShare X10 ∗ owns (c : Thread nD τ) arg11 fullShare X11 ∗ (∃ Y, owns (c : Thread nD τ) arg12 fullShare Y) ∗ (∃ Y, ⌜Row0 r Y⌝ ∗ owns (c : Thread nD τ) arg13 fullShare Y) ∗ (∃ Y, owns (c : Thread nD τ) arg14 fullShare Y) ∗ (∃ Y, owns (c : Thread nD τ) arg15 fullShare Y) ∗ (∃ Y, ⌜Agree (Upto D X1 (1536 + 512 * (i 0).val) 512) G Y⌝ ∗ owns (c : Thread nD τ) arg16 fullShare Y)) ∗ g) ∗ O ∗ owns (c : Thread nD τ) arg1 fullShare X1 ∗ owns (c : Thread nD τ) arg2 fullShare X2 ∗ owns (c : Thread nD τ) arg3 fullShare X3 ∗ owns (c : Thread nD τ) arg4 fullShare X4 ∗ owns (c : Thread nD τ) arg5 fullShare X5 ∗ owns (c : Thread nD τ) arg6 fullShare X6 ∗ (∃ d : δ7, owns (c : Thread nD τ) arg7 fullShare (B7 d)) ∗ (∃ d : δ8, owns (c : Thread nD τ) arg8 fullShare (B8 d)) ∗ (∃ d : δ9, owns (c : Thread nD τ) arg9 fullShare (B9 d))) ⊢ R) :
    iprop(((owns (c : Thread nD τ) arg10 fullShare X10 ∗ owns (c : Thread nD τ) arg11 fullShare X11 ∗ (∃ Y, owns (c : Thread nD τ) arg12 fullShare Y) ∗ (∃ Y, ⌜Row0 r Y⌝ ∗ owns (c : Thread nD τ) arg13 fullShare Y) ∗ (∃ Y, owns (c : Thread nD τ) arg14 fullShare Y) ∗ (∃ Y, owns (c : Thread nD τ) arg15 fullShare Y) ∗ (∃ Y, ⌜Agree D G Y⌝ ∗ owns (c : Thread nD τ) arg16 fullShare Y)) ∗ g) ∗ O ∗ (∃ _d : δ1, owns (c : Thread nD τ) arg1 fullShare X1) ∗ (∃ _d : δ2, owns (c : Thread nD τ) arg2 fullShare X2) ∗ (∃ _d : δ3, owns (c : Thread nD τ) arg3 fullShare X3) ∗ (∃ _d : δ4, owns (c : Thread nD τ) arg4 fullShare X4) ∗ (∃ _d : δ5, owns (c : Thread nD τ) arg5 fullShare X5) ∗ (∃ _d : δ6, owns (c : Thread nD τ) arg6 fullShare X6) ∗ (∃ d, owns (c : Thread nD τ) arg7 fullShare (B7 d)) ∗ (∃ d, owns (c : Thread nD τ) arg8 fullShare (B8 d)) ∗ (∃ d, owns (c : Thread nD τ) arg9 fullShare (B9 d)))
      ⊢ wp Idealize.ShloMosaic.frame (wpE (defs₀ (F := F)) 𝒱₀ (c : Thread nD τ) none) Set.univ (cc0_mixllm_linear (F := F) i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16) (fun _ => R) :=
  regroup (fun d => .rfl) (fun d => .rfl) (fun d => .rfl) (fun d7 d8 d9 => val_four c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 X1 X2 X3 X4 X5 X6 (B7 d7) (B8 d8) (B9 d9) X10 X11 r hr D G hS h1 h2 h3 h4 (fun _ => R)) hR

/-- What a point of the 8-bit rows does, its buffers in the pipeline's order. -/
theorem grouped_eight (X1 : S9728.Idx → BitVec 32) (X2 : S256x2560.Idx → Elt F .bf16) (X3 : S256x2560.Idx → BitVec 8) (X4 : S512x20.Idx → Elt F .bf16) (X5 : S512x2560.Idx → BitVec 8) (X6 : S512x1.Idx → Elt F .f32) (X10 : S256x2560.Idx → Elt F .bf16) (X11 : S256x2560.Idx → Elt F .bf16) (r : S1x256.Idx → Elt F .f32) (hr : InRange X1) (D : ℕ → Prop) (G : S9728x2x128.Idx → Elt F .bf16) (hS : Staged X1 (512 * ((i 0).val - 16)) G (k0_pay3 X5 X11 r X6)) (hi : 16 ≤ (i 0).val) (h1 : ¬ k0_cond1 i = 1#1) (h2 : ¬ k0_cond2 i = 1#1) (h3 : k0_cond3 i = 1#1) (h4 : ¬ k0_cond4 i = 1#1) (B7 : δ7 → S256x9728.Idx → Elt F .bf16) (B8 : δ8 → S256x2560.Idx → BitVec 8) (B9 : δ9 → S2x128.Idx → Elt F .f32) (g O R : sProp 𝕄)
    (hR : iprop(((owns (c : Thread nD τ) arg10 fullShare X10 ∗ owns (c : Thread nD τ) arg11 fullShare X11 ∗ (∃ Y, owns (c : Thread nD τ) arg12 fullShare Y) ∗ (∃ Y, ⌜Row0 r Y⌝ ∗ owns (c : Thread nD τ) arg13 fullShare Y) ∗ (∃ Y, owns (c : Thread nD τ) arg14 fullShare Y) ∗ (∃ Y, owns (c : Thread nD τ) arg15 fullShare Y) ∗ (∃ Y, ⌜Agree (Upto D X1 (512 * ((i 0).val - 16)) 512) G Y⌝ ∗ owns (c : Thread nD τ) arg16 fullShare Y)) ∗ g) ∗ O ∗ owns (c : Thread nD τ) arg1 fullShare X1 ∗ owns (c : Thread nD τ) arg2 fullShare X2 ∗ owns (c : Thread nD τ) arg3 fullShare X3 ∗ owns (c : Thread nD τ) arg4 fullShare X4 ∗ owns (c : Thread nD τ) arg5 fullShare X5 ∗ owns (c : Thread nD τ) arg6 fullShare X6 ∗ (∃ d : δ7, owns (c : Thread nD τ) arg7 fullShare (B7 d)) ∗ (∃ d : δ8, owns (c : Thread nD τ) arg8 fullShare (B8 d)) ∗ (∃ d : δ9, owns (c : Thread nD τ) arg9 fullShare (B9 d))) ⊢ R) :
    iprop(((owns (c : Thread nD τ) arg10 fullShare X10 ∗ owns (c : Thread nD τ) arg11 fullShare X11 ∗ (∃ Y, owns (c : Thread nD τ) arg12 fullShare Y) ∗ (∃ Y, ⌜Row0 r Y⌝ ∗ owns (c : Thread nD τ) arg13 fullShare Y) ∗ (∃ Y, owns (c : Thread nD τ) arg14 fullShare Y) ∗ (∃ Y, owns (c : Thread nD τ) arg15 fullShare Y) ∗ (∃ Y, ⌜Agree D G Y⌝ ∗ owns (c : Thread nD τ) arg16 fullShare Y)) ∗ g) ∗ O ∗ (∃ _d : δ1, owns (c : Thread nD τ) arg1 fullShare X1) ∗ (∃ _d : δ2, owns (c : Thread nD τ) arg2 fullShare X2) ∗ (∃ _d : δ3, owns (c : Thread nD τ) arg3 fullShare X3) ∗ (∃ _d : δ4, owns (c : Thread nD τ) arg4 fullShare X4) ∗ (∃ _d : δ5, owns (c : Thread nD τ) arg5 fullShare X5) ∗ (∃ _d : δ6, owns (c : Thread nD τ) arg6 fullShare X6) ∗ (∃ d, owns (c : Thread nD τ) arg7 fullShare (B7 d)) ∗ (∃ d, owns (c : Thread nD τ) arg8 fullShare (B8 d)) ∗ (∃ d, owns (c : Thread nD τ) arg9 fullShare (B9 d)))
      ⊢ wp Idealize.ShloMosaic.frame (wpE (defs₀ (F := F)) 𝒱₀ (c : Thread nD τ) none) Set.univ (cc0_mixllm_linear (F := F) i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16) (fun _ => R) :=
  regroup (fun d => .rfl) (fun d => .rfl) (fun d => .rfl) (fun d7 d8 d9 => val_eight c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 X1 X2 X3 X4 X5 X6 (B7 d7) (B8 d8) (B9 d9) X10 X11 r hr D G hS hi h1 h2 h3 h4 (fun _ => R)) hR

/-- What the last point does, its buffers in the pipeline's order. -/
theorem grouped_last (X1 : S9728.Idx → BitVec 32) (X2 : S256x2560.Idx → Elt F .bf16) (X3 : S256x2560.Idx → BitVec 8) (X4 : S512x20.Idx → Elt F .bf16) (X5 : S512x2560.Idx → BitVec 8) (X6 : S512x1.Idx → Elt F .f32) (X10 : S256x2560.Idx → Elt F .bf16) (X11 : S256x2560.Idx → Elt F .bf16) (r : S1x256.Idx → Elt F .f32) (hr : InRange X1) (D : ℕ → Prop) (G : S9728x2x128.Idx → Elt F .bf16) (hS : Staged X1 (512 * ((i 0).val - 16)) G (k0_pay3 X5 X11 r X6)) (hi : 16 ≤ (i 0).val) (hall : ∀ n, n < 9728 → Upto D X1 (512 * ((i 0).val - 16)) 512 n) (h1 : ¬ k0_cond1 i = 1#1) (h2 : ¬ k0_cond2 i = 1#1) (h3 : k0_cond3 i = 1#1) (h4 : k0_cond4 i = 1#1) (B7 : δ7 → S256x9728.Idx → Elt F .bf16) (B8 : δ8 → S256x2560.Idx → BitVec 8) (B9 : δ9 → S2x128.Idx → Elt F .f32) (g O R : sProp 𝕄)
    (hR : iprop(((owns (c : Thread nD τ) arg10 fullShare X10 ∗ owns (c : Thread nD τ) arg11 fullShare X11 ∗ (∃ Y, owns (c : Thread nD τ) arg12 fullShare Y) ∗ (∃ Y, ⌜Row0 r Y⌝ ∗ owns (c : Thread nD τ) arg13 fullShare Y) ∗ (∃ Y, owns (c : Thread nD τ) arg14 fullShare Y) ∗ (∃ Y, owns (c : Thread nD τ) arg15 fullShare Y) ∗ (∃ Y, ⌜Agree (Upto D X1 (512 * ((i 0).val - 16)) 512) G Y⌝ ∗ owns (c : Thread nD τ) arg16 fullShare Y)) ∗ g) ∗ O ∗ owns (c : Thread nD τ) arg1 fullShare X1 ∗ owns (c : Thread nD τ) arg2 fullShare X2 ∗ owns (c : Thread nD τ) arg3 fullShare X3 ∗ owns (c : Thread nD τ) arg4 fullShare X4 ∗ owns (c : Thread nD τ) arg5 fullShare X5 ∗ owns (c : Thread nD τ) arg6 fullShare X6 ∗ (∃ d : δ7, owns (c : Thread nD τ) arg7 fullShare (fout G)) ∗ (∃ d : δ8, owns (c : Thread nD τ) arg8 fullShare (B8 d)) ∗ (∃ d : δ9, owns (c : Thread nD τ) arg9 fullShare (B9 d))) ⊢ R) :
    iprop(((owns (c : Thread nD τ) arg10 fullShare X10 ∗ owns (c : Thread nD τ) arg11 fullShare X11 ∗ (∃ Y, owns (c : Thread nD τ) arg12 fullShare Y) ∗ (∃ Y, ⌜Row0 r Y⌝ ∗ owns (c : Thread nD τ) arg13 fullShare Y) ∗ (∃ Y, owns (c : Thread nD τ) arg14 fullShare Y) ∗ (∃ Y, owns (c : Thread nD τ) arg15 fullShare Y) ∗ (∃ Y, ⌜Agree D G Y⌝ ∗ owns (c : Thread nD τ) arg16 fullShare Y)) ∗ g) ∗ O ∗ (∃ _d : δ1, owns (c : Thread nD τ) arg1 fullShare X1) ∗ (∃ _d : δ2, owns (c : Thread nD τ) arg2 fullShare X2) ∗ (∃ _d : δ3, owns (c : Thread nD τ) arg3 fullShare X3) ∗ (∃ _d : δ4, owns (c : Thread nD τ) arg4 fullShare X4) ∗ (∃ _d : δ5, owns (c : Thread nD τ) arg5 fullShare X5) ∗ (∃ _d : δ6, owns (c : Thread nD τ) arg6 fullShare X6) ∗ (∃ d, owns (c : Thread nD τ) arg7 fullShare (B7 d)) ∗ (∃ d, owns (c : Thread nD τ) arg8 fullShare (B8 d)) ∗ (∃ d, owns (c : Thread nD τ) arg9 fullShare (B9 d)))
      ⊢ wp Idealize.ShloMosaic.frame (wpE (defs₀ (F := F)) 𝒱₀ (c : Thread nD τ) none) Set.univ (cc0_mixllm_linear (F := F) i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16) (fun _ => R) :=
  regroup (fun d => some_owns _ _) (fun d => .rfl) (fun d => .rfl) (fun d7 d8 d9 => val_last c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 X1 X2 X3 X4 X5 X6 (B8 d8) (B9 d9) X10 X11 r hr D G hS hi hall h1 h2 h3 h4 (fun _ => R)) hR

end Cert.Proof.KernelIdeal
end
-- ==== Proof.IdealValueFrame.lean ====
module

public import proofs.«01_k».proof.Proof.Gen.KernelIdeal
public import proofs.«01_k».proof.Proof.Gen.KernelIdeal.Skeleton
public import proofs.«01_k».proof.Proof.Gen.KernelIdeal.Loops
public import proofs.«01_k».proof.Proof.Gen.KernelIdeal.Launch
public import proofs.«01_k».proof.Proof.Gen.KernelIdeal.Points
public import proofs.«01_k».proof.Proof.Gen.KernelIdeal.Frame
public import proofs.«01_k».proof.Proof.IdealFrame
public import proofs.«01_k».proof.Proof.IdealBlocks
public import proofs.«01_k».proof.Proof.IdealTarget
public import proofs.«01_k».proof.Proof.IdealGroup
public import Idealize.ShloMosaic.Lib.Pipeline.TableIdle
public import Idealize.ShloMosaic.Lib.Pipeline.Frame
public import Idealize.ShloMosaic.Lib.Pipeline.FrameSuffix
public import Idealize.ShloMosaic.Lib.Tactic

@[expose] public section

set_option maxRecDepth 16384

noncomputable section

namespace Cert.Proof.KernelIdeal

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.ShloMosaic.Pipeline (Dat BodyObligation)
open Idealize.SL.BI.BIBase Idealize.SL.BI.Laws Idealize.SL.ProofMode Idealize.SL.Sem

variable {F : FTy → Type} [FloatOps F] [∀ e, Nonempty (Elt F e)]

local notation "𝕄" => MT nD τ sig Unit (Elt F) ℕ (UU nD τ) ℕ

variable (m : (ℓ : Loc nD τ sig) → Buf (Elt F) ℓ) (ρ : Dev nD → PrngReg)

/-! ## What each point reads, and what the whole run leaves -/

/-- The tokens, their first two axes as one. -/
def toks (c : Dev nD) : S256x2560.Idx → Elt F .bf16 := shapeCast S256x2560 (m ((c : Thread nD τ).loc main_arg0)) shapeCasts_S2x128x2560_S256x2560
/-- The row table. -/
def tbl (c : Dev nD) : S9728.Idx → BitVec 32 := m ((c : Thread nD τ).loc main_arg1)

/-- The table that each point reads. -/
theorem iblk0' (c : Dev nD) (t : Fin cfg0.N) : (iblk m c 0 t : S9728.Idx → BitVec 32) = tbl m c := iblk0 m c t
/-- The tokens that each point reads. -/
theorem iblk1' (c : Dev nD) (t : Fin cfg0.N) : (iblk m c 1 t : S256x2560.Idx → Elt F .bf16) = toks m c :=
  funext fun y => (iblk1 m c t y).trans (tokens_apply _ y).symm

/-- The point of a number. -/
def pt (t : ℕ) : Fin cfg0.N := ⟨t % 19, Nat.mod_lt _ (by decide)⟩
/-- The point of its own number. -/
theorem pt_val (t : Fin cfg0.N) : pt t.val = t := Fin.ext (Nat.mod_eq_of_lt t.isLt)

/-- The rows that a point stages. -/
def stg (c : Dev nD) (t : ℕ) : S512x2x128.Idx → Elt F .bf16 :=
  if t < 16 then stage4 (iblk m c 2 (pt t)) (iblk m c 3 (pt t)) (k0_pay10 (toks m c))
  else k0_pay3 (iblk m c 4 (pt t)) (k0_pay14 (k0_pay12 (toks m c)) (k0_pay13 (toks m c))) (frow (toks m c)) (iblk m c 5 (pt t))

/-- The rows of the output. -/
def tgt (c : Dev nD) : S9728x2x128.Idx → Elt F .bf16 := target (stg m c) (tbl m c)

/-- The grid has one axis. -/
theorem coord_val : ∀ t : Fin cfg0.N, (grid0.coords t 0).val = t.val := (by decide +kernel : ∀ t : Fin grid0.N, (grid0.coords t 0).val = t.val)

/-- What is carried before the first point. -/
def start (c : Dev nD) : sProp 𝕄 := iprop(((∃ d, owns (c : Thread nD τ) (Memref.whole cc0_scratch0) fullShare d) ∗ (∃ d, owns (c : Thread nD τ) (Memref.whole cc0_scratch1) fullShare d) ∗ (∃ d, owns (c : Thread nD τ) (Memref.whole cc0_scratch2) fullShare d) ∗ (∃ d, owns (c : Thread nD τ) (Memref.whole cc0_scratch3) fullShare d) ∗ (∃ d, owns (c : Thread nD τ) (Memref.whole cc0_scratch4) fullShare d) ∗ (∃ d, owns (c : Thread nD τ) (Memref.whole cc0_scratch5) fullShare d) ∗ (∃ Y, ⌜Agree (named (tbl m c) 0) (tgt m c) Y⌝ ∗ owns (c : Thread nD τ) (Memref.whole cc0_scratch6) fullShare Y)) ∗ (∃ r, prngReg c r))
/-- What is carried after `n` points: the tokens and their codes, split by parity; the scales of the tokens as a row; and an
    output buffer that holds the rows named so far. -/
def carried (c : Dev nD) (n : ℕ) : sProp 𝕄 := iprop((owns (c : Thread nD τ) (Memref.whole cc0_scratch0) fullShare (k0_pay10 (toks m c)) ∗ owns (c : Thread nD τ) (Memref.whole cc0_scratch1) fullShare (k0_pay14 (k0_pay12 (toks m c)) (k0_pay13 (toks m c))) ∗ (∃ d, owns (c : Thread nD τ) (Memref.whole cc0_scratch2) fullShare d) ∗ (∃ Y, ⌜Row0 (frow (toks m c)) Y⌝ ∗ owns (c : Thread nD τ) (Memref.whole cc0_scratch3) fullShare Y) ∗ (∃ d, owns (c : Thread nD τ) (Memref.whole cc0_scratch4) fullShare d) ∗ (∃ d, owns (c : Thread nD τ) (Memref.whole cc0_scratch5) fullShare d) ∗ (∃ Y, ⌜Agree (named (tbl m c) n) (tgt m c) Y⌝ ∗ owns (c : Thread nD τ) (Memref.whole cc0_scratch6) fullShare Y)) ∗ (∃ r, prngReg c r))

/-- The proof data of the value claim: the inputs' blocks left in place, the three outputs named. -/
def vdats (_ : Fin 1) (c : Dev nD) : Dat τ (Elt F) Unit ℕ (UU nD τ) ℕ cfg0 c where
  A w := V m c (Pipeline.arrRef spec0 w)
  after := fun
    | 0 => fun t => iblk m c 0 t | 1 => fun t => iblk m c 1 t | 2 => fun t => iblk m c 2 t
    | 3 => fun t => iblk m c 3 t | 4 => fun t => iblk m c 4 t | 5 => fun t => iblk m c 5 t
    | 6 => fun _ => fout (tgt m c) | 7 => fun _ => k0_pay9 (toks m c) | 8 => fun _ => fxs (toks m c)
  Φ t := if t.val = 0 then start m c else carried m c t.val
  q _ := fullShare
  owed _ := 0

/-- The arrays that the region finds. -/
theorem vA_eq (c : Dev nD) (w : Fin cfg0.W) : (vdats m 0 c).A w = V m c (Pipeline.arrRef spec0 w) := by dsimp only [vdats]

/-- What the body leaves in an output's buffer: the first point writes the codes and the scales, the last the output. -/
def left (c : Dev nD) (w : Fin cfg0.W) (t : Fin cfg0.N) (d : (cfg0.win w).block.Idx → Elt F (cfg0.win w).elt) : (cfg0.win w).block.Idx → Elt F (cfg0.win w).elt :=
  if t.val = (if w = 6 then 18 else 0) then (vdats m 0 c).after w t else (vdats m 0 c).before w t d

/-- What the body is called with at a point. -/
def vbodyPre (c : Dev nD) (t : Fin cfg0.N) : sProp 𝕄 :=
  iprop((vdats m 0 c).Φ t.castSucc ∗ (vdats m 0 c).owesAt () t.castSucc ∗ (∃ d, owns (c : Thread nD τ) (st0_0 t) fullShare ((vdats m 0 c).before 0 t d)) ∗ (∃ d, owns (c : Thread nD τ) (st0_1 t) fullShare ((vdats m 0 c).before 1 t d)) ∗ (∃ d, owns (c : Thread nD τ) (st0_2 t) fullShare ((vdats m 0 c).before 2 t d)) ∗ (∃ d, owns (c : Thread nD τ) (st0_3 t) fullShare ((vdats m 0 c).before 3 t d)) ∗ (∃ d, owns (c : Thread nD τ) (st0_4 t) fullShare ((vdats m 0 c).before 4 t d)) ∗ (∃ d, owns (c : Thread nD τ) (st0_5 t) fullShare ((vdats m 0 c).before 5 t d)) ∗ (∃ d, owns (c : Thread nD τ) (st0_6 t) fullShare ((vdats m 0 c).before 6 t d)) ∗ (∃ d, owns (c : Thread nD τ) (st0_7 t) fullShare ((vdats m 0 c).before 7 t d)) ∗ (∃ d, owns (c : Thread nD τ) (st0_8 t) fullShare ((vdats m 0 c).before 8 t d)))
/-- What it returns. -/
def vbodyPost (c : Dev nD) (t : Fin cfg0.N) : sProp 𝕄 :=
  iprop((vdats m 0 c).Φ t.succ ∗ (vdats m 0 c).owesAt () t.succ ∗ owns (c : Thread nD τ) (st0_0 t) fullShare (iblk m c 0 t) ∗ owns (c : Thread nD τ) (st0_1 t) fullShare (iblk m c 1 t) ∗ owns (c : Thread nD τ) (st0_2 t) fullShare (iblk m c 2 t) ∗ owns (c : Thread nD τ) (st0_3 t) fullShare (iblk m c 3 t) ∗ owns (c : Thread nD τ) (st0_4 t) fullShare (iblk m c 4 t) ∗ owns (c : Thread nD τ) (st0_5 t) fullShare (iblk m c 5 t) ∗ (∃ d, owns (c : Thread nD τ) (st0_6 t) fullShare (left m c 6 t d)) ∗ (∃ d, owns (c : Thread nD τ) (st0_7 t) fullShare (left m c 7 t d)) ∗ (∃ d, owns (c : Thread nD τ) (st0_8 t) fullShare (left m c 8 t d)))

/-- The body at a point. -/
theorem vsound_body (c : Dev nD) (t : Fin cfg0.N) (hr : InRange (tbl m c)) (hinj : ∀ x y, tbl m c x = tbl m c y → x = y) :
    vbodyPre m c t ⊢ wp Idealize.ShloMosaic.frame (wpE (defs₀ (F := F)) 𝒱₀ (c : Thread nD τ) none) Set.univ (bodyAt0 t) (fun _ => vbodyPost m c t) := by
  unfold vbodyPre vbodyPost bodyAt0
  have hc1 := cond1_iff t
  have hc2 := cond2_iff t
  have hc3 := cond3_iff t
  have hc4 := cond4_iff t
  have hN : t.val < 19 := t.isLt
  have hcv := coord_val t
  have hr0 : InRange (iblk m c 0 t) := by rw [iblk0']; exact hr
  have hst := staged_target (stg := stg m c) hinj hN
  have hn : named (tbl m c) (t.val + 1) = Upto (named (tbl m c) t.val) (tbl m c) (base t.val) 512 := rfl
  rw [show (vdats m 0 c).owesAt () t.succ = (vdats m 0 c).owesAt () t.castSucc from rfl,
    show (vdats m 0 c).Φ t.succ = carried m c (t.val + 1) from @if_neg (t.val + 1 = 0) _ (Nat.succ_ne_zero _) _ (start m c) (carried m c (t.val + 1)),
    show (vdats m 0 c).Φ t.castSucc = if t.val = 0 then start m c else carried m c t.val from rfl]
  simp only [before0_0_of m (vdats m 0 c) (vA_eq m c 0) (fun _ => rfl), before0_1_of m (vdats m 0 c) (vA_eq m c 1) (fun _ => rfl),
    before0_2_of m (vdats m 0 c) (vA_eq m c 2) (fun _ => rfl), before0_3_of m (vdats m 0 c) (vA_eq m c 3) (fun _ => rfl),
    before0_4_of m (vdats m 0 c) (vA_eq m c 4) (fun _ => rfl), before0_5_of m (vdats m 0 c) (vA_eq m c 5) (fun _ => rfl)]
  have l7 : ∀ d, left m c 7 t d = if t.val = 0 then k0_pay9 (toks m c) else (vdats m 0 c).before 7 t d := fun d => rfl
  have l8 : ∀ d, left m c 8 t d = if t.val = 0 then fxs (toks m c) else (vdats m 0 c).before 8 t d := fun d => rfl
  have l6 : ∀ d, left m c 6 t d = if t.val = 18 then fout (tgt m c) else (vdats m 0 c).before 6 t d := fun d => rfl
  simp only [l6, l7, l8]
  by_cases hf : t.val < 16
  · have hS : Staged (iblk m c 0 t) (1536 + 512 * (grid0.coords t 0).val) (tgt m c) (stage4 (iblk m c 2 t) (iblk m c 3 t) (k0_pay10 (toks m c))) := by
      have e : stg m c t.val = stage4 (iblk m c 2 t) (iblk m c 3 t) (k0_pay10 (toks m c)) := by
        unfold stg; rw [if_pos hf, pt_val]
      have eb : base t.val = 1536 + 512 * t.val := by unfold base; rw [if_pos hf]
      rw [iblk0', hcv, ← e, ← eb]; exact hst
    have eD : Upto (named (tbl m c) t.val) (tbl m c) (base t.val) 512 = Upto (named (tbl m c) t.val) (iblk m c 0 t) (1536 + 512 * (grid0.coords t 0).val) 512 := by
      rw [iblk0', hcv]; unfold base; rw [if_pos hf]
    by_cases h0 : t.val = 0
    · rw [if_pos h0]
      refine grouped_first c (grid0.coords t) _ _ _ _ _ _ _ _ _ _ _ _ _ _ _ _ _ _ _ _ _ _ _ _ _ _ _ _ _ _ _ _ (iblk m c 0 t) (iblk m c 1 t) (iblk m c 2 t) (iblk m c 3 t) (iblk m c 4 t) (iblk m c 5 t) hr0 (named (tbl m c) 0) (tgt m c) (by rw [iblk1']; exact hS) (hc1.mpr h0) (hc2.mpr (by omega)) (fun h => absurd (hc3.mp h) (by omega)) (fun h => absurd (hc4.mp h) (by omega)) ((vdats m 0 c).before 6 t) ((vdats m 0 c).before 7 t) ((vdats m 0 c).before 8 t) _ _ _ ?_
      unfold carried
      rw [hn, eD, h0, iblk1']
      exact .rfl
    · rw [if_neg h0]
      refine grouped_four c (grid0.coords t) _ _ _ _ _ _ _ _ _ _ _ _ _ _ _ _ _ _ _ _ _ _ _ _ _ _ _ _ _ _ _ _ (iblk m c 0 t) (iblk m c 1 t) (iblk m c 2 t) (iblk m c 3 t) (iblk m c 4 t) (iblk m c 5 t) _ _ (frow (toks m c)) hr0 (named (tbl m c) t.val) (tgt m c) hS (fun h => absurd (hc1.mp h) h0) (hc2.mpr hf) (fun h => absurd (hc3.mp h) (by omega)) (fun h => absurd (hc4.mp h) (by omega)) ((vdats m 0 c).before 6 t) ((vdats m 0 c).before 7 t) ((vdats m 0 c).before 8 t) _ _ _ ?_
      simp only [if_neg h0, if_neg (show ¬ t.val = 18 by omega)]
      unfold carried
      rw [hn, eD]
      exact .rfl
  · have h0 : ¬ t.val = 0 := by omega
    have hS : Staged (iblk m c 0 t) (512 * ((grid0.coords t 0).val - 16)) (tgt m c) (k0_pay3 (iblk m c 4 t) (k0_pay14 (k0_pay12 (toks m c)) (k0_pay13 (toks m c))) (frow (toks m c)) (iblk m c 5 t)) := by
      have e : stg m c t.val = k0_pay3 (iblk m c 4 t) (k0_pay14 (k0_pay12 (toks m c)) (k0_pay13 (toks m c))) (frow (toks m c)) (iblk m c 5 t) := by
        unfold stg; rw [if_neg hf, pt_val]
      have eb : base t.val = 512 * (t.val - 16) := by unfold base; rw [if_neg hf]
      rw [iblk0', hcv, ← e, ← eb]; exact hst
    have eD : Upto (named (tbl m c) t.val) (tbl m c) (base t.val) 512 = Upto (named (tbl m c) t.val) (iblk m c 0 t) (512 * ((grid0.coords t 0).val - 16)) 512 := by
      rw [iblk0', hcv]; unfold base; rw [if_neg hf]
    rw [if_neg h0]
    by_cases hl : t.val = 18
    · have hall : ∀ n, n < 9728 → Upto (named (tbl m c) t.val) (iblk m c 0 t) (512 * ((grid0.coords t 0).val - 16)) 512 n := fun n hn' => by
        rw [← eD, ← hn, hl]; exact named_all hr hinj hn'
      refine grouped_last c (grid0.coords t) _ _ _ _ _ _ _ _ _ _ _ _ _ _ _ _ _ _ _ _ _ _ _ _ _ _ _ _ _ _ _ _ (iblk m c 0 t) (iblk m c 1 t) (iblk m c 2 t) (iblk m c 3 t) (iblk m c 4 t) (iblk m c 5 t) _ _ (frow (toks m c)) hr0 (named (tbl m c) t.val) (tgt m c) hS (by omega) hall (fun h => absurd (hc1.mp h) h0) (fun h => hf (hc2.mp h)) (hc3.mpr (by omega)) (hc4.mpr hl) ((vdats m 0 c).before 6 t) ((vdats m 0 c).before 7 t) ((vdats m 0 c).before 8 t) _ _ _ ?_
      simp only [if_neg h0, if_pos hl]
      unfold carried
      rw [hn, eD]
      exact .rfl
    · refine grouped_eight c (grid0.coords t) _ _ _ _ _ _ _ _ _ _ _ _ _ _ _ _ _ _ _ _ _ _ _ _ _ _ _ _ _ _ _ _ (iblk m c 0 t) (iblk m c 1 t) (iblk m c 2 t) (iblk m c 3 t) (iblk m c 4 t) (iblk m c 5 t) _ _ (frow (toks m c)) hr0 (named (tbl m c) t.val) (tgt m c) hS (by omega) (fun h => absurd (hc1.mp h) h0) (fun h => hf (hc2.mp h)) (hc3.mpr (by omega)) (fun h => hl (hc4.mp h)) ((vdats m 0 c).before 6 t) ((vdats m 0 c).before 7 t) ((vdats m 0 c).before 8 t) _ _ _ ?_
      simp only [if_neg h0, if_neg hl]
      unfold carried
      rw [hn, eD]
      exact .rfl

end Cert.Proof.KernelIdeal
end
-- ==== Proof.Quantise.lean ====
module

public import Idealize.ShloMosaic.Lib.Pointwise
public import Idealize.ShloMosaic.PureOps.Ideal

@[expose] public section

noncomputable section

namespace Cert.Proof.Quantise

open Idealize.ShloMosaic

/-! ## The scale, the codes and the four-bit words, as numbers -/

/-- The greatest magnitude of a token. -/
def greatest (f : Fin 2560 → EReal) : EReal :=
  Finset.fold max (Ideal.ofBits FTy.f32 4286578688#32) (fun x => FloatOps.absf (F := Ideal) (φ := .f32) (f x)) Finset.univ
/-- The scale of a token: its greatest magnitude over 127, or 1 for a token of zeros. -/
def scaleOf (f : Fin 2560 → EReal) : EReal :=
  if greatest f = 0 then 1 else Ideal.div (greatest f) (Ideal.ofBits FTy.f32 1123942400#32)
/-- The code of a number at a scale: the quotient rounded to the nearest integer and clipped to ±127. -/
def codeOf (x s : EReal) : EReal :=
  min (Ideal.ofBits FTy.f32 1123942400#32) (max (Ideal.ofBits FTy.f32 3271426048#32) (Ideal.liftRound Ideal.roundHalfEven (Ideal.div x s)))

/-- The upper bound is 127. -/
theorem bound_hi : Ideal.ofBits FTy.f32 1123942400#32 = (((127 : ℤ) : ℝ) : EReal) := by
  simp [Ideal.ofBits, Ideal.ieee, -EReal.coe_mul, -EReal.coe_neg]; norm_num
/-- The lower bound is -127. -/
theorem bound_lo : Ideal.ofBits FTy.f32 3271426048#32 = (((-127 : ℤ) : ℝ) : EReal) := by
  simp [Ideal.ofBits, Ideal.ieee, -EReal.coe_mul, -EReal.coe_neg]; norm_num

/-- A code is an integer between -127 and 127. -/
theorem codeOf_int (x s : EReal) : ∃ n : ℤ, -127 ≤ n ∧ n ≤ 127 ∧ codeOf x s = ((n : ℝ) : EReal) := by
  unfold codeOf
  rw [bound_hi, bound_lo]
  generalize Ideal.div x s = q
  induction q with
  | bot => exact ⟨-127, by norm_num, by norm_num, by rw [Ideal.liftRound_bot, max_eq_left bot_le, min_eq_right (by norm_cast)]⟩
  | top => exact ⟨127, by norm_num, by norm_num, by rw [Ideal.liftRound_top, max_eq_right le_top, min_eq_left le_top]⟩
  | coe r =>
    rw [Ideal.liftRound_coe]
    generalize Ideal.roundHalfEven r = k
    refine ⟨min 127 (max (-127) k), by omega, by omega, ?_⟩
    rw [← EReal.coe_strictMono.monotone.map_max, ← EReal.coe_strictMono.monotone.map_min]
    norm_cast

/-- Converting an integer in range to eight or to thirty-two bits gives that integer. -/
theorem fptosi_int (w : ℕ) (n : ℤ) (hl : -(2 ^ (w - 1) : ℕ) ≤ n) (hh : n ≤ (2 ^ (w - 1) : ℕ) - 1) : Ideal.fptosi w ((n : ℝ) : EReal) = BitVec.ofInt w n := by
  unfold Ideal.fptosi
  rw [Ideal.toIntClamped_coe, Int.floor_intCast, Int.ceil_intCast, ite_self, min_eq_right hh, max_eq_right hl]

/-- A code converts to the same eight bits directly or through thirty-two. -/
theorem code_bits (x s : EReal) : (Ideal.fptosi 32 (codeOf x s)).setWidth 8 = Ideal.fptosi 8 (codeOf x s) := by
  obtain ⟨n, hl, hh, e⟩ := codeOf_int x s
  rw [e, fptosi_int 32 n (by norm_num; omega) (by norm_num; omega), fptosi_int 8 n (by norm_num; omega) (by norm_num; omega)]
  apply BitVec.eq_of_toInt_eq
  rw [BitVec.toInt_setWidth, BitVec.toInt_ofInt, BitVec.toNat_ofInt]
  simp only [Int.bmod_def]
  omega

/-- The eight bits of a code, read as a signed integer, are the code. -/
theorem code_back (x s : EReal) : (((BitVec.signExtend 32 (Ideal.fptosi 8 (codeOf x s))).toInt : ℝ) : EReal) = codeOf x s := by
  obtain ⟨n, hl, hh, e⟩ := codeOf_int x s
  rw [e, fptosi_int 8 n (by norm_num; omega) (by norm_num; omega), BitVec.toInt_signExtend_of_le (by norm_num), BitVec.toInt_ofInt, Int.bmod_def]
  congr 2
  norm_num
  omega

/-- A four-bit word read as a signed integer. -/
def signed4 (v : BitVec 32) : EReal :=
  FloatOps.sitofp (F := Ideal) FTy.bf16 (Scalar.select (IntOp.cmpi CmpIPredicate.sge v 8#32) (IntOp.subi v 16#32) v)
/-- The low (`odd` false) or the high four bits of a byte. -/
def part (odd : Prop) [Decidable odd] (w : BitVec 8) : BitVec 32 :=
  if odd then IntOp.shrsi ArithUnit.vector (BitVec.setWidth 32 w) 4#32 else IntOp.andi (BitVec.setWidth 32 w) 15#32

/-- A shift by four is the same on the host and in the kernel. -/
theorem shift_host (w : BitVec 32) : IntOp.shrsi ArithUnit.host w 4#32 = IntOp.shrsi ArithUnit.vector w 4#32 := by
  unfold IntOp.shrsi
  rw [if_pos (by decide), if_pos (by decide)]

/-- The selection of the odd rows' bits. -/
theorem part_select (n : ℕ) (w : BitVec 8) :
    Scalar.select (IntOp.cmpi CmpIPredicate.eq (IntOp.andi (BitVec.ofNat 32 n) 1#32) 1#32) (IntOp.shrsi ArithUnit.vector (BitVec.setWidth 32 w) 4#32) (IntOp.andi (BitVec.setWidth 32 w) 15#32)
      = part (n % 2 = 1) w := by
  have e : IntOp.andi (BitVec.ofNat 32 n) 1#32 = BitVec.ofNat 32 (n % 2) := by
    apply BitVec.eq_of_toNat_eq
    show (BitVec.ofNat 32 n &&& 1#32).toNat = _
    rw [BitVec.toNat_and, BitVec.toNat_ofNat, BitVec.toNat_ofNat, BitVec.toNat_ofNat]
    norm_num
    omega
  rw [e]
  unfold part
  rcases Nat.mod_two_eq_zero_or_one n with h | h <;> rw [h] <;> rfl

/-- A channel of eight bits at a token. -/
def eightOf (x : Fin 2560 → EReal) (w : Fin 2560 → BitVec 8) (s : EReal) : EReal :=
  (∑ k, codeOf (x k) (scaleOf x) * FloatOps.sitofp (F := Ideal) FTy.bf16 (w k)) * scaleOf x * s
/-- A channel of four bits at a token: the bytes of two channels, and a scale for each 128 words. -/
def fourOf (x : Fin 2560 → EReal) (odd : Prop) [Decidable odd] (w : Fin 2560 → BitVec 8) (s : Fin 20 → EReal) : EReal :=
  ∑ k : Fin 2560, x k * (signed4 (part odd (w k)) * s ⟨k.val / 128, by omega⟩)

/-- The channel of a row of the weights at a token: rows of eight bits first, then rows of four, two to a byte. -/
def channel (x : Fin 2560 → EReal) (A2 : (⟨2, ![1536, 2560]⟩ : Shape).Idx → BitVec 8) (A3 : (⟨1, ![1536]⟩ : Shape).Idx → EReal)
    (A4 : (⟨2, ![4096, 2560]⟩ : Shape).Idx → BitVec 8) (A5 : (⟨2, ![8192, 20]⟩ : Shape).Idx → EReal) (z : Fin 9728) : EReal :=
  if h : z.val < 1536 then eightOf x (fun k => A2 (ix2 ⟨z.val, h⟩ k)) (A3 (ix1 ⟨z.val, h⟩))
  else fourOf x ((z.val - 1536) % 2 = 1) (fun k => A4 (ix2 ⟨(z.val - 1536) / 2, by omega⟩ k)) (fun g => A5 (ix2 ⟨z.val - 1536, by omega⟩ g))

/-- A word of eight bits has the same value when widened. -/
theorem widened (w : BitVec 8) : FloatOps.sitofp (F := Ideal) FTy.bf16 (BitVec.signExtend 32 w) = FloatOps.sitofp (F := Ideal) FTy.bf16 w := by
  show (((BitVec.signExtend 32 w).toInt : ℝ) : EReal) = ((w.toInt : ℝ) : EReal)
  rw [BitVec.toInt_signExtend_of_le (by norm_num)]

end Cert.Proof.Quantise
end
-- ==== Proof.IdealChannels.lean ====
module

public import proofs.«01_k».proof.Proof.IdealValueFrame
public import proofs.«01_k».proof.Proof.Quantise
public import Idealize.ShloMosaic.Lib.Pointwise

@[expose] public section

set_option maxRecDepth 16384

noncomputable section

namespace Cert.Proof.KernelIdeal

open Cert.KernelIdeal Cert.KernelIdeal.Gen Cert.Proof.Quantise
open Idealize.ShloMosaic Idealize.ShloMosaic.TcCoe

/-! ## What the kernel computes, read at an element -/

/-- The scale of a token. -/
theorem scale_apply (v : S256x2560.Idx → EReal) (y : S256x1.Idx) : k0_pay7 (F := Ideal) v y = scaleOf (fun k => v (ix2 (y 0) k)) := by
  pointwise [k0_pay7, k0_pay6]
  rfl
/-- The code of a word, as a number. -/
theorem code_apply (v : S256x2560.Idx → EReal) (y : S256x2560.Idx) : k0_pay8 (F := Ideal) v y = codeOf (v y) (scaleOf (fun k => v (ix2 (y 0) k))) := by
  pointwise [k0_pay8, k0_pay6]
  rw [scale_apply]
  rfl
/-- The token in row `j` of the tokens split by parity: the even ones first. -/
def token (j : Fin 256) : Fin 256 := ⟨2 * (j.val % 128) + j.val / 128, by omega⟩

/-- The tokens split by parity. -/
theorem split_apply (v : S256x2560.Idx → EReal) (j : Fin 256) (k : Fin 2560) : k0_pay10 (F := Ideal) v (ix2 j k) = v (ix2 (token j) k) := by
  pointwise [k0_pay10]
  split
  · congr 2; exact Fin.ext (by show 2 * j.val = 2 * (j.val % 128) + j.val / 128; have : j.val < 128 := (by assumption); omega)
  · congr 2; exact Fin.ext (by show 2 * (j.val - 128) + 1 = 2 * (j.val % 128) + j.val / 128; have : ¬ j.val < 128 := (by assumption); omega)
/-- The codes split by parity. -/
theorem split_codes (v : S256x2560.Idx → EReal) (j : Fin 256) (k : Fin 2560) :
    k0_pay14 (F := Ideal) (k0_pay12 v) (k0_pay13 v) (ix2 j k) = codeOf (v (ix2 (token j) k)) (scaleOf (fun k => v (ix2 (token j) k))) := by
  refine Eq.trans ?_ (code_apply v (ix2 (token j) k))
  pointwise [k0_pay14, k0_pay12, k0_pay13, k0_pay11]
  split
  · congr 2; exact Fin.ext (by show 2 * j.val = 2 * (j.val % 128) + j.val / 128; have : j.val < 128 := (by assumption); omega)
  · congr 2; exact Fin.ext (by show 2 * (j.val - 128) + 1 = 2 * (j.val % 128) + j.val / 128; have : ¬ j.val < 128 := (by assumption); omega)
/-- The scales as a row, split by parity. -/
theorem frow_apply (v : S256x2560.Idx → EReal) (j : Fin 256) : frow (F := Ideal) v (ix2 0 j) = scaleOf (fun k => v (ix2 (token j) k)) := by
  unfold frow
  rw [scale_apply]
  rfl

/-- The four-bit words of a block, a row to a channel. -/
theorem words_apply (v : S256x2560.Idx → BitVec 8) (r : Fin 512) (k : Fin 2560) :
    k0_pay41 (F := Ideal) v (ix2 r k) = signed4 (part (r.val % 2 = 1) (v (ix2 ⟨r.val / 2, by omega⟩ k))) := by
  pointwise [k0_pay41]
  rw [part_select]
  rfl

/-- The row of `h` and `i`: half `h`, place `i`. -/
def side (h : Fin 2) (i : Fin 128) : Fin 256 := ⟨128 * h.val + i.val, by omega⟩

/-- A pair of halves, picked by the half. -/
theorem pick (G : Fin 256 → EReal) (h : Fin 2) (i : Fin 128) :
    (if h.val % 2 = 0 then G ⟨i.val, by omega⟩ else G ⟨128 + i.val, by omega⟩) = G (side h i) := by
  match h with
  | 0 => rw [if_pos (by decide)]; congr 1; exact Fin.ext (by show i.val = 128 * 0 + i.val; omega)
  | 1 => rw [if_neg (by decide)]; congr 1

/-- The staged rows of four bits. -/
theorem stage4_apply (X3 : S256x2560.Idx → BitVec 8) (X4 : S512x20.Idx → EReal) (v : S256x2560.Idx → EReal) (r : Fin 512) (h : Fin 2) (i : Fin 128) :
    stage4 (F := Ideal) X3 X4 (k0_pay10 (F := Ideal) v) (ix3 r h i)
      = fourOf (fun k => v (ix2 (token (side h i)) k)) (r.val % 2 = 1) (fun k => X3 (ix2 ⟨r.val / 2, by omega⟩ k)) (fun g => X4 (ix2 r g)) := by
  have e : ∀ W : S512x2560.Idx → EReal, ∀ T : S256x2560.Idx → EReal, k0_pay1 (F := Ideal) (k0_pay65 W T) (ix3 r h i) = ∑ k, W (ix2 r k) * T (ix2 (side h i) k) := by
    intro W T
    refine Eq.trans ?_ (pick (fun j => ∑ k, W (ix2 r k) * T (ix2 j k)) h i)
    pointwise [k0_pay1, k0_pay65]
  unfold stage4
  rw [e]
  unfold fourOf
  refine Finset.sum_congr rfl fun k _ => ?_
  rw [split_apply, mul_comm]
  congr 1
  unfold wgt
  rw [words_apply]
  rfl

/-- The staged rows of eight bits. -/
theorem stage8_apply (X5 : S512x2560.Idx → BitVec 8) (X6 : S512x1.Idx → EReal) (v : S256x2560.Idx → EReal) (r : Fin 512) (h : Fin 2) (i : Fin 128) :
    k0_pay3 (F := Ideal) X5 (k0_pay14 (F := Ideal) (k0_pay12 v) (k0_pay13 v)) (frow (F := Ideal) v) X6 (ix3 r h i)
      = eightOf (fun k => v (ix2 (token (side h i)) k)) (fun k => X5 (ix2 r k)) (X6 (ix2 r 0)) := by
  have e : ∀ (T : S256x2560.Idx → EReal) (R : S1x256.Idx → EReal), k0_pay3 (F := Ideal) X5 T R X6 (ix3 r h i)
      = (∑ k, FloatOps.sitofp (F := Ideal) FTy.bf16 (X5 (ix2 r k)) * T (ix2 (side h i) k)) * R (ix2 0 (side h i)) * X6 (ix2 r 0) := by
    intro T R
    refine Eq.trans ?_ (pick (fun j => (∑ k, FloatOps.sitofp (F := Ideal) FTy.bf16 (X5 (ix2 r k)) * T (ix2 j k)) * R (ix2 0 j) * X6 (ix2 r 0)) h i)
    pointwise [k0_pay3]
  rw [e, frow_apply]
  unfold eightOf
  congr 2
  refine Finset.sum_congr rfl fun k _ => ?_
  rw [split_codes, mul_comm]

/-- The output, from its rows. -/
theorem fout_apply (G : S9728x2x128.Idx → EReal) (q : Fin 256) (n : Fin 9728) :
    fout (F := Ideal) G (ix2 q n) = G (ix3 n ⟨q.val % 2, by omega⟩ ⟨q.val / 2, by omega⟩) := by
  have e : ∀ (v : S128x2x128.Idx → EReal) (y : S256x128.Idx), k0_pay5 (F := Ideal) v y = v (ix3 (y 1) ⟨(y 0).val % 2, by omega⟩ ⟨(y 0).val / 2, by have : (y 0).val < 256 := (y 0).isLt; omega⟩) := by
    intro v y
    pointwise [k0_pay5]
    split
    · congr 2; exact Fin.ext (by show 0 = (y 0).val % 2; omega)
    · congr 2; exact Fin.ext (by show 1 = (y 0).val % 2; omega)
  unfold fout
  rw [e]
  congr 2
  exact Fin.ext (by show 128 * (n.val / 128) + n.val % 128 = n.val; omega)

/-- The token of a half and a lane. -/
theorem token_side (q : Fin 256) : token (side ⟨q.val % 2, by omega⟩ ⟨q.val / 2, by omega⟩) = q :=
  Fin.ext (by show 2 * ((128 * (q.val % 2) + q.val / 2) % 128) + (128 * (q.val % 2) + q.val / 2) / 128 = q.val; omega)

end Cert.Proof.KernelIdeal
end
-- ==== Proof.IdealValueRun.lean ====
module

public import proofs.«01_k».proof.Proof.Gen.KernelIdeal
public import proofs.«01_k».proof.Proof.Gen.KernelIdeal.Skeleton
public import proofs.«01_k».proof.Proof.Gen.KernelIdeal.Loops
public import proofs.«01_k».proof.Proof.Gen.KernelIdeal.Launch
public import proofs.«01_k».proof.Proof.Gen.KernelIdeal.Points
public import proofs.«01_k».proof.Proof.Gen.KernelIdeal.Frame
public import proofs.«01_k».proof.Proof.IdealValueFrame
public import proofs.«01_k».proof.Proof.IdealBlocks
public import proofs.«01_k».proof.Proof.IdealTarget
public import proofs.«01_k».proof.Proof.IdealGroup
public import Idealize.ShloMosaic.Lib.Pipeline.TableIdle
public import Idealize.ShloMosaic.Lib.Pipeline.Frame
public import Idealize.ShloMosaic.Lib.Pipeline.FrameSuffix
public import Idealize.ShloMosaic.Lib.Tactic

@[expose] public section

set_option maxRecDepth 16384

noncomputable section

namespace Cert.Proof.KernelIdeal

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.ShloMosaic.Pipeline (Dat BodyObligation)
open Idealize.SL.BI.BIBase Idealize.SL.BI.Laws Idealize.SL.ProofMode Idealize.SL.Sem

variable {F : FTy → Type} [FloatOps F] [∀ e, Nonempty (Elt F e)]

local notation "𝕄" => MT nD τ sig Unit (Elt F) ℕ (UU nD τ) ℕ

variable (m : (ℓ : Loc nD τ sig) → Buf (Elt F) ℓ) (ρ : Dev nD → PrngReg)

/-- The output is left alone before the last point, and written back after it. -/
theorem idle6 : ∀ t : Fin cfg0.N, cfg0.idle 6 (cfg0.grid.coords t) = !decide (t.val = 18) :=
  (by decide +kernel : ∀ t : Fin grid0.N, (!(k0_cond4 (grid0.coords t) == 1#1)) = !decide (t.val = 18))
/-- The codes are left alone after the first point. -/
theorem idle7 : ∀ t : Fin cfg0.N, cfg0.idle 7 (cfg0.grid.coords t) = !decide (t.val = 0) :=
  (by decide +kernel : ∀ t : Fin grid0.N, (!(k0_cond1 (grid0.coords t) == 1#1)) = !decide (t.val = 0))
/-- So are the scales. -/
theorem idle8 : ∀ t : Fin cfg0.N, cfg0.idle 8 (cfg0.grid.coords t) = !decide (t.val = 0) :=
  (by decide +kernel : ∀ t : Fin grid0.N, (!(k0_cond1 (grid0.coords t) == 1#1)) = !decide (t.val = 0))

/-- What the body leaves of an output is what the pipeline asks: the named contents where they were written now or are written back
    now, and else what was there. -/
theorem leaves_of (c : Dev nD) (w : Fin cfg0.W) (t : Fin cfg0.N)
    (h : (cfg0.idle w (cfg0.grid.coords t) = false ∧ ∀ d, left m c w t d = (vdats m 0 c).after w t)
      ∨ (cfg0.idle w (cfg0.grid.coords t) = true ∧ (cfg0.win w).flush t = false ∧ ∀ d, left m c w t d = (vdats m 0 c).before w t d)
      ∨ (cfg0.idle w (cfg0.grid.coords t) = true ∧ (cfg0.win w).flush t = true ∧ ∀ d, left m c w t d = (vdats m 0 c).after w t)) :
    (iprop(∃ d, owns (c : Thread nD τ) ((cfg0.win w).stage (cfg0.slots t w)) fullShare (left m c w t d)) : sProp 𝕄)
      ⊢ (match cfg0.idle w (cfg0.grid.coords t) with
        | true =>
          match (cfg0.win w).flush t with
          | false => iprop(∃ d, owns (c : Thread nD τ) ((cfg0.win w).stage (cfg0.slots t w)) fullShare ((vdats m 0 c).before w t d))
          | true => owns (c : Thread nD τ) ((cfg0.win w).stage (cfg0.slots t w)) fullShare ((vdats m 0 c).after w t)
        | false => owns (c : Thread nD τ) ((cfg0.win w).stage (cfg0.slots t w)) fullShare ((vdats m 0 c).after w t)) := by
  rcases h with ⟨hi, hl⟩ | ⟨hi, hf, hl⟩ | ⟨hi, hf, hl⟩
  · rw [hi]; simp only [hl]; iintro ⟨%d, H⟩; iexact H
  · rw [hi, hf]; simp only [hl]; exact .rfl
  · rw [hi, hf]; simp only [hl]; iintro ⟨%d, H⟩; iexact H

/-- An output that only the first point writes is new at the first point only. -/
theorem fresh_once (w : Fin cfg0.W) (hi : ∀ t : Fin cfg0.N, cfg0.idle w (cfg0.grid.coords t) = !decide (t.val = 0))
    (hf : ∀ t : Fin cfg0.N, (cfg0.win w).flush t = true ↔ t.val % 19 = 18) : ∀ n, n < 18 → cfg0.fresh w (n + 1) = false
  | 0, h => by
    rw [cfg0.fresh_succ w 0 (by decide), hi]
    have : (cfg0.win w).flush ⟨0, by decide⟩ = false := by rw [Bool.eq_false_iff]; intro h'; exact absurd ((hf _).mp h') (by decide)
    rw [this]; rfl
  | n + 1, h => by
    have hN : n + 1 < cfg0.N := lt_of_lt_of_le h (by decide)
    rw [cfg0.fresh_succ w (n + 1) hN, fresh_once w hi hf n (by omega)]
    have : (cfg0.win w).flush ⟨n + 1, hN⟩ = false := by
      rw [Bool.eq_false_iff]; intro h'; have h2 := (hf _).mp h'; simp only at h2; omega
    rw [this, Bool.and_false]; rfl

/-- After the first point an output that only the first point writes holds what it wrote. -/
theorem before_once (c : Dev nD) (w : Fin cfg0.W) (hw : (cfg0.win w).isOut = true) (hclip : ∀ (i : cfg0.grid.Coords) a, (cfg0.win w).clip i a = none)
    (hi : ∀ t : Fin cfg0.N, cfg0.idle w (cfg0.grid.coords t) = !decide (t.val = 0)) (hf : ∀ t : Fin cfg0.N, (cfg0.win w).flush t = true ↔ t.val % 19 = 18)
    (ha : ∀ t t', (vdats m 0 c).after w t = (vdats m 0 c).after w t')
    (t : Fin cfg0.N) (h0 : t.val ≠ 0) (d) : (vdats m 0 c).before w t d = (vdats m 0 c).after w t := by
  have hN : t.val < 19 := t.isLt
  rw [(vdats m 0 c).before_out_traj w hw hclip (fun _ _ _ _ => ha _ _) t.val t rfl d]
  have e := fresh_once w hi hf (t.val - 1) (by omega)
  rw [show t.val - 1 + 1 = t.val by omega] at e
  rw [e, if_neg Bool.false_ne_true]
  exact ha _ _

/-- The library's body obligation, every output named. -/
theorem vbody_obligation (hr : ∀ c : Dev nD, InRange (tbl m c)) (hinj : ∀ (c : Dev nD) x y, tbl m c x = tbl m c y → x = y) (c : Dev nD) :
    BodyObligation (vdats (F := F) m 0 c) (defs₀ (F := F)) 𝒱₀ () Set.univ := fun t => by
  have hN : t.val < 19 := t.isLt
  have once : ∀ w : Fin cfg0.W, w ≠ 6 → (cfg0.win w).isOut = true → (∀ (i : cfg0.grid.Coords) a, (cfg0.win w).clip i a = none) →
      (∀ t : Fin cfg0.N, cfg0.idle w (cfg0.grid.coords t) = !decide (t.val = 0)) → (∀ t : Fin cfg0.N, (cfg0.win w).flush t = true ↔ t.val % 19 = 18) →
      (∀ t t', (vdats m 0 c).after w t = (vdats m 0 c).after w t') → _ := fun w h6 hw hclip hi hf ha => leaves_of m c w t (by
    unfold left
    rw [if_neg h6, hi]
    by_cases h0 : t.val = 0
    · exact Or.inl ⟨by rw [h0]; rfl, fun d => if_pos h0⟩
    · by_cases hl : t.val = 18
      · exact Or.inr (Or.inr ⟨by rw [decide_eq_false h0]; rfl, (hf t).mpr (by omega), fun d => by rw [if_neg h0, before_once m c w hw hclip hi hf ha t h0]⟩)
      · exact Or.inr (Or.inl ⟨by rw [decide_eq_false h0]; rfl, by rw [Bool.eq_false_iff]; intro h; have := (hf t).mp h; omega, fun d => if_neg h0⟩))
  have e6 := leaves_of m c 6 t (by
    unfold left
    rw [if_pos rfl, idle6]
    by_cases hl : t.val = 18
    · exact Or.inl ⟨by rw [hl]; rfl, fun d => if_pos hl⟩
    · exact Or.inr (Or.inl ⟨by rw [decide_eq_false hl]; rfl, by rw [Bool.eq_false_iff]; intro h; have := (flush0_6 t).mp h; omega, fun d => if_neg hl⟩))
  have e7 := once 7 (by decide) rfl (fun _ _ => rfl) idle7 flush0_7 (fun _ _ => rfl)
  have e8 := once 8 (by decide) rfl (fun _ _ => rfl) idle8 flush0_8 (fun _ _ => rfl)
  rw [bigSep_W0, bigSep_W0, defs₀_row]
  refine triple_restated (vsound_body m c t (hr c) (hinj c)) rfl .rfl fun _ => ?_
  unfold vbodyPost
  iintro ⟨HΦ, HO, H0, H1, H2, H3, H4, H5, H6, H7, H8⟩
  isplitl [HΦ]; · iexact HΦ
  isplitl [HO]; · iexact HO
  isplitl [H0]; · iexact H0
  isplitl [H1]; · iexact H1
  isplitl [H2]; · iexact H2
  isplitl [H3]; · iexact H3
  isplitl [H4]; · iexact H4
  isplitl [H5]; · iexact H5
  isplitl [H6]; · iapply e6; iexact H6
  isplitl [H7]; · iapply e7; iexact H7
  iapply e8; iexact H8

/-- What the region holds at first is what is carried before the first point. -/
theorem start_of (c : Dev nD) : (Pipeline.ΦA spec0 c : sProp 𝕄) ⊢ start m c := by
  rw [PhiA_eq]
  unfold start
  iintro ⟨⟨H10, H11, H12, H13, H14, H15, ⟨%Y, H16⟩⟩, Hg⟩
  isplitl [H10 H11 H12 H13 H14 H15 H16]
  · isplitl [H10]; · iexact H10
    isplitl [H11]; · iexact H11
    isplitl [H12]; · iexact H12
    isplitl [H13]; · iexact H13
    isplitl [H14]; · iexact H14
    isplitl [H15]; · iexact H15
    iexists Y; isplitr
    · ipureintro; exact fun x hx => False.elim hx
    iexact H16
  iexact Hg

/-- What is carried after the points is what the region gives back. -/
theorem end_of (c : Dev nD) (n : ℕ) : carried m c n ⊢ (Pipeline.ΦA spec0 c : sProp 𝕄) := by
  rw [PhiA_eq]
  unfold carried
  iintro ⟨⟨H10, H11, H12, ⟨%Y13, -, H13⟩, H14, H15, ⟨%Y, -, H16⟩⟩, Hg⟩
  isplitl [H10 H11 H12 H13 H14 H15 H16]
  · isplitl [H10]; · iexists _; iexact H10
    isplitl [H11]; · iexists _; iexact H11
    isplitl [H12]; · iexact H12
    isplitl [H13]; · iexists _; iexact H13
    isplitl [H14]; · iexact H14
    isplitl [H15]; · iexact H15
    iexists _; iexact H16
  iexact Hg

set_option backward.isDefEq.respectTransparency.types false in
/-- From any memory whose row table is a permutation: every weakly fair execution of @main terminates, with the arrays at what the
    proof data name and the other buffers as the operations after the region leave them. -/
theorem vrun_main (hr : ∀ c : Dev nD, InRange (tbl m c)) (hinj : ∀ (c : Dev nD) x y, tbl m c x = tbl m c y → x = y) :
    θ_run defs (onTc (τ := τ) (main (F := F))) (s₀ m ρ) (Pipeline.FramePost cfgs (vdats m) 0 (Pipeline.afterTail₀ cfgs (vdats m) 0 (V0 m) [hostOps1])) :=
  Pipeline.θ_run_frame_around_track (Q' := _) cfgs (vdats m) (0 : Fin 1) launch0 defs₀ 𝒱₀ m ρ main
    (hbody := fun c => (vbody_obligation m hr hinj c).loose) (hshare := fun c => (vdats m 0 c).share_full fun _ => rfl)
    (howed := fun _ _ => rfl) (V₀ := V0 m) (opss := [hostOps1]) (hsub := sfx_sub) (hfresh := sfx_fresh) (hkeep := sfx_keeps)
    (hmain := hmain m 𝒱₀) (hA := vA_eq m)
    (hin := fun c => start_of m c) (hout := fun c => end_of m c _) (hQ' := fun _ h => h.1)

end Cert.Proof.KernelIdeal
end
-- ==== Proof.IdealValueResult.lean ====
module

public import proofs.«01_k».proof.Proof.IdealValueRun
public import Idealize.ShloMosaic.Lib.Pipeline.ValueKit
public import Idealize.ShloMosaic.Lib.Tactic

@[expose] public section

set_option maxRecDepth 16384

noncomputable section

namespace Cert.Proof.KernelIdeal

open Cert.KernelIdeal Cert.KernelIdeal.Gen
open Idealize.ShloMosaic Idealize.ShloMosaic.TcCoe Idealize.ShloMosaic.Tactic
open Idealize.ShloMosaic.Pipeline (Dat)
open Idealize.SL Idealize.SL.Sem

variable {F : FTy → Type} [FloatOps F] [∀ e, Nonempty (Elt F e)]

variable (m : (ℓ : Loc nD τ sig) → Buf (Elt F) ℓ) (ρ : Dev nD → PrngReg)

/-! ## What the three results hold after the run -/

/-- The last point, the only one that writes an output back. -/
def last : Fin cfg0.N := ⟨18, by decide⟩

/-- The output array after the run. -/
theorem arr6 (c : Dev nD) : (vdats m 0 c).arrAt 6 cfg0.N = fout (tgt m c) := by
  refine (vdats m 0 c).arrAt_eq_of_after_last 6 last (by decide +kernel) _ fun j => ?_
  rfl
/-- The array of the codes after the run. -/
theorem arr7 (c : Dev nD) : (vdats m 0 c).arrAt 7 cfg0.N = k0_pay9 (toks m c) := by
  refine (vdats m 0 c).arrAt_eq_of_after_last 7 last (by decide +kernel) _ fun j => ?_
  rfl
/-- The array of the scales after the run. -/
theorem arr8 (c : Dev nD) : (vdats m 0 c).arrAt 8 cfg0.N = fxs (toks m c) := by
  refine (vdats m 0 c).arrAt_eq_of_after_last 8 last (by decide +kernel) _ fun j => ?_
  rfl

/-- The arrays of the region are different from each other. -/
theorem arrs_inj : Function.Injective (Pipeline.arrRef spec0) := launch0.win.arr_inj

/-- The output, in the shape that @main returns it in. -/
theorem W_main_v3 (c : Dev nD) : Pipeline.afterTail₀ cfgs (vdats m) 0 (V0 m) [hostOps1] c main_v3
    = shapeCast S2x128x9728 (fout (tgt m c)) shapeCasts_S256x9728_S2x128x9728 := by
  unfold Pipeline.afterTail₀
  show StableHlo.after hostOps1 _ (Proc.devRef .tc main_v3) = _
  after_results
  rw [Pipeline.withArrays_arr spec0 arrs_inj c (V0 m c) _ 6, arr6]
  rfl
/-- The codes, in the shape that @main returns them in. -/
theorem W_main_v4 (c : Dev nD) : Pipeline.afterTail₀ cfgs (vdats m) 0 (V0 m) [hostOps1] c main_v4
    = shapeCast S2x128x2560 (k0_pay9 (toks m c)) shapeCasts_S256x2560_S2x128x2560 := by
  unfold Pipeline.afterTail₀
  show StableHlo.after hostOps1 _ (Proc.devRef .tc main_v4) = _
  after_results
  rw [Pipeline.withArrays_arr spec0 arrs_inj c (V0 m c) _ 7, arr7]
  rfl

/-- The kernel's run with its three results named and its arguments unchanged. -/
theorem run_results (hr : ∀ c : Dev nD, InRange (tbl m c)) (hinj : ∀ (c : Dev nD) x y, tbl m c x = tbl m c y → x = y) :
    θ_run defs (onTc (τ := τ) (main (F := F))) ⟨m, fun _ => 0, ρ⟩ (fun r => ∀ c : Dev nD,
      r.2.mem ((c.tc : Thread nD τ).loc main_v3) = shapeCast S2x128x9728 (fout (tgt m c)) shapeCasts_S256x9728_S2x128x9728
      ∧ r.2.mem ((c.tc : Thread nD τ).loc main_v4) = shapeCast S2x128x2560 (k0_pay9 (toks m c)) shapeCasts_S256x2560_S2x128x2560
      ∧ r.2.mem ((c.tc : Thread nD τ).loc main_v2_2) = fxs (toks m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun _ h c =>
    ⟨(((h c).2 main_v3 (Pipeline.mem_restRefs_of main_v3 (by decide) (by decide))).trans (W_main_v3 m c)),
      (((h c).2 main_v4 (Pipeline.mem_restRefs_of main_v4 (by decide) (by decide))).trans (W_main_v4 m c)),
      ((h c).1 8).trans (arr8 m c),
      (((h c).2 main_arg0 (Pipeline.mem_restRefs_of main_arg0 (by decide) (by decide))).trans (W_main_arg0 m (vdats m) c)),
      ((h c).1 0).trans (((vdats m 0 c).arrAt_in 0 rfl _).trans ((vA_eq m c 0).trans (V_main_arg1 m c))),
      ((h c).1 4).trans (((vdats m 0 c).arrAt_in 4 rfl _).trans ((vA_eq m c 4).trans (V_main_arg2 m c))),
      (((h c).2 main_arg3 (Pipeline.mem_restRefs_of main_arg3 (by decide) (by decide))).trans (W_main_arg3 m (vdats m) c)),
      ((h c).1 2).trans (((vdats m 0 c).arrAt_in 2 rfl _).trans ((vA_eq m c 2).trans (V_main_arg4 m c))),
      ((h c).1 3).trans (((vdats m 0 c).arrAt_in 3 rfl _).trans ((vA_eq m c 3).trans (V_main_arg5 m c)))⟩) (vrun_main m ρ hr hinj)

end Cert.Proof.KernelIdeal
end
-- ==== Proof.IdealOutput.lean ====
module

public import proofs.«01_k».proof.Proof.IdealChannels
public import proofs.«01_k».proof.Proof.IdealValueResult

@[expose] public section

set_option maxRecDepth 16384

noncomputable section

namespace Cert.Proof.KernelIdeal

open Cert.KernelIdeal Cert.KernelIdeal.Gen Cert.Proof.Quantise
open Idealize.ShloMosaic Idealize.ShloMosaic.TcCoe Idealize.SL.Sem

/-! ## The kernel's results, read at an element -/

variable (m : (ℓ : Loc nD τ sig) → Buf (Elt Ideal) ℓ)

/-- Only whether the row is odd matters to a channel of four bits. -/
theorem fourOf_congr (x : Fin 2560 → EReal) {p q : Prop} [Decidable p] [Decidable q] (h : p ↔ q) {w w' : Fin 2560 → BitVec 8} (hw : ∀ k, w k = w' k)
    {s s' : Fin 20 → EReal} (hs : ∀ g, s g = s' g) : fourOf x p w s = fourOf x q w' s' := by
  obtain rfl : p = q := propext h
  obtain rfl : w = w' := funext hw
  obtain rfl : s = s' := funext hs
  unfold fourOf part
  refine Finset.sum_congr rfl fun k _ => ?_
  by_cases hp : p
  · rw [if_pos hp, if_pos hp]
  · rw [if_neg hp, if_neg hp]

/-- The output at a token and at the channel that a word of the table names: the channel of that word's row of weights. -/
theorem out_apply (c : Dev nD) (hinj : ∀ x y, tbl m c x = tbl m c y → x = y) (q : Fin 256) (n z : Fin 9728) (hz : (tbl m c (ix1 z)).toNat = n.val) :
    fout (F := Ideal) (tgt m c) (ix2 q n)
      = channel (fun k => toks m c (ix2 q k)) (m ((c : Thread nD τ).loc main_arg2)) (m ((c : Thread nD τ).loc main_arg3)) (m ((c : Thread nD τ).loc main_arg4)) (m ((c : Thread nD τ).loc main_arg5)) z := by
  have hp : point z.val < 19 := point_lt z.isLt
  have hv : (pt (point z.val)).val = point z.val := Nat.mod_eq_of_lt hp
  rw [fout_apply]
  unfold tgt
  rw [target_apply hinj _ (ix1 z) hz.symm]
  show stg m c (point z.val) (ix3 (row z.val) ⟨q.val % 2, by omega⟩ ⟨q.val / 2, by omega⟩) = _
  unfold stg channel
  by_cases h : z.val < 1536
  · have ep : point z.val = 16 + z.val / 512 := if_pos h
    have er : (row z.val).val = z.val % 512 := if_pos h
    rw [if_neg (by omega), dif_pos h, stage8_apply, token_side]
    have e2 : ∀ k, (iblk m c 4 (pt (point z.val)) : S512x2560.Idx → BitVec 8) (ix2 (row z.val) k) = m ((c : Thread nD τ).loc main_arg2) (ix2 ⟨z.val, h⟩ k) := fun k => by
      rw [iblk4 m c _ (by omega)]
      refine congrArg _ (congrArg (fun a => ix2 a k) (Fin.ext ?_))
      show 512 * ((pt (point z.val)).val - 16) + (row z.val).val = z.val
      omega
    have e3 : (iblk m c 5 (pt (point z.val)) : S512x1.Idx → EReal) (ix2 (row z.val) 0) = m ((c : Thread nD τ).loc main_arg3) (ix1 ⟨z.val, h⟩) := by
      rw [iblk5 m c _ (by omega)]
      refine congrArg _ (congrArg ix1 (Fin.ext ?_))
      show 512 * ((pt (point z.val)).val - 16) + (row z.val).val = z.val
      omega
    rw [e3, funext e2]
  · have ep : point z.val = (z.val - 1536) / 512 := if_neg h
    have er : (row z.val).val = (z.val - 1536) % 512 := if_neg h
    rw [if_pos (by omega), dif_neg h, stage4_apply, token_side]
    refine fourOf_congr _ (by omega) (fun k => ?_) (fun g => ?_)
    · rw [iblk2 m c _ (by omega)]
      refine congrArg _ (congrArg (fun a => ix2 a k) (Fin.ext ?_))
      show 256 * (pt (point z.val)).val + (row z.val).val / 2 = (z.val - 1536) / 2
      omega
    · rw [iblk3 m c _ (by omega)]
      refine congrArg _ (congrArg (fun a => ix2 a g) (Fin.ext ?_))
      show 512 * (pt (point z.val)).val + (row z.val).val = z.val - 1536
      omega

/-- The number of a token. -/
def place (b : Fin 2) (s : Fin 128) : Fin 256 := ⟨128 * b.val + s.val, by omega⟩

/-- The returned shape has the tokens on two axes. -/
theorem channels_apply (G : S256x9728.Idx → EReal) (b : Fin 2) (s : Fin 128) (n : Fin 9728) :
    shapeCast S2x128x9728 G shapeCasts_S256x9728_S2x128x9728 (ix3 b s n) = G (ix2 (place b s) n) := by
  unfold place
  pointwise!
/-- The returned shape of the codes has the tokens on two axes. -/
theorem codes_apply (G : S256x2560.Idx → BitVec 8) (b : Fin 2) (s : Fin 128) (k : Fin 2560) :
    shapeCast S2x128x2560 G shapeCasts_S256x2560_S2x128x2560 (ix3 b s k) = G (ix2 (place b s) k) := by
  unfold place
  pointwise!

/-- A token is read by its number. -/
theorem toks_apply (c : Dev nD) (b : Fin 2) (s : Fin 128) (k : Fin 2560) : toks m c (ix2 (place b s) k) = m ((c : Thread nD τ).loc main_arg0) (ix3 b s k) := by
  unfold toks
  rw [tokens_apply]
  refine congrArg _ (congrArg₂ (fun a a' => ix3 a a' k) (Fin.ext ?_) (Fin.ext ?_))
  · show (128 * b.val + s.val) / 128 = b.val; omega
  · show (128 * b.val + s.val) % 128 = s.val; omega

/-- The first result: the output. -/
theorem result_out (c : Dev nD) (hinj : ∀ x y, tbl m c x = tbl m c y → x = y) (b : Fin 2) (s : Fin 128) (n z : Fin 9728) (hz : (tbl m c (ix1 z)).toNat = n.val) :
    shapeCast S2x128x9728 (fout (F := Ideal) (tgt m c)) shapeCasts_S256x9728_S2x128x9728 (ix3 b s n)
      = channel (fun k => m ((c : Thread nD τ).loc main_arg0) (ix3 b s k)) (m ((c : Thread nD τ).loc main_arg2)) (m ((c : Thread nD τ).loc main_arg3)) (m ((c : Thread nD τ).loc main_arg4)) (m ((c : Thread nD τ).loc main_arg5)) z := by
  rw [channels_apply, out_apply m c hinj _ n z hz]
  congr 1
  exact funext fun k => toks_apply m c b s k

/-- The second result: the codes. -/
theorem result_codes (c : Dev nD) (b : Fin 2) (s : Fin 128) (k : Fin 2560) :
    shapeCast S2x128x2560 (k0_pay9 (F := Ideal) (toks m c)) shapeCasts_S256x2560_S2x128x2560 (ix3 b s k)
      = Ideal.fptosi 8 (codeOf (m ((c : Thread nD τ).loc main_arg0) (ix3 b s k)) (scaleOf fun k => m ((c : Thread nD τ).loc main_arg0) (ix3 b s k))) := by
  rw [codes_apply]
  show Ideal.fptosi 8 (k0_pay8 (F := Ideal) (toks m c) (ix2 (place b s) k)) = _
  rw [code_apply]
  show Ideal.fptosi 8 (codeOf (toks m c (ix2 (place b s) k)) (scaleOf fun k => toks m c (ix2 (place b s) k))) = _
  rw [toks_apply, funext fun k => toks_apply m c b s k]

/-- The third result: the scales. -/
theorem result_scale (c : Dev nD) (b : Fin 2) (s : Fin 128) :
    fxs (F := Ideal) (toks m c) (ix2 b s) = scaleOf fun k => m ((c : Thread nD τ).loc main_arg0) (ix3 b s k) := by
  unfold fxs
  rw [scale_apply]
  show (scaleOf fun k => toks m c (ix2 (place b s) k)) = _
  rw [funext fun k => toks_apply m c b s k]

end Cert.Proof.KernelIdeal
end
-- ==== Proof.RefTerm.lean ====
module

public import proofs.«01_k».proof.Proof.Gen.ReferenceIdeal.Run
public import Idealize.ShloMosaic.Lib.Pointwise

@[expose] public section

set_option maxRecDepth 16384

noncomputable section

namespace Cert.Proof.Reference

open Cert.ReferenceIdeal Cert.ReferenceIdeal.Gen Idealize.ShloMosaic Idealize.ShloMosaic.TcCoe Idealize.SL.Sem Idealize.ShloMosaic.StableHlo

/-! ## The reference's output in pieces -/

/-- The scale of each token. -/
def scale (X : FVec Ideal S2x128x2560 .bf16) : FVec Ideal S2x128 .f32 :=
  select (cmpf .oeq (Host.reduce FloatOps.maximumf (Host.absf (extf .f32 X bitsLt_bf16_f32)) (constant S_ .f32 0xFF800000#32) reducesTo_S2x128x2560_S2x128_d2 h_S_) (broadcastInDim S2x128 ![] bcast_S_S2x128 (constant S_ .f32 0x00000000#32))) (broadcastInDim S2x128 ![] bcast_S_S2x128 (id (constant S_ .f32 0x3F800000#32))) (Host.divf (Host.reduce FloatOps.maximumf (Host.absf (extf .f32 X bitsLt_bf16_f32)) (constant S_ .f32 0xFF800000#32) reducesTo_S2x128x2560_S2x128_d2 h_S_) (broadcastInDim S2x128 ![] bcast_S_S2x128 (constant S_ .f32 0x42FE0000#32)))

/-- The codes of the tokens, from their scales. -/
def codes (X : FVec Ideal S2x128x2560 .bf16) (XS : FVec Ideal S2x128 .f32) : IVec S2x128x2560 8 :=
  trunci 8 (fptosi 32 (minimumf (broadcastInDim S2x128x2560 ![] bcast_S_S2x128x2560 (id (constant S_ .f32 0x42FE0000#32))) (maximumf (broadcastInDim S2x128x2560 ![] bcast_S_S2x128x2560 (id (constant S_ .f32 0xC2FE0000#32))) (Host.roundeven (Host.divf (extf .f32 X bitsLt_bf16_f32) (broadcastInDim S2x128x2560 ![0, 1, 2] bcast_S2x128x1_S2x128x2560_0_1_2 (broadcastInDim S2x128x1 ![0, 1] bcast_S2x128_S2x128x1_0_1 XS))))))) natLt_8_32

/-- The channels of eight bits. -/
def eight (C : IVec S2x128x2560 8) (XS : FVec Ideal S2x128 .f32) (A2 : IVec S1536x2560 8) (A3 : FVec Ideal S1536 .f32) : FVec Ideal S2x128x1536 .f32 :=
  mulf (mulf (Host.dotGeneral dot_S2x128x2560_S1536x2560_S2x128x1536_2_1_01_0_n_n none (sitofp .bf16 (extsi 32 C natLt_8_32)) (sitofp .bf16 (extsi 32 A2 natLt_8_32))) (broadcastInDim S2x128x1536 ![0, 1, 2] bcast_S2x128x1_S2x128x1536_0_1_2 (broadcastInDim S2x128x1 ![0, 1] bcast_S2x128_S2x128x1_0_1 XS))) (broadcastInDim S2x128x1536 ![0, 1, 2] bcast_S1x1x1536_S2x128x1536_0_1_2 (broadcastInDim S1x1x1536 ![2] bcast_S1536_S1x1x1536_2 A3))

/-- The weights of the even channels of four bits. -/
def lowWeights (A4 : IVec S4096x2560 8) (A5 : FVec Ideal S8192x20 .bf16) : FVec Ideal S4096x2560 .bf16 :=
  shapeCast _ (mulf (sitofp .bf16 (select (cmpi .sge (andi (shapeCast _ (extui 32 A4 natLt_8_32) shapeCasts_S4096x2560_S4096x20x128) (broadcastInDim S4096x20x128 ![] bcast_S_S4096x20x128 (constantI S_ 32 15#32))) (broadcastInDim S4096x20x128 ![] bcast_S_S4096x20x128 (constantI S_ 32 8#32))) (subi (andi (shapeCast _ (extui 32 A4 natLt_8_32) shapeCasts_S4096x2560_S4096x20x128) (broadcastInDim S4096x20x128 ![] bcast_S_S4096x20x128 (constantI S_ 32 15#32))) (broadcastInDim S4096x20x128 ![] bcast_S_S4096x20x128 (constantI S_ 32 16#32))) (andi (shapeCast _ (extui 32 A4 natLt_8_32) shapeCasts_S4096x2560_S4096x20x128) (broadcastInDim S4096x20x128 ![] bcast_S_S4096x20x128 (constantI S_ 32 15#32))))) (broadcastInDim S4096x20x128 ![0, 1, 2] bcast_S4096x20x1_S4096x20x128_0_1_2 (broadcastInDim S4096x20x1 ![0, 1] bcast_S4096x20_S4096x20x1_0_1 (shapeCast _ (extractStridedSlice S4096x1x20 ![0, 0, 0] (shapeCast _ A5 shapeCasts_S8192x20_S4096x2x20) slices_S4096x2x20_S4096x1x20_0_0_0) shapeCasts_S4096x1x20_S4096x20)))) shapeCasts_S4096x20x128_S4096x2560

/-- The weights of the odd channels of four bits. -/
def highWeights (A4 : IVec S4096x2560 8) (A5 : FVec Ideal S8192x20 .bf16) : FVec Ideal S4096x2560 .bf16 :=
  shapeCast _ (mulf (sitofp .bf16 (select (cmpi .sge (Host.shrsi (shapeCast _ (extui 32 A4 natLt_8_32) shapeCasts_S4096x2560_S4096x20x128) (broadcastInDim S4096x20x128 ![] bcast_S_S4096x20x128 (constantI S_ 32 4#32))) (broadcastInDim S4096x20x128 ![] bcast_S_S4096x20x128 (constantI S_ 32 8#32))) (subi (Host.shrsi (shapeCast _ (extui 32 A4 natLt_8_32) shapeCasts_S4096x2560_S4096x20x128) (broadcastInDim S4096x20x128 ![] bcast_S_S4096x20x128 (constantI S_ 32 4#32))) (broadcastInDim S4096x20x128 ![] bcast_S_S4096x20x128 (constantI S_ 32 16#32))) (Host.shrsi (shapeCast _ (extui 32 A4 natLt_8_32) shapeCasts_S4096x2560_S4096x20x128) (broadcastInDim S4096x20x128 ![] bcast_S_S4096x20x128 (constantI S_ 32 4#32))))) (broadcastInDim S4096x20x128 ![0, 1, 2] bcast_S4096x20x1_S4096x20x128_0_1_2 (broadcastInDim S4096x20x1 ![0, 1] bcast_S4096x20_S4096x20x1_0_1 (shapeCast _ (extractStridedSlice S4096x1x20 ![0, 1, 0] (shapeCast _ A5 shapeCasts_S8192x20_S4096x2x20) slices_S4096x2x20_S4096x1x20_0_1_0) shapeCasts_S4096x1x20_S4096x20)))) shapeCasts_S4096x20x128_S4096x2560

/-- Channels of four bits, from their weights. -/
def four (X : FVec Ideal S2x128x2560 .bf16) (W : FVec Ideal S4096x2560 .bf16) : FVec Ideal S2x128x4096 .f32 :=
  Host.dotGeneral dot_S2x128x2560_S4096x2560_S2x128x4096_2_1_01_0_n_n none X W

/-- The channels in the order of the weights: eight bits, four bits even, four bits odd. -/
def rows (E : FVec Ideal S2x128x1536 .f32) (L H : FVec Ideal S2x128x4096 .f32) : FVec Ideal S2x128x9728 .bf16 :=
  truncf .bf16 ((concatenate S2x128x9728 2 [⟨S2x128x1536, (E : (⟨S2x128x1536, .f32⟩ : BufTy).Contents (Elt Ideal))⟩, ⟨S2x128x4096, (L : (⟨S2x128x4096, .f32⟩ : BufTy).Contents (Elt Ideal))⟩, ⟨S2x128x4096, (H : (⟨S2x128x4096, .f32⟩ : BufTy).Contents (Elt Ideal))⟩] concatenates_S2x128x1536_S2x128x4096_S2x128x4096_S2x128x9728_d2 : (⟨S2x128x9728, .f32⟩ : BufTy).Contents (Elt Ideal))) bitsLt_bf16_f32

/-- The output channel of each row of `rows`. -/
def index (A1 : IVec S9728 32) : IVec S9728 32 :=
  (concatenate S9728 0 [⟨S1536, ((extractStridedSlice S1536 ![0] A1 slices_S9728_S1536_0) : (⟨S1536, .i32⟩ : BufTy).Contents (Elt Ideal))⟩, ⟨S4096, ((Host.slice S4096 ![1536] ![2] A1 slicesBy_S9728_S4096_1536s2) : (⟨S4096, .i32⟩ : BufTy).Contents (Elt Ideal))⟩, ⟨S4096, ((Host.slice S4096 ![1537] ![2] A1 slicesBy_S9728_S4096_1537s2) : (⟨S4096, .i32⟩ : BufTy).Contents (Elt Ideal))⟩] concatenates_S1536_S4096_S4096_S9728_d0 : (⟨S9728, .i32⟩ : BufTy).Contents (Elt Ideal))

/-- A word of a table, counted from the end when negative. -/
def wrap (I : IVec S9728 32) : IVec S9728x1 32 :=
  broadcastInDim S9728x1 ![0] bcast_S9728_S9728x1_0 (select (cmpi .slt I (broadcastInDim S9728 ![] bcast_S_S9728 (constantI S_ 32 0#32))) (addi I (broadcastInDim S9728 ![] bcast_S_S9728 (constantI S_ 32 9728#32))) I)

/-- The row of each output channel: the inverse of `index`. -/
def inverse (I : IVec S9728 32) : IVec S9728 32 :=
  Host.scatter scatter_S9728_S9728x1_S9728_n_0_0_1 (fun _ b => b) (broadcastInDim S9728 ![] bcast_S_S9728 (constantI S_ 32 0#32)) (wrap I) (iotaInDim S9728 32 0)

/-- The rows taken by a table. -/
def take (Y : FVec Ideal S2x128x9728 .bf16) (J : IVec S9728 32) : FVec Ideal S2x128x9728 .bf16 :=
  select (broadcastInDim S2x128x9728 ![2] bcast_S9728_S2x128x9728_2 (Host.reduce IntOp.andi (andi (cmpi .sge (wrap J) (broadcastInDim S9728x1 ![] bcast_S_S9728x1 (constantI S_ 32 0#32))) (cmpi .sle (wrap J) (broadcastInDim S9728x1 ![0, 1] bcast_S1x1_S9728x1_0_1 (broadcastInDim S1x1 ![1] bcast_S1_S1x1_1 (constantI S1 32 9727#32))))) (constantI S_ 1 1#1) reducesTo_S9728x1_S9728_d1 h_S_)) (Host.gather gather_S2x128x9728_S9728x1_S2x128x9728_01_2_n_n_2_1_21281 Y (wrap J)) (broadcastInDim S2x128x9728 ![] bcast_S_S2x128x9728 (constant S_ .bf16 0x7FC0#16))

/-- The reference's output, from the pieces. -/
def output (X : FVec Ideal S2x128x2560 .bf16) (A1 : IVec S9728 32) (A2 : IVec S1536x2560 8) (A3 : FVec Ideal S1536 .f32) (A4 : IVec S4096x2560 8) (A5 : FVec Ideal S8192x20 .bf16) : FVec Ideal S2x128x9728 .bf16 :=
  take (rows (eight (codes X (scale X)) (scale X) A2 A3) (four X (lowWeights A4 A5)) (four X (highWeights A4 A5))) (inverse (index A1))

/-- The reference's run, its results named by the pieces. -/
theorem run_results (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v74) = output (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5))
      ∧ r.2.mem ((c.tc : Thread nD τ).loc main_v14) = codes (m ((c.tc : Thread nD τ).loc main_arg0)) (scale (m ((c.tc : Thread nD τ).loc main_arg0)))
      ∧ r.2.mem ((c.tc : Thread nD τ).loc main_v7) = scale (m ((c.tc : Thread nD τ).loc main_arg0))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5) :=
  Cert.ReferenceIdeal.Value.run (F := Ideal) m ρ

end Cert.Proof.Reference
end
-- ==== Proof.RefChannels.lean ====
module

public import proofs.«01_k».proof.Proof.RefTerm
public import proofs.«01_k».proof.Proof.Quantise
public import Idealize.ShloMosaic.Lib.Routing.OpsSet
public import Idealize.ShloMosaic.Lib.IdealHost

@[expose] public section

set_option maxRecDepth 16384

noncomputable section

namespace Cert.Proof.Reference

open Cert.ReferenceIdeal Cert.ReferenceIdeal.Gen Cert.Proof.Quantise
open Idealize.ShloMosaic

/-! ## What the reference computes, read at an element -/

/-- The scale of a token. -/
theorem scale_apply (X : S2x128x2560.Idx → EReal) (y : S2x128.Idx) : scale X y = scaleOf (fun k => X (ix3 (y 0) (y 1) k)) := by
  pointwise [scale]
  unfold scaleOf
  rw [show (1 : EReal) = Ideal.ofBits .f32 1065353216#32 from Ideal.ofBits_one_f32.symm]
  rfl
/-- The code of a word of a token. -/
theorem codes_apply (X : S2x128x2560.Idx → EReal) (XS : S2x128.Idx → EReal) (y : S2x128x2560.Idx) :
    codes X XS y = Ideal.fptosi 8 (codeOf (X y) (XS (ix2 (y 0) (y 1)))) := by
  rw [← code_bits]
  pointwise [codes]
  rfl
/-- A channel of eight bits, from the codes. -/
theorem eight_apply (C : S2x128x2560.Idx → BitVec 8) (XS : S2x128.Idx → EReal) (A2 : S1536x2560.Idx → BitVec 8) (A3 : S1536.Idx → EReal) (y : S2x128x1536.Idx) :
    eight C XS A2 A3 y = (∑ k, FloatOps.sitofp (F := Ideal) FTy.bf16 (BitVec.signExtend 32 (C (ix3 (y 0) (y 1) k))) * FloatOps.sitofp (F := Ideal) FTy.bf16 (BitVec.signExtend 32 (A2 (ix2 (y 2) k)))) * XS (ix2 (y 0) (y 1)) * A3 (ix1 (y 2)) := by
  pointwise [eight]
/-- A weight of an even channel of four bits: the low half of a byte times its scale. -/
theorem low_apply (A4 : S4096x2560.Idx → BitVec 8) (A5 : S8192x20.Idx → EReal) (y : S4096x2560.Idx) :
    lowWeights A4 A5 y = signed4 (IntOp.andi (BitVec.setWidth 32 (A4 y)) 15#32)
      * A5 (ix2 (⟨(y 0).val * 2, by have h : (y 0).val < 4096 := (y 0).isLt; omega⟩ : Fin 8192) (⟨(y 1).val / 128, by have h : (y 1).val < 2560 := (y 1).isLt; omega⟩ : Fin 20)) := by
  pointwise [lowWeights]
  rfl
/-- A weight of an odd channel of four bits: the high half of a byte times its scale. -/
theorem high_apply (A4 : S4096x2560.Idx → BitVec 8) (A5 : S8192x20.Idx → EReal) (y : S4096x2560.Idx) :
    highWeights A4 A5 y = signed4 (IntOp.shrsi ArithUnit.vector (BitVec.setWidth 32 (A4 y)) 4#32)
      * A5 (ix2 (⟨(y 0).val * 2 + 1, by have h : (y 0).val < 4096 := (y 0).isLt; omega⟩ : Fin 8192) (⟨(y 1).val / 128, by have h : (y 1).val < 2560 := (y 1).isLt; omega⟩ : Fin 20)) := by
  pointwise [highWeights]
  rw [shift_host]
  rfl
/-- A channel of four bits, from its weights. -/
theorem four_apply (X : S2x128x2560.Idx → EReal) (W : S4096x2560.Idx → EReal) (y : S2x128x4096.Idx) :
    four X W y = ∑ k, X (ix3 (y 0) (y 1) k) * W (ix2 (y 2) k) := by
  pointwise [four]

/-- The word of the table for a row of `rows`. -/
def word (j : Fin 9728) : Fin 9728 :=
  ⟨if j.val < 1536 then j.val else if j.val - 1536 < 4096 then 1536 + 2 * (j.val - 1536) else 1537 + 2 * (j.val - 1536 - 4096), by have := j.isLt; split <;> [omega; split <;> omega]⟩
/-- The row of `rows` for a word of the table. -/
def spot (z : Fin 9728) : Fin 9728 :=
  ⟨if z.val < 1536 then z.val else if (z.val - 1536) % 2 = 1 then 5632 + (z.val - 1536) / 2 else 1536 + (z.val - 1536) / 2, by have := z.isLt; split <;> [omega; split <;> omega]⟩

/-- `word` undoes `spot`. -/
theorem word_spot (z : Fin 9728) : word (spot z) = z := by
  refine Fin.ext ?_
  unfold word spot
  have := z.isLt
  dsimp only
  split_ifs <;> omega
/-- `spot` undoes `word`. -/
theorem spot_word (j : Fin 9728) : spot (word j) = j := by
  refine Fin.ext ?_
  unfold word spot
  have := j.isLt
  dsimp only
  split_ifs <;> omega

/-- `index` is the table in the order of `rows`. -/
theorem index_apply (A1 : S9728.Idx → BitVec 32) (j : Fin 9728) : index A1 (ix1 j) = A1 (ix1 (word j)) := by
  have e : index A1 (ix1 j) = if j.val < 1536 then A1 (ix1 (word j)) else if j.val - 1536 < 4096 then A1 (ix1 (word j)) else A1 (ix1 (word j)) := by
    unfold word
    pointwise [index]
    split_ifs <;> rfl
  rw [e, ite_self, ite_self]

/-- A word below 9728 is the same number read signed. -/
theorem lt_toInt {w : BitVec 32} (h : w.toNat < 9728) : w.toInt = (w.toNat : ℤ) := by
  rw [BitVec.toInt_eq_toNat_cond, if_pos (by omega)]

/-- A word in range is not changed by `wrap`. -/
theorem wrap_apply (I : S9728.Idx → BitVec 32) (y : S9728x1.Idx) (h : (I (ix1 (y 0))).toNat < 9728) : wrap I y = I (ix1 (y 0)) := by
  pointwise [wrap]
  have e : IntOp.cmpi CmpIPredicate.slt (I (ix1 (y 0))) 0#32 = 0#1 := by
    show BitVec.ofBool ((I (ix1 (y 0))).slt 0#32) = 0#1
    rw [BitVec.slt, lt_toInt h, decide_eq_false (by rw [show (0#32).toInt = 0 from rfl]; omega)]
    rfl
  rw [e]
  rfl

/-- The inverse of a permutation, at the value of a word: the row for that word. -/
theorem inverse_apply (P : S9728.Idx → BitVec 32) (hr : ∀ x, (P x).toNat < 9728) (hinj : ∀ x y, P x = P y → x = y) (n z : Fin 9728)
    (hz : (P (ix1 z)).toNat = n.val) : inverse (index P) (ix1 n) = BitVec.ofNat 32 (spot z).val := by
  have hw : ∀ i : Fin 9728, wrap (index P) (ix2 i (0 : Fin 1)) = P (ix1 (word i)) := fun i => by
    rw [wrap_apply _ _ (by show (index P (ix1 i)).toNat < 9728; rw [index_apply]; exact hr _)]
    exact index_apply P i
  have hn : ∀ i : Fin 9728, (wrap (index P) (ix2 i (0 : Fin 1))).toInt = (n.val : ℤ) → i = spot z := fun i hi => by
    rw [hw, lt_toInt (hr _)] at hi
    have h1 : (P (ix1 (word i))).toNat = (P (ix1 z)).toNat := by rw [hz]; exact_mod_cast hi
    have h2 : word i = z := congrFun (hinj _ _ (BitVec.eq_of_toNat_eq h1)) 0
    rw [← h2, spot_word]
  refine (Routing.scatter_set_signed scatter_S9728_S9728x1_S9728_n_0_0_1 rfl rfl rfl _ (wrap (index P)) (iotaInDim S9728 32 0) n _ (fun i hi => ?_)).1 ⟨spot z, ?_⟩
  · rw [hn i hi]; rfl
  · show (wrap (index P) (ix2 (spot z) (0 : Fin 1))).toInt = (n.val : ℤ)
    rw [hw, word_spot, lt_toInt (hr _), hz]

/-- Entries taken along the last axis by a table in range. -/
theorem gather_apply (Y : S2x128x9728.Idx → EReal) (I : S9728x1.Idx → BitVec 32) (y : S2x128x9728.Idx) (j : Fin 9728) (h : I (ix2 (y 2) 0) = BitVec.ofNat 32 j.val) :
    Host.gather gather_S2x128x9728_S9728x1_S2x128x9728_01_2_n_n_2_1_21281 Y I y = Y (ix3 (y 0) (y 1) j) := by
  unfold Host.gather
  refine congrArg Y (funext fun a => Fin.ext ?_)
  have ha : a = (0 : Fin 3) ∨ a = (1 : Fin 3) ∨ a = (2 : Fin 3) := (by decide : ∀ a : Fin 3, a = 0 ∨ a = 1 ∨ a = 2) a
  show GatherDims.start _ y I a + GatherDims.batchCoord _ y a + GatherDims.offCoord _ y a = _
  rw [GatherDims.batchCoord_eq_zero _ _ _ List.not_mem_nil, Nat.add_zero]
  rcases ha with rfl | rfl | rfl
  · unfold GatherDims.start
    rw [dif_neg (show (0 : Fin S2x128x9728.rank) ∉ gather_S2x128x9728_S9728x1_S2x128x9728_01_2_n_n_2_1_21281.startIndexMap from fun h => absurd (List.mem_singleton.mp h) (by decide)), Nat.zero_add]
    rfl
  · unfold GatherDims.start
    rw [dif_neg (show (1 : Fin S2x128x9728.rank) ∉ gather_S2x128x9728_S9728x1_S2x128x9728_01_2_n_n_2_1_21281.startIndexMap from fun h => absurd (List.mem_singleton.mp h) (by decide)), Nat.zero_add]
    rfl
  · rw [GatherDims.offCoord_eq_zero _ _ _ (fun h => ((GatherDims.mem_sKept _ _).mp h).1 (List.mem_singleton.mpr rfl)), Nat.add_zero]
    unfold GatherDims.start
    rw [dif_pos (show (2 : Fin S2x128x9728.rank) ∈ gather_S2x128x9728_S9728x1_S2x128x9728_01_2_n_n_2_1_21281.startIndexMap from List.mem_singleton.mpr rfl)]
    have hsi : ∀ k, GatherDims.siIdx gather_S2x128x9728_S9728x1_S2x128x9728_01_2_n_n_2_1_21281 y k = ix2 (y 2) 0 := fun k => by
      funext b
      refine Fin.ext ?_
      match b with
      | ⟨0, _⟩ => rfl
      | ⟨1, _⟩ => exact congrArg Fin.val (Subsingleton.elim (α := Fin 1) _ _)
    have e : min (I (ix2 (y 2) 0)).toInt.toNat (9728 - 1) = j.val := by
      have := j.isLt
      rw [h, StableHlo.Predicate.toInt_ofNat_small _ (by omega)]
      omega
    rw [hsi]
    exact e

/-- What `take` gives where the table holds a number in range. -/
theorem take_apply (Y : S2x128x9728.Idx → EReal) (J : S9728.Idx → BitVec 32) (y : S2x128x9728.Idx) (j : Fin 9728) (h : J (ix1 (y 2)) = BitVec.ofNat 32 j.val) :
    take Y J y = Y (ix3 (y 0) (y 1) j) := by
  have hj := j.isLt
  have hn : (J (ix1 (y 2))).toNat = j.val := by rw [h, BitVec.toNat_ofNat]; omega
  have hw : ∀ k : Fin 1, wrap J (ix2 (y 2) k) = BitVec.ofNat 32 j.val := fun k => by
    rw [wrap_apply _ _ (by show (J (ix1 (y 2))).toNat < 9728; omega)]
    exact h
  pointwise [take]
  have hi : (BitVec.ofNat 32 j.val).toInt = (j.val : ℤ) := StableHlo.Predicate.toInt_ofNat_small _ (by omega)
  have e1 : IntOp.cmpi CmpIPredicate.sge (BitVec.ofNat 32 j.val) 0#32 = 1#1 := by
    show BitVec.ofBool (decide ((0#32).toInt ≤ (BitVec.ofNat 32 j.val).toInt)) = 1#1
    rw [hi, decide_eq_true (by rw [show (0#32).toInt = 0 from rfl]; omega)]
    rfl
  have e2 : IntOp.cmpi CmpIPredicate.sle (BitVec.ofNat 32 j.val) 9727#32 = 1#1 := by
    show BitVec.ofBool (decide ((BitVec.ofNat 32 j.val).toInt ≤ (9727#32).toInt)) = 1#1
    rw [hi, decide_eq_true (by rw [show (9727#32).toInt = 9727 from rfl]; omega)]
    rfl
  rw [gather_apply Y (wrap J) y j (hw 0)]
  simp only [hw, e1, e2]
  rfl

/-- A row of `rows`. -/
theorem rows_apply (E : S2x128x1536.Idx → EReal) (L H : S2x128x4096.Idx → EReal) (b : Fin 2) (s : Fin 128) (j : Fin 9728) : rows E L H (ix3 b s j)
    = if h : j.val < 1536 then E (ix3 b s ⟨j.val, h⟩)
      else if h' : j.val - 1536 < 4096 then L (ix3 b s ⟨j.val - 1536, h'⟩) else H (ix3 b s ⟨j.val - 1536 - 4096, by omega⟩) := by
  pointwise [rows]
/-- The row for a word of the table. -/
theorem rows_spot (E : S2x128x1536.Idx → EReal) (L H : S2x128x4096.Idx → EReal) (b : Fin 2) (s : Fin 128) (z : Fin 9728) : rows E L H (ix3 b s (spot z))
    = if h : z.val < 1536 then E (ix3 b s ⟨z.val, h⟩)
      else if (z.val - 1536) % 2 = 1 then H (ix3 b s ⟨(z.val - 1536) / 2, by omega⟩) else L (ix3 b s ⟨(z.val - 1536) / 2, by omega⟩) := by
  have hl := z.isLt
  have es : (spot z).val = if z.val < 1536 then z.val else if (z.val - 1536) % 2 = 1 then 5632 + (z.val - 1536) / 2 else 1536 + (z.val - 1536) / 2 := rfl
  rw [rows_apply]
  by_cases h : z.val < 1536
  · rw [if_pos h] at es
    rw [dif_pos (by omega), dif_pos h]
    exact congrArg E (congrArg (ix3 b s) (Fin.ext es))
  · rw [if_neg h] at es
    by_cases ho : (z.val - 1536) % 2 = 1
    · rw [if_pos ho] at es
      rw [dif_neg (by omega), dif_neg (by omega), dif_neg h, if_pos ho]
      exact congrArg H (congrArg (ix3 b s) (Fin.ext (by show (spot z).val - 1536 - 4096 = (z.val - 1536) / 2; omega)))
    · rw [if_neg ho] at es
      rw [dif_neg (by omega), dif_pos (by omega), dif_neg h, if_neg ho]
      exact congrArg L (congrArg (ix3 b s) (Fin.ext (by show (spot z).val - 1536 = (z.val - 1536) / 2; omega)))

/-- The reference's output at a token and at the channel that a word of the table names: the channel of that word's row of weights. -/
theorem output_apply (X : S2x128x2560.Idx → EReal) (P : S9728.Idx → BitVec 32) (A2 : S1536x2560.Idx → BitVec 8) (A3 : S1536.Idx → EReal) (A4 : S4096x2560.Idx → BitVec 8) (A5 : S8192x20.Idx → EReal)
    (hr : ∀ x, (P x).toNat < 9728) (hinj : ∀ x y, P x = P y → x = y) (b : Fin 2) (s : Fin 128) (n z : Fin 9728) (hz : (P (ix1 z)).toNat = n.val) :
    output X P A2 A3 A4 A5 (ix3 b s n) = channel (fun k => X (ix3 b s k)) A2 A3 A4 A5 z := by
  have hl := z.isLt
  unfold output
  have hi := inverse_apply P hr hinj n z hz
  refine (take_apply _ _ (ix3 b s n) (spot z) hi).trans ?_
  refine (rows_spot _ _ _ b s z).trans ?_
  unfold channel
  by_cases h : z.val < 1536
  · rw [dif_pos h, dif_pos h, eight_apply]
    show (∑ k : Fin 2560, FloatOps.sitofp (F := Ideal) FTy.bf16 (BitVec.signExtend 32 (codes X (scale X) (ix3 b s k))) * FloatOps.sitofp (F := Ideal) FTy.bf16 (BitVec.signExtend 32 (A2 (ix2 ⟨z.val, h⟩ k)))) * scale X (ix2 b s) * A3 (ix1 ⟨z.val, h⟩) = _
    have ec : ∀ k : Fin 2560, FloatOps.sitofp (F := Ideal) FTy.bf16 (BitVec.signExtend 32 (codes X (scale X) (ix3 b s k)))
        = codeOf (X (ix3 b s k)) (scaleOf fun k => X (ix3 b s k)) := fun k => by
      rw [codes_apply, scale_apply]
      exact code_back _ _
    rw [scale_apply]
    unfold eightOf
    simp only [ec, widened]
    rfl
  · rw [dif_neg h, dif_neg h]
    unfold fourOf
    by_cases ho : (z.val - 1536) % 2 = 1
    · rw [if_pos ho, four_apply]
      refine Finset.sum_congr rfl fun k _ => ?_
      rw [high_apply]
      unfold part
      rw [if_pos ho]
      refine congrArg _ (congrArg _ (congrArg A5 (congrArg (fun a => ix2 a _) (Fin.ext ?_))))
      show (z.val - 1536) / 2 * 2 + 1 = z.val - 1536
      omega
    · rw [if_neg ho, four_apply]
      refine Finset.sum_congr rfl fun k _ => ?_
      rw [low_apply]
      unfold part
      rw [if_neg ho]
      refine congrArg _ (congrArg _ (congrArg A5 (congrArg (fun a => ix2 a _) (Fin.ext ?_))))
      show (z.val - 1536) / 2 * 2 = z.val - 1536
      omega

end Cert.Proof.Reference
end
-- ==== Proof.Algebraic.lean ====
module

public import proofs.«01_k».proof.Defs
public import proofs.«01_k».proof.Proof.IdealOutput
public import proofs.«01_k».proof.Proof.RefChannels
public import proofs.«01_k».proof.Proof.PrePerm
public import proofs.«01_k».proof.Proof.Gen.Pre_perm_is_permutation

@[expose] public section

set_option maxRecDepth 16384

noncomputable section

namespace Cert.Proof

open Idealize.ShloMosaic Idealize.SL.Sem Cert.Proof.Quantise

/-! ## The kernel and the reference return the same arrays -/

/-- Each channel is named by a word of a permutation. -/
theorem named_word (P : (⟨1, ![9728]⟩ : Shape).Idx → BitVec 32) (hr : ∀ x, (P x).toNat < 9728) (hinj : ∀ x y, P x = P y → x = y) (n : Fin 9728) :
    ∃ z : Fin 9728, (P (ix1 z)).toNat = n.val := by
  have hf : Function.Injective fun z : Fin 9728 => (⟨(P (ix1 z)).toNat, hr _⟩ : Fin 9728) := fun a b h =>
    congrFun (hinj (ix1 a) (ix1 b) (BitVec.eq_of_toNat_eq (Fin.mk.inj h))) 0
  obtain ⟨z, hz⟩ := (Finite.injective_iff_surjective.mp hf) n
  exact ⟨z, congrArg Fin.val hz⟩

variable (m : (ℓ : Loc Cert.KernelIdeal.nD Cert.KernelIdeal.τ Cert.KernelIdeal.sig) → Buf (Elt Ideal) ℓ) (c : Dev Cert.KernelIdeal.nD)

/-- The outputs are equal. -/
theorem same_output (hr : ∀ x, (KernelIdeal.tbl m c x).toNat < 9728) (hinj : ∀ x y, KernelIdeal.tbl m c x = KernelIdeal.tbl m c y → x = y) :
    Reference.output (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))
      = shapeCast Cert.KernelIdeal.S2x128x9728 (KernelIdeal.fout (F := Ideal) (KernelIdeal.tgt m c)) Cert.KernelIdeal.Facts₀.shapeCasts_S256x9728_S2x128x9728 := by
  funext y
  have ey : y = ix3 (y 0) (y 1) (y 2) := by funext a; match a with | 0 => rfl | 1 => rfl | 2 => rfl
  rw [ey]
  obtain ⟨z, hz⟩ := named_word _ hr hinj (y 2)
  exact (Reference.output_apply _ _ _ _ _ _ hr hinj (y 0) (y 1) (y 2) z hz).trans (KernelIdeal.result_out m c hinj (y 0) (y 1) (y 2) z hz).symm

/-- The codes are equal. -/
theorem same_codes : Reference.codes (m ((c.tc : Thread Cert.KernelIdeal.nD Cert.KernelIdeal.τ).loc Cert.KernelIdeal.main_arg0)) (Reference.scale (m ((c.tc : Thread Cert.KernelIdeal.nD Cert.KernelIdeal.τ).loc Cert.KernelIdeal.main_arg0)))
    = shapeCast Cert.KernelIdeal.S2x128x2560 (Cert.KernelIdeal.Gen.k0_pay9 (F := Ideal) (KernelIdeal.toks m c)) Cert.KernelIdeal.Facts₀.shapeCasts_S256x2560_S2x128x2560 := by
  funext y
  have ey : y = ix3 (y 0) (y 1) (y 2) := by funext a; match a with | 0 => rfl | 1 => rfl | 2 => rfl
  rw [ey]
  refine (Reference.codes_apply _ _ _).trans ?_
  rw [Reference.scale_apply]
  exact (KernelIdeal.result_codes m c (y 0) (y 1) (y 2)).symm

/-- The scales are equal. -/
theorem same_scale : Reference.scale (m ((c.tc : Thread Cert.KernelIdeal.nD Cert.KernelIdeal.τ).loc Cert.KernelIdeal.main_arg0)) = KernelIdeal.fxs (F := Ideal) (KernelIdeal.toks m c) := by
  funext y
  have ey : y = ix2 (y 0) (y 1) := by funext a; match a with | 0 => rfl | 1 => rfl
  rw [ey]
  exact (Reference.scale_apply _ _).trans (KernelIdeal.result_scale m c (y 0) (y 1)).symm

/-- From memories that agree on the arguments, with a permutation for the table, the kernel and the reference return equal results. -/
theorem algebraic : Cert.algebraic_KernelIdeal_ReferenceIdeal_pre_perm_is_permutation := by
  intro m g m' g' hpre hargs
  have hp := fun c => perm_of_pre _ _ _ _ _ _ (hpre c)
  refine ⟨_, _, _, KernelIdeal.run_results m g (fun c => (hp c).1) (fun c => (hp c).2), ?_⟩
  refine (θ_run Cert.ReferenceIdeal.defs _ _).mono (fun r h c => ?_) (Reference.run_results m' g')
  obtain ⟨h0, h1, h2, h3⟩ := h c
  obtain ⟨a0, a1, a2, a3, a4, a5⟩ := hargs c
  refine ⟨h0.trans ?_, h1.trans ?_, h2.trans ?_, h3⟩
  · rw [a0, a1, a2, a3, a4, a5]
    exact same_output m c (hp c).1 (hp c).2
  · rw [a0]
    exact same_codes m c
  · rw [a0]
    exact same_scale m c

end Cert.Proof
end
-- ==== Proof.lean ====
module

public import proofs.«01_k».proof.Defs
public import proofs.«01_k».proof.Proof.BitsFrame
public import proofs.«01_k».proof.Proof.IdealFrame
public import proofs.«01_k».proof.Proof.Pre
public import proofs.«01_k».proof.Proof.PrePerm
public import proofs.«01_k».proof.Proof.Algebraic
public import proofs.«01_k».proof.Proof.Gen.Pre_perm_is_permutation
public import proofs.«01_k».proof.Proof.Gen.ReferenceIdeal
public import proofs.«01_k».proof.Proof.Gen.ReferenceIdeal.Run
public import Idealize.ShloMosaic.Lib.Bf16Pair
public import Idealize.ShloMosaic.Lib.Bf16PairInverse
public import Idealize.ShloMosaic.Lib.Quiescent
public import Idealize.ShloMosaic.Adequacy
public import Idealize.ShloMosaic.Init

@[expose] public section

noncomputable section

namespace Cert.Proof

open Idealize.ShloMosaic Idealize.SL.Sem

/-- The printed kernel runs without fault, keeps its arguments and leaves every semaphore at zero, when the table is in range. -/
theorem frame_bits : quiescent_Kernel := fun m ρ hpre => Cert.Proof.Kernel.frame m ρ (fun c => inRange_of_pre _ _ _ _ _ _ (hpre c))

/-- So does the kernel over the extended reals. -/
theorem frame_ideal : quiescent_KernelIdeal := fun m ρ hpre => Cert.Proof.KernelIdeal.frame m ρ (fun c => inRange_of_pre _ _ _ _ _ _ (hpre c))

/-- And when the table is a permutation. -/
theorem frame_ideal_perm : quiescent_KernelIdeal_pre_perm_is_permutation := fun m ρ hpre => Cert.Proof.KernelIdeal.frame m ρ (fun c => (perm_of_pre _ _ _ _ _ _ (hpre c)).1)

/-- The reference over the extended reals runs without fault and keeps its arguments. -/
theorem frame_reference : quiescent_ReferenceIdeal := fun m ρ _ =>
  (θ_run Cert.ReferenceIdeal.defs _ _).mono (fun r h => ⟨fun c => (h c).2.2.2, sem_eq_zero_of_no_sems (by decide) r.2⟩)
    (Cert.ReferenceIdeal.Value.run (F := Ideal) m ρ)

/-- And when the table is a permutation. -/
theorem frame_reference_perm : quiescent_ReferenceIdeal_pre_perm_is_permutation := fun m ρ _ => frame_reference m ρ trivial

/-- Each rewrite between the printed kernel and the kernel over the extended reals is one of the sanctioned ones. -/
theorem preserves : preserves_Kernel_KernelIdeal :=
  open Cert.KernelIdeal IdealRules.bf16_pair in
  ⟨bufferStatement S512x2x128 S512x1x128, bufferStatement S9728x2x128 S9728x1x128, statement S256x2560 S128x2560, packStatement S512x128,
    statement S512x2x128 S512x1x128, statement S1x2x128 S1x1x128, statement S128x2x128 S128x1x128, statement S256x128 S128x128, packStatement S128x128⟩

/-- All the claims. -/
theorem claim : Cert.Claim :=
  ⟨Cert.Kernel.Gen.facts, Cert.KernelIdeal.Gen.facts, Cert.ReferenceIdeal.Gen.facts, Cert.Pre_perm_in_range.Gen.facts, Cert.Pre_perm_is_permutation.Gen.facts,
    frame_bits, frame_ideal, frame_ideal_perm, frame_reference, frame_reference_perm, preserves, algebraic⟩

end Cert.Proof

end
